-- ==== Defs.lean ====
def Pre_MlstmIn (m : (ℓ : Loc Cert.MlstmIn.nD Cert.MlstmIn.τ Cert.MlstmIn.sig) → Buf (Elt Bits) ℓ) : Prop :=
  True

def Pre_MlstmInIdeal (m : (ℓ : Loc Cert.MlstmInIdeal.nD Cert.MlstmInIdeal.τ Cert.MlstmInIdeal.sig) → Buf (Elt Ideal) ℓ) : Prop :=
  True

def Pre_MlstmInRefIdeal (m : (ℓ : Loc Cert.MlstmInRefIdeal.nD Cert.MlstmInRefIdeal.τ Cert.MlstmInRefIdeal.sig) → Buf (Elt Ideal) ℓ) : Prop :=
  True

def Pre_GatesIn (m : (ℓ : Loc Cert.GatesIn.nD Cert.GatesIn.τ Cert.GatesIn.sig) → Buf (Elt Bits) ℓ) : Prop :=
  True

def Pre_GatesInIdeal (m : (ℓ : Loc Cert.GatesInIdeal.nD Cert.GatesInIdeal.τ Cert.GatesInIdeal.sig) → Buf (Elt Ideal) ℓ) : Prop :=
  True

def Pre_GatesInRefIdeal (m : (ℓ : Loc Cert.GatesInRefIdeal.nD Cert.GatesInRefIdeal.τ Cert.GatesInRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_RwkvR (m : (ℓ : Loc Cert.RwkvR.nD Cert.RwkvR.τ Cert.RwkvR.sig) → Buf (Elt Bits) ℓ) : Prop :=
  True

def Pre_RwkvRIdeal (m : (ℓ : Loc Cert.RwkvRIdeal.nD Cert.RwkvRIdeal.τ Cert.RwkvRIdeal.sig) → Buf (Elt Ideal) ℓ) : Prop :=
  True

def Pre_RwkvRRefIdeal (m : (ℓ : Loc Cert.RwkvRRefIdeal.nD Cert.RwkvRRefIdeal.τ Cert.RwkvRRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_LoraW2 (m : (ℓ : Loc Cert.LoraW2.nD Cert.LoraW2.τ Cert.LoraW2.sig) → Buf (Elt Bits) ℓ) : Prop :=
  True

def Pre_LoraW2Ideal (m : (ℓ : Loc Cert.LoraW2Ideal.nD Cert.LoraW2Ideal.τ Cert.LoraW2Ideal.sig) → Buf (Elt Ideal) ℓ) : Prop :=
  True

def Pre_LoraW2RefIdeal (m : (ℓ : Loc Cert.LoraW2RefIdeal.nD Cert.LoraW2RefIdeal.τ Cert.LoraW2RefIdeal.sig) → Buf (Elt Ideal) ℓ) : Prop :=
  True

def Pre_LoraG2 (m : (ℓ : Loc Cert.LoraG2.nD Cert.LoraG2.τ Cert.LoraG2.sig) → Buf (Elt Bits) ℓ) : Prop :=
  True

def Pre_LoraG2Ideal (m : (ℓ : Loc Cert.LoraG2Ideal.nD Cert.LoraG2Ideal.τ Cert.LoraG2Ideal.sig) → Buf (Elt Ideal) ℓ) : Prop :=
  True

def Pre_LoraG2RefIdeal (m : (ℓ : Loc Cert.LoraG2RefIdeal.nD Cert.LoraG2RefIdeal.τ Cert.LoraG2RefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite [hPre_finite : Cert.Pre_finite.Facts] (m : (ℓ : Loc Cert.XattnIdeal.nD Cert.XattnIdeal.τ Cert.XattnIdeal.sig) → Buf (Elt Ideal) ℓ) : Prop :=
  ∀ c : Dev Cert.XattnIdeal.nD,
    (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).2.2.2.1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).2.2.2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite [hPre_finite : Cert.Pre_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).2.2.2.1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).2.2.2.2 = (fun _ => 1#1)

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutIdeal_finite_y [hPre_finite_y : Cert.Pre_finite_y.Facts] (m : (ℓ : Loc Cert.RwkvOutIdeal.nD Cert.RwkvOutIdeal.τ Cert.RwkvOutIdeal.sig) → Buf (Elt Ideal) ℓ) : Prop :=
  ∀ c : Dev Cert.RwkvOutIdeal.nD,
    (Cert.Pre_finite_y.fn (F := Ideal) (m ((c.tc : Thread Cert.RwkvOutIdeal.nD Cert.RwkvOutIdeal.τ).loc Cert.RwkvOutIdeal.main_arg0)) (m ((c.tc : Thread Cert.RwkvOutIdeal.nD Cert.RwkvOutIdeal.τ).loc Cert.RwkvOutIdeal.main_arg1)) (m ((c.tc : Thread Cert.RwkvOutIdeal.nD Cert.RwkvOutIdeal.τ).loc Cert.RwkvOutIdeal.main_arg2)) (m ((c.tc : Thread Cert.RwkvOutIdeal.nD Cert.RwkvOutIdeal.τ).loc Cert.RwkvOutIdeal.main_arg3)) (m ((c.tc : Thread Cert.RwkvOutIdeal.nD Cert.RwkvOutIdeal.τ).loc Cert.RwkvOutIdeal.main_arg4))) = (fun _ => 1#1)

def Pre_RwkvOutRefIdeal (m : (ℓ : Loc Cert.RwkvOutRefIdeal.nD Cert.RwkvOutRefIdeal.τ Cert.RwkvOutRefIdeal.sig) → Buf (Elt Ideal) ℓ) : Prop :=
  True

def Pre_RwkvOutRefIdeal_finite_y [hPre_finite_y : Cert.Pre_finite_y.Facts] (m : (ℓ : Loc Cert.RwkvOutRefIdeal.nD Cert.RwkvOutRefIdeal.τ Cert.RwkvOutRefIdeal.sig) → Buf (Elt Ideal) ℓ) : Prop :=
  ∀ c : Dev Cert.RwkvOutRefIdeal.nD,
    (Cert.Pre_finite_y.fn (F := Ideal) (m ((c.tc : Thread Cert.RwkvOutRefIdeal.nD Cert.RwkvOutRefIdeal.τ).loc Cert.RwkvOutRefIdeal.main_arg0)) (m ((c.tc : Thread Cert.RwkvOutRefIdeal.nD Cert.RwkvOutRefIdeal.τ).loc Cert.RwkvOutRefIdeal.main_arg1)) (m ((c.tc : Thread Cert.RwkvOutRefIdeal.nD Cert.RwkvOutRefIdeal.τ).loc Cert.RwkvOutRefIdeal.main_arg2)) (m ((c.tc : Thread Cert.RwkvOutRefIdeal.nD Cert.RwkvOutRefIdeal.τ).loc Cert.RwkvOutRefIdeal.main_arg3)) (m ((c.tc : Thread Cert.RwkvOutRefIdeal.nD Cert.RwkvOutRefIdeal.τ).loc Cert.RwkvOutRefIdeal.main_arg4))) = (fun _ => 1#1)

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_qkv [hPre_finite_qkv : Cert.Pre_finite_qkv.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_qkv.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite_qkv [hPre_finite_qkv : Cert.Pre_finite_qkv.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite_qkv.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5))) = (fun _ => 1#1)

def quiescent_MlstmIn [hMlstmIn : Cert.MlstmIn.Facts] : Prop :=
  ∀ (m : (ℓ : Loc Cert.MlstmIn.nD Cert.MlstmIn.τ Cert.MlstmIn.sig) → Buf (Elt Bits) ℓ) (g : Dev Cert.MlstmIn.nD → PrngReg), Pre_MlstmIn m →
    θ_run (Cert.MlstmIn.defs (F := Bits)) (onTc (τ := Cert.MlstmIn.τ) (Cert.MlstmIn.main (F := Bits))) ⟨m, fun _ => 0, g⟩ (fun r => (∀ c : Dev Cert.MlstmIn.nD,
      r.2.mem ((c.tc : Thread Cert.MlstmIn.nD Cert.MlstmIn.τ).loc Cert.MlstmIn.main_arg0) = m ((c.tc : Thread Cert.MlstmIn.nD Cert.MlstmIn.τ).loc Cert.MlstmIn.main_arg0)
      ∧ r.2.mem ((c.tc : Thread Cert.MlstmIn.nD Cert.MlstmIn.τ).loc Cert.MlstmIn.main_arg1) = m ((c.tc : Thread Cert.MlstmIn.nD Cert.MlstmIn.τ).loc Cert.MlstmIn.main_arg1))
      ∧ r.2.sem = fun _ => 0)

def quiescent_MlstmInIdeal [hMlstmInIdeal : Cert.MlstmInIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg), Pre_MlstmInIdeal m →
    θ_run (Cert.MlstmInIdeal.defs (F := Ideal)) (onTc (τ := Cert.MlstmInIdeal.τ) (Cert.MlstmInIdeal.main (F := Ideal))) ⟨m, fun _ => 0, g⟩ (fun r => (∀ c : Dev Cert.MlstmInIdeal.nD,
      r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
      ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1))
      ∧ r.2.sem = fun _ => 0)

def quiescent_MlstmInRefIdeal [hMlstmInRefIdeal : Cert.MlstmInRefIdeal.Facts] : Prop :=
  ∀ (m : (ℓ : Loc Cert.MlstmInRefIdeal.nD Cert.MlstmInRefIdeal.τ Cert.MlstmInRefIdeal.sig) → Buf (Elt Ideal) ℓ) (g : Dev Cert.MlstmInRefIdeal.nD → PrngReg), Pre_MlstmInRefIdeal m →
    θ_run (Cert.MlstmInRefIdeal.defs (F := Ideal)) (onTc (τ := Cert.MlstmInRefIdeal.τ) (Cert.MlstmInRefIdeal.main (F := Ideal))) ⟨m, fun _ => 0, g⟩ (fun r => (∀ c : Dev Cert.MlstmInRefIdeal.nD,
      r.2.mem ((c.tc : Thread Cert.MlstmInRefIdeal.nD Cert.MlstmInRefIdeal.τ).loc Cert.MlstmInRefIdeal.main_arg0) = m ((c.tc : Thread Cert.MlstmInRefIdeal.nD Cert.MlstmInRefIdeal.τ).loc Cert.MlstmInRefIdeal.main_arg0)
      ∧ r.2.mem ((c.tc : Thread Cert.MlstmInRefIdeal.nD Cert.MlstmInRefIdeal.τ).loc Cert.MlstmInRefIdeal.main_arg1) = m ((c.tc : Thread Cert.MlstmInRefIdeal.nD Cert.MlstmInRefIdeal.τ).loc Cert.MlstmInRefIdeal.main_arg1))
      ∧ r.2.sem = fun _ => 0)

def quiescent_GatesIn [hGatesIn : Cert.GatesIn.Facts] : Prop :=
  ∀ (m : (ℓ : Loc Cert.GatesIn.nD Cert.GatesIn.τ Cert.GatesIn.sig) → Buf (Elt Bits) ℓ) (g : Dev Cert.GatesIn.nD → PrngReg), Pre_GatesIn m →
    θ_run (Cert.GatesIn.defs (F := Bits)) (onTc (τ := Cert.GatesIn.τ) (Cert.GatesIn.main (F := Bits))) ⟨m, fun _ => 0, g⟩ (fun r => (∀ c : Dev Cert.GatesIn.nD,
      r.2.mem ((c.tc : Thread Cert.GatesIn.nD Cert.GatesIn.τ).loc Cert.GatesIn.main_arg0) = m ((c.tc : Thread Cert.GatesIn.nD Cert.GatesIn.τ).loc Cert.GatesIn.main_arg0)
      ∧ r.2.mem ((c.tc : Thread Cert.GatesIn.nD Cert.GatesIn.τ).loc Cert.GatesIn.main_arg1) = m ((c.tc : Thread Cert.GatesIn.nD Cert.GatesIn.τ).loc Cert.GatesIn.main_arg1))
      ∧ r.2.sem = fun _ => 0)

def quiescent_GatesInIdeal [hGatesInIdeal : Cert.GatesInIdeal.Facts] : Prop :=
  ∀ (m : (ℓ : Loc Cert.GatesInIdeal.nD Cert.GatesInIdeal.τ Cert.GatesInIdeal.sig) → Buf (Elt Ideal) ℓ) (g : Dev Cert.GatesInIdeal.nD → PrngReg), Pre_GatesInIdeal m →
    θ_run (Cert.GatesInIdeal.defs (F := Ideal)) (onTc (τ := Cert.GatesInIdeal.τ) (Cert.GatesInIdeal.main (F := Ideal))) ⟨m, fun _ => 0, g⟩ (fun r => (∀ c : Dev Cert.GatesInIdeal.nD,
      r.2.mem ((c.tc : Thread Cert.GatesInIdeal.nD Cert.GatesInIdeal.τ).loc Cert.GatesInIdeal.main_arg0) = m ((c.tc : Thread Cert.GatesInIdeal.nD Cert.GatesInIdeal.τ).loc Cert.GatesInIdeal.main_arg0)
      ∧ r.2.mem ((c.tc : Thread Cert.GatesInIdeal.nD Cert.GatesInIdeal.τ).loc Cert.GatesInIdeal.main_arg1) = m ((c.tc : Thread Cert.GatesInIdeal.nD Cert.GatesInIdeal.τ).loc Cert.GatesInIdeal.main_arg1))
      ∧ r.2.sem = fun _ => 0)

def quiescent_GatesInRefIdeal [hGatesInRefIdeal : Cert.GatesInRefIdeal.Facts] : Prop :=
  ∀ (m : (ℓ : Loc Cert.GatesInRefIdeal.nD Cert.GatesInRefIdeal.τ Cert.GatesInRefIdeal.sig) → Buf (Elt Ideal) ℓ) (g : Dev Cert.GatesInRefIdeal.nD → PrngReg), Pre_GatesInRefIdeal m →
    θ_run (Cert.GatesInRefIdeal.defs (F := Ideal)) (onTc (τ := Cert.GatesInRefIdeal.τ) (Cert.GatesInRefIdeal.main (F := Ideal))) ⟨m, fun _ => 0, g⟩ (fun r => (∀ c : Dev Cert.GatesInRefIdeal.nD,
      r.2.mem ((c.tc : Thread Cert.GatesInRefIdeal.nD Cert.GatesInRefIdeal.τ).loc Cert.GatesInRefIdeal.main_arg0) = m ((c.tc : Thread Cert.GatesInRefIdeal.nD Cert.GatesInRefIdeal.τ).loc Cert.GatesInRefIdeal.main_arg0)
      ∧ r.2.mem ((c.tc : Thread Cert.GatesInRefIdeal.nD Cert.GatesInRefIdeal.τ).loc Cert.GatesInRefIdeal.main_arg1) = m ((c.tc : Thread Cert.GatesInRefIdeal.nD Cert.GatesInRefIdeal.τ).loc Cert.GatesInRefIdeal.main_arg1))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_RwkvR [hRwkvR : Cert.RwkvR.Facts] : Prop :=
  ∀ (m : (ℓ : Loc Cert.RwkvR.nD Cert.RwkvR.τ Cert.RwkvR.sig) → Buf (Elt Bits) ℓ) (g : Dev Cert.RwkvR.nD → PrngReg), Pre_RwkvR m →
    θ_run (Cert.RwkvR.defs (F := Bits)) (onTc (τ := Cert.RwkvR.τ) (Cert.RwkvR.main (F := Bits))) ⟨m, fun _ => 0, g⟩ (fun r => (∀ c : Dev Cert.RwkvR.nD,
      r.2.mem ((c.tc : Thread Cert.RwkvR.nD Cert.RwkvR.τ).loc Cert.RwkvR.main_arg0) = m ((c.tc : Thread Cert.RwkvR.nD Cert.RwkvR.τ).loc Cert.RwkvR.main_arg0)
      ∧ r.2.mem ((c.tc : Thread Cert.RwkvR.nD Cert.RwkvR.τ).loc Cert.RwkvR.main_arg1) = m ((c.tc : Thread Cert.RwkvR.nD Cert.RwkvR.τ).loc Cert.RwkvR.main_arg1))
      ∧ r.2.sem = fun _ => 0)

def quiescent_RwkvRIdeal [hRwkvRIdeal : Cert.RwkvRIdeal.Facts] : Prop :=
  ∀ (m : (ℓ : Loc Cert.RwkvRIdeal.nD Cert.RwkvRIdeal.τ Cert.RwkvRIdeal.sig) → Buf (Elt Ideal) ℓ) (g : Dev Cert.RwkvRIdeal.nD → PrngReg), Pre_RwkvRIdeal m →
    θ_run (Cert.RwkvRIdeal.defs (F := Ideal)) (onTc (τ := Cert.RwkvRIdeal.τ) (Cert.RwkvRIdeal.main (F := Ideal))) ⟨m, fun _ => 0, g⟩ (fun r => (∀ c : Dev Cert.RwkvRIdeal.nD,
      r.2.mem ((c.tc : Thread Cert.RwkvRIdeal.nD Cert.RwkvRIdeal.τ).loc Cert.RwkvRIdeal.main_arg0) = m ((c.tc : Thread Cert.RwkvRIdeal.nD Cert.RwkvRIdeal.τ).loc Cert.RwkvRIdeal.main_arg0)
      ∧ r.2.mem ((c.tc : Thread Cert.RwkvRIdeal.nD Cert.RwkvRIdeal.τ).loc Cert.RwkvRIdeal.main_arg1) = m ((c.tc : Thread Cert.RwkvRIdeal.nD Cert.RwkvRIdeal.τ).loc Cert.RwkvRIdeal.main_arg1))
      ∧ r.2.sem = fun _ => 0)

def quiescent_RwkvRRefIdeal [hRwkvRRefIdeal : Cert.RwkvRRefIdeal.Facts] : Prop :=
  ∀ (m : (ℓ : Loc Cert.RwkvRRefIdeal.nD Cert.RwkvRRefIdeal.τ Cert.RwkvRRefIdeal.sig) → Buf (Elt Ideal) ℓ) (g : Dev Cert.RwkvRRefIdeal.nD → PrngReg), Pre_RwkvRRefIdeal m →
    θ_run (Cert.RwkvRRefIdeal.defs (F := Ideal)) (onTc (τ := Cert.RwkvRRefIdeal.τ) (Cert.RwkvRRefIdeal.main (F := Ideal))) ⟨m, fun _ => 0, g⟩ (fun r => (∀ c : Dev Cert.RwkvRRefIdeal.nD,
      r.2.mem ((c.tc : Thread Cert.RwkvRRefIdeal.nD Cert.RwkvRRefIdeal.τ).loc Cert.RwkvRRefIdeal.main_arg0) = m ((c.tc : Thread Cert.RwkvRRefIdeal.nD Cert.RwkvRRefIdeal.τ).loc Cert.RwkvRRefIdeal.main_arg0)
      ∧ r.2.mem ((c.tc : Thread Cert.RwkvRRefIdeal.nD Cert.RwkvRRefIdeal.τ).loc Cert.RwkvRRefIdeal.main_arg1) = m ((c.tc : Thread Cert.RwkvRRefIdeal.nD Cert.RwkvRRefIdeal.τ).loc Cert.RwkvRRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_LoraW2 [hLoraW2 : Cert.LoraW2.Facts] : Prop :=
  ∀ (m : (ℓ : Loc Cert.LoraW2.nD Cert.LoraW2.τ Cert.LoraW2.sig) → Buf (Elt Bits) ℓ) (g : Dev Cert.LoraW2.nD → PrngReg), Pre_LoraW2 m →
    θ_run (Cert.LoraW2.defs (F := Bits)) (onTc (τ := Cert.LoraW2.τ) (Cert.LoraW2.main (F := Bits))) ⟨m, fun _ => 0, g⟩ (fun r => (∀ c : Dev Cert.LoraW2.nD,
      r.2.mem ((c.tc : Thread Cert.LoraW2.nD Cert.LoraW2.τ).loc Cert.LoraW2.main_arg0) = m ((c.tc : Thread Cert.LoraW2.nD Cert.LoraW2.τ).loc Cert.LoraW2.main_arg0)
      ∧ r.2.mem ((c.tc : Thread Cert.LoraW2.nD Cert.LoraW2.τ).loc Cert.LoraW2.main_arg1) = m ((c.tc : Thread Cert.LoraW2.nD Cert.LoraW2.τ).loc Cert.LoraW2.main_arg1))
      ∧ r.2.sem = fun _ => 0)

def quiescent_LoraW2Ideal [hLoraW2Ideal : Cert.LoraW2Ideal.Facts] : Prop :=
  ∀ (m : (ℓ : Loc Cert.LoraW2Ideal.nD Cert.LoraW2Ideal.τ Cert.LoraW2Ideal.sig) → Buf (Elt Ideal) ℓ) (g : Dev Cert.LoraW2Ideal.nD → PrngReg), Pre_LoraW2Ideal m →
    θ_run (Cert.LoraW2Ideal.defs (F := Ideal)) (onTc (τ := Cert.LoraW2Ideal.τ) (Cert.LoraW2Ideal.main (F := Ideal))) ⟨m, fun _ => 0, g⟩ (fun r => (∀ c : Dev Cert.LoraW2Ideal.nD,
      r.2.mem ((c.tc : Thread Cert.LoraW2Ideal.nD Cert.LoraW2Ideal.τ).loc Cert.LoraW2Ideal.main_arg0) = m ((c.tc : Thread Cert.LoraW2Ideal.nD Cert.LoraW2Ideal.τ).loc Cert.LoraW2Ideal.main_arg0)
      ∧ r.2.mem ((c.tc : Thread Cert.LoraW2Ideal.nD Cert.LoraW2Ideal.τ).loc Cert.LoraW2Ideal.main_arg1) = m ((c.tc : Thread Cert.LoraW2Ideal.nD Cert.LoraW2Ideal.τ).loc Cert.LoraW2Ideal.main_arg1))
      ∧ r.2.sem = fun _ => 0)

def quiescent_LoraW2RefIdeal [hLoraW2RefIdeal : Cert.LoraW2RefIdeal.Facts] : Prop :=
  ∀ (m : (ℓ : Loc Cert.LoraW2RefIdeal.nD Cert.LoraW2RefIdeal.τ Cert.LoraW2RefIdeal.sig) → Buf (Elt Ideal) ℓ) (g : Dev Cert.LoraW2RefIdeal.nD → PrngReg), Pre_LoraW2RefIdeal m →
    θ_run (Cert.LoraW2RefIdeal.defs (F := Ideal)) (onTc (τ := Cert.LoraW2RefIdeal.τ) (Cert.LoraW2RefIdeal.main (F := Ideal))) ⟨m, fun _ => 0, g⟩ (fun r => (∀ c : Dev Cert.LoraW2RefIdeal.nD,
      r.2.mem ((c.tc : Thread Cert.LoraW2RefIdeal.nD Cert.LoraW2RefIdeal.τ).loc Cert.LoraW2RefIdeal.main_arg0) = m ((c.tc : Thread Cert.LoraW2RefIdeal.nD Cert.LoraW2RefIdeal.τ).loc Cert.LoraW2RefIdeal.main_arg0)
      ∧ r.2.mem ((c.tc : Thread Cert.LoraW2RefIdeal.nD Cert.LoraW2RefIdeal.τ).loc Cert.LoraW2RefIdeal.main_arg1) = m ((c.tc : Thread Cert.LoraW2RefIdeal.nD Cert.LoraW2RefIdeal.τ).loc Cert.LoraW2RefIdeal.main_arg1))
      ∧ r.2.sem = fun _ => 0)

def quiescent_LoraG2 [hLoraG2 : Cert.LoraG2.Facts] : Prop :=
  ∀ (m : (ℓ : Loc Cert.LoraG2.nD Cert.LoraG2.τ Cert.LoraG2.sig) → Buf (Elt Bits) ℓ) (g : Dev Cert.LoraG2.nD → PrngReg), Pre_LoraG2 m →
    θ_run (Cert.LoraG2.defs (F := Bits)) (onTc (τ := Cert.LoraG2.τ) (Cert.LoraG2.main (F := Bits))) ⟨m, fun _ => 0, g⟩ (fun r => (∀ c : Dev Cert.LoraG2.nD,
      r.2.mem ((c.tc : Thread Cert.LoraG2.nD Cert.LoraG2.τ).loc Cert.LoraG2.main_arg0) = m ((c.tc : Thread Cert.LoraG2.nD Cert.LoraG2.τ).loc Cert.LoraG2.main_arg0)
      ∧ r.2.mem ((c.tc : Thread Cert.LoraG2.nD Cert.LoraG2.τ).loc Cert.LoraG2.main_arg1) = m ((c.tc : Thread Cert.LoraG2.nD Cert.LoraG2.τ).loc Cert.LoraG2.main_arg1))
      ∧ r.2.sem = fun _ => 0)

def quiescent_LoraG2Ideal [hLoraG2Ideal : Cert.LoraG2Ideal.Facts] : Prop :=
  ∀ (m : (ℓ : Loc Cert.LoraG2Ideal.nD Cert.LoraG2Ideal.τ Cert.LoraG2Ideal.sig) → Buf (Elt Ideal) ℓ) (g : Dev Cert.LoraG2Ideal.nD → PrngReg), Pre_LoraG2Ideal m →
    θ_run (Cert.LoraG2Ideal.defs (F := Ideal)) (onTc (τ := Cert.LoraG2Ideal.τ) (Cert.LoraG2Ideal.main (F := Ideal))) ⟨m, fun _ => 0, g⟩ (fun r => (∀ c : Dev Cert.LoraG2Ideal.nD,
      r.2.mem ((c.tc : Thread Cert.LoraG2Ideal.nD Cert.LoraG2Ideal.τ).loc Cert.LoraG2Ideal.main_arg0) = m ((c.tc : Thread Cert.LoraG2Ideal.nD Cert.LoraG2Ideal.τ).loc Cert.LoraG2Ideal.main_arg0)
      ∧ r.2.mem ((c.tc : Thread Cert.LoraG2Ideal.nD Cert.LoraG2Ideal.τ).loc Cert.LoraG2Ideal.main_arg1) = m ((c.tc : Thread Cert.LoraG2Ideal.nD Cert.LoraG2Ideal.τ).loc Cert.LoraG2Ideal.main_arg1))
      ∧ r.2.sem = fun _ => 0)

def quiescent_LoraG2RefIdeal [hLoraG2RefIdeal : Cert.LoraG2RefIdeal.Facts] : Prop :=
  ∀ (m : (ℓ : Loc Cert.LoraG2RefIdeal.nD Cert.LoraG2RefIdeal.τ Cert.LoraG2RefIdeal.sig) → Buf (Elt Ideal) ℓ) (g : Dev Cert.LoraG2RefIdeal.nD → PrngReg), Pre_LoraG2RefIdeal m →
    θ_run (Cert.LoraG2RefIdeal.defs (F := Ideal)) (onTc (τ := Cert.LoraG2RefIdeal.τ) (Cert.LoraG2RefIdeal.main (F := Ideal))) ⟨m, fun _ => 0, g⟩ (fun r => (∀ c : Dev Cert.LoraG2RefIdeal.nD,
      r.2.mem ((c.tc : Thread Cert.LoraG2RefIdeal.nD Cert.LoraG2RefIdeal.τ).loc Cert.LoraG2RefIdeal.main_arg0) = m ((c.tc : Thread Cert.LoraG2RefIdeal.nD Cert.LoraG2RefIdeal.τ).loc Cert.LoraG2RefIdeal.main_arg0)
      ∧ r.2.mem ((c.tc : Thread Cert.LoraG2RefIdeal.nD Cert.LoraG2RefIdeal.τ).loc Cert.LoraG2RefIdeal.main_arg1) = m ((c.tc : Thread Cert.LoraG2RefIdeal.nD Cert.LoraG2RefIdeal.τ).loc Cert.LoraG2RefIdeal.main_arg1))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnIdeal_pre_finite [hXattnIdeal : Cert.XattnIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_XattnRefIdeal_pre_finite [hXattnRefIdeal : Cert.XattnRefIdeal.Facts] [hPre_finite : Cert.Pre_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2)
      ∧ r.2.mem ((c.tc : Thread Cert.Shift.nD Cert.Shift.τ).loc Cert.Shift.main_arg3) = m ((c.tc : Thread Cert.Shift.nD Cert.Shift.τ).loc Cert.Shift.main_arg3)
      ∧ r.2.mem ((c.tc : Thread Cert.Shift.nD Cert.Shift.τ).loc Cert.Shift.main_arg4) = m ((c.tc : Thread Cert.Shift.nD Cert.Shift.τ).loc Cert.Shift.main_arg4)
      ∧ r.2.mem ((c.tc : Thread Cert.Shift.nD Cert.Shift.τ).loc Cert.Shift.main_arg5) = m ((c.tc : Thread Cert.Shift.nD Cert.Shift.τ).loc Cert.Shift.main_arg5))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3)
      ∧ r.2.mem ((c.tc : Thread Cert.ShiftIdeal.nD Cert.ShiftIdeal.τ).loc Cert.ShiftIdeal.main_arg4) = m ((c.tc : Thread Cert.ShiftIdeal.nD Cert.ShiftIdeal.τ).loc Cert.ShiftIdeal.main_arg4)
      ∧ r.2.mem ((c.tc : Thread Cert.ShiftIdeal.nD Cert.ShiftIdeal.τ).loc Cert.ShiftIdeal.main_arg5) = m ((c.tc : Thread Cert.ShiftIdeal.nD Cert.ShiftIdeal.τ).loc Cert.ShiftIdeal.main_arg5))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2)
      ∧ r.2.mem ((c.tc : Thread Cert.ShiftRefIdeal.nD Cert.ShiftRefIdeal.τ).loc Cert.ShiftRefIdeal.main_arg3) = m ((c.tc : Thread Cert.ShiftRefIdeal.nD Cert.ShiftRefIdeal.τ).loc Cert.ShiftRefIdeal.main_arg3)
      ∧ r.2.mem ((c.tc : Thread Cert.ShiftRefIdeal.nD Cert.ShiftRefIdeal.τ).loc Cert.ShiftRefIdeal.main_arg4) = m ((c.tc : Thread Cert.ShiftRefIdeal.nD Cert.ShiftRefIdeal.τ).loc Cert.ShiftRefIdeal.main_arg4)
      ∧ r.2.mem ((c.tc : Thread Cert.ShiftRefIdeal.nD Cert.ShiftRefIdeal.τ).loc Cert.ShiftRefIdeal.main_arg5) = m ((c.tc : Thread Cert.ShiftRefIdeal.nD Cert.ShiftRefIdeal.τ).loc Cert.ShiftRefIdeal.main_arg5))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2)
      ∧ r.2.mem ((c.tc : Thread Cert.RwkvOut.nD Cert.RwkvOut.τ).loc Cert.RwkvOut.main_arg3) = m ((c.tc : Thread Cert.RwkvOut.nD Cert.RwkvOut.τ).loc Cert.RwkvOut.main_arg3)
      ∧ r.2.mem ((c.tc : Thread Cert.RwkvOut.nD Cert.RwkvOut.τ).loc Cert.RwkvOut.main_arg4) = m ((c.tc : Thread Cert.RwkvOut.nD Cert.RwkvOut.τ).loc Cert.RwkvOut.main_arg4))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
      ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ r.2.sem = fun _ => 0)

def quiescent_RwkvOutIdeal_pre_finite_y [hRwkvOutIdeal : Cert.RwkvOutIdeal.Facts] [hPre_finite_y : Cert.Pre_finite_y.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal_finite_y m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
      ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ r.2.sem = fun _ => 0)

def quiescent_RwkvOutRefIdeal [hRwkvOutRefIdeal : Cert.RwkvOutRefIdeal.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2)
      ∧ r.2.mem ((c.tc : Thread Cert.RwkvOutRefIdeal.nD Cert.RwkvOutRefIdeal.τ).loc Cert.RwkvOutRefIdeal.main_arg3) = m ((c.tc : Thread Cert.RwkvOutRefIdeal.nD Cert.RwkvOutRefIdeal.τ).loc Cert.RwkvOutRefIdeal.main_arg3)
      ∧ r.2.mem ((c.tc : Thread Cert.RwkvOutRefIdeal.nD Cert.RwkvOutRefIdeal.τ).loc Cert.RwkvOutRefIdeal.main_arg4) = m ((c.tc : Thread Cert.RwkvOutRefIdeal.nD Cert.RwkvOutRefIdeal.τ).loc Cert.RwkvOutRefIdeal.main_arg4))
      ∧ r.2.sem = fun _ => 0)

def quiescent_RwkvOutRefIdeal_pre_finite_y [hRwkvOutRefIdeal : Cert.RwkvOutRefIdeal.Facts] [hPre_finite_y : Cert.Pre_finite_y.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal_finite_y m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2)
      ∧ r.2.mem ((c.tc : Thread Cert.RwkvOutRefIdeal.nD Cert.RwkvOutRefIdeal.τ).loc Cert.RwkvOutRefIdeal.main_arg3) = m ((c.tc : Thread Cert.RwkvOutRefIdeal.nD Cert.RwkvOutRefIdeal.τ).loc Cert.RwkvOutRefIdeal.main_arg3)
      ∧ r.2.mem ((c.tc : Thread Cert.RwkvOutRefIdeal.nD Cert.RwkvOutRefIdeal.τ).loc Cert.RwkvOutRefIdeal.main_arg4) = m ((c.tc : Thread Cert.RwkvOutRefIdeal.nD Cert.RwkvOutRefIdeal.τ).loc Cert.RwkvOutRefIdeal.main_arg4))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmIdeal_pre_finite_qkv [hMlstmIdeal : Cert.MlstmIdeal.Facts] [hPre_finite_qkv : Cert.Pre_finite_qkv.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_qkv m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_MlstmRefIdeal_pre_finite_qkv [hMlstmRefIdeal : Cert.MlstmRefIdeal.Facts] [hPre_finite_qkv : Cert.Pre_finite_qkv.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite_qkv m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def preserves_MlstmIn_MlstmInIdeal : Prop :=
  True

def algebraic_MlstmInIdeal_MlstmInRefIdeal [hMlstmInIdeal : Cert.MlstmInIdeal.Facts] [hMlstmInRefIdeal : Cert.MlstmInRefIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg)
    (m' : (ℓ : Loc Cert.MlstmInRefIdeal.nD Cert.MlstmInRefIdeal.τ Cert.MlstmInRefIdeal.sig) → Buf (Elt Ideal) ℓ) (g' : Dev Cert.MlstmInRefIdeal.nD → PrngReg), Pre_MlstmInIdeal m →
    (∀ c : Dev Cert.MlstmInIdeal.nD,
      m' ((c.tc : Thread Cert.MlstmInRefIdeal.nD Cert.MlstmInRefIdeal.τ).loc Cert.MlstmInRefIdeal.main_arg0) = m ((c.tc : Thread Cert.MlstmInIdeal.nD Cert.MlstmInIdeal.τ).loc Cert.MlstmInIdeal.main_arg0)
      ∧ m' ((c.tc : Thread Cert.MlstmInRefIdeal.nD Cert.MlstmInRefIdeal.τ).loc Cert.MlstmInRefIdeal.main_arg1) = m ((c.tc : Thread Cert.MlstmInIdeal.nD Cert.MlstmInIdeal.τ).loc Cert.MlstmInIdeal.main_arg1)) →
    ∃ (v0 : (c : Dev Cert.MlstmInIdeal.nD) → Buf (Elt Ideal) ((c.tc : Thread Cert.MlstmInIdeal.nD Cert.MlstmInIdeal.τ).loc Cert.MlstmInIdeal.main_v1)),
      θ_run (Cert.MlstmInIdeal.defs (F := Ideal)) (onTc (τ := Cert.MlstmInIdeal.τ) (Cert.MlstmInIdeal.main (F := Ideal))) ⟨m, fun _ => 0, g⟩ (fun r => ∀ c : Dev Cert.MlstmInIdeal.nD,
          r.2.mem ((c.tc : Thread Cert.MlstmInIdeal.nD Cert.MlstmInIdeal.τ).loc Cert.MlstmInIdeal.main_v1) = v0 c
          ∧ r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
          ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1))
      ∧ θ_run (Cert.MlstmInRefIdeal.defs (F := Ideal)) (onTc (τ := Cert.MlstmInRefIdeal.τ) (Cert.MlstmInRefIdeal.main (F := Ideal))) ⟨m', fun _ => 0, g'⟩ (fun r => ∀ c : Dev Cert.MlstmInRefIdeal.nD,
          r.2.mem ((c.tc : Thread Cert.MlstmInRefIdeal.nD Cert.MlstmInRefIdeal.τ).loc Cert.MlstmInRefIdeal.main_v3) = v0 c
          ∧ r.2.mem ((c.tc : Thread Cert.MlstmInRefIdeal.nD Cert.MlstmInRefIdeal.τ).loc Cert.MlstmInRefIdeal.main_arg0) = m' ((c.tc : Thread Cert.MlstmInRefIdeal.nD Cert.MlstmInRefIdeal.τ).loc Cert.MlstmInRefIdeal.main_arg0)
          ∧ r.2.mem ((c.tc : Thread Cert.MlstmInRefIdeal.nD Cert.MlstmInRefIdeal.τ).loc Cert.MlstmInRefIdeal.main_arg1) = m' ((c.tc : Thread Cert.MlstmInRefIdeal.nD Cert.MlstmInRefIdeal.τ).loc Cert.MlstmInRefIdeal.main_arg1))

def preserves_GatesIn_GatesInIdeal : Prop :=
  True

def algebraic_GatesInIdeal_GatesInRefIdeal [hGatesInIdeal : Cert.GatesInIdeal.Facts] [hGatesInRefIdeal : Cert.GatesInRefIdeal.Facts] : Prop :=
  ∀ (m : (ℓ : Loc Cert.GatesInIdeal.nD Cert.GatesInIdeal.τ Cert.GatesInIdeal.sig) → Buf (Elt Ideal) ℓ) (g : Dev Cert.GatesInIdeal.nD → PrngReg)
    (m' : (ℓ : Loc Cert.GatesInRefIdeal.nD Cert.GatesInRefIdeal.τ Cert.GatesInRefIdeal.sig) → Buf (Elt Ideal) ℓ) (g' : Dev Cert.GatesInRefIdeal.nD → PrngReg), Pre_GatesInIdeal m →
    (∀ c : Dev Cert.GatesInIdeal.nD,
      m' ((c.tc : Thread Cert.GatesInRefIdeal.nD Cert.GatesInRefIdeal.τ).loc Cert.GatesInRefIdeal.main_arg0) = m ((c.tc : Thread Cert.GatesInIdeal.nD Cert.GatesInIdeal.τ).loc Cert.GatesInIdeal.main_arg0)
      ∧ m' ((c.tc : Thread Cert.GatesInRefIdeal.nD Cert.GatesInRefIdeal.τ).loc Cert.GatesInRefIdeal.main_arg1) = m ((c.tc : Thread Cert.GatesInIdeal.nD Cert.GatesInIdeal.τ).loc Cert.GatesInIdeal.main_arg1)) →
    ∃ (v0 : (c : Dev Cert.GatesInIdeal.nD) → Buf (Elt Ideal) ((c.tc : Thread Cert.GatesInIdeal.nD Cert.GatesInIdeal.τ).loc Cert.GatesInIdeal.main_v1)),
      θ_run (Cert.GatesInIdeal.defs (F := Ideal)) (onTc (τ := Cert.GatesInIdeal.τ) (Cert.GatesInIdeal.main (F := Ideal))) ⟨m, fun _ => 0, g⟩ (fun r => ∀ c : Dev Cert.GatesInIdeal.nD,
          r.2.mem ((c.tc : Thread Cert.GatesInIdeal.nD Cert.GatesInIdeal.τ).loc Cert.GatesInIdeal.main_v1) = v0 c
          ∧ r.2.mem ((c.tc : Thread Cert.GatesInIdeal.nD Cert.GatesInIdeal.τ).loc Cert.GatesInIdeal.main_arg0) = m ((c.tc : Thread Cert.GatesInIdeal.nD Cert.GatesInIdeal.τ).loc Cert.GatesInIdeal.main_arg0)
          ∧ r.2.mem ((c.tc : Thread Cert.GatesInIdeal.nD Cert.GatesInIdeal.τ).loc Cert.GatesInIdeal.main_arg1) = m ((c.tc : Thread Cert.GatesInIdeal.nD Cert.GatesInIdeal.τ).loc Cert.GatesInIdeal.main_arg1))
      ∧ θ_run (Cert.GatesInRefIdeal.defs (F := Ideal)) (onTc (τ := Cert.GatesInRefIdeal.τ) (Cert.GatesInRefIdeal.main (F := Ideal))) ⟨m', fun _ => 0, g'⟩ (fun r => ∀ c : Dev Cert.GatesInRefIdeal.nD,
          r.2.mem ((c.tc : Thread Cert.GatesInRefIdeal.nD Cert.GatesInRefIdeal.τ).loc Cert.GatesInRefIdeal.main_v3) = v0 c
          ∧ r.2.mem ((c.tc : Thread Cert.GatesInRefIdeal.nD Cert.GatesInRefIdeal.τ).loc Cert.GatesInRefIdeal.main_arg0) = m' ((c.tc : Thread Cert.GatesInRefIdeal.nD Cert.GatesInRefIdeal.τ).loc Cert.GatesInRefIdeal.main_arg0)
          ∧ r.2.mem ((c.tc : Thread Cert.GatesInRefIdeal.nD Cert.GatesInRefIdeal.τ).loc Cert.GatesInRefIdeal.main_arg1) = m' ((c.tc : Thread Cert.GatesInRefIdeal.nD Cert.GatesInRefIdeal.τ).loc Cert.GatesInRefIdeal.main_arg1))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v1)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v1) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v3) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v9) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_RwkvR_RwkvRIdeal : Prop :=
  True

def algebraic_RwkvRIdeal_RwkvRRefIdeal [hRwkvRIdeal : Cert.RwkvRIdeal.Facts] [hRwkvRRefIdeal : Cert.RwkvRRefIdeal.Facts] : Prop :=
  ∀ (m : (ℓ : Loc Cert.RwkvRIdeal.nD Cert.RwkvRIdeal.τ Cert.RwkvRIdeal.sig) → Buf (Elt Ideal) ℓ) (g : Dev Cert.RwkvRIdeal.nD → PrngReg)
    (m' : (ℓ : Loc Cert.RwkvRRefIdeal.nD Cert.RwkvRRefIdeal.τ Cert.RwkvRRefIdeal.sig) → Buf (Elt Ideal) ℓ) (g' : Dev Cert.RwkvRRefIdeal.nD → PrngReg), Pre_RwkvRIdeal m →
    (∀ c : Dev Cert.RwkvRIdeal.nD,
      m' ((c.tc : Thread Cert.RwkvRRefIdeal.nD Cert.RwkvRRefIdeal.τ).loc Cert.RwkvRRefIdeal.main_arg0) = m ((c.tc : Thread Cert.RwkvRIdeal.nD Cert.RwkvRIdeal.τ).loc Cert.RwkvRIdeal.main_arg0)
      ∧ m' ((c.tc : Thread Cert.RwkvRRefIdeal.nD Cert.RwkvRRefIdeal.τ).loc Cert.RwkvRRefIdeal.main_arg1) = m ((c.tc : Thread Cert.RwkvRIdeal.nD Cert.RwkvRIdeal.τ).loc Cert.RwkvRIdeal.main_arg1)) →
    ∃ (v0 : (c : Dev Cert.RwkvRIdeal.nD) → Buf (Elt Ideal) ((c.tc : Thread Cert.RwkvRIdeal.nD Cert.RwkvRIdeal.τ).loc Cert.RwkvRIdeal.main_v0)),
      θ_run (Cert.RwkvRIdeal.defs (F := Ideal)) (onTc (τ := Cert.RwkvRIdeal.τ) (Cert.RwkvRIdeal.main (F := Ideal))) ⟨m, fun _ => 0, g⟩ (fun r => ∀ c : Dev Cert.RwkvRIdeal.nD,
          r.2.mem ((c.tc : Thread Cert.RwkvRIdeal.nD Cert.RwkvRIdeal.τ).loc Cert.RwkvRIdeal.main_v0) = v0 c
          ∧ r.2.mem ((c.tc : Thread Cert.RwkvRIdeal.nD Cert.RwkvRIdeal.τ).loc Cert.RwkvRIdeal.main_arg0) = m ((c.tc : Thread Cert.RwkvRIdeal.nD Cert.RwkvRIdeal.τ).loc Cert.RwkvRIdeal.main_arg0)
          ∧ r.2.mem ((c.tc : Thread Cert.RwkvRIdeal.nD Cert.RwkvRIdeal.τ).loc Cert.RwkvRIdeal.main_arg1) = m ((c.tc : Thread Cert.RwkvRIdeal.nD Cert.RwkvRIdeal.τ).loc Cert.RwkvRIdeal.main_arg1))
      ∧ θ_run (Cert.RwkvRRefIdeal.defs (F := Ideal)) (onTc (τ := Cert.RwkvRRefIdeal.τ) (Cert.RwkvRRefIdeal.main (F := Ideal))) ⟨m', fun _ => 0, g'⟩ (fun r => ∀ c : Dev Cert.RwkvRRefIdeal.nD,
          r.2.mem ((c.tc : Thread Cert.RwkvRRefIdeal.nD Cert.RwkvRRefIdeal.τ).loc Cert.RwkvRRefIdeal.main_v2) = v0 c
          ∧ r.2.mem ((c.tc : Thread Cert.RwkvRRefIdeal.nD Cert.RwkvRRefIdeal.τ).loc Cert.RwkvRRefIdeal.main_arg0) = m' ((c.tc : Thread Cert.RwkvRRefIdeal.nD Cert.RwkvRRefIdeal.τ).loc Cert.RwkvRRefIdeal.main_arg0)
          ∧ r.2.mem ((c.tc : Thread Cert.RwkvRRefIdeal.nD Cert.RwkvRRefIdeal.τ).loc Cert.RwkvRRefIdeal.main_arg1) = m' ((c.tc : Thread Cert.RwkvRRefIdeal.nD Cert.RwkvRRefIdeal.τ).loc Cert.RwkvRRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_LoraW2_LoraW2Ideal : Prop :=
  True

def algebraic_LoraW2Ideal_LoraW2RefIdeal [hLoraW2Ideal : Cert.LoraW2Ideal.Facts] [hLoraW2RefIdeal : Cert.LoraW2RefIdeal.Facts] : Prop :=
  ∀ (m : (ℓ : Loc Cert.LoraW2Ideal.nD Cert.LoraW2Ideal.τ Cert.LoraW2Ideal.sig) → Buf (Elt Ideal) ℓ) (g : Dev Cert.LoraW2Ideal.nD → PrngReg)
    (m' : (ℓ : Loc Cert.LoraW2RefIdeal.nD Cert.LoraW2RefIdeal.τ Cert.LoraW2RefIdeal.sig) → Buf (Elt Ideal) ℓ) (g' : Dev Cert.LoraW2RefIdeal.nD → PrngReg), Pre_LoraW2Ideal m →
    (∀ c : Dev Cert.LoraW2Ideal.nD,
      m' ((c.tc : Thread Cert.LoraW2RefIdeal.nD Cert.LoraW2RefIdeal.τ).loc Cert.LoraW2RefIdeal.main_arg0) = m ((c.tc : Thread Cert.LoraW2Ideal.nD Cert.LoraW2Ideal.τ).loc Cert.LoraW2Ideal.main_arg0)
      ∧ m' ((c.tc : Thread Cert.LoraW2RefIdeal.nD Cert.LoraW2RefIdeal.τ).loc Cert.LoraW2RefIdeal.main_arg1) = m ((c.tc : Thread Cert.LoraW2Ideal.nD Cert.LoraW2Ideal.τ).loc Cert.LoraW2Ideal.main_arg1)) →
    ∃ (v0 : (c : Dev Cert.LoraW2Ideal.nD) → Buf (Elt Ideal) ((c.tc : Thread Cert.LoraW2Ideal.nD Cert.LoraW2Ideal.τ).loc Cert.LoraW2Ideal.main_v0)),
      θ_run (Cert.LoraW2Ideal.defs (F := Ideal)) (onTc (τ := Cert.LoraW2Ideal.τ) (Cert.LoraW2Ideal.main (F := Ideal))) ⟨m, fun _ => 0, g⟩ (fun r => ∀ c : Dev Cert.LoraW2Ideal.nD,
          r.2.mem ((c.tc : Thread Cert.LoraW2Ideal.nD Cert.LoraW2Ideal.τ).loc Cert.LoraW2Ideal.main_v0) = v0 c
          ∧ r.2.mem ((c.tc : Thread Cert.LoraW2Ideal.nD Cert.LoraW2Ideal.τ).loc Cert.LoraW2Ideal.main_arg0) = m ((c.tc : Thread Cert.LoraW2Ideal.nD Cert.LoraW2Ideal.τ).loc Cert.LoraW2Ideal.main_arg0)
          ∧ r.2.mem ((c.tc : Thread Cert.LoraW2Ideal.nD Cert.LoraW2Ideal.τ).loc Cert.LoraW2Ideal.main_arg1) = m ((c.tc : Thread Cert.LoraW2Ideal.nD Cert.LoraW2Ideal.τ).loc Cert.LoraW2Ideal.main_arg1))
      ∧ θ_run (Cert.LoraW2RefIdeal.defs (F := Ideal)) (onTc (τ := Cert.LoraW2RefIdeal.τ) (Cert.LoraW2RefIdeal.main (F := Ideal))) ⟨m', fun _ => 0, g'⟩ (fun r => ∀ c : Dev Cert.LoraW2RefIdeal.nD,
          r.2.mem ((c.tc : Thread Cert.LoraW2RefIdeal.nD Cert.LoraW2RefIdeal.τ).loc Cert.LoraW2RefIdeal.main_v2) = v0 c
          ∧ r.2.mem ((c.tc : Thread Cert.LoraW2RefIdeal.nD Cert.LoraW2RefIdeal.τ).loc Cert.LoraW2RefIdeal.main_arg0) = m' ((c.tc : Thread Cert.LoraW2RefIdeal.nD Cert.LoraW2RefIdeal.τ).loc Cert.LoraW2RefIdeal.main_arg0)
          ∧ r.2.mem ((c.tc : Thread Cert.LoraW2RefIdeal.nD Cert.LoraW2RefIdeal.τ).loc Cert.LoraW2RefIdeal.main_arg1) = m' ((c.tc : Thread Cert.LoraW2RefIdeal.nD Cert.LoraW2RefIdeal.τ).loc Cert.LoraW2RefIdeal.main_arg1))

def preserves_LoraG2_LoraG2Ideal : Prop :=
  True

def algebraic_LoraG2Ideal_LoraG2RefIdeal [hLoraG2Ideal : Cert.LoraG2Ideal.Facts] [hLoraG2RefIdeal : Cert.LoraG2RefIdeal.Facts] : Prop :=
  ∀ (m : (ℓ : Loc Cert.LoraG2Ideal.nD Cert.LoraG2Ideal.τ Cert.LoraG2Ideal.sig) → Buf (Elt Ideal) ℓ) (g : Dev Cert.LoraG2Ideal.nD → PrngReg)
    (m' : (ℓ : Loc Cert.LoraG2RefIdeal.nD Cert.LoraG2RefIdeal.τ Cert.LoraG2RefIdeal.sig) → Buf (Elt Ideal) ℓ) (g' : Dev Cert.LoraG2RefIdeal.nD → PrngReg), Pre_LoraG2Ideal m →
    (∀ c : Dev Cert.LoraG2Ideal.nD,
      m' ((c.tc : Thread Cert.LoraG2RefIdeal.nD Cert.LoraG2RefIdeal.τ).loc Cert.LoraG2RefIdeal.main_arg0) = m ((c.tc : Thread Cert.LoraG2Ideal.nD Cert.LoraG2Ideal.τ).loc Cert.LoraG2Ideal.main_arg0)
      ∧ m' ((c.tc : Thread Cert.LoraG2RefIdeal.nD Cert.LoraG2RefIdeal.τ).loc Cert.LoraG2RefIdeal.main_arg1) = m ((c.tc : Thread Cert.LoraG2Ideal.nD Cert.LoraG2Ideal.τ).loc Cert.LoraG2Ideal.main_arg1)) →
    ∃ (v0 : (c : Dev Cert.LoraG2Ideal.nD) → Buf (Elt Ideal) ((c.tc : Thread Cert.LoraG2Ideal.nD Cert.LoraG2Ideal.τ).loc Cert.LoraG2Ideal.main_v0)),
      θ_run (Cert.LoraG2Ideal.defs (F := Ideal)) (onTc (τ := Cert.LoraG2Ideal.τ) (Cert.LoraG2Ideal.main (F := Ideal))) ⟨m, fun _ => 0, g⟩ (fun r => ∀ c : Dev Cert.LoraG2Ideal.nD,
          r.2.mem ((c.tc : Thread Cert.LoraG2Ideal.nD Cert.LoraG2Ideal.τ).loc Cert.LoraG2Ideal.main_v0) = v0 c
          ∧ r.2.mem ((c.tc : Thread Cert.LoraG2Ideal.nD Cert.LoraG2Ideal.τ).loc Cert.LoraG2Ideal.main_arg0) = m ((c.tc : Thread Cert.LoraG2Ideal.nD Cert.LoraG2Ideal.τ).loc Cert.LoraG2Ideal.main_arg0)
          ∧ r.2.mem ((c.tc : Thread Cert.LoraG2Ideal.nD Cert.LoraG2Ideal.τ).loc Cert.LoraG2Ideal.main_arg1) = m ((c.tc : Thread Cert.LoraG2Ideal.nD Cert.LoraG2Ideal.τ).loc Cert.LoraG2Ideal.main_arg1))
      ∧ θ_run (Cert.LoraG2RefIdeal.defs (F := Ideal)) (onTc (τ := Cert.LoraG2RefIdeal.τ) (Cert.LoraG2RefIdeal.main (F := Ideal))) ⟨m', fun _ => 0, g'⟩ (fun r => ∀ c : Dev Cert.LoraG2RefIdeal.nD,
          r.2.mem ((c.tc : Thread Cert.LoraG2RefIdeal.nD Cert.LoraG2RefIdeal.τ).loc Cert.LoraG2RefIdeal.main_v2) = v0 c
          ∧ r.2.mem ((c.tc : Thread Cert.LoraG2RefIdeal.nD Cert.LoraG2RefIdeal.τ).loc Cert.LoraG2RefIdeal.main_arg0) = m' ((c.tc : Thread Cert.LoraG2RefIdeal.nD Cert.LoraG2RefIdeal.τ).loc Cert.LoraG2RefIdeal.main_arg0)
          ∧ r.2.mem ((c.tc : Thread Cert.LoraG2RefIdeal.nD Cert.LoraG2RefIdeal.τ).loc Cert.LoraG2RefIdeal.main_arg1) = m' ((c.tc : Thread Cert.LoraG2RefIdeal.nD Cert.LoraG2RefIdeal.τ).loc Cert.LoraG2RefIdeal.main_arg1))

def preserves_Xattn_XattnIdeal : Prop :=
  True

def algebraic_XattnIdeal_XattnRefIdeal_pre_finite [hXattnIdeal : Cert.XattnIdeal.Facts] [hXattnRefIdeal : Cert.XattnRefIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v5_0)) (v1 : (c : Dev Cert.XattnIdeal.nD) → Buf (Elt Ideal) ((c.tc : Thread Cert.XattnIdeal.nD Cert.XattnIdeal.τ).loc Cert.XattnIdeal.main_v5_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v5_0) = v0 c
          ∧ r.2.mem ((c.tc : Thread Cert.XattnIdeal.nD Cert.XattnIdeal.τ).loc Cert.XattnIdeal.main_v5_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v42) = v0 c
          ∧ r.2.mem ((c.tc : Thread Cert.XattnRefIdeal.nD Cert.XattnRefIdeal.τ).loc Cert.XattnRefIdeal.main_v56) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)
      ∧ m' ((c.tc : Thread Cert.ShiftRefIdeal.nD Cert.ShiftRefIdeal.τ).loc Cert.ShiftRefIdeal.main_arg3) = m ((c.tc : Thread Cert.ShiftIdeal.nD Cert.ShiftIdeal.τ).loc Cert.ShiftIdeal.main_arg3)
      ∧ m' ((c.tc : Thread Cert.ShiftRefIdeal.nD Cert.ShiftRefIdeal.τ).loc Cert.ShiftRefIdeal.main_arg4) = m ((c.tc : Thread Cert.ShiftIdeal.nD Cert.ShiftIdeal.τ).loc Cert.ShiftIdeal.main_arg4)
      ∧ m' ((c.tc : Thread Cert.ShiftRefIdeal.nD Cert.ShiftRefIdeal.τ).loc Cert.ShiftRefIdeal.main_arg5) = m ((c.tc : Thread Cert.ShiftIdeal.nD Cert.ShiftIdeal.τ).loc Cert.ShiftIdeal.main_arg5)) →
    ∃ (v0 : (c : Dev Cert.ShiftIdeal.nD) → Buf (Elt Ideal) ((c.tc : Thread Cert.ShiftIdeal.nD Cert.ShiftIdeal.τ).loc Cert.ShiftIdeal.main_v1_0)) (v1 : (c : Dev Cert.ShiftIdeal.nD) → Buf (Elt Ideal) ((c.tc : Thread Cert.ShiftIdeal.nD Cert.ShiftIdeal.τ).loc Cert.ShiftIdeal.main_v1_1)) (v2 : (c : Dev Cert.ShiftIdeal.nD) → Buf (Elt Ideal) ((c.tc : Thread Cert.ShiftIdeal.nD Cert.ShiftIdeal.τ).loc Cert.ShiftIdeal.main_v1_2)) (v3 : (c : Dev Cert.ShiftIdeal.nD) → Buf (Elt Ideal) ((c.tc : Thread Cert.ShiftIdeal.nD Cert.ShiftIdeal.τ).loc Cert.ShiftIdeal.main_v1_3)) (v4 : (c : Dev Cert.ShiftIdeal.nD) → Buf (Elt Ideal) ((c.tc : Thread Cert.ShiftIdeal.nD Cert.ShiftIdeal.τ).loc Cert.ShiftIdeal.main_v1_4)) (v5 : (c : Dev Cert.ShiftIdeal.nD) → Buf (Elt Ideal) ((c.tc : Thread Cert.ShiftIdeal.nD Cert.ShiftIdeal.τ).loc Cert.ShiftIdeal.main_v1_5)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v1_0) = v0 c
          ∧ r.2.mem ((c.tc : Thread Cert.ShiftIdeal.nD Cert.ShiftIdeal.τ).loc Cert.ShiftIdeal.main_v1_1) = v1 c
          ∧ r.2.mem ((c.tc : Thread Cert.ShiftIdeal.nD Cert.ShiftIdeal.τ).loc Cert.ShiftIdeal.main_v1_2) = v2 c
          ∧ r.2.mem ((c.tc : Thread Cert.ShiftIdeal.nD Cert.ShiftIdeal.τ).loc Cert.ShiftIdeal.main_v1_3) = v3 c
          ∧ r.2.mem ((c.tc : Thread Cert.ShiftIdeal.nD Cert.ShiftIdeal.τ).loc Cert.ShiftIdeal.main_v1_4) = v4 c
          ∧ r.2.mem ((c.tc : Thread Cert.ShiftIdeal.nD Cert.ShiftIdeal.τ).loc Cert.ShiftIdeal.main_v1_5) = v5 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
          ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3)
          ∧ r.2.mem ((c.tc : Thread Cert.ShiftIdeal.nD Cert.ShiftIdeal.τ).loc Cert.ShiftIdeal.main_arg4) = m ((c.tc : Thread Cert.ShiftIdeal.nD Cert.ShiftIdeal.τ).loc Cert.ShiftIdeal.main_arg4)
          ∧ r.2.mem ((c.tc : Thread Cert.ShiftIdeal.nD Cert.ShiftIdeal.τ).loc Cert.ShiftIdeal.main_arg5) = m ((c.tc : Thread Cert.ShiftIdeal.nD Cert.ShiftIdeal.τ).loc Cert.ShiftIdeal.main_arg5))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v24) = v0 c
          ∧ r.2.mem ((c.tc : Thread Cert.ShiftRefIdeal.nD Cert.ShiftRefIdeal.τ).loc Cert.ShiftRefIdeal.main_v31) = v1 c
          ∧ r.2.mem ((c.tc : Thread Cert.ShiftRefIdeal.nD Cert.ShiftRefIdeal.τ).loc Cert.ShiftRefIdeal.main_v38) = v2 c
          ∧ r.2.mem ((c.tc : Thread Cert.ShiftRefIdeal.nD Cert.ShiftRefIdeal.τ).loc Cert.ShiftRefIdeal.main_v48) = v3 c
          ∧ r.2.mem ((c.tc : Thread Cert.ShiftRefIdeal.nD Cert.ShiftRefIdeal.τ).loc Cert.ShiftRefIdeal.main_v57) = v4 c
          ∧ r.2.mem ((c.tc : Thread Cert.ShiftRefIdeal.nD Cert.ShiftRefIdeal.τ).loc Cert.ShiftRefIdeal.main_v72) = v5 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2)
          ∧ r.2.mem ((c.tc : Thread Cert.ShiftRefIdeal.nD Cert.ShiftRefIdeal.τ).loc Cert.ShiftRefIdeal.main_arg3) = m' ((c.tc : Thread Cert.ShiftRefIdeal.nD Cert.ShiftRefIdeal.τ).loc Cert.ShiftRefIdeal.main_arg3)
          ∧ r.2.mem ((c.tc : Thread Cert.ShiftRefIdeal.nD Cert.ShiftRefIdeal.τ).loc Cert.ShiftRefIdeal.main_arg4) = m' ((c.tc : Thread Cert.ShiftRefIdeal.nD Cert.ShiftRefIdeal.τ).loc Cert.ShiftRefIdeal.main_arg4)
          ∧ r.2.mem ((c.tc : Thread Cert.ShiftRefIdeal.nD Cert.ShiftRefIdeal.τ).loc Cert.ShiftRefIdeal.main_arg5) = m' ((c.tc : Thread Cert.ShiftRefIdeal.nD Cert.ShiftRefIdeal.τ).loc Cert.ShiftRefIdeal.main_arg5))

def preserves_RwkvOut_RwkvOutIdeal : Prop :=
  True

def algebraic_RwkvOutIdeal_RwkvOutRefIdeal_pre_finite_y [hRwkvOutIdeal : Cert.RwkvOutIdeal.Facts] [hRwkvOutRefIdeal : Cert.RwkvOutRefIdeal.Facts] [hPre_finite_y : Cert.Pre_finite_y.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutRefIdeal.nD Cert.RwkvOutRefIdeal.τ Cert.RwkvOutRefIdeal.sig) → Buf (Elt Ideal) ℓ) (g' : Dev Cert.RwkvOutRefIdeal.nD → PrngReg), Pre_RwkvOutIdeal_finite_y m →
    (∀ c : Dev Cert.RwkvOutIdeal.nD,
      m' ((c.tc : Thread Cert.RwkvOutRefIdeal.nD Cert.RwkvOutRefIdeal.τ).loc Cert.RwkvOutRefIdeal.main_arg0) = m ((c.tc : Thread Cert.RwkvOutIdeal.nD Cert.RwkvOutIdeal.τ).loc Cert.RwkvOutIdeal.main_arg0)
      ∧ m' ((c.tc : Thread Cert.RwkvOutRefIdeal.nD Cert.RwkvOutRefIdeal.τ).loc Cert.RwkvOutRefIdeal.main_arg1) = m ((c.tc : Thread Cert.RwkvOutIdeal.nD Cert.RwkvOutIdeal.τ).loc Cert.RwkvOutIdeal.main_arg1)
      ∧ m' ((c.tc : Thread Cert.RwkvOutRefIdeal.nD Cert.RwkvOutRefIdeal.τ).loc Cert.RwkvOutRefIdeal.main_arg2) = m ((c.tc : Thread Cert.RwkvOutIdeal.nD Cert.RwkvOutIdeal.τ).loc Cert.RwkvOutIdeal.main_arg2)
      ∧ m' ((c.tc : Thread Cert.RwkvOutRefIdeal.nD Cert.RwkvOutRefIdeal.τ).loc Cert.RwkvOutRefIdeal.main_arg3) = m ((c.tc : Thread Cert.RwkvOutIdeal.nD Cert.RwkvOutIdeal.τ).loc Cert.RwkvOutIdeal.main_arg3)
      ∧ m' ((c.tc : Thread Cert.RwkvOutRefIdeal.nD Cert.RwkvOutRefIdeal.τ).loc Cert.RwkvOutRefIdeal.main_arg4) = m ((c.tc : Thread Cert.RwkvOutIdeal.nD Cert.RwkvOutIdeal.τ).loc Cert.RwkvOutIdeal.main_arg4)) →
    ∃ (v0 : (c : Dev Cert.RwkvOutIdeal.nD) → Buf (Elt Ideal) ((c.tc : Thread Cert.RwkvOutIdeal.nD Cert.RwkvOutIdeal.τ).loc Cert.RwkvOutIdeal.main_v5)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v5) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
          ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
          ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ θ_run (Cert.RwkvOutRefIdeal.defs (F := Ideal)) (onTc (τ := Cert.RwkvOutRefIdeal.τ) (Cert.RwkvOutRefIdeal.main (F := Ideal))) ⟨m', fun _ => 0, g'⟩ (fun r => ∀ c : Dev Cert.RwkvOutRefIdeal.nD,
          r.2.mem ((c.tc : Thread Cert.RwkvOutRefIdeal.nD Cert.RwkvOutRefIdeal.τ).loc Cert.RwkvOutRefIdeal.main_v31) = v0 c
          ∧ r.2.mem ((c.tc : Thread Cert.RwkvOutRefIdeal.nD Cert.RwkvOutRefIdeal.τ).loc Cert.RwkvOutRefIdeal.main_arg0) = m' ((c.tc : Thread Cert.RwkvOutRefIdeal.nD Cert.RwkvOutRefIdeal.τ).loc Cert.RwkvOutRefIdeal.main_arg0)
          ∧ r.2.mem ((c.tc : Thread Cert.RwkvOutRefIdeal.nD Cert.RwkvOutRefIdeal.τ).loc Cert.RwkvOutRefIdeal.main_arg1) = m' ((c.tc : Thread Cert.RwkvOutRefIdeal.nD Cert.RwkvOutRefIdeal.τ).loc Cert.RwkvOutRefIdeal.main_arg1)
          ∧ r.2.mem ((c.tc : Thread Cert.RwkvOutRefIdeal.nD Cert.RwkvOutRefIdeal.τ).loc Cert.RwkvOutRefIdeal.main_arg2) = m' ((c.tc : Thread Cert.RwkvOutRefIdeal.nD Cert.RwkvOutRefIdeal.τ).loc Cert.RwkvOutRefIdeal.main_arg2)
          ∧ r.2.mem ((c.tc : Thread Cert.RwkvOutRefIdeal.nD Cert.RwkvOutRefIdeal.τ).loc Cert.RwkvOutRefIdeal.main_arg3) = m' ((c.tc : Thread Cert.RwkvOutRefIdeal.nD Cert.RwkvOutRefIdeal.τ).loc Cert.RwkvOutRefIdeal.main_arg3)
          ∧ r.2.mem ((c.tc : Thread Cert.RwkvOutRefIdeal.nD Cert.RwkvOutRefIdeal.τ).loc Cert.RwkvOutRefIdeal.main_arg4) = m' ((c.tc : Thread Cert.RwkvOutRefIdeal.nD Cert.RwkvOutRefIdeal.τ).loc Cert.RwkvOutRefIdeal.main_arg4))

def preserves_Mlstm_MlstmIdeal : Prop :=
  True

def algebraic_MlstmIdeal_MlstmRefIdeal_pre_finite_qkv [hMlstmIdeal : Cert.MlstmIdeal.Facts] [hMlstmRefIdeal : Cert.MlstmRefIdeal.Facts] [hPre_finite_qkv : Cert.Pre_finite_qkv.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite_qkv m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)) →
    ∃ (v0 : (c : Dev Cert.MlstmIdeal.nD) → Buf (Elt Ideal) ((c.tc : Thread Cert.MlstmIdeal.nD Cert.MlstmIdeal.τ).loc Cert.MlstmIdeal.main_v10)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v10) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v88) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5))

def Claim : Prop :=
  ∃ (hMlstmIn : Cert.MlstmIn.Facts) (hMlstmInIdeal : Cert.MlstmInIdeal.Facts) (hMlstmInRefIdeal : Cert.MlstmInRefIdeal.Facts) (hGatesIn : Cert.GatesIn.Facts) (hGatesInIdeal : Cert.GatesInIdeal.Facts) (hGatesInRefIdeal : Cert.GatesInRefIdeal.Facts) (hHgrnIn : Cert.HgrnIn.Facts) (hHgrnInIdeal : Cert.HgrnInIdeal.Facts) (hHgrnInRefIdeal : Cert.HgrnInRefIdeal.Facts) (hMlp : Cert.Mlp.Facts) (hMlpIdeal : Cert.MlpIdeal.Facts) (hMlpRefIdeal : Cert.MlpRefIdeal.Facts) (hMixOut : Cert.MixOut.Facts) (hMixOutIdeal : Cert.MixOutIdeal.Facts) (hMixOutRefIdeal : Cert.MixOutRefIdeal.Facts) (hRwkvR : Cert.RwkvR.Facts) (hRwkvRIdeal : Cert.RwkvRIdeal.Facts) (hRwkvRRefIdeal : Cert.RwkvRRefIdeal.Facts) (hNorm : Cert.Norm.Facts) (hNormIdeal : Cert.NormIdeal.Facts) (hNormRefIdeal : Cert.NormRefIdeal.Facts) (hFinalNorm : Cert.FinalNorm.Facts) (hFinalNormIdeal : Cert.FinalNormIdeal.Facts) (hFinalNormRefIdeal : Cert.FinalNormRefIdeal.Facts) (hMemKv : Cert.MemKv.Facts) (hMemKvIdeal : Cert.MemKvIdeal.Facts) (hMemKvRefIdeal : Cert.MemKvRefIdeal.Facts) (hLoraW2 : Cert.LoraW2.Facts) (hLoraW2Ideal : Cert.LoraW2Ideal.Facts) (hLoraW2RefIdeal : Cert.LoraW2RefIdeal.Facts) (hLoraG2 : Cert.LoraG2.Facts) (hLoraG2Ideal : Cert.LoraG2Ideal.Facts) (hLoraG2RefIdeal : Cert.LoraG2RefIdeal.Facts) (hXattn : Cert.Xattn.Facts) (hXattnIdeal : Cert.XattnIdeal.Facts) (hXattnRefIdeal : Cert.XattnRefIdeal.Facts) (hShift : Cert.Shift.Facts) (hShiftIdeal : Cert.ShiftIdeal.Facts) (hShiftRefIdeal : Cert.ShiftRefIdeal.Facts) (hRwkvOut : Cert.RwkvOut.Facts) (hRwkvOutIdeal : Cert.RwkvOutIdeal.Facts) (hRwkvOutRefIdeal : Cert.RwkvOutRefIdeal.Facts) (hMlstm : Cert.Mlstm.Facts) (hMlstmIdeal : Cert.MlstmIdeal.Facts) (hMlstmRefIdeal : Cert.MlstmRefIdeal.Facts) (hPre_finite : Cert.Pre_finite.Facts) (hPre_finite_y : Cert.Pre_finite_y.Facts) (hPre_finite_qkv : Cert.Pre_finite_qkv.Facts),
    quiescent_MlstmIn (hMlstmIn := hMlstmIn)
    ∧ quiescent_MlstmInIdeal (hMlstmInIdeal := hMlstmInIdeal)
    ∧ quiescent_MlstmInRefIdeal (hMlstmInRefIdeal := hMlstmInRefIdeal)
    ∧ quiescent_GatesIn (hGatesIn := hGatesIn)
    ∧ quiescent_GatesInIdeal (hGatesInIdeal := hGatesInIdeal)
    ∧ quiescent_GatesInRefIdeal (hGatesInRefIdeal := hGatesInRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_Mlp (hMlp := hMlp)
    ∧ quiescent_MlpIdeal (hMlpIdeal := hMlpIdeal)
    ∧ quiescent_MlpRefIdeal (hMlpRefIdeal := hMlpRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_RwkvR (hRwkvR := hRwkvR)
    ∧ quiescent_RwkvRIdeal (hRwkvRIdeal := hRwkvRIdeal)
    ∧ quiescent_RwkvRRefIdeal (hRwkvRRefIdeal := hRwkvRRefIdeal)
    ∧ quiescent_Norm (hNorm := hNorm)
    ∧ quiescent_NormIdeal (hNormIdeal := hNormIdeal)
    ∧ quiescent_NormRefIdeal (hNormRefIdeal := hNormRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_LoraW2 (hLoraW2 := hLoraW2)
    ∧ quiescent_LoraW2Ideal (hLoraW2Ideal := hLoraW2Ideal)
    ∧ quiescent_LoraW2RefIdeal (hLoraW2RefIdeal := hLoraW2RefIdeal)
    ∧ quiescent_LoraG2 (hLoraG2 := hLoraG2)
    ∧ quiescent_LoraG2Ideal (hLoraG2Ideal := hLoraG2Ideal)
    ∧ quiescent_LoraG2RefIdeal (hLoraG2RefIdeal := hLoraG2RefIdeal)
    ∧ quiescent_Xattn (hXattn := hXattn)
    ∧ quiescent_XattnIdeal (hXattnIdeal := hXattnIdeal)
    ∧ quiescent_XattnIdeal_pre_finite (hXattnIdeal := hXattnIdeal) (hPre_finite := hPre_finite)
    ∧ quiescent_XattnRefIdeal (hXattnRefIdeal := hXattnRefIdeal)
    ∧ quiescent_XattnRefIdeal_pre_finite (hXattnRefIdeal := hXattnRefIdeal) (hPre_finite := hPre_finite)
    ∧ quiescent_Shift (hShift := hShift)
    ∧ quiescent_ShiftIdeal (hShiftIdeal := hShiftIdeal)
    ∧ quiescent_ShiftRefIdeal (hShiftRefIdeal := hShiftRefIdeal)
    ∧ quiescent_RwkvOut (hRwkvOut := hRwkvOut)
    ∧ quiescent_RwkvOutIdeal (hRwkvOutIdeal := hRwkvOutIdeal)
    ∧ quiescent_RwkvOutIdeal_pre_finite_y (hRwkvOutIdeal := hRwkvOutIdeal) (hPre_finite_y := hPre_finite_y)
    ∧ quiescent_RwkvOutRefIdeal (hRwkvOutRefIdeal := hRwkvOutRefIdeal)
    ∧ quiescent_RwkvOutRefIdeal_pre_finite_y (hRwkvOutRefIdeal := hRwkvOutRefIdeal) (hPre_finite_y := hPre_finite_y)
    ∧ quiescent_Mlstm (hMlstm := hMlstm)
    ∧ quiescent_MlstmIdeal (hMlstmIdeal := hMlstmIdeal)
    ∧ quiescent_MlstmIdeal_pre_finite_qkv (hMlstmIdeal := hMlstmIdeal) (hPre_finite_qkv := hPre_finite_qkv)
    ∧ quiescent_MlstmRefIdeal (hMlstmRefIdeal := hMlstmRefIdeal)
    ∧ quiescent_MlstmRefIdeal_pre_finite_qkv (hMlstmRefIdeal := hMlstmRefIdeal) (hPre_finite_qkv := hPre_finite_qkv)
    ∧ preserves_MlstmIn_MlstmInIdeal
    ∧ algebraic_MlstmInIdeal_MlstmInRefIdeal (hMlstmInIdeal := hMlstmInIdeal) (hMlstmInRefIdeal := hMlstmInRefIdeal)
    ∧ preserves_GatesIn_GatesInIdeal
    ∧ algebraic_GatesInIdeal_GatesInRefIdeal (hGatesInIdeal := hGatesInIdeal) (hGatesInRefIdeal := hGatesInRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_Mlp_MlpIdeal
    ∧ algebraic_MlpIdeal_MlpRefIdeal (hMlpIdeal := hMlpIdeal) (hMlpRefIdeal := hMlpRefIdeal)
    ∧ preserves_MixOut_MixOutIdeal
    ∧ algebraic_MixOutIdeal_MixOutRefIdeal (hMixOutIdeal := hMixOutIdeal) (hMixOutRefIdeal := hMixOutRefIdeal)
    ∧ preserves_RwkvR_RwkvRIdeal
    ∧ algebraic_RwkvRIdeal_RwkvRRefIdeal (hRwkvRIdeal := hRwkvRIdeal) (hRwkvRRefIdeal := hRwkvRRefIdeal)
    ∧ preserves_Norm_NormIdeal
    ∧ algebraic_NormIdeal_NormRefIdeal (hNormIdeal := hNormIdeal) (hNormRefIdeal := hNormRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_MemKv_MemKvIdeal
    ∧ algebraic_MemKvIdeal_MemKvRefIdeal (hMemKvIdeal := hMemKvIdeal) (hMemKvRefIdeal := hMemKvRefIdeal)
    ∧ preserves_LoraW2_LoraW2Ideal
    ∧ algebraic_LoraW2Ideal_LoraW2RefIdeal (hLoraW2Ideal := hLoraW2Ideal) (hLoraW2RefIdeal := hLoraW2RefIdeal)
    ∧ preserves_LoraG2_LoraG2Ideal
    ∧ algebraic_LoraG2Ideal_LoraG2RefIdeal (hLoraG2Ideal := hLoraG2Ideal) (hLoraG2RefIdeal := hLoraG2RefIdeal)
    ∧ preserves_Xattn_XattnIdeal
    ∧ algebraic_XattnIdeal_XattnRefIdeal_pre_finite (hXattnIdeal := hXattnIdeal) (hXattnRefIdeal := hXattnRefIdeal) (hPre_finite := hPre_finite)
    ∧ preserves_Shift_ShiftIdeal
    ∧ algebraic_ShiftIdeal_ShiftRefIdeal (hShiftIdeal := hShiftIdeal) (hShiftRefIdeal := hShiftRefIdeal)
    ∧ preserves_RwkvOut_RwkvOutIdeal
    ∧ algebraic_RwkvOutIdeal_RwkvOutRefIdeal_pre_finite_y (hRwkvOutIdeal := hRwkvOutIdeal) (hRwkvOutRefIdeal := hRwkvOutRefIdeal) (hPre_finite_y := hPre_finite_y)
    ∧ preserves_Mlstm_MlstmIdeal
    ∧ algebraic_MlstmIdeal_MlstmRefIdeal_pre_finite_qkv (hMlstmIdeal := hMlstmIdeal) (hMlstmRefIdeal := hMlstmRefIdeal) (hPre_finite_qkv := hPre_finite_qkv)
-- ==== Pre_finite.lean ====
abbrev S8192x4096 : Shape := ⟨2, ![8192, 4096]⟩
abbrev S256x8192 : Shape := ⟨2, ![256, 8192]⟩
abbrev S2x4096x4096 : Shape := ⟨3, ![2, 4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  bcast_S_S256x8192 : S_.BroadcastsInDim S256x8192 (![] : Fin 0 → Fin S256x8192.rank)
  bcast_S_S2x4096x4096 : S_.BroadcastsInDim S2x4096x4096 (![] : Fin 0 → Fin S2x4096x4096.rank)
  bcast_S_S4096 : S_.BroadcastsInDim S4096 (![] : Fin 0 → Fin S4096.rank)

variable [Facts]

def fn {F : FTy → Type} [FloatOps F] (main_arg0 : FVec F S8192x4096 .f32) (main_arg1 : FVec F S256x8192 .bf16) (main_arg2 : FVec F S2x4096x4096 .f32) (main_arg3 : FVec F S2x4096x4096 .f32) (main_arg4 : FVec F S4096 .f32) (main_arg5 : FVec F S4096 .f32) : IVec S8192x4096 1 × IVec S256x8192 1 × IVec S2x4096x4096 1 × IVec S2x4096x4096 1 × IVec S4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S256x8192 .bf16 := Host.absf main_arg1
  let main_cst_0 : FVec F S_ .bf16 := constant S_ .bf16 0x7F80#16
  let main_v4 : FVec F S256x8192 .bf16 := broadcastInDim S256x8192 ![] bcast_S_S256x8192 main_cst_0
  let main_v5 : IVec S256x8192 1 := cmpf .olt main_v3 main_v4
  let main_v6 : FVec F S2x4096x4096 .f32 := Host.absf main_arg2
  let main_cst_1 : FVec F S_ .f32 := constant S_ .f32 0x7F800000#32
  let main_v7 : FVec F S2x4096x4096 .f32 := broadcastInDim S2x4096x4096 ![] bcast_S_S2x4096x4096 main_cst_1
  let main_v8 : IVec S2x4096x4096 1 := cmpf .olt main_v6 main_v7
  let main_v9 : FVec F S2x4096x4096 .f32 := Host.absf main_arg3
  let main_cst_2 : FVec F S_ .f32 := constant S_ .f32 0x7F800000#32
  let main_v10 : FVec F S2x4096x4096 .f32 := broadcastInDim S2x4096x4096 ![] bcast_S_S2x4096x4096 main_cst_2
  let main_v11 : IVec S2x4096x4096 1 := cmpf .olt main_v9 main_v10
  let main_v12 : FVec F S4096 .f32 := Host.absf main_arg4
  let main_cst_3 : FVec F S_ .f32 := constant S_ .f32 0x7F800000#32
  let main_v13 : FVec F S4096 .f32 := broadcastInDim S4096 ![] bcast_S_S4096 main_cst_3
  let main_v14 : IVec S4096 1 := cmpf .olt main_v12 main_v13
  (main_v2, main_v5, main_v8, main_v11, main_v14)
-- ==== Pre_finite_qkv.lean ====
abbrev S8192x6144 : Shape := ⟨2, ![8192, 6144]⟩
abbrev S8192x128 : Shape := ⟨2, ![8192, 128]⟩
abbrev S4 : Shape := ⟨1, ![4]⟩
abbrev S2048 : Shape := ⟨1, ![2048]⟩
abbrev S8192x4096 : Shape := ⟨2, ![8192, 4096]⟩
abbrev S_ : Shape := ⟨0, ![]⟩

class Facts : Prop where
  slices_S8192x6144_S8192x4096_0_0 : S8192x6144.Slices ![0, 0] S8192x4096
  bcast_S_S8192x4096 : S_.BroadcastsInDim S8192x4096 (![] : Fin 0 → Fin S8192x4096.rank)

variable [Facts]

def fn {F : FTy → Type} [FloatOps F] (main_arg0 : FVec F S8192x6144 .f32) (main_arg1 : FVec F S8192x128 .f32) (main_arg2 : FVec F S4 .f32) (main_arg3 : FVec F S4 .f32) (main_arg4 : FVec F S2048 .f32) (main_arg5 : FVec F S8192x4096 .bf16) : IVec S8192x4096 1 :=
  let main_v0 : FVec F S8192x4096 .f32 := (extractStridedSlice S8192x4096 ![0, 0] · slices_S8192x6144_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  main_v3
-- ==== Pre_finite_y.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)

variable [Facts]

def fn {F : FTy → Type} [FloatOps F] (main_arg0 : FVec F S8192x4096 .f32) (main_arg1 : FVec F S8192x4096 .f32) (main_arg2 : FVec F S8192x4096 .f32) (main_arg3 : FVec F S4096 .f32) (main_arg4 : FVec F S4096 .f32) : IVec S8192x4096 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  main_v2
-- ==== MlstmIn.lean ====
abbrev S8192x4096 : Shape := ⟨2, ![8192, 4096]⟩
abbrev S1x4096x14344 : Shape := ⟨3, ![1, 4096, 14344]⟩
abbrev S1x14344x4096 : Shape := ⟨3, ![1, 14344, 4096]⟩
abbrev S8192x6144 : Shape := ⟨2, ![8192, 6144]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x14344, .f32⟩
  | .hbm, ⟨2, _⟩ => ⟨S1x14344x4096, .f32⟩
  | .hbm, ⟨3, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let v3 : BitVec 32 := Scalar.addi c0_i32_0 arg2
  let c4096_i32 : BitVec 32 := 4096#32
  let v4 : BitVec 32 := Scalar.muli v3 c4096_i32
  let c0_i32_1 : BitVec 32 := 0#32
  let c0_i32_2 : BitVec 32 := 0#32
  ![c0_i32_1.toNat, v2.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlstmInRefIdeal.lean ====
abbrev S8192x4096 : Shape := ⟨2, ![8192, 4096]⟩
abbrev S1x4096x14344 : Shape := ⟨3, ![1, 4096, 14344]⟩
abbrev S4096x14344 : Shape := ⟨2, ![4096, 14344]⟩
abbrev S8192x14344 : Shape := ⟨2, ![8192, 14344]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14344, .f32⟩
  | .hbm, ⟨2, _⟩ => ⟨S8192x4096, .f32⟩
  | .hbm, ⟨3, _⟩ => ⟨S4096x14344, .f32⟩
  | .hbm, ⟨4, _⟩ => ⟨S8192x14344, .f32⟩
  | .hbm, ⟨5, _⟩ => ⟨S8192x6144, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GatesIn.lean ====
abbrev S8192x4096 : Shape := ⟨2, ![8192, 4096]⟩
abbrev S1x4096x14344 : Shape := ⟨3, ![1, 4096, 14344]⟩
abbrev S1x14344x4096 : Shape := ⟨3, ![1, 14344, 4096]⟩
abbrev S8192x128 : Shape := ⟨2, ![8192, 128]⟩
abbrev S1024x4096 : Shape := ⟨2, ![1024, 4096]⟩
abbrev S1x128x4096 : Shape := ⟨3, ![1, 128, 4096]⟩
abbrev S1024x128 : Shape := ⟨2, ![1024, 128]⟩
abbrev S128x4096 : Shape := ⟨2, ![128, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x4096x14344, .f32⟩
  | .hbm, ⟨2, _⟩ => ⟨S1x14344x4096, .f32⟩
  | .hbm, ⟨3, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_mult1 (i : grid0.Coords) : BitVec 32 :=
  let c6144_i32 : BitVec 32 := 6144#32
  let arg1 : BitVec 32 := BitVec.ofNat 32 (i 1).val
  let c128_i32 : BitVec 32 := 128#32
  let v0 : BitVec 32 := Scalar.muli arg1 c128_i32
  let v1 : BitVec 32 := Scalar.addi c6144_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c6144_i32 : BitVec 32 := 6144#32
  let v1 : BitVec 32 := Scalar.addi c6144_i32 v0
  let v2 : BitVec 32 := v1
  let c0_i32 : BitVec 32 := 0#32
  let v3 : BitVec 32 := Scalar.addi c0_i32 arg2
  let c4096_i32 : BitVec 32 := 4096#32
  let v4 : BitVec 32 := Scalar.muli v3 c4096_i32
  let c0_i32_0 : BitVec 32 := 0#32
  let c0_i32_1 : BitVec 32 := 0#32
  ![c0_i32_0.toNat, v2.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesInRefIdeal.lean ====
abbrev S8192x4096 : Shape := ⟨2, ![8192, 4096]⟩
abbrev S1x4096x14344 : Shape := ⟨3, ![1, 4096, 14344]⟩
abbrev S4096x14344 : Shape := ⟨2, ![4096, 14344]⟩
abbrev S8192x14344 : Shape := ⟨2, ![8192, 14344]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14344, .f32⟩
  | .hbm, ⟨2, _⟩ => ⟨S8192x4096, .f32⟩
  | .hbm, ⟨3, _⟩ => ⟨S4096x14344, .f32⟩
  | .hbm, ⟨4, _⟩ => ⟨S8192x14344, .f32⟩
  | .hbm, ⟨5, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HgrnIn.lean ====
abbrev S8192x4096 : Shape := ⟨2, ![8192, 4096]⟩
abbrev S1x4096x14344 : Shape := ⟨3, ![1, 4096, 14344]⟩
abbrev S1x14344x4096 : Shape := ⟨3, ![1, 14344, 4096]⟩
abbrev S8192x8192 : Shape := ⟨2, ![8192, 8192]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x14344, .f32⟩
  | .hbm, ⟨2, _⟩ => ⟨S1x14344x4096, .f32⟩
  | .hbm, ⟨3, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def k0_mult1 (i : grid0.Coords) : BitVec 32 :=
  let c6152_i32 : BitVec 32 := 6152#32
  let arg1 : BitVec 32 := BitVec.ofNat 32 (i 1).val
  let c512_i32 : BitVec 32 := 512#32
  let v0 : BitVec 32 := Scalar.muli arg1 c512_i32
  let v1 : BitVec 32 := Scalar.addi c6152_i32 v0
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c6152_i32 : BitVec 32 := 6152#32
  let v1 : BitVec 32 := Scalar.addi c6152_i32 v0
  let v2 : BitVec 32 := v1
  let c0_i32 : BitVec 32 := 0#32
  let v3 : BitVec 32 := Scalar.addi c0_i32 arg2
  let c4096_i32 : BitVec 32 := 4096#32
  let v4 : BitVec 32 := Scalar.muli v3 c4096_i32
  let c0_i32_0 : BitVec 32 := 0#32
  let c0_i32_1 : BitVec 32 := 0#32
  ![c0_i32_0.toNat, v2.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInRefIdeal.lean ====
abbrev S8192x4096 : Shape := ⟨2, ![8192, 4096]⟩
abbrev S1x4096x14344 : Shape := ⟨3, ![1, 4096, 14344]⟩
abbrev S4096x14344 : Shape := ⟨2, ![4096, 14344]⟩
abbrev S8192x14344 : Shape := ⟨2, ![8192, 14344]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14344, .f32⟩
  | .hbm, ⟨2, _⟩ => ⟨S8192x4096, .f32⟩
  | .hbm, ⟨3, _⟩ => ⟨S4096x14344, .f32⟩
  | .hbm, ⟨4, _⟩ => ⟨S8192x14344, .f32⟩
  | .hbm, ⟨5, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mlp.lean ====
abbrev S8192x4096 : Shape := ⟨2, ![8192, 4096]⟩
abbrev S2x4096x16384 : Shape := ⟨3, ![2, 4096, 16384]⟩
abbrev S2x16384x4096 : Shape := ⟨3, ![2, 16384, 4096]⟩
abbrev S8192x16384 : Shape := ⟨2, ![8192, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 9
  | .vmem => 38
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S2x16384x4096, .f32⟩
  | .hbm, ⟨3, _⟩ => ⟨S8192x4096, .f32⟩
  | .hbm, ⟨4, _⟩ => ⟨S8192x16384, .bf16⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S2048x4096, .bf16⟩
  | .local _ .vmem, ⟨7, _⟩ => ⟨S2048x4096, .bf16⟩
  | .local _ .vmem, ⟨8, _⟩ => ⟨S1x4096x256, .f32⟩
  | .local _ .vmem, ⟨9, _⟩ => ⟨S1x4096x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x4096, .bf16⟩
  | .local _ .vmem, ⟨15, _⟩ => ⟨S2048x4096, .bf16⟩
  | .local _ .vmem, ⟨16, _⟩ => ⟨S1x4096x256, .f32⟩
  | .local _ .vmem, ⟨17, _⟩ => ⟨S1x4096x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x4096, .bf16⟩
  | .local _ .vmem, ⟨23, _⟩ => ⟨S2048x4096, .bf16⟩
  | .local _ .vmem, ⟨24, _⟩ => ⟨S1x4096x256, .f32⟩
  | .local _ .vmem, ⟨25, _⟩ => ⟨S1x4096x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x4096, .bf16⟩
  | .local _ .vmem, ⟨31, _⟩ => ⟨S2048x4096, .bf16⟩
  | .local _ .vmem, ⟨32, _⟩ => ⟨S1x4096x256, .f32⟩
  | .local _ .vmem, ⟨33, _⟩ => ⟨S1x4096x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 16, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let v1 : BitVec 32 := Scalar.addi c0_i32 arg1
  let c0_i32_0 : BitVec 32 := 0#32
  let c0_i32_1 : BitVec 32 := 0#32
  ![c0_i32_0.toNat, v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 16, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, v0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let v1 : BitVec 32 := Scalar.addi c0_i32 arg1
  let c0_i32_0 : BitVec 32 := 0#32
  let c0_i32_1 : BitVec 32 := 0#32
  ![c0_i32_0.toNat, v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 16, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg0.toNat, v0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let v1 : BitVec 32 := Scalar.addi c0_i32 arg1
  let c0_i32_0 : BitVec 32 := 0#32
  let c0_i32_1 : BitVec 32 := 0#32
  ![c0_i32_0.toNat, v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x4096x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S2048x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== MlpRefIdeal.lean ====
abbrev S8192x4096 : Shape := ⟨2, ![8192, 4096]⟩
abbrev S2x4096x16384 : Shape := ⟨3, ![2, 4096, 16384]⟩
abbrev S2x16384x4096 : Shape := ⟨3, ![2, 16384, 4096]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩
abbrev S1x16384x4096 : Shape := ⟨3, ![1, 16384, 4096]⟩
abbrev S16384x4096 : Shape := ⟨2, ![16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S2x16384x4096, .f32⟩
  | .hbm, ⟨3, _⟩ => ⟨S8192x4096, .f32⟩
  | .hbm, ⟨4, _⟩ => ⟨S8192x4096, .f32⟩
  | .hbm, ⟨5, _⟩ => ⟨S1x4096x16384, .f32⟩
  | .hbm, ⟨6, _⟩ => ⟨S4096x16384, .f32⟩
  | .hbm, ⟨7, _⟩ => ⟨S8192x16384, .f32⟩
  | .hbm, ⟨8, _⟩ => ⟨S_, .f32⟩
  | .hbm, ⟨9, _⟩ => ⟨S8192x16384, .f32⟩
  | .hbm, ⟨10, _⟩ => ⟨S8192x16384, .f32⟩
  | .hbm, ⟨11, _⟩ => ⟨S8192x16384, .f32⟩
  | .hbm, ⟨12, _⟩ => ⟨S1x16384x4096, .f32⟩
  | .hbm, ⟨13, _⟩ => ⟨S16384x4096, .f32⟩
  | .hbm, ⟨14, _⟩ => ⟨S8192x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== MixOut.lean ====
abbrev S8192x4096 : Shape := ⟨2, ![8192, 4096]⟩
abbrev S1x4096x4096 : Shape := ⟨3, ![1, 4096, 4096]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RwkvR.lean ====
abbrev S8192x4096 : Shape := ⟨2, ![8192, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwkvRRefIdeal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalNorm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemKv.lean ====
abbrev S256x4096 : Shape := ⟨2, ![256, 4096]⟩
abbrev S4096 : Shape := ⟨1, ![4096]⟩
abbrev S4096x8192 : Shape := ⟨2, ![4096, 8192]⟩
abbrev S1x4096 : Shape := ⟨2, ![1, 4096]⟩
abbrev S256 : Shape := ⟨1, ![256]⟩
abbrev S256x1 : Shape := ⟨2, ![256, 1]⟩
abbrev S256x8192 : Shape := ⟨2, ![256, 8192]⟩
abbrev S4096x512 : Shape := ⟨2, ![4096, 512]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S4096x8192, .f32⟩
  | .hbm, ⟨3, _⟩ => ⟨S1x4096, .f32⟩
  | .hbm, ⟨4, _⟩ => ⟨S256x4096, .bf16⟩
  | .hbm, ⟨5, _⟩ => ⟨S256x8192, .bf16⟩
  | .local _ .vmem, ⟨0, _⟩ => ⟨S256x4096, .f32⟩
  | .local _ .vmem, ⟨1, _⟩ => ⟨S1x4096, .f32⟩
  | .local _ .vmem, ⟨2, _⟩ => ⟨S256x4096, .bf16⟩
  | .local _ .vmem, ⟨3, _⟩ => ⟨S256x4096, .bf16⟩
  | .local _ .vmem, ⟨4, _⟩ => ⟨S4096x512, .f32⟩
  | .local _ .vmem, ⟨5, _⟩ => ⟨S4096x512, .f32⟩
  | .local _ .vmem, ⟨6, _⟩ => ⟨S256x512, .bf16⟩
  | .local _ .vmem, ⟨7, _⟩ => ⟨S256x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨3, ![1, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== MemKvRefIdeal.lean ====
abbrev S256x4096 : Shape := ⟨2, ![256, 4096]⟩
abbrev S4096 : Shape := ⟨1, ![4096]⟩
abbrev S4096x8192 : Shape := ⟨2, ![4096, 8192]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S256x8192 : Shape := ⟨2, ![256, 8192]⟩

abbrev nBuf : Space → Nat
  | .hbm => 21
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S4096x8192, .f32⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x4096, .f32⟩
  | .hbm, ⟨15, _⟩ => ⟨S256x4096, .f32⟩
  | .hbm, ⟨16, _⟩ => ⟨S1x4096, .f32⟩
  | .hbm, ⟨17, _⟩ => ⟨S256x4096, .f32⟩
  | .hbm, ⟨18, _⟩ => ⟨S256x4096, .f32⟩
  | .hbm, ⟨19, _⟩ => ⟨S256x8192, .f32⟩
  | .hbm, ⟨20, _⟩ => ⟨S256x8192, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== LoraW2.lean ====
abbrev S8192x128 : Shape := ⟨2, ![8192, 128]⟩
abbrev S1x128x4096 : Shape := ⟨3, ![1, 128, 4096]⟩
abbrev S8192x4096 : Shape := ⟨2, ![8192, 4096]⟩
abbrev S512x128 : Shape := ⟨2, ![512, 128]⟩
abbrev S512x4096 : Shape := ⟨2, ![512, 4096]⟩
abbrev S128x4096 : Shape := ⟨2, ![128, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S1x128x4096, .f32⟩
  | .hbm, ⟨2, _⟩ => ⟨S8192x4096, .f32⟩
  | .local _ .vmem, ⟨0, _⟩ => ⟨S512x128, .bf16⟩
  | .local _ .vmem, ⟨1, _⟩ => ⟨S512x128, .bf16⟩
  | .local _ .vmem, ⟨2, _⟩ => ⟨S1x128x4096, .f32⟩
  | .local _ .vmem, ⟨3, _⟩ => ⟨S512x4096, .f32⟩
  | .local _ .vmem, ⟨4, _⟩ => ⟨S512x4096, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoraW2RefIdeal.lean ====
abbrev S8192x128 : Shape := ⟨2, ![8192, 128]⟩
abbrev S1x128x4096 : Shape := ⟨3, ![1, 128, 4096]⟩
abbrev S128x4096 : Shape := ⟨2, ![128, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1x128x4096, .f32⟩
  | .hbm, ⟨2, _⟩ => ⟨S8192x128, .f32⟩
  | .hbm, ⟨3, _⟩ => ⟨S128x4096, .f32⟩
  | .hbm, ⟨4, _⟩ => ⟨S8192x4096, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LoraG2.lean ====
abbrev S8192x480 : Shape := ⟨2, ![8192, 480]⟩
abbrev S1x480x4096 : Shape := ⟨3, ![1, 480, 4096]⟩
abbrev S8192x4096 : Shape := ⟨2, ![8192, 4096]⟩
abbrev S512x480 : Shape := ⟨2, ![512, 480]⟩
abbrev S512x4096 : Shape := ⟨2, ![512, 4096]⟩
abbrev S480x4096 : Shape := ⟨2, ![480, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x480, .bf16⟩
  | .hbm, ⟨1, _⟩ => ⟨S1x480x4096, .f32⟩
  | .hbm, ⟨2, _⟩ => ⟨S8192x4096, .f32⟩
  | .local _ .vmem, ⟨0, _⟩ => ⟨S512x480, .bf16⟩
  | .local _ .vmem, ⟨1, _⟩ => ⟨S512x480, .bf16⟩
  | .local _ .vmem, ⟨2, _⟩ => ⟨S1x480x4096, .f32⟩
  | .local _ .vmem, ⟨3, _⟩ => ⟨S512x4096, .f32⟩
  | .local _ .vmem, ⟨4, _⟩ => ⟨S512x4096, .f32⟩
  | _, _ => ⟨S8192x480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x480x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoraG2RefIdeal.lean ====
abbrev S8192x480 : Shape := ⟨2, ![8192, 480]⟩
abbrev S1x480x4096 : Shape := ⟨3, ![1, 480, 4096]⟩
abbrev S480x4096 : Shape := ⟨2, ![480, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x480, .bf16⟩
  | .hbm, ⟨1, _⟩ => ⟨S1x480x4096, .f32⟩
  | .hbm, ⟨2, _⟩ => ⟨S8192x480, .f32⟩
  | .hbm, ⟨3, _⟩ => ⟨S480x4096, .f32⟩
  | .hbm, ⟨4, _⟩ => ⟨S8192x4096, .f32⟩
  | _, _ => ⟨S8192x480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Xattn.lean ====
abbrev S8192x4096 : Shape := ⟨2, ![8192, 4096]⟩
abbrev S256x8192 : Shape := ⟨2, ![256, 8192]⟩
abbrev S2x4096x4096 : Shape := ⟨3, ![2, 4096, 4096]⟩
abbrev S4096 : Shape := ⟨1, ![4096]⟩
abbrev S4096x1024 : Shape := ⟨2, ![4096, 1024]⟩
abbrev S1x1024x1024 : Shape := ⟨3, ![1, 1024, 1024]⟩
abbrev S256x1024 : Shape := ⟨2, ![256, 1024]⟩
abbrev S1024x256 : Shape := ⟨2, ![1024, 256]⟩
abbrev S1024x1024 : Shape := ⟨2, ![1024, 1024]⟩
abbrev S1024x4096 : Shape := ⟨2, ![1024, 4096]⟩
abbrev S1x4096 : Shape := ⟨2, ![1, 4096]⟩
abbrev S8192x1024 : Shape := ⟨2, ![8192, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 28
  | .smem => 0
  | _ => 0

abbrev bufTy : (tb : Table) → Fin (tcTables nBuf tb) → BufTy
  | .hbm, ⟨0, _⟩ => ⟨S8192x4096, .f32⟩
  | .hbm, ⟨1, _⟩ => ⟨S256x8192, .bf16⟩
  | .hbm, ⟨2, _⟩ => ⟨S2x4096x4096, .f32⟩
  | .hbm, ⟨3, _⟩ => ⟨S2x4096x4096, .f32⟩
  | .hbm, ⟨4, _⟩ => ⟨S4096, .f32⟩
  | .hbm, ⟨5, _⟩ => ⟨S4096, .f32⟩
  | .hbm, ⟨6, _⟩ => ⟨S4096x1024, .bf16⟩
  | .hbm, ⟨7, _⟩ => ⟨S1024x4096, .bf16⟩
  | .hbm, ⟨8, _⟩ => ⟨S1x4096, .f32⟩
  | .hbm, ⟨9, _⟩ => ⟨S8192x1024, .bf16⟩
  | .hbm, ⟨10, _⟩ => ⟨S1x4096, .f32⟩
  | .hbm, ⟨11, _⟩ => ⟨S8192x4096, .f32⟩
  | .hbm, ⟨12, _⟩ => ⟨S8192x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S256x1024, .bf16⟩
  | .local _ .vmem, ⟨11, _⟩ => ⟨S256x1024, .bf16⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S4096x1024, .bf16⟩
  | .local _ .vmem, ⟨16, _⟩ => ⟨S512x1024, .bf16⟩
  | .local _ .vmem, ⟨17, _⟩ => ⟨S512x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x4096, .bf16⟩
  | .local _ .vmem, ⟨21, _⟩ => ⟨S256x4096, .f32⟩
  | .local _ .vmem, ⟨22, _⟩ => ⟨S256x4096, .f32⟩
  | .local _ .vmem, ⟨23, _⟩ => ⟨S1x4096, .f32⟩
  | .local _ .vmem, ⟨24, _⟩ => ⟨S256x4096, .f32⟩
  | .local _ .vmem, ⟨25, _⟩ => ⟨S256x4096, .f32⟩
  | .local _ .vmem, ⟨26, _⟩ => ⟨S256x4096, .bf16⟩
  | .local _ .vmem, ⟨27, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x4096 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== XattnRefIdeal.lean ====
abbrev S8192x4096 : Shape := ⟨2, ![8192, 4096]⟩
abbrev S256x8192 : Shape := ⟨2, ![256, 8192]⟩
abbrev S2x4096x4096 : Shape := ⟨3, ![2, 4096, 4096]⟩
abbrev S4096 : Shape := ⟨1, ![4096]⟩
abbrev S256x4096 : Shape := ⟨2, ![256, 4096]⟩
abbrev S256x4x1024 : Shape := ⟨3, ![256, 4, 1024]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1x4096x4096 : Shape := ⟨3, ![1, 4096, 4096]⟩
abbrev S4096x4096 : Shape := ⟨2, ![4096, 4096]⟩
abbrev S8192x4x1024 : Shape := ⟨3, ![8192, 4, 1024]⟩
abbrev S4x8192x256 : Shape := ⟨3, ![4, 8192, 256]⟩
abbrev S4x8192 : Shape := ⟨2, ![4, 8192]⟩
abbrev S4x8192x1 : Shape := ⟨3, ![4, 8192, 1]⟩
abbrev S4x1024x8192 : Shape := ⟨3, ![4, 1024, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x8192, .bf16⟩
  | .hbm, ⟨2, _⟩ => ⟨S2x4096x4096, .f32⟩
  | .hbm, ⟨3, _⟩ => ⟨S2x4096x4096, .f32⟩
  | .hbm, ⟨4, _⟩ => ⟨S4096, .f32⟩
  | .hbm, ⟨5, _⟩ => ⟨S4096, .f32⟩
  | .hbm, ⟨6, _⟩ => ⟨S256x8192, .f32⟩
  | .hbm, ⟨7, _⟩ => ⟨S256x4096, .f32⟩
  | .hbm, ⟨8, _⟩ => ⟨S256x4x1024, .f32⟩
  | .hbm, ⟨9, _⟩ => ⟨S256x4096, .f32⟩
  | .hbm, ⟨10, _⟩ => ⟨S256x4x1024, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S1x4096x4096, .f32⟩
  | .hbm, ⟨28, _⟩ => ⟨S4096x4096, .f32⟩
  | .hbm, ⟨29, _⟩ => ⟨S8192x4096, .f32⟩
  | .hbm, ⟨30, _⟩ => ⟨S8192x4x1024, .f32⟩
  | .hbm, ⟨31, _⟩ => ⟨S4x8192x256, .f32⟩
  | .hbm, ⟨32, _⟩ => ⟨S_, .f32⟩
  | .hbm, ⟨33, _⟩ => ⟨S4x8192x256, .f32⟩
  | .hbm, ⟨34, _⟩ => ⟨S4x8192x256, .f32⟩
  | .hbm, ⟨35, _⟩ => ⟨S_, .f32⟩
  | .hbm, ⟨36, _⟩ => ⟨S4x8192, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x1024x8192, .f32⟩
  | .hbm, ⟨50, _⟩ => ⟨S8192x4x1024, .f32⟩
  | .hbm, ⟨51, _⟩ => ⟨S8192x4096, .f32⟩
  | .hbm, ⟨52, _⟩ => ⟨S1x4096x4096, .f32⟩
  | .hbm, ⟨53, _⟩ => ⟨S4096x4096, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x4096, .f32⟩
  | .hbm, ⟨68, _⟩ => ⟨S8192x4096, .f32⟩
  | .hbm, ⟨69, _⟩ => ⟨S1x4096, .f32⟩
  | .hbm, ⟨70, _⟩ => ⟨S8192x4096, .f32⟩
  | .hbm, ⟨71, _⟩ => ⟨S8192x4096, .f32⟩
  | .hbm, ⟨72, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Shift.lean ====
abbrev S8192x4096 : Shape := ⟨2, ![8192, 4096]⟩
abbrev S4096 : Shape := ⟨1, ![4096]⟩
abbrev S6x4096 : Shape := ⟨2, ![6, 4096]⟩
abbrev S1x4096x128 : Shape := ⟨3, ![1, 4096, 128]⟩
abbrev S1x4096x480 : Shape := ⟨3, ![1, 4096, 480]⟩
abbrev S1x4096 : Shape := ⟨2, ![1, 4096]⟩
abbrev S8192x128 : Shape := ⟨2, ![8192, 128]⟩
abbrev S8192x480 : Shape := ⟨2, ![8192, 480]⟩
abbrev S256x4096 : Shape := ⟨2, ![256, 4096]⟩
abbrev S8x4096 : Shape := ⟨2, ![8, 4096]⟩
abbrev S256x128 : Shape := ⟨2, ![256, 128]⟩
abbrev S256x480 : Shape := ⟨2, ![256, 480]⟩
abbrev S256 : Shape := ⟨1, ![256]⟩
abbrev S256x1 : Shape := ⟨2, ![256, 1]⟩
abbrev S8 : Shape := ⟨1, ![8]⟩
abbrev S8x1 : Shape := ⟨2, ![8, 1]⟩
abbrev S4096x128 : Shape := ⟨2, ![4096, 128]⟩
abbrev S4096x480 : Shape := ⟨2, ![4096, 480]⟩

abbrev nBuf : Space → Nat
  | .hbm => 13
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S6x4096, .f32⟩
  | .hbm, ⟨3, _⟩ => ⟨S1x4096x128, .f32⟩
  | .hbm, ⟨4, _⟩ => ⟨S1x4096x128, .f32⟩
  | .hbm, ⟨5, _⟩ => ⟨S1x4096x480, .f32⟩
  | .hbm, ⟨6, _⟩ => ⟨S1x4096, .f32⟩
  | .hbm, ⟨7, _⟩ => ⟨S8192x4096, .bf16⟩
  | .hbm, ⟨8, _⟩ => ⟨S8192x4096, .bf16⟩
  | .hbm, ⟨9, _⟩ => ⟨S8192x4096, .bf16⟩
  | .hbm, ⟨10, _⟩ => ⟨S8192x128, .bf16⟩
  | .hbm, ⟨11, _⟩ => ⟨S8192x128, .bf16⟩
  | .hbm, ⟨12, _⟩ => ⟨S8192x480, .bf16⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S1x4096, .f32⟩
  | .local _ .vmem, ⟨5, _⟩ => ⟨S6x4096, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x480, .f32⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x480, .bf16⟩
  | .local _ .vmem, ⟨20, _⟩ => ⟨S256x480, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x480 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ShiftRefIdeal.lean ====
abbrev S8192x4096 : Shape := ⟨2, ![8192, 4096]⟩
abbrev S4096 : Shape := ⟨1, ![4096]⟩
abbrev S6x4096 : Shape := ⟨2, ![6, 4096]⟩
abbrev S1x4096x128 : Shape := ⟨3, ![1, 4096, 128]⟩
abbrev S1x4096x480 : Shape := ⟨3, ![1, 4096, 480]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8191x4096 : Shape := ⟨2, ![8191, 4096]⟩
abbrev S4096x128 : Shape := ⟨2, ![4096, 128]⟩
abbrev S8192x128 : Shape := ⟨2, ![8192, 128]⟩
abbrev S4096x480 : Shape := ⟨2, ![4096, 480]⟩
abbrev S8192x480 : Shape := ⟨2, ![8192, 480]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S6x4096, .f32⟩
  | .hbm, ⟨3, _⟩ => ⟨S1x4096x128, .f32⟩
  | .hbm, ⟨4, _⟩ => ⟨S1x4096x128, .f32⟩
  | .hbm, ⟨5, _⟩ => ⟨S1x4096x480, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S8191x4096, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .bf16⟩
  | .hbm, ⟨42, _⟩ => ⟨S1x4096, .f32⟩
  | .hbm, ⟨43, _⟩ => ⟨S4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .bf16⟩
  | .hbm, ⟨49, _⟩ => ⟨S1x4096, .f32⟩
  | .hbm, ⟨50, _⟩ => ⟨S4096, .f32⟩
  | .hbm, ⟨51, _⟩ => ⟨S1x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S4096x128, .f32⟩
  | .hbm, ⟨56, _⟩ => ⟨S8192x128, .f32⟩
  | .hbm, ⟨57, _⟩ => ⟨S8192x128, .f32⟩
  | .hbm, ⟨58, _⟩ => ⟨S8192x128, .bf16⟩
  | .hbm, ⟨59, _⟩ => ⟨S1x4096, .f32⟩
  | .hbm, ⟨60, _⟩ => ⟨S4096, .f32⟩
  | .hbm, ⟨61, _⟩ => ⟨S1x4096, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S4096x128, .f32⟩
  | .hbm, ⟨66, _⟩ => ⟨S8192x128, .f32⟩
  | .hbm, ⟨67, _⟩ => ⟨S8192x128, .bf16⟩
  | .hbm, ⟨68, _⟩ => ⟨S1x4096, .f32⟩
  | .hbm, ⟨69, _⟩ => ⟨S4096, .f32⟩
  | .hbm, ⟨70, _⟩ => ⟨S1x4096, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S4096x480, .f32⟩
  | .hbm, ⟨75, _⟩ => ⟨S8192x480, .f32⟩
  | .hbm, ⟨76, _⟩ => ⟨S8192x480, .f32⟩
  | .hbm, ⟨77, _⟩ => ⟨S8192x480, .f32⟩
  | .hbm, ⟨78, _⟩ => ⟨S_, .f32⟩
  | .hbm, ⟨79, _⟩ => ⟨S8192x480, .f32⟩
  | .hbm, ⟨80, _⟩ => ⟨S8192x480, .f32⟩
  | .hbm, ⟨81, _⟩ => ⟨S_, .f32⟩
  | .hbm, ⟨82, _⟩ => ⟨S8192x480, .f32⟩
  | .hbm, ⟨83, _⟩ => ⟨S8192x480, .f32⟩
  | .hbm, ⟨84, _⟩ => ⟨S8192x480, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_3 : Ref sig .tc := ⟨.hbm, 78, rfl⟩
abbrev main_v68 : Ref sig .tc := ⟨.hbm, 79, rfl⟩
abbrev main_v69 : Ref sig .tc := ⟨.hbm, 80, rfl⟩
abbrev main_cst_4 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩

abbrev nD : Nat := 1
abbrev τ : Topo := Topo.v7x

variable {F : FTy → Type} [FloatOps F]
-- ==== RwkvOut.lean ====
abbrev S8192x4096 : Shape := ⟨2, ![8192, 4096]⟩
abbrev S4096 : Shape := ⟨1, ![4096]⟩
abbrev S1x4096 : Shape := ⟨2, ![1, 4096]⟩
abbrev S2x4096 : Shape := ⟨2, ![2, 4096]⟩
abbrev S_ : Shape := ⟨0, ![]⟩
abbrev S6x4096 : Shape := ⟨2, ![6, 4096]⟩
abbrev S8x4096 : Shape := ⟨2, ![8, 4096]⟩
abbrev S64x4096 : Shape := ⟨2, ![64, 4096]⟩
abbrev S256x256 : Shape := ⟨2, ![256, 256]⟩
abbrev S64x256 : Shape := ⟨2, ![64, 256]⟩
abbrev S128x256 : Shape := ⟨2, ![128, 256]⟩
abbrev S1x256 : Shape := ⟨2, ![1, 256]⟩

abbrev nBuf : Space → Nat
  | .hbm => 12
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S2x4096, .f32⟩
  | .hbm, ⟨8, _⟩ => ⟨S_, .f32⟩
  | .hbm, ⟨9, _⟩ => ⟨S6x4096, .f32⟩
  | .hbm, ⟨10, _⟩ => ⟨S8x4096, .f32⟩
  | .hbm, ⟨11, _⟩ => ⟨S8192x4096, .bf16⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S8x4096, .f32⟩
  | .local _ .vmem, ⟨7, _⟩ => ⟨S64x4096, .bf16⟩
  | .local _ .vmem, ⟨8, _⟩ => ⟨S64x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RwkvOutRefIdeal.lean ====
abbrev S8192x4096 : Shape := ⟨2, ![8192, 4096]⟩
abbrev S4096 : Shape := ⟨1, ![4096]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S64x64 : Shape := ⟨2, ![64, 64]⟩
abbrev S1x64x64 : Shape := ⟨3, ![1, 64, 64]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S8192x64x64, .f32⟩
  | .hbm, ⟨6, _⟩ => ⟨S_, .f32⟩
  | .hbm, ⟨7, _⟩ => ⟨S8192x64, .f32⟩
  | .hbm, ⟨8, _⟩ => ⟨S8192x64x1, .f32⟩
  | .hbm, ⟨9, _⟩ => ⟨S_, .f32⟩
  | .hbm, ⟨10, _⟩ => ⟨S8192x64x1, .f32⟩
  | .hbm, ⟨11, _⟩ => ⟨S8192x64x1, .f32⟩
  | .hbm, ⟨12, _⟩ => ⟨S8192x64x64, .f32⟩
  | .hbm, ⟨13, _⟩ => ⟨S8192x64x64, .f32⟩
  | .hbm, ⟨14, _⟩ => ⟨S8192x64x64, .f32⟩
  | .hbm, ⟨15, _⟩ => ⟨S_, .f32⟩
  | .hbm, ⟨16, _⟩ => ⟨S8192x64, .f32⟩
  | .hbm, ⟨17, _⟩ => ⟨S8192x64x1, .f32⟩
  | .hbm, ⟨18, _⟩ => ⟨S_, .f32⟩
  | .hbm, ⟨19, _⟩ => ⟨S8192x64x1, .f32⟩
  | .hbm, ⟨20, _⟩ => ⟨S8192x64x1, .f32⟩
  | .hbm, ⟨21, _⟩ => ⟨S8192x64x64, .f32⟩
  | .hbm, ⟨22, _⟩ => ⟨S8192x64x64, .f32⟩
  | .hbm, ⟨23, _⟩ => ⟨S_, .f32⟩
  | .hbm, ⟨24, _⟩ => ⟨S8192x64x1, .f32⟩
  | .hbm, ⟨25, _⟩ => ⟨S8192x64x1, .f32⟩
  | .hbm, ⟨26, _⟩ => ⟨S8192x64x1, .f32⟩
  | .hbm, ⟨27, _⟩ => ⟨S8192x64x64, .f32⟩
  | .hbm, ⟨28, _⟩ => ⟨S8192x64x64, .f32⟩
  | .hbm, ⟨29, _⟩ => ⟨S64x64, .f32⟩
  | .hbm, ⟨30, _⟩ => ⟨S1x64x64, .f32⟩
  | .hbm, ⟨31, _⟩ => ⟨S8192x64x64, .f32⟩
  | .hbm, ⟨32, _⟩ => ⟨S8192x64x64, .f32⟩
  | .hbm, ⟨33, _⟩ => ⟨S64x64, .f32⟩
  | .hbm, ⟨34, _⟩ => ⟨S1x64x64, .f32⟩
  | .hbm, ⟨35, _⟩ => ⟨S8192x64x64, .f32⟩
  | .hbm, ⟨36, _⟩ => ⟨S8192x64x64, .f32⟩
  | .hbm, ⟨37, _⟩ => ⟨S8192x64x64, .f32⟩
  | .hbm, ⟨38, _⟩ => ⟨S8192x64x64, .f32⟩
  | .hbm, ⟨39, _⟩ => ⟨S8192x4096, .f32⟩
  | .hbm, ⟨40, _⟩ => ⟨S8192x4096, .f32⟩
  | .hbm, ⟨41, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Mlstm.lean ====
abbrev S8192x6144 : Shape := ⟨2, ![8192, 6144]⟩
abbrev S8192x128 : Shape := ⟨2, ![8192, 128]⟩
abbrev S4 : Shape := ⟨1, ![4]⟩
abbrev S2048 : Shape := ⟨1, ![2048]⟩
abbrev S8192x4096 : Shape := ⟨2, ![8192, 4096]⟩
abbrev S_ : Shape := ⟨0, ![]⟩
abbrev S1x128 : Shape := ⟨2, ![1, 128]⟩
abbrev S1 : Shape := ⟨1, ![1]⟩
abbrev S2 : Shape := ⟨1, ![2]⟩
abbrev S1x2048 : Shape := ⟨2, ![1, 2048]⟩
abbrev S64x1024 : Shape := ⟨2, ![64, 1024]⟩
abbrev S64x2048 : Shape := ⟨2, ![64, 2048]⟩
abbrev S64x128 : Shape := ⟨2, ![64, 128]⟩
abbrev S4x256x512 : Shape := ⟨3, ![4, 256, 512]⟩
abbrev S4x1x256 : Shape := ⟨3, ![4, 1, 256]⟩
abbrev S4x1x128 : Shape := ⟨3, ![4, 1, 128]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S1x1x128 : Shape := ⟨3, ![1, 1, 128]⟩
abbrev S1x1 : Shape := ⟨2, ![1, 1]⟩
abbrev S64x256 : Shape := ⟨2, ![64, 256]⟩
abbrev S64x512 : Shape := ⟨2, ![64, 512]⟩
abbrev S1x256x512 : Shape := ⟨3, ![1, 256, 512]⟩
abbrev S256x512 : Shape := ⟨2, ![256, 512]⟩
abbrev S1x64x256 : Shape := ⟨3, ![1, 64, 256]⟩
abbrev S4x64x256 : Shape := ⟨3, ![4, 64, 256]⟩
abbrev S4x64x64 : Shape := ⟨3, ![4, 64, 64]⟩
abbrev S1x64x64 : Shape := ⟨3, ![1, 64, 64]⟩
abbrev S4x64x512 : Shape := ⟨3, ![4, 64, 512]⟩
abbrev S1x64x512 : Shape := ⟨3, ![1, 64, 512]⟩
abbrev S1x1x256 : Shape := ⟨3, ![1, 1, 256]⟩
abbrev S1x256 : Shape := ⟨2, ![1, 256]⟩
abbrev S256 : Shape := ⟨1, ![256]⟩
abbrev S1x512 : Shape := ⟨2, ![1, 512]⟩

abbrev nBuf : Space → Nat
  | .hbm => 22
  | .vmem => 17
  | .smem => 0
  | _ => 0

abbrev bufTy : (tb : Table) → Fin (tcTables nBuf tb) → BufTy
  | .hbm, ⟨0, _⟩ => ⟨S8192x6144, .f32⟩
  | .hbm, ⟨1, _⟩ => ⟨S8192x128, .f32⟩
  | .hbm, ⟨2, _⟩ => ⟨S4, .f32⟩
  | .hbm, ⟨3, _⟩ => ⟨S4, .f32⟩
  | .hbm, ⟨4, _⟩ => ⟨S2048, .f32⟩
  | .hbm, ⟨5, _⟩ => ⟨S8192x4096, .bf16⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S1x2048, .f32⟩
  | .hbm, ⟨21, _⟩ => ⟨S8192x4096, .bf16⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S1x128, .f32⟩
  | .local _ .vmem, ⟨11, _⟩ => ⟨S1x2048, .f32⟩
  | .local _ .vmem, ⟨12, _⟩ => ⟨S64x2048, .bf16⟩
  | .local _ .vmem, ⟨13, _⟩ => ⟨S64x2048, .bf16⟩
  | .local _ .vmem, ⟨14, _⟩ => ⟨S4x256x512, .f32⟩
  | .local _ .vmem, ⟨15, _⟩ => ⟨S4x1x256, .f32⟩
  | .local _ .vmem, ⟨16, _⟩ => ⟨S4x1x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlstmRefIdeal.lean ====
abbrev S8192x6144 : Shape := ⟨2, ![8192, 6144]⟩
abbrev S8192x128 : Shape := ⟨2, ![8192, 128]⟩
abbrev S4 : Shape := ⟨1, ![4]⟩
abbrev S2048 : Shape := ⟨1, ![2048]⟩
abbrev S8192x4096 : Shape := ⟨2, ![8192, 4096]⟩
abbrev S8192x1024 : Shape := ⟨2, ![8192, 1024]⟩
abbrev S8192x4x256 : Shape := ⟨3, ![8192, 4, 256]⟩
abbrev S_ : Shape := ⟨0, ![]⟩
abbrev S8192x2048 : Shape := ⟨2, ![8192, 2048]⟩
abbrev S8192x4x512 : Shape := ⟨3, ![8192, 4, 512]⟩
abbrev S8192x4 : Shape := ⟨2, ![8192, 4]⟩
abbrev S1x4 : Shape := ⟨2, ![1, 4]⟩
abbrev S8192x8192 : Shape := ⟨2, ![8192, 8192]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x512x8192 : Shape := ⟨3, ![4, 512, 8192]⟩
abbrev S8192x4x1 : Shape := ⟨3, ![8192, 4, 1]⟩
abbrev S4x512 : Shape := ⟨2, ![4, 512]⟩
abbrev S1x4x512 : Shape := ⟨3, ![1, 4, 512]⟩

abbrev nBuf : Space → Nat
  | .hbm => 126
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x128, .f32⟩
  | .hbm, ⟨2, _⟩ => ⟨S4, .f32⟩
  | .hbm, ⟨3, _⟩ => ⟨S4, .f32⟩
  | .hbm, ⟨4, _⟩ => ⟨S2048, .f32⟩
  | .hbm, ⟨5, _⟩ => ⟨S8192x4096, .bf16⟩
  | .hbm, ⟨6, _⟩ => ⟨S8192x1024, .f32⟩
  | .hbm, ⟨7, _⟩ => ⟨S8192x4x256, .f32⟩
  | .hbm, ⟨8, _⟩ => ⟨S_, .f32⟩
  | .hbm, ⟨9, _⟩ => ⟨S8192x4x256, .f32⟩
  | .hbm, ⟨10, _⟩ => ⟨S8192x4x256, .f32⟩
  | .hbm, ⟨11, _⟩ => ⟨S8192x1024, .f32⟩
  | .hbm, ⟨12, _⟩ => ⟨S8192x4x256, .f32⟩
  | .hbm, ⟨13, _⟩ => ⟨S8192x2048, .f32⟩
  | .hbm, ⟨14, _⟩ => ⟨S8192x4x512, .f32⟩
  | .hbm, ⟨15, _⟩ => ⟨S8192x4, .f32⟩
  | .hbm, ⟨16, _⟩ => ⟨S1x4, .f32⟩
  | .hbm, ⟨17, _⟩ => ⟨S8192x4, .f32⟩
  | .hbm, ⟨18, _⟩ => ⟨S8192x4, .f32⟩
  | .hbm, ⟨19, _⟩ => ⟨S_, .f32⟩
  | .hbm, ⟨20, _⟩ => ⟨S8192x4, .f32⟩
  | .hbm, ⟨21, _⟩ => ⟨S8192x4, .f32⟩
  | .hbm, ⟨22, _⟩ => ⟨S8192x4, .f32⟩
  | .hbm, ⟨23, _⟩ => ⟨S_, .f32⟩
  | .hbm, ⟨24, _⟩ => ⟨S8192x4, .f32⟩
  | .hbm, ⟨25, _⟩ => ⟨S8192x4, .f32⟩
  | .hbm, ⟨26, _⟩ => ⟨S8192x4, .f32⟩
  | .hbm, ⟨27, _⟩ => ⟨S1x4, .f32⟩
  | .hbm, ⟨28, _⟩ => ⟨S8192x4, .f32⟩
  | .hbm, ⟨29, _⟩ => ⟨S8192x4, .f32⟩
  | .hbm, ⟨30, _⟩ => ⟨S_, .f32⟩
  | .hbm, ⟨31, _⟩ => ⟨S8192x4, .f32⟩
  | .hbm, ⟨32, _⟩ => ⟨S8192x4, .f32⟩
  | .hbm, ⟨33, _⟩ => ⟨S8192x4, .f32⟩
  | .hbm, ⟨34, _⟩ => ⟨S_, .f32⟩
  | .hbm, ⟨35, _⟩ => ⟨S8192x4, .f32⟩
  | .hbm, ⟨36, _⟩ => ⟨S8192x4, .f32⟩
  | .hbm, ⟨37, _⟩ => ⟨S8192x4, .f32⟩
  | .hbm, ⟨38, _⟩ => ⟨S8192x4, .f32⟩
  | .hbm, ⟨39, _⟩ => ⟨S_, .f32⟩
  | .hbm, ⟨40, _⟩ => ⟨S8192x4, .f32⟩
  | .hbm, ⟨41, _⟩ => ⟨S8192x4, .f32⟩
  | .hbm, ⟨42, _⟩ => ⟨S_, .f32⟩
  | .hbm, ⟨43, _⟩ => ⟨S8192x4, .f32⟩
  | .hbm, ⟨44, _⟩ => ⟨S8192x4, .f32⟩
  | .hbm, ⟨45, _⟩ => ⟨S8192x4, .f32⟩
  | .hbm, ⟨46, _⟩ => ⟨S_, .i1⟩
  | .hbm, ⟨47, _⟩ => ⟨S8192x8192, .i1⟩
  | .hbm, ⟨48, _⟩ => ⟨S8192x8192, .i32⟩
  | .hbm, ⟨49, _⟩ => ⟨S_, .i32⟩
  | .hbm, ⟨50, _⟩ => ⟨S8192x8192, .i32⟩
  | .hbm, ⟨51, _⟩ => ⟨S8192x8192, .i32⟩
  | .hbm, ⟨52, _⟩ => ⟨S8192x8192, .i32⟩
  | .hbm, ⟨53, _⟩ => ⟨S8192x8192, .i1⟩
  | .hbm, ⟨54, _⟩ => ⟨S_, .i1⟩
  | .hbm, ⟨55, _⟩ => ⟨S8192x8192, .i1⟩
  | .hbm, ⟨56, _⟩ => ⟨S8192x8192, .i1⟩
  | .hbm, ⟨57, _⟩ => ⟨S_, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x4, .f32⟩
  | .hbm, ⟨63, _⟩ => ⟨S4x8192, .f32⟩
  | .hbm, ⟨64, _⟩ => ⟨S4x8192x1, .f32⟩
  | .hbm, ⟨65, _⟩ => ⟨S4x8192, .f32⟩
  | .hbm, ⟨66, _⟩ => ⟨S4x1x8192, .f32⟩
  | .hbm, ⟨67, _⟩ => ⟨S4x8192x8192, .f32⟩
  | .hbm, ⟨68, _⟩ => ⟨S4x8192x8192, .f32⟩
  | .hbm, ⟨69, _⟩ => ⟨S4x8192x8192, .f32⟩
  | .hbm, ⟨70, _⟩ => ⟨S4x8192, .f32⟩
  | .hbm, ⟨71, _⟩ => ⟨S4x1x8192, .f32⟩
  | .hbm, ⟨72, _⟩ => ⟨S4x8192x8192, .f32⟩
  | .hbm, ⟨73, _⟩ => ⟨S4x8192x8192, .f32⟩
  | .hbm, ⟨74, _⟩ => ⟨S4x8192x8192, .f32⟩
  | .hbm, ⟨75, _⟩ => ⟨S4x8192x8192, .f32⟩
  | .hbm, ⟨76, _⟩ => ⟨S_, .f32⟩
  | .hbm, ⟨77, _⟩ => ⟨S_, .f32⟩
  | .hbm, ⟨78, _⟩ => ⟨S4x8192x8192, .i1⟩
  | .hbm, ⟨79, _⟩ => ⟨S4x8192x8192, .f32⟩
  | .hbm, ⟨80, _⟩ => ⟨S4x8192x8192, .f32⟩
  | .hbm, ⟨81, _⟩ => ⟨S4x8192x8192, .f32⟩
  | .hbm, ⟨82, _⟩ => ⟨S4x512x8192, .f32⟩
  | .hbm, ⟨83, _⟩ => ⟨S8192x4x512, .f32⟩
  | .hbm, ⟨84, _⟩ => ⟨S_, .f32⟩
  | .hbm, ⟨85, _⟩ => ⟨S4x8192, .f32⟩
  | .hbm, ⟨86, _⟩ => ⟨S4x8192, .f32⟩
  | .hbm, ⟨87, _⟩ => ⟨S_, .f32⟩
  | .hbm, ⟨88, _⟩ => ⟨S4x8192, .f32⟩
  | .hbm, ⟨89, _⟩ => ⟨S4x8192, .f32⟩
  | .hbm, ⟨90, _⟩ => ⟨S8192x4, .f32⟩
  | .hbm, ⟨91, _⟩ => ⟨S8192x4x1, .f32⟩
  | .hbm, ⟨92, _⟩ => ⟨S8192x4x512, .f32⟩
  | .hbm, ⟨93, _⟩ => ⟨S8192x4x512, .f32⟩
  | .hbm, ⟨94, _⟩ => ⟨S4x512, .f32⟩
  | .hbm, ⟨95, _⟩ => ⟨S8192x4x512, .f32⟩
  | .hbm, ⟨96, _⟩ => ⟨S_, .f32⟩
  | .hbm, ⟨97, _⟩ => ⟨S8192x4, .f32⟩
  | .hbm, ⟨98, _⟩ => ⟨S8192x4x1, .f32⟩
  | .hbm, ⟨99, _⟩ => ⟨S_, .f32⟩
  | .hbm, ⟨100, _⟩ => ⟨S8192x4x1, .f32⟩
  | .hbm, ⟨101, _⟩ => ⟨S8192x4x1, .f32⟩
  | .hbm, ⟨102, _⟩ => ⟨S_, .f32⟩
  | .hbm, ⟨103, _⟩ => ⟨S8192x4x1, .f32⟩
  | .hbm, ⟨104, _⟩ => ⟨S8192x4x1, .f32⟩
  | .hbm, ⟨105, _⟩ => ⟨S8192x4x1, .f32⟩
  | .hbm, ⟨106, _⟩ => ⟨S8192x4x512, .f32⟩
  | .hbm, ⟨107, _⟩ => ⟨S8192x4x512, .f32⟩
  | .hbm, ⟨108, _⟩ => ⟨S1x4x512, .f32⟩
  | .hbm, ⟨109, _⟩ => ⟨S8192x4x512, .f32⟩
  | .hbm, ⟨110, _⟩ => ⟨S8192x4x512, .f32⟩
  | .hbm, ⟨111, _⟩ => ⟨S8192x2048, .f32⟩
  | .hbm, ⟨112, _⟩ => ⟨S8192x2048, .f32⟩
  | .hbm, ⟨113, _⟩ => ⟨S8192x2048, .f32⟩
  | .hbm, ⟨114, _⟩ => ⟨S_, .f32⟩
  | .hbm, ⟨115, _⟩ => ⟨S8192x2048, .f32⟩
  | .hbm, ⟨116, _⟩ => ⟨S8192x2048, .f32⟩
  | .hbm, ⟨117, _⟩ => ⟨S_, .f32⟩
  | .hbm, ⟨118, _⟩ => ⟨S8192x2048, .f32⟩
  | .hbm, ⟨119, _⟩ => ⟨S8192x2048, .f32⟩
  | .hbm, ⟨120, _⟩ => ⟨S8192x4x512, .f32⟩
  | .hbm, ⟨121, _⟩ => ⟨S8192x4x512, .f32⟩
  | .hbm, ⟨122, _⟩ => ⟨S8192x2048, .f32⟩
  | .hbm, ⟨123, _⟩ => ⟨S8192x2048, .bf16⟩
  | .hbm, ⟨124, _⟩ => ⟨S8192x2048, .bf16⟩
  | .hbm, ⟨125, _⟩ => ⟨S8192x4096, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_0 : Ref sig .tc := ⟨.hbm, 54, rfl⟩
abbrev main_call0_v5 : Ref sig .tc := ⟨.hbm, 55, rfl⟩
abbrev main_v34 : Ref sig .tc := ⟨.hbm, 56, rfl⟩
abbrev main_cst_6 : Ref sig .tc := ⟨.hbm, 57, rfl⟩
abbrev main_cst_7 : Ref sig .tc := ⟨.hbm, 58, rfl⟩
abbrev main_call1_v0 : Ref sig .tc := ⟨.hbm, 59, rfl⟩
abbrev main_call1_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_cst_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== Proof.Starts.lean ====
module

public import Idealize.ShloMosaic.Lib.Pointwise

@[expose] public section

/-! Facts that the values of all the matrix products use. -/

namespace Cert.Common

/-- The offsets of a load of a whole matrix are all zero. -/
theorem hz2 : (![0, 0] : Fin 2 → Nat) = fun _ => 0 := funext fun a => by fin_cases a <;> rfl

/-- The offsets of a load of a whole array of three axes are all zero. -/
theorem hz3 : (![0, 0, 0] : Fin 3 → Nat) = fun _ => 0 := funext fun a => by fin_cases a <;> rfl

/-- The column that lies `c` columns after column `c0`. -/
def colFrom {N n : Nat} (c0 : Nat) (h : c0 + n ≤ N) (c : Fin n) : Fin N :=
  ⟨c0 + c.val, lt_of_lt_of_le (Nat.add_lt_add_left c.isLt c0) h⟩

/-- The number of that column. -/
theorem colFrom_val {N n : Nat} (c0 : Nat) (h : c0 + n ≤ N) (c : Fin n) : (colFrom c0 h c).val = c0 + c.val := rfl

open Idealize.ShloMosaic in
/-- One entry of a row normalized by its root mean square and scaled: `x / √(mean x² + ε) · g`, with the words of 4096
    and of ε = 1e-6 that both programs print. -/
noncomputable def rmsEntry (x : Fin 4096 → EReal) (g : EReal) (c : Fin 4096) : EReal :=
  x c * Ideal.rsqrt (Ideal.div (∑ k : Fin 4096, x k * x k) (Ideal.ofBits FTy.f32 1166016512#32) + Ideal.ofBits FTy.f32 897988541#32) * g

/-- The square of the positive part. -/
noncomputable def relu2 (x : EReal) : EReal := max x 0 * max x 0

end Cert.Common
-- ==== Proof.MlstmInValue.lean ====
module

public import proofs.«01_k».proof.Proof.Gen.MlstmInIdeal.Value
public import proofs.«01_k».proof.Proof.Starts
public import proofs.«01_k».proof.Proof.Gen.MlstmInRefIdeal.Run

@[expose] public section

set_option maxRecDepth 16384

noncomputable section

namespace Cert.MlstmInIdeal.Value

open Cert.Common Cert.MlstmInIdeal Cert.MlstmInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: each row of the activations' block against each row of the transposed weights' block. -/
theorem pay (x0 : Vec Ideal S1024x4096 .bf16) (x1 : Vec Ideal S1x512x4096 .f32) (r : Fin 1024) (l : Fin 512) :
    out0_2 x0 x1 (ix2 r l) = ∑ k : Fin 4096, x0 (ix2 r k) * x1 (ix3 0 l k) := by
  unfold out0_2
  rw [View.canon_unit_zero hz2, View.ld_unit_zero hz3, View.ld_unit_zero hz2]
  pointwise [k0_pay1]

/-- Where the blocks start: the weights' window gives the offset of its first element, the other two the number of
    their block. -/
theorem starts : ∀ t : Fin grid0.N,
    win0_0.index t 0 = t.val / 12 ∧ win0_0.index t 1 = 0
    ∧ win0_1.index t 0 = 0 ∧ win0_1.index t 1 = t.val % 12 * 512 ∧ win0_1.index t 2 = 0
    ∧ win0_2.index t 0 = t.val / 12 ∧ win0_2.index t 1 = t.val % 12 := by decide +kernel

/-- The weights the kernel is launched on are the argument with its last two axes exchanged. -/
theorem V1 (c : Dev nD) : V m c main_v0 = transpose S1x14344x4096 [0, 2, 1] (m ((c : Thread nD τ).loc main_arg1)) transposes_S1x4096x14344_S1x14344x4096_0_2_1 := by
  unfold V; after_results <;> rfl

/-- A block of the activations, read from the argument. -/
theorem blk0 (c : Dev nD) (t : Fin cfg0.N) (r : Fin 1024) (k : Fin 4096) (R : Fin 8192) (hR : R.val = t.val / 12 * 1024 + r.val) :
    (iblk m c 0 t : Vec Ideal S1024x4096 .bf16) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 1024 + 1 * r.val = R.val; omega
  | ⟨1, _⟩ => show win0_0.index t 1 * 4096 + 1 * k.val = k.val; omega

/-- A block of the transposed weights, read from the argument. The block starts at an element offset, so its rows
    are not a multiple of the block's height. -/
theorem blk1 (c : Dev nD) (t : Fin cfg0.N) (l : Fin 512) (k : Fin 4096) (C : Fin 14344) (hC : C.val = t.val % 12 * 512 + l.val) :
    (iblk m c 1 t : Vec Ideal S1x512x4096 .f32) (ix3 0 l k) = m ((c : Thread nD τ).loc main_arg1) (ix3 0 k C) := by
  have hi := starts t
  unfold iblk
  rw [View.read_apply]
  show V m c main_v0 _ = _
  rw [V1]
  have e : ((cfg0.win 1).blk t).view.emb (ix3 0 l k) = (ix3 0 C k : S1x14344x4096.Idx) := by
    funext a
    apply Fin.ext
    match a with
    | ⟨0, _⟩ => show win0_1.index t 0 + 1 * 0 = 0; omega
    | ⟨1, _⟩ => show win0_1.index t 1 + 1 * l.val = C.val; omega
    | ⟨2, _⟩ => show win0_1.index t 2 + 1 * k.val = k.val; omega
  rw [e]
  pointwise

/-- The columns of the projection that this call computes. -/
def G (A : Vec Ideal S8192x4096 .bf16) (W : Vec Ideal S1x4096x14344 .f32) : Vec Ideal S8192x6144 .f32 := fun j =>
  ∑ k : Fin 4096, A (ix2 (j 0) k) * W (ix3 0 k (colFrom 0 (by decide) (j 1)))

/-- One entry of that array. -/
theorem G_apply (A : Vec Ideal S8192x4096 .bf16) (W : Vec Ideal S1x4096x14344 .f32) (r : Fin 8192) (c : Fin 6144) :
    G A W (ix2 r c) = ∑ k : Fin 4096, A (ix2 r k) * W (ix3 0 k (colFrom 0 (by decide) c)) := rfl

/-- What each grid point writes back is its block of those columns. -/
theorem flushed_eq (c : Dev nD) (t : Fin cfg0.N) :
    (dats m 0 c).flushed 2 t = (win0_2.blk t).view.read (Elt Ideal) (G (m ((c : Thread nD τ).loc main_arg0)) (m ((c : Thread nD τ).loc main_arg1))) := by
  show (cfg0.win 2).cut (grid0.coords t) ((dats m 0 c).after 2 t) = _
  rw [after0_2]
  have hi := starts t
  have ht : t.val < 96 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val / 12 * 1024 + j0.val, by omega⟩ ⟨t.val % 12 * 512 + j1.val, by omega⟩ : S8192x6144.Idx) := by
    funext a
    apply Fin.ext
    match a with
    | ⟨0, _⟩ => show win0_2.index t 0 * 1024 + 1 * j0.val = t.val / 12 * 1024 + j0.val; omega
    | ⟨1, _⟩ => show win0_2.index t 1 * 512 + 1 * j1.val = t.val % 12 * 512 + j1.val; omega
  rw [e, G_apply]
  refine Finset.sum_congr rfl fun k _ => ?_
  exact congrArg₂ (· * ·) (blk0 m c t j0 k _ rfl) (blk1 m c t j1 k _ (by simp only [colFrom_val]; omega))

/-- The blocks written back fill the result. -/
theorem cover (i : S8192x6144.Idx) :
    ∃ t : Fin cfg0.N, (cfg0.win 2).flush t = true ∧ i ∈ ((cfg0.win 2).blk t).view.set := by
  have h0 : (i 0).val < 8192 := (i 0).isLt
  have h1 : (i 1).val < 6144 := (i 1).isLt
  obtain ⟨t, ht⟩ : ∃ t : Fin cfg0.N, t.val = (i 0).val / 1024 * 12 + (i 1).val / 512 :=
    ⟨⟨_, by show _ < grid0.N; rw [Gen.N_0]; omega⟩, rfl⟩
  refine ⟨t, flush0_2 t, ?_⟩
  have hi := starts t
  show i ∈ ((View.whole main_v1).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 512 ≤ (i 1).val ∧ (i 1).val < win0_2.index t 1 * 512 + 512; omega

/-- The array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) cover

/-- The plain projection, cut to these columns, is the same array. -/
theorem ref_eq [Cert.MlstmInRefIdeal.Facts] (A : FVec Ideal S8192x4096 .bf16) (W : FVec Ideal S1x4096x14344 .f32) :
    extractStridedSlice Cert.MlstmInRefIdeal.S8192x6144 ![0, 0]
      (Host.dotGeneral Cert.MlstmInRefIdeal.dot_S8192x4096_S4096x14344_S8192x14344_1_0_0_1_n_n none
        (extf .f32 A Cert.MlstmInRefIdeal.Facts₀.bitsLt_bf16_f32)
        (shapeCast Cert.MlstmInRefIdeal.S4096x14344 W Cert.MlstmInRefIdeal.Facts₀.shapeCasts_S1x4096x14344_S4096x14344)
        : FVec Ideal Cert.MlstmInRefIdeal.S8192x14344 .f32)
      Cert.MlstmInRefIdeal.Facts₀.slices_S8192x14344_S8192x6144_0_0 = G A W := by
  funext j
  idx_vars j
  rw [G_apply]
  pointwise
  exact Finset.sum_congr rfl fun k _ => congrArg (fun C => A (ix2 j0 k) * W (ix3 0 k C)) (Fin.ext (by simp only [colFrom_val]; try omega))

end Cert.MlstmInIdeal.Value
end
-- ==== Proof.GatesInValue.lean ====
module

public import proofs.«01_k».proof.Proof.Gen.GatesInIdeal.Value
public import proofs.«01_k».proof.Proof.Starts
public import proofs.«01_k».proof.Proof.Gen.GatesInRefIdeal.Run

@[expose] public section

set_option maxRecDepth 16384

noncomputable section

namespace Cert.GatesInIdeal.Value

open Cert.Common Cert.GatesInIdeal Cert.GatesInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: each row of the activations' block against each row of the transposed weights' block. -/
theorem pay (x0 : Vec Ideal S1024x4096 .bf16) (x1 : Vec Ideal S1x128x4096 .f32) (r : Fin 1024) (l : Fin 128) :
    out0_2 x0 x1 (ix2 r l) = ∑ k : Fin 4096, x0 (ix2 r k) * x1 (ix3 0 l k) := by
  unfold out0_2
  rw [View.canon_unit_zero hz2, View.ld_unit_zero hz3, View.ld_unit_zero hz2]
  pointwise [k0_pay1]

/-- Where the blocks start: the weights' window gives the offset of its first element, the other two the number of
    their block. -/
theorem starts : ∀ t : Fin grid0.N,
    win0_0.index t 0 = t.val / 1 ∧ win0_0.index t 1 = 0
    ∧ win0_1.index t 0 = 0 ∧ win0_1.index t 1 = 6144 + t.val % 1 * 128 ∧ win0_1.index t 2 = 0
    ∧ win0_2.index t 0 = t.val / 1 ∧ win0_2.index t 1 = t.val % 1 := by decide +kernel

/-- The weights the kernel is launched on are the argument with its last two axes exchanged. -/
theorem V1 (c : Dev nD) : V m c main_v0 = transpose S1x14344x4096 [0, 2, 1] (m ((c : Thread nD τ).loc main_arg1)) transposes_S1x4096x14344_S1x14344x4096_0_2_1 := by
  unfold V; after_results <;> rfl

/-- A block of the activations, read from the argument. -/
theorem blk0 (c : Dev nD) (t : Fin cfg0.N) (r : Fin 1024) (k : Fin 4096) (R : Fin 8192) (hR : R.val = t.val / 1 * 1024 + r.val) :
    (iblk m c 0 t : Vec Ideal S1024x4096 .bf16) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 1024 + 1 * r.val = R.val; omega
  | ⟨1, _⟩ => show win0_0.index t 1 * 4096 + 1 * k.val = k.val; omega

/-- A block of the transposed weights, read from the argument. The block starts at an element offset, so its rows
    are not a multiple of the block's height. -/
theorem blk1 (c : Dev nD) (t : Fin cfg0.N) (l : Fin 128) (k : Fin 4096) (C : Fin 14344) (hC : C.val = 6144 + t.val % 1 * 128 + l.val) :
    (iblk m c 1 t : Vec Ideal S1x128x4096 .f32) (ix3 0 l k) = m ((c : Thread nD τ).loc main_arg1) (ix3 0 k C) := by
  have hi := starts t
  unfold iblk
  rw [View.read_apply]
  show V m c main_v0 _ = _
  rw [V1]
  have e : ((cfg0.win 1).blk t).view.emb (ix3 0 l k) = (ix3 0 C k : S1x14344x4096.Idx) := by
    funext a
    apply Fin.ext
    match a with
    | ⟨0, _⟩ => show win0_1.index t 0 + 1 * 0 = 0; omega
    | ⟨1, _⟩ => show win0_1.index t 1 + 1 * l.val = C.val; omega
    | ⟨2, _⟩ => show win0_1.index t 2 + 1 * k.val = k.val; omega
  rw [e]
  pointwise

/-- The columns of the projection that this call computes. -/
def G (A : Vec Ideal S8192x4096 .bf16) (W : Vec Ideal S1x4096x14344 .f32) : Vec Ideal S8192x128 .f32 := fun j =>
  ∑ k : Fin 4096, A (ix2 (j 0) k) * W (ix3 0 k (colFrom 6144 (by decide) (j 1)))

/-- One entry of that array. -/
theorem G_apply (A : Vec Ideal S8192x4096 .bf16) (W : Vec Ideal S1x4096x14344 .f32) (r : Fin 8192) (c : Fin 128) :
    G A W (ix2 r c) = ∑ k : Fin 4096, A (ix2 r k) * W (ix3 0 k (colFrom 6144 (by decide) c)) := rfl

/-- What each grid point writes back is its block of those columns. -/
theorem flushed_eq (c : Dev nD) (t : Fin cfg0.N) :
    (dats m 0 c).flushed 2 t = (win0_2.blk t).view.read (Elt Ideal) (G (m ((c : Thread nD τ).loc main_arg0)) (m ((c : Thread nD τ).loc main_arg1))) := by
  show (cfg0.win 2).cut (grid0.coords t) ((dats m 0 c).after 2 t) = _
  rw [after0_2]
  have hi := starts t
  have ht : t.val < 8 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val / 1 * 1024 + j0.val, by omega⟩ ⟨t.val % 1 * 128 + j1.val, by omega⟩ : S8192x128.Idx) := by
    funext a
    apply Fin.ext
    match a with
    | ⟨0, _⟩ => show win0_2.index t 0 * 1024 + 1 * j0.val = t.val / 1 * 1024 + j0.val; omega
    | ⟨1, _⟩ => show win0_2.index t 1 * 128 + 1 * j1.val = t.val % 1 * 128 + j1.val; omega
  rw [e, G_apply]
  refine Finset.sum_congr rfl fun k _ => ?_
  exact congrArg₂ (· * ·) (blk0 m c t j0 k _ rfl) (blk1 m c t j1 k _ (by simp only [colFrom_val]; omega))

/-- The blocks written back fill the result. -/
theorem cover (i : S8192x128.Idx) :
    ∃ t : Fin cfg0.N, (cfg0.win 2).flush t = true ∧ i ∈ ((cfg0.win 2).blk t).view.set := by
  have h0 : (i 0).val < 8192 := (i 0).isLt
  have h1 : (i 1).val < 128 := (i 1).isLt
  obtain ⟨t, ht⟩ : ∃ t : Fin cfg0.N, t.val = (i 0).val / 1024 * 1 + (i 1).val / 128 :=
    ⟨⟨_, by show _ < grid0.N; rw [Gen.N_0]; omega⟩, rfl⟩
  refine ⟨t, flush0_2 t, ?_⟩
  have hi := starts t
  show i ∈ ((View.whole main_v1).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 128 ≤ (i 1).val ∧ (i 1).val < win0_2.index t 1 * 128 + 128; omega

/-- The array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) cover

/-- The plain projection, cut to these columns, is the same array. -/
theorem ref_eq [Cert.GatesInRefIdeal.Facts] (A : FVec Ideal S8192x4096 .bf16) (W : FVec Ideal S1x4096x14344 .f32) :
    extractStridedSlice Cert.GatesInRefIdeal.S8192x128 ![0, 6144]
      (Host.dotGeneral Cert.GatesInRefIdeal.dot_S8192x4096_S4096x14344_S8192x14344_1_0_0_1_n_n none
        (extf .f32 A Cert.GatesInRefIdeal.Facts₀.bitsLt_bf16_f32)
        (shapeCast Cert.GatesInRefIdeal.S4096x14344 W Cert.GatesInRefIdeal.Facts₀.shapeCasts_S1x4096x14344_S4096x14344)
        : FVec Ideal Cert.GatesInRefIdeal.S8192x14344 .f32)
      Cert.GatesInRefIdeal.Facts₀.slices_S8192x14344_S8192x128_0_6144 = G A W := by
  funext j
  idx_vars j
  rw [G_apply]
  pointwise
  exact Finset.sum_congr rfl fun k _ => congrArg (fun C => A (ix2 j0 k) * W (ix3 0 k C)) (Fin.ext (by simp only [colFrom_val]; try omega))

end Cert.GatesInIdeal.Value
end
-- ==== Proof.HgrnInValue.lean ====
module

public import proofs.«01_k».proof.Proof.Gen.HgrnInIdeal.Value
public import proofs.«01_k».proof.Proof.Starts
public import proofs.«01_k».proof.Proof.Gen.HgrnInRefIdeal.Run

@[expose] public section

set_option maxRecDepth 16384

noncomputable section

namespace Cert.HgrnInIdeal.Value

open Cert.Common Cert.HgrnInIdeal Cert.HgrnInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: each row of the activations' block against each row of the transposed weights' block. -/
theorem pay (x0 : Vec Ideal S1024x4096 .bf16) (x1 : Vec Ideal S1x512x4096 .f32) (r : Fin 1024) (l : Fin 512) :
    out0_2 x0 x1 (ix2 r l) = ∑ k : Fin 4096, x0 (ix2 r k) * x1 (ix3 0 l k) := by
  unfold out0_2
  rw [View.canon_unit_zero hz2, View.ld_unit_zero hz3, View.ld_unit_zero hz2]
  pointwise [k0_pay1]

/-- Where the blocks start: the weights' window gives the offset of its first element, the other two the number of
    their block. -/
theorem starts : ∀ t : Fin grid0.N,
    win0_0.index t 0 = t.val / 16 ∧ win0_0.index t 1 = 0
    ∧ win0_1.index t 0 = 0 ∧ win0_1.index t 1 = 6152 + t.val % 16 * 512 ∧ win0_1.index t 2 = 0
    ∧ win0_2.index t 0 = t.val / 16 ∧ win0_2.index t 1 = t.val % 16 := by decide +kernel

/-- The weights the kernel is launched on are the argument with its last two axes exchanged. -/
theorem V1 (c : Dev nD) : V m c main_v0 = transpose S1x14344x4096 [0, 2, 1] (m ((c : Thread nD τ).loc main_arg1)) transposes_S1x4096x14344_S1x14344x4096_0_2_1 := by
  unfold V; after_results <;> rfl

/-- A block of the activations, read from the argument. -/
theorem blk0 (c : Dev nD) (t : Fin cfg0.N) (r : Fin 1024) (k : Fin 4096) (R : Fin 8192) (hR : R.val = t.val / 16 * 1024 + r.val) :
    (iblk m c 0 t : Vec Ideal S1024x4096 .bf16) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 1024 + 1 * r.val = R.val; omega
  | ⟨1, _⟩ => show win0_0.index t 1 * 4096 + 1 * k.val = k.val; omega

/-- A block of the transposed weights, read from the argument. The block starts at an element offset, so its rows
    are not a multiple of the block's height. -/
theorem blk1 (c : Dev nD) (t : Fin cfg0.N) (l : Fin 512) (k : Fin 4096) (C : Fin 14344) (hC : C.val = 6152 + t.val % 16 * 512 + l.val) :
    (iblk m c 1 t : Vec Ideal S1x512x4096 .f32) (ix3 0 l k) = m ((c : Thread nD τ).loc main_arg1) (ix3 0 k C) := by
  have hi := starts t
  unfold iblk
  rw [View.read_apply]
  show V m c main_v0 _ = _
  rw [V1]
  have e : ((cfg0.win 1).blk t).view.emb (ix3 0 l k) = (ix3 0 C k : S1x14344x4096.Idx) := by
    funext a
    apply Fin.ext
    match a with
    | ⟨0, _⟩ => show win0_1.index t 0 + 1 * 0 = 0; omega
    | ⟨1, _⟩ => show win0_1.index t 1 + 1 * l.val = C.val; omega
    | ⟨2, _⟩ => show win0_1.index t 2 + 1 * k.val = k.val; omega
  rw [e]
  pointwise

/-- The columns of the projection that this call computes. -/
def G (A : Vec Ideal S8192x4096 .bf16) (W : Vec Ideal S1x4096x14344 .f32) : Vec Ideal S8192x8192 .f32 := fun j =>
  ∑ k : Fin 4096, A (ix2 (j 0) k) * W (ix3 0 k (colFrom 6152 (by decide) (j 1)))

/-- One entry of that array. -/
theorem G_apply (A : Vec Ideal S8192x4096 .bf16) (W : Vec Ideal S1x4096x14344 .f32) (r : Fin 8192) (c : Fin 8192) :
    G A W (ix2 r c) = ∑ k : Fin 4096, A (ix2 r k) * W (ix3 0 k (colFrom 6152 (by decide) c)) := rfl

/-- What each grid point writes back is its block of those columns. -/
theorem flushed_eq (c : Dev nD) (t : Fin cfg0.N) :
    (dats m 0 c).flushed 2 t = (win0_2.blk t).view.read (Elt Ideal) (G (m ((c : Thread nD τ).loc main_arg0)) (m ((c : Thread nD τ).loc main_arg1))) := by
  show (cfg0.win 2).cut (grid0.coords t) ((dats m 0 c).after 2 t) = _
  rw [after0_2]
  have hi := starts t
  have ht : t.val < 128 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val / 16 * 1024 + j0.val, by omega⟩ ⟨t.val % 16 * 512 + j1.val, by omega⟩ : S8192x8192.Idx) := by
    funext a
    apply Fin.ext
    match a with
    | ⟨0, _⟩ => show win0_2.index t 0 * 1024 + 1 * j0.val = t.val / 16 * 1024 + j0.val; omega
    | ⟨1, _⟩ => show win0_2.index t 1 * 512 + 1 * j1.val = t.val % 16 * 512 + j1.val; omega
  rw [e, G_apply]
  refine Finset.sum_congr rfl fun k _ => ?_
  exact congrArg₂ (· * ·) (blk0 m c t j0 k _ rfl) (blk1 m c t j1 k _ (by simp only [colFrom_val]; omega))

/-- The blocks written back fill the result. -/
theorem cover (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, ht⟩ : ∃ t : Fin cfg0.N, t.val = (i 0).val / 1024 * 16 + (i 1).val / 512 :=
    ⟨⟨_, by show _ < grid0.N; rw [Gen.N_0]; omega⟩, rfl⟩
  refine ⟨t, flush0_2 t, ?_⟩
  have hi := starts t
  show i ∈ ((View.whole main_v1).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 512 ≤ (i 1).val ∧ (i 1).val < win0_2.index t 1 * 512 + 512; omega

/-- The array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) cover

/-- The plain projection, cut to these columns, is the same array. -/
theorem ref_eq [Cert.HgrnInRefIdeal.Facts] (A : FVec Ideal S8192x4096 .bf16) (W : FVec Ideal S1x4096x14344 .f32) :
    extractStridedSlice Cert.HgrnInRefIdeal.S8192x8192 ![0, 6152]
      (Host.dotGeneral Cert.HgrnInRefIdeal.dot_S8192x4096_S4096x14344_S8192x14344_1_0_0_1_n_n none
        (extf .f32 A Cert.HgrnInRefIdeal.Facts₀.bitsLt_bf16_f32)
        (shapeCast Cert.HgrnInRefIdeal.S4096x14344 W Cert.HgrnInRefIdeal.Facts₀.shapeCasts_S1x4096x14344_S4096x14344)
        : FVec Ideal Cert.HgrnInRefIdeal.S8192x14344 .f32)
      Cert.HgrnInRefIdeal.Facts₀.slices_S8192x14344_S8192x8192_0_6152 = G A W := by
  funext j
  idx_vars j
  rw [G_apply]
  pointwise
  exact Finset.sum_congr rfl fun k _ => congrArg (fun C => A (ix2 j0 k) * W (ix3 0 k C)) (Fin.ext (by simp only [colFrom_val]; try omega))

end Cert.HgrnInIdeal.Value
end
-- ==== Proof.MlpUpValue.lean ====
module

public import proofs.«01_k».proof.Proof.Gen.MlpIdeal.Frame
public import proofs.«01_k».proof.Proof.Starts

@[expose] public section

set_option maxRecDepth 16384

noncomputable section

namespace Cert.MlpIdeal.Value

open Cert.Common Cert.MlpIdeal Cert.MlpIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- What the body of the up projection stores: the square of the positive part of the product of its two blocks. -/
theorem pay_up (x0 : Vec Ideal S1024x4096 .bf16) (x1 : Vec Ideal S1x4096x512 .f32) (r : Fin 1024) (l : Fin 512) :
    out0_2 x0 x1 (ix2 r l) = relu2 (∑ k : Fin 4096, x0 (ix2 r k) * x1 (ix3 0 k l)) := by
  unfold out0_2
  rw [View.canon_unit_zero hz2, View.ld_unit_zero hz3, View.ld_unit_zero hz2]
  pointwise [k0_pay1, relu2]

/-- The number of each window's block at a grid point of the up projection. -/
theorem starts0 : ∀ t : Fin grid0.N,
    win0_0.index t 0 = t.val / 32 ∧ win0_0.index t 1 = 0
    ∧ win0_1.index t 0 = 0 ∧ win0_1.index t 1 = 0 ∧ win0_1.index t 2 = t.val % 32
    ∧ win0_2.index t 0 = t.val / 32 ∧ win0_2.index t 1 = t.val % 32 := by decide +kernel

/-- The block of the rows, read from its array. -/
theorem blk0_0 (c : Dev nD) (t : Fin cfg0.N) (r : Fin 1024) (k : Fin 4096) (R : Fin 8192) (hR : R.val = t.val / 32 * 1024 + r.val) :
    (iblk0 V c 0 t : Vec Ideal S1024x4096 .bf16) (ix2 r k) = V c main_arg0 (ix2 R k) := by
  have hi := starts0 t
  unfold iblk0
  rw [View.read_apply]
  show V c main_arg0 _ = _
  congr 1
  funext a
  apply Fin.ext
  match a with
  | ⟨0, _⟩ => show win0_0.index t 0 * 1024 + 1 * r.val = R.val; omega
  | ⟨1, _⟩ => show win0_0.index t 1 * 4096 + 1 * k.val = k.val; omega

/-- The block of the weights' columns, read from its array. -/
theorem blk0_1 (c : Dev nD) (t : Fin cfg0.N) (k : Fin 4096) (l : Fin 512) (C : Fin 16384) (hC : C.val = t.val % 32 * 512 + l.val) :
    (iblk0 V c 1 t : Vec Ideal S1x4096x512 .f32) (ix3 0 k l) = V c main_arg1 (ix3 0 k C) := by
  have hi := starts0 t
  unfold iblk0
  rw [View.read_apply]
  show V c main_arg1 _ = _
  congr 1
  funext a
  apply Fin.ext
  match a with
  | ⟨0, _⟩ => show win0_1.index t 0 * 1 + 1 * 0 = 0; omega
  | ⟨1, _⟩ => show win0_1.index t 1 * 4096 + 1 * k.val = k.val; omega
  | ⟨2, _⟩ => show win0_1.index t 2 * 512 + 1 * l.val = C.val; omega

/-- The hidden layer: the square of the positive part of the rows times the first of the two weight matrices. -/
def Up (A : Vec Ideal S8192x4096 .bf16) (W : Vec Ideal S2x4096x16384 .f32) : Vec Ideal S8192x16384 .bf16 := fun j =>
  relu2 (∑ k : Fin 4096, A (ix2 (j 0) k) * W (ix3 0 k (j 1)))

/-- One entry of it. -/
theorem Up_apply (A : Vec Ideal S8192x4096 .bf16) (W : Vec Ideal S2x4096x16384 .f32) (r : Fin 8192) (c : Fin 16384) :
    Up A W (ix2 r c) = relu2 (∑ k : Fin 4096, A (ix2 r k) * W (ix3 0 k c)) := rfl

/-- What each grid point of the up projection writes back is its block of the hidden layer. -/
theorem flushed0 (c : Dev nD) (t : Fin cfg0.N) :
    (dat0 V c).flushed 2 t = (win0_2.blk t).view.read (Elt Ideal) (Up (V c main_arg0) (V c main_arg1)) := by
  show (cfg0.win 2).cut (grid0.coords t) ((dat0 V c).after 2 t) = _
  rw [after0_2]
  have hi := starts0 t
  have ht : t.val < 256 := lt_of_lt_of_eq t.isLt Gen.N_0
  show out0_2 (iblk0 V c 0 t) (iblk0 V c 1 t) = _
  funext j
  idx_vars j
  rw [pay_up, View.read_apply]
  have e : (win0_2.blk t).view.emb (ix2 j0 j1) = (ix2 ⟨t.val / 32 * 1024 + j0.val, by omega⟩ ⟨t.val % 32 * 512 + j1.val, by omega⟩ : S8192x16384.Idx) := by
    funext a
    apply Fin.ext
    match a with
    | ⟨0, _⟩ => show win0_2.index t 0 * 1024 + 1 * j0.val = t.val / 32 * 1024 + j0.val; omega
    | ⟨1, _⟩ => show win0_2.index t 1 * 512 + 1 * j1.val = t.val % 32 * 512 + j1.val; omega
  rw [e, Up_apply]
  refine congrArg relu2 (Finset.sum_congr rfl fun k _ => ?_)
  exact congrArg₂ (· * ·) (blk0_0 V c t j0 k _ rfl) (blk0_1 V c t k j1 _ rfl)

/-- The blocks written back fill the hidden layer. -/
theorem cover0 (i : S8192x16384.Idx) :
    ∃ t : Fin cfg0.N, (cfg0.win 2).flush t = true ∧ i ∈ ((cfg0.win 2).blk t).view.set := by
  have h0 : (i 0).val < 8192 := (i 0).isLt
  have h1 : (i 1).val < 16384 := (i 1).isLt
  obtain ⟨t, ht⟩ : ∃ t : Fin cfg0.N, t.val = (i 0).val / 1024 * 32 + (i 1).val / 512 :=
    ⟨⟨_, by show _ < grid0.N; rw [Gen.N_0]; omega⟩, rfl⟩
  refine ⟨t, flush0_2 t, ?_⟩
  have hi := starts0 t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 512 ≤ (i 1).val ∧ (i 1).val < win0_2.index t 1 * 512 + 512; omega

/-- The hidden layer's array after the up projection. -/
theorem final0 (c : Dev nD) : (dat0 V c).arrAt 2 cfg0.N = Up (V c main_arg0) (V c main_arg1) :=
  (dat0 V c).arrAt_eq_of_cover 2 _ (fun t _ => flushed0 V c t) cover0

end Cert.MlpIdeal.Value
end
-- ==== Proof.MlpDownValue.lean ====
module

public import proofs.«01_k».proof.Proof.Gen.MlpIdeal.Frame
public import proofs.«01_k».proof.Proof.Starts

@[expose] public section

set_option maxRecDepth 16384

noncomputable section

namespace Cert.MlpIdeal.Value

open Cert.Common Cert.MlpIdeal Cert.MlpIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- What the body of a down projection stores: the product of its two blocks, added to the block of what is there. -/
theorem pay_down (x0 : Vec Ideal S2048x4096 .bf16) (x1 : Vec Ideal S1x4096x256 .f32) (x2 : Vec Ideal S2048x256 .f32) (r : Fin 2048) (l : Fin 256) :
    out1_3 x0 x1 x2 (ix2 r l) = (∑ k : Fin 4096, x0 (ix2 r k) * x1 (ix3 0 k l)) + x2 (ix2 r l) := by
  unfold out1_3
  rw [View.canon_unit_zero hz2, View.ld_unit_zero hz3, View.ld_unit_zero hz2, View.ld_unit_zero hz2]
  pointwise [k1_pay1]

/-- The second, third and fourth down projections store the same of their blocks, by a body that differs from the first one's in
    a reshape to the same shape. -/
theorem pay_later (x0 : Vec Ideal S2048x4096 .bf16) (x1 : Vec Ideal S1x4096x256 .f32) (x2 : Vec Ideal S2048x256 .f32) (r : Fin 2048) (l : Fin 256) :
    out2_3 x0 x1 x2 (ix2 r l) = (∑ k : Fin 4096, x0 (ix2 r k) * x1 (ix3 0 k l)) + x2 (ix2 r l) := by
  unfold out2_3
  rw [View.canon_unit_zero hz2, View.ld_unit_zero hz3, View.ld_unit_zero hz2, View.ld_unit_zero hz2]
  pointwise [k2_pay1]

/-- What is there, with the chunk of 4096 columns from `o` of the hidden layer times the same rows of the weights added. -/
def Down (o : Nat) (ho : o + 4096 ≤ 16384) (U : Vec Ideal S8192x16384 .bf16) (W : Vec Ideal S2x16384x4096 .f32) (H : Vec Ideal S8192x4096 .f32) :
    Vec Ideal S8192x4096 .f32 := fun j =>
  (∑ k : Fin 4096, U (ix2 (j 0) (colFrom o ho k)) * W (ix3 0 (colFrom o ho k) (j 1))) + H (ix2 (j 0) (j 1))

/-- One entry of it. -/
theorem Down_apply (o : Nat) (ho : o + 4096 ≤ 16384) (U : Vec Ideal S8192x16384 .bf16) (W : Vec Ideal S2x16384x4096 .f32)
    (H : Vec Ideal S8192x4096 .f32) (r : Fin 8192) (c : Fin 4096) :
    Down o ho U W H (ix2 r c) = (∑ k : Fin 4096, U (ix2 r (colFrom o ho k)) * W (ix3 0 (colFrom o ho k) c)) + H (ix2 r c) := rfl

/-- A block that a grid point of a down projection leaves is a block of `Down`, if its three blocks are read where they are meant to be. -/
theorem down_block {o : Nat} {ho : o + 4096 ≤ 16384} {U : Vec Ideal S8192x16384 .bf16} {W : Vec Ideal S2x16384x4096 .f32} {H : Vec Ideal S8192x4096 .f32}
    {x0 : Vec Ideal S2048x4096 .bf16} {x1 : Vec Ideal S1x4096x256 .f32} {x2 : Vec Ideal S2048x256 .f32} {r : Fin 2048} {l : Fin 256} {R : Fin 8192} {C : Fin 4096}
    (h0 : ∀ k, x0 (ix2 r k) = U (ix2 R (colFrom o ho k))) (h1 : ∀ k, x1 (ix3 0 k l) = W (ix3 0 (colFrom o ho k) C)) (h2 : x2 (ix2 r l) = H (ix2 R C)) :
    (∑ k : Fin 4096, x0 (ix2 r k) * x1 (ix3 0 k l)) + x2 (ix2 r l) = Down o ho U W H (ix2 R C) :=
  congrArg₂ (· + ·) (Finset.sum_congr rfl fun k _ => congrArg₂ (· * ·) (h0 k) (h1 k)) h2

/-- The number of each window's block at a grid point of the first down projection. -/
theorem starts1 : ∀ t : Fin grid1.N,
    win1_0.index t 0 = t.val / 16 ∧ win1_0.index t 1 = 0
    ∧ win1_1.index t 0 = 0 ∧ win1_1.index t 1 = 0 ∧ win1_1.index t 2 = t.val % 16
    ∧ win1_2.index t 0 = t.val / 16 ∧ win1_2.index t 1 = t.val % 16
    ∧ win1_3.index t 0 = t.val / 16 ∧ win1_3.index t 1 = t.val % 16 := by decide +kernel

/-- What each grid point of the first down projection writes back is its block of `Down`. -/
theorem flushed1 (c : Dev nD) (t : Fin cfg1.N) :
    (dat1 V c).flushed 3 t = (win1_3.blk t).view.read (Elt Ideal) (Down 0 (by decide) (V c main_v0) (V c main_arg2) (V c main_arg3)) := by
  show (cfg1.win 3).cut (grid1.coords t) ((dat1 V c).after 3 t) = _
  rw [after1_3]
  have hi := starts1 t
  have ht : t.val < 64 := lt_of_lt_of_eq t.isLt Gen.N_1
  funext j
  idx_vars j
  rw [View.read_apply]
  have e : (win1_3.blk t).view.emb (ix2 j0 j1) = (ix2 ⟨t.val / 16 * 2048 + j0.val, by omega⟩ ⟨t.val % 16 * 256 + j1.val, by omega⟩ : S8192x4096.Idx) :=
    funext fun a => Fin.ext (match a with
      | ⟨0, _⟩ => by show win1_3.index t 0 * 2048 + 1 * j0.val = t.val / 16 * 2048 + j0.val; omega
      | ⟨1, _⟩ => by show win1_3.index t 1 * 256 + 1 * j1.val = t.val % 16 * 256 + j1.val; omega)
  rw [e]
  refine (pay_down (iblk1 V c 0 t) (iblk1 V c 1 t) (iblk1 V c 2 t) j0 j1).trans (down_block (fun k => ?_) (fun k => ?_) ?_) <;> unfold iblk1 <;> rw [View.read_apply]
  · refine congrArg (V c main_v0) (funext fun a => Fin.ext (match a with
      | ⟨0, _⟩ => by show win1_0.index t 0 * 2048 + 1 * j0.val = t.val / 16 * 2048 + j0.val; omega
      | ⟨1, _⟩ => by show win1_0.index t 1 * 4096 + 1 * k.val = 0 + k.val; omega))
  · refine congrArg (V c main_arg2) (funext fun a => Fin.ext (match a with
      | ⟨0, _⟩ => by show win1_1.index t 0 * 1 + 1 * 0 = 0; omega
      | ⟨1, _⟩ => by show win1_1.index t 1 * 4096 + 1 * k.val = 0 + k.val; omega
      | ⟨2, _⟩ => by show win1_1.index t 2 * 256 + 1 * j1.val = t.val % 16 * 256 + j1.val; omega))
  · refine congrArg (V c main_arg3) (funext fun a => Fin.ext (match a with
      | ⟨0, _⟩ => by show win1_2.index t 0 * 2048 + 1 * j0.val = t.val / 16 * 2048 + j0.val; omega
      | ⟨1, _⟩ => by show win1_2.index t 1 * 256 + 1 * j1.val = t.val % 16 * 256 + j1.val; omega))

/-- The array after the first down projection: its blocks fill it. -/
theorem final1 (c : Dev nD) : (dat1 V c).arrAt 3 cfg1.N = Down 0 (by decide) (V c main_v0) (V c main_arg2) (V c main_arg3) := by
  refine (dat1 V c).arrAt_eq_of_cover 3 _ (fun t _ => flushed1 V c t) fun (i : S8192x4096.Idx) => ?_
  have h0 : (i 0).val < 8192 := (i 0).isLt
  have h1 : (i 1).val < 4096 := (i 1).isLt
  obtain ⟨t, ht⟩ : ∃ t : Fin cfg1.N, t.val = (i 0).val / 2048 * 16 + (i 1).val / 256 :=
    ⟨⟨_, by show _ < grid1.N; rw [Gen.N_1]; omega⟩, rfl⟩
  refine ⟨t, flush1_3 t, ?_⟩
  have hi := starts1 t
  show i ∈ ((View.whole main_v1).slice (win1_3.rect t)).set
  rw [View.set_slice_whole, Rect.mem_set_unit]
  exact fun a => match a with
    | ⟨0, _⟩ => by show win1_3.index t 0 * 2048 ≤ (i 0).val ∧ (i 0).val < win1_3.index t 0 * 2048 + 2048; omega
    | ⟨1, _⟩ => by show win1_3.index t 1 * 256 ≤ (i 1).val ∧ (i 1).val < win1_3.index t 1 * 256 + 256; omega

/-- The number of each window's block at a grid point of the second down projection. -/
theorem starts2 : ∀ t : Fin grid2.N,
    win2_0.index t 0 = t.val / 16 ∧ win2_0.index t 1 = 1
    ∧ win2_1.index t 0 = 0 ∧ win2_1.index t 1 = 1 ∧ win2_1.index t 2 = t.val % 16
    ∧ win2_2.index t 0 = t.val / 16 ∧ win2_2.index t 1 = t.val % 16
    ∧ win2_3.index t 0 = t.val / 16 ∧ win2_3.index t 1 = t.val % 16 := by decide +kernel

/-- What each grid point of the second down projection writes back is its block of `Down`. -/
theorem flushed2 (c : Dev nD) (t : Fin cfg2.N) :
    (dat2 V c).flushed 3 t = (win2_3.blk t).view.read (Elt Ideal) (Down 4096 (by decide) (V c main_v0) (V c main_arg2) (V c main_v1)) := by
  show (cfg2.win 3).cut (grid2.coords t) ((dat2 V c).after 3 t) = _
  rw [after2_3]
  have hi := starts2 t
  have ht : t.val < 64 := lt_of_lt_of_eq t.isLt Gen.N_2
  funext j
  idx_vars j
  rw [View.read_apply]
  have e : (win2_3.blk t).view.emb (ix2 j0 j1) = (ix2 ⟨t.val / 16 * 2048 + j0.val, by omega⟩ ⟨t.val % 16 * 256 + j1.val, by omega⟩ : S8192x4096.Idx) :=
    funext fun a => Fin.ext (match a with
      | ⟨0, _⟩ => by show win2_3.index t 0 * 2048 + 1 * j0.val = t.val / 16 * 2048 + j0.val; omega
      | ⟨1, _⟩ => by show win2_3.index t 1 * 256 + 1 * j1.val = t.val % 16 * 256 + j1.val; omega)
  rw [e]
  refine (pay_later (iblk2 V c 0 t) (iblk2 V c 1 t) (iblk2 V c 2 t) j0 j1).trans (down_block (fun k => ?_) (fun k => ?_) ?_) <;> unfold iblk2 <;> rw [View.read_apply]
  · refine congrArg (V c main_v0) (funext fun a => Fin.ext (match a with
      | ⟨0, _⟩ => by show win2_0.index t 0 * 2048 + 1 * j0.val = t.val / 16 * 2048 + j0.val; omega
      | ⟨1, _⟩ => by show win2_0.index t 1 * 4096 + 1 * k.val = 4096 + k.val; omega))
  · refine congrArg (V c main_arg2) (funext fun a => Fin.ext (match a with
      | ⟨0, _⟩ => by show win2_1.index t 0 * 1 + 1 * 0 = 0; omega
      | ⟨1, _⟩ => by show win2_1.index t 1 * 4096 + 1 * k.val = 4096 + k.val; omega
      | ⟨2, _⟩ => by show win2_1.index t 2 * 256 + 1 * j1.val = t.val % 16 * 256 + j1.val; omega))
  · refine congrArg (V c main_v1) (funext fun a => Fin.ext (match a with
      | ⟨0, _⟩ => by show win2_2.index t 0 * 2048 + 1 * j0.val = t.val / 16 * 2048 + j0.val; omega
      | ⟨1, _⟩ => by show win2_2.index t 1 * 256 + 1 * j1.val = t.val % 16 * 256 + j1.val; omega))

/-- The array after the second down projection: its blocks fill it. -/
theorem final2 (c : Dev nD) : (dat2 V c).arrAt 3 cfg2.N = Down 4096 (by decide) (V c main_v0) (V c main_arg2) (V c main_v1) := by
  refine (dat2 V c).arrAt_eq_of_cover 3 _ (fun t _ => flushed2 V c t) fun (i : S8192x4096.Idx) => ?_
  have h0 : (i 0).val < 8192 := (i 0).isLt
  have h1 : (i 1).val < 4096 := (i 1).isLt
  obtain ⟨t, ht⟩ : ∃ t : Fin cfg2.N, t.val = (i 0).val / 2048 * 16 + (i 1).val / 256 :=
    ⟨⟨_, by show _ < grid2.N; rw [Gen.N_2]; omega⟩, rfl⟩
  refine ⟨t, flush2_3 t, ?_⟩
  have hi := starts2 t
  show i ∈ ((View.whole main_v2).slice (win2_3.rect t)).set
  rw [View.set_slice_whole, Rect.mem_set_unit]
  exact fun a => match a with
    | ⟨0, _⟩ => by show win2_3.index t 0 * 2048 ≤ (i 0).val ∧ (i 0).val < win2_3.index t 0 * 2048 + 2048; omega
    | ⟨1, _⟩ => by show win2_3.index t 1 * 256 ≤ (i 1).val ∧ (i 1).val < win2_3.index t 1 * 256 + 256; omega

/-- The number of each window's block at a grid point of the third down projection. -/
theorem starts3 : ∀ t : Fin grid3.N,
    win3_0.index t 0 = t.val / 16 ∧ win3_0.index t 1 = 2
    ∧ win3_1.index t 0 = 0 ∧ win3_1.index t 1 = 2 ∧ win3_1.index t 2 = t.val % 16
    ∧ win3_2.index t 0 = t.val / 16 ∧ win3_2.index t 1 = t.val % 16
    ∧ win3_3.index t 0 = t.val / 16 ∧ win3_3.index t 1 = t.val % 16 := by decide +kernel

/-- What each grid point of the third down projection writes back is its block of `Down`. -/
theorem flushed3 (c : Dev nD) (t : Fin cfg3.N) :
    (dat3 V c).flushed 3 t = (win3_3.blk t).view.read (Elt Ideal) (Down 8192 (by decide) (V c main_v0) (V c main_arg2) (V c main_v2)) := by
  show (cfg3.win 3).cut (grid3.coords t) ((dat3 V c).after 3 t) = _
  rw [after3_3]
  have hi := starts3 t
  have ht : t.val < 64 := lt_of_lt_of_eq t.isLt Gen.N_3
  funext j
  idx_vars j
  rw [View.read_apply]
  have e : (win3_3.blk t).view.emb (ix2 j0 j1) = (ix2 ⟨t.val / 16 * 2048 + j0.val, by omega⟩ ⟨t.val % 16 * 256 + j1.val, by omega⟩ : S8192x4096.Idx) :=
    funext fun a => Fin.ext (match a with
      | ⟨0, _⟩ => by show win3_3.index t 0 * 2048 + 1 * j0.val = t.val / 16 * 2048 + j0.val; omega
      | ⟨1, _⟩ => by show win3_3.index t 1 * 256 + 1 * j1.val = t.val % 16 * 256 + j1.val; omega)
  rw [e]
  refine (pay_later (iblk3 V c 0 t) (iblk3 V c 1 t) (iblk3 V c 2 t) j0 j1).trans (down_block (fun k => ?_) (fun k => ?_) ?_) <;> unfold iblk3 <;> rw [View.read_apply]
  · refine congrArg (V c main_v0) (funext fun a => Fin.ext (match a with
      | ⟨0, _⟩ => by show win3_0.index t 0 * 2048 + 1 * j0.val = t.val / 16 * 2048 + j0.val; omega
      | ⟨1, _⟩ => by show win3_0.index t 1 * 4096 + 1 * k.val = 8192 + k.val; omega))
  · refine congrArg (V c main_arg2) (funext fun a => Fin.ext (match a with
      | ⟨0, _⟩ => by show win3_1.index t 0 * 1 + 1 * 0 = 0; omega
      | ⟨1, _⟩ => by show win3_1.index t 1 * 4096 + 1 * k.val = 8192 + k.val; omega
      | ⟨2, _⟩ => by show win3_1.index t 2 * 256 + 1 * j1.val = t.val % 16 * 256 + j1.val; omega))
  · refine congrArg (V c main_v2) (funext fun a => Fin.ext (match a with
      | ⟨0, _⟩ => by show win3_2.index t 0 * 2048 + 1 * j0.val = t.val / 16 * 2048 + j0.val; omega
      | ⟨1, _⟩ => by show win3_2.index t 1 * 256 + 1 * j1.val = t.val % 16 * 256 + j1.val; omega))

/-- The array after the third down projection: its blocks fill it. -/
theorem final3 (c : Dev nD) : (dat3 V c).arrAt 3 cfg3.N = Down 8192 (by decide) (V c main_v0) (V c main_arg2) (V c main_v2) := by
  refine (dat3 V c).arrAt_eq_of_cover 3 _ (fun t _ => flushed3 V c t) fun (i : S8192x4096.Idx) => ?_
  have h0 : (i 0).val < 8192 := (i 0).isLt
  have h1 : (i 1).val < 4096 := (i 1).isLt
  obtain ⟨t, ht⟩ : ∃ t : Fin cfg3.N, t.val = (i 0).val / 2048 * 16 + (i 1).val / 256 :=
    ⟨⟨_, by show _ < grid3.N; rw [Gen.N_3]; omega⟩, rfl⟩
  refine ⟨t, flush3_3 t, ?_⟩
  have hi := starts3 t
  show i ∈ ((View.whole main_v3).slice (win3_3.rect t)).set
  rw [View.set_slice_whole, Rect.mem_set_unit]
  exact fun a => match a with
    | ⟨0, _⟩ => by show win3_3.index t 0 * 2048 ≤ (i 0).val ∧ (i 0).val < win3_3.index t 0 * 2048 + 2048; omega
    | ⟨1, _⟩ => by show win3_3.index t 1 * 256 ≤ (i 1).val ∧ (i 1).val < win3_3.index t 1 * 256 + 256; omega

/-- The number of each window's block at a grid point of the fourth down projection. -/
theorem starts4 : ∀ t : Fin grid4.N,
    win4_0.index t 0 = t.val / 16 ∧ win4_0.index t 1 = 3
    ∧ win4_1.index t 0 = 0 ∧ win4_1.index t 1 = 3 ∧ win4_1.index t 2 = t.val % 16
    ∧ win4_2.index t 0 = t.val / 16 ∧ win4_2.index t 1 = t.val % 16
    ∧ win4_3.index t 0 = t.val / 16 ∧ win4_3.index t 1 = t.val % 16 := by decide +kernel

/-- What each grid point of the fourth down projection writes back is its block of `Down`. -/
theorem flushed4 (c : Dev nD) (t : Fin cfg4.N) :
    (dat4 V c).flushed 3 t = (win4_3.blk t).view.read (Elt Ideal) (Down 12288 (by decide) (V c main_v0) (V c main_arg2) (V c main_v3)) := by
  show (cfg4.win 3).cut (grid4.coords t) ((dat4 V c).after 3 t) = _
  rw [after4_3]
  have hi := starts4 t
  have ht : t.val < 64 := lt_of_lt_of_eq t.isLt Gen.N_4
  funext j
  idx_vars j
  rw [View.read_apply]
  have e : (win4_3.blk t).view.emb (ix2 j0 j1) = (ix2 ⟨t.val / 16 * 2048 + j0.val, by omega⟩ ⟨t.val % 16 * 256 + j1.val, by omega⟩ : S8192x4096.Idx) :=
    funext fun a => Fin.ext (match a with
      | ⟨0, _⟩ => by show win4_3.index t 0 * 2048 + 1 * j0.val = t.val / 16 * 2048 + j0.val; omega
      | ⟨1, _⟩ => by show win4_3.index t 1 * 256 + 1 * j1.val = t.val % 16 * 256 + j1.val; omega)
  rw [e]
  refine (pay_later (iblk4 V c 0 t) (iblk4 V c 1 t) (iblk4 V c 2 t) j0 j1).trans (down_block (fun k => ?_) (fun k => ?_) ?_) <;> unfold iblk4 <;> rw [View.read_apply]
  · refine congrArg (V c main_v0) (funext fun a => Fin.ext (match a with
      | ⟨0, _⟩ => by show win4_0.index t 0 * 2048 + 1 * j0.val = t.val / 16 * 2048 + j0.val; omega
      | ⟨1, _⟩ => by show win4_0.index t 1 * 4096 + 1 * k.val = 12288 + k.val; omega))
  · refine congrArg (V c main_arg2) (funext fun a => Fin.ext (match a with
      | ⟨0, _⟩ => by show win4_1.index t 0 * 1 + 1 * 0 = 0; omega
      | ⟨1, _⟩ => by show win4_1.index t 1 * 4096 + 1 * k.val = 12288 + k.val; omega
      | ⟨2, _⟩ => by show win4_1.index t 2 * 256 + 1 * j1.val = t.val % 16 * 256 + j1.val; omega))
  · refine congrArg (V c main_v3) (funext fun a => Fin.ext (match a with
      | ⟨0, _⟩ => by show win4_2.index t 0 * 2048 + 1 * j0.val = t.val / 16 * 2048 + j0.val; omega
      | ⟨1, _⟩ => by show win4_2.index t 1 * 256 + 1 * j1.val = t.val % 16 * 256 + j1.val; omega))

/-- The array after the fourth down projection: its blocks fill it. -/
theorem final4 (c : Dev nD) : (dat4 V c).arrAt 3 cfg4.N = Down 12288 (by decide) (V c main_v0) (V c main_arg2) (V c main_v3) := by
  refine (dat4 V c).arrAt_eq_of_cover 3 _ (fun t _ => flushed4 V c t) fun (i : S8192x4096.Idx) => ?_
  have h0 : (i 0).val < 8192 := (i 0).isLt
  have h1 : (i 1).val < 4096 := (i 1).isLt
  obtain ⟨t, ht⟩ : ∃ t : Fin cfg4.N, t.val = (i 0).val / 2048 * 16 + (i 1).val / 256 :=
    ⟨⟨_, by show _ < grid4.N; rw [Gen.N_4]; omega⟩, rfl⟩
  refine ⟨t, flush4_3 t, ?_⟩
  have hi := starts4 t
  show i ∈ ((View.whole main_v4).slice (win4_3.rect t)).set
  rw [View.set_slice_whole, Rect.mem_set_unit]
  exact fun a => match a with
    | ⟨0, _⟩ => by show win4_3.index t 0 * 2048 ≤ (i 0).val ∧ (i 0).val < win4_3.index t 0 * 2048 + 2048; omega
    | ⟨1, _⟩ => by show win4_3.index t 1 * 256 ≤ (i 1).val ∧ (i 1).val < win4_3.index t 1 * 256 + 256; omega

end Cert.MlpIdeal.Value
end
-- ==== Proof.MlpValue.lean ====
module

public import proofs.«01_k».proof.Proof.MlpUpValue
public import proofs.«01_k».proof.Proof.MlpDownValue
public import proofs.«01_k».proof.Proof.Gen.MlpRefIdeal.Run

@[expose] public section

set_option maxRecDepth 16384

noncomputable section

namespace Cert.MlpIdeal.Value

open Cert.Common Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the run every buffer of the program holds what the last of the five calls leaves. -/
theorem run_all : θ_run defs (onTc (τ := τ) (main (F := Ideal))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c => h c)

/-- The run, with the contents of the last call's output named, and the arguments as they were. -/
theorem run_blocks : θ_run defs (onTc (τ := τ) (main (F := Ideal))) ⟨m, fun _ => 0, ρ⟩ (fun r => ∀ c : Dev nD,
    r.2.mem ((c.tc : Thread nD τ).loc main_v4) = W5 m ρ c (Proc.devRef .tc main_v4)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c =>
    ⟨h c _ (mem_uc main_v4 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩) (run_all m ρ)

/-- The hidden state with the two-layer network of its normalized rows added, chunk of the hidden layer by chunk. -/
def G (A : Vec Ideal S8192x4096 .bf16) (W₁ : Vec Ideal S2x4096x16384 .f32) (W₂ : Vec Ideal S2x16384x4096 .f32) (H : Vec Ideal S8192x4096 .f32) :
    Vec Ideal S8192x4096 .f32 :=
  Down 12288 (by decide) (Up A W₁) W₂ (Down 8192 (by decide) (Up A W₁) W₂ (Down 4096 (by decide) (Up A W₁) W₂ (Down 0 (by decide) (Up A W₁) W₂ H)))

/-- The hidden layer's array is the same at all four down projections: none of them writes it. -/
theorem up_kept (c : Dev nD) :
    V1 m ρ c main_v0 = Up (m ((c : Thread nD τ).loc main_arg0)) (m ((c : Thread nD τ).loc main_arg1))
    ∧ V2 m ρ c main_v0 = V1 m ρ c main_v0 ∧ V3 m ρ c main_v0 = V1 m ρ c main_v0 ∧ V4 m ρ c main_v0 = V1 m ρ c main_v0 := by
  have h2 : V2 m ρ c main_v0 = V1 m ρ c main_v0 := W2_of m ρ c main_v0 (by decide)
  have h3 : V3 m ρ c main_v0 = V2 m ρ c main_v0 := W3_of m ρ c main_v0 (by decide)
  have h4 : V4 m ρ c main_v0 = V3 m ρ c main_v0 := W4_of m ρ c main_v0 (by decide)
  exact ⟨(W1_arr m ρ c 2).trans (final0 (V0 m ρ) c), h2, h3.trans h2, h4.trans (h3.trans h2)⟩

/-- The array after the run. -/
theorem final (c : Dev nD) : W5 m ρ c (Proc.devRef .tc main_v4) =
    G (m ((c : Thread nD τ).loc main_arg0)) (m ((c : Thread nD τ).loc main_arg1)) (m ((c : Thread nD τ).loc main_arg2)) (m ((c : Thread nD τ).loc main_arg3)) := by
  obtain ⟨u1, u2, u3, u4⟩ := up_kept m ρ c
  have h1 : V1 m ρ c main_arg3 = m ((c : Thread nD τ).loc main_arg3) := W1_args m ρ c _ (by decide)
  have w1 : V1 m ρ c main_arg2 = m ((c : Thread nD τ).loc main_arg2) := W1_args m ρ c _ (by decide)
  have w2 : V2 m ρ c main_arg2 = m ((c : Thread nD τ).loc main_arg2) := W2_args m ρ c _ (by decide)
  have w3 : V3 m ρ c main_arg2 = m ((c : Thread nD τ).loc main_arg2) := W3_args m ρ c _ (by decide)
  have w4 : V4 m ρ c main_arg2 = m ((c : Thread nD τ).loc main_arg2) := W4_args m ρ c _ (by decide)
  have e1 : V2 m ρ c main_v1 = _ := (W2_arr m ρ c 3).trans (final1 (V1 m ρ) c)
  have e2 : V3 m ρ c main_v2 = _ := (W3_arr m ρ c 3).trans (final2 (V2 m ρ) c)
  have e3 : V4 m ρ c main_v3 = _ := (W4_arr m ρ c 3).trans (final3 (V3 m ρ) c)
  have e4 : W5 m ρ c (Proc.devRef .tc main_v4) = _ := (W5_arr m ρ c 3).trans (final4 (V4 m ρ) c)
  rw [e4, e3, e2, e1, u4, u3, u2, u1, h1, w1, w2, w3, w4]
  rfl

/-- A sum over the 16384 columns of the hidden layer is the sum of the sums over its four chunks. -/
theorem sum_chunks (f : Fin 16384 → EReal) :
    ∑ k, f k = (∑ k : Fin 4096, f (colFrom 12288 (by decide) k)) + ((∑ k : Fin 4096, f (colFrom 8192 (by decide) k))
      + ((∑ k : Fin 4096, f (colFrom 4096 (by decide) k)) + ∑ k : Fin 4096, f (colFrom 0 (by decide) k))) := by
  have h3 := Fin.sum_univ_add (a := 12288) (b := 4096) f
  have h2 := Fin.sum_univ_add (a := 8192) (b := 4096) (fun k => f (Fin.castAdd 4096 k))
  have h1 := Fin.sum_univ_add (a := 4096) (b := 4096) (fun k => f (Fin.castAdd 4096 (Fin.castAdd 4096 k)))
  refine h3.trans ?_
  rw [add_comm]
  refine congrArg₂ (· + ·) rfl (h2.trans ?_)
  rw [add_comm]
  refine congrArg₂ (· + ·) rfl (h1.trans ?_)
  rw [add_comm]
  refine congrArg₂ (· + ·) rfl (Finset.sum_congr rfl fun k _ => congrArg f (Fin.ext ?_))
  simp only [colFrom_val, Fin.val_castAdd, Nat.zero_add]

/-- The plain expression is the same array. -/
theorem ref_eq [Cert.MlpRefIdeal.Facts] (A : FVec Ideal S8192x4096 .bf16) (W₁ : FVec Ideal S2x4096x16384 .f32) (W₂ : FVec Ideal S2x16384x4096 .f32)
    (H : FVec Ideal S8192x4096 .f32) :
    addf H (Host.dotGeneral Cert.MlpRefIdeal.dot_S8192x16384_S16384x4096_S8192x4096_1_0_0_1_n_n none (mulf (maximumf (Host.dotGeneral Cert.MlpRefIdeal.dot_S8192x4096_S4096x16384_S8192x16384_1_0_0_1_n_n none (extf .f32 A Cert.MlpRefIdeal.Facts₀.bitsLt_bf16_f32) (shapeCast Cert.MlpRefIdeal.S4096x16384 (extractStridedSlice Cert.MlpRefIdeal.S1x4096x16384 ![0, 0, 0] W₁ Cert.MlpRefIdeal.Facts₀.slices_S2x4096x16384_S1x4096x16384_0_0_0) Cert.MlpRefIdeal.Facts₀.shapeCasts_S1x4096x16384_S4096x16384) : FVec Ideal Cert.MlpRefIdeal.S8192x16384 .f32) (broadcastInDim Cert.MlpRefIdeal.S8192x16384 ![] Cert.MlpRefIdeal.Facts₀.bcast_S_S8192x16384 (constant Cert.MlpRefIdeal.S_ .f32 0x00000000#32))) (maximumf (Host.dotGeneral Cert.MlpRefIdeal.dot_S8192x4096_S4096x16384_S8192x16384_1_0_0_1_n_n none (extf .f32 A Cert.MlpRefIdeal.Facts₀.bitsLt_bf16_f32) (shapeCast Cert.MlpRefIdeal.S4096x16384 (extractStridedSlice Cert.MlpRefIdeal.S1x4096x16384 ![0, 0, 0] W₁ Cert.MlpRefIdeal.Facts₀.slices_S2x4096x16384_S1x4096x16384_0_0_0) Cert.MlpRefIdeal.Facts₀.shapeCasts_S1x4096x16384_S4096x16384) : FVec Ideal Cert.MlpRefIdeal.S8192x16384 .f32) (broadcastInDim Cert.MlpRefIdeal.S8192x16384 ![] Cert.MlpRefIdeal.Facts₀.bcast_S_S8192x16384 (constant Cert.MlpRefIdeal.S_ .f32 0x00000000#32)))) (shapeCast Cert.MlpRefIdeal.S16384x4096 (extractStridedSlice Cert.MlpRefIdeal.S1x16384x4096 ![0, 0, 0] W₂ Cert.MlpRefIdeal.Facts₀.slices_S2x16384x4096_S1x16384x4096_0_0_0) Cert.MlpRefIdeal.Facts₀.shapeCasts_S1x16384x4096_S16384x4096) : FVec Ideal Cert.MlpRefIdeal.S8192x4096 .f32) = G A W₁ W₂ H := by
  funext j
  idx_vars j
  unfold G
  rw [Down_apply, Down_apply, Down_apply, Down_apply]
  pointwise
  rw [sum_chunks, add_comm]
  simp only [Up_apply, relu2, add_assoc]

end Cert.MlpIdeal.Value
end
-- ==== Proof.MixOutValue.lean ====
module

public import proofs.«01_k».proof.Proof.Gen.MixOutIdeal.Value
public import proofs.«01_k».proof.Proof.Starts
public import proofs.«01_k».proof.Proof.Gen.MixOutRefIdeal.Run

@[expose] public section

set_option maxRecDepth 16384

noncomputable section

namespace Cert.MixOutIdeal.Value

open Cert.Common Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: the product of its two blocks, added to the block of the hidden state. -/
theorem pay (x0 : Vec Ideal S2048x4096 .bf16) (x1 : Vec Ideal S1x4096x256 .f32) (x2 : Vec Ideal S2048x256 .f32) (r : Fin 2048) (l : Fin 256) :
    out0_3 x0 x1 x2 (ix2 r l) = (∑ k : Fin 4096, x0 (ix2 r k) * x1 (ix3 0 k l)) + x2 (ix2 r l) := by
  unfold out0_3
  rw [View.canon_unit_zero hz2, View.ld_unit_zero hz3, View.ld_unit_zero hz2, View.ld_unit_zero hz2]
  pointwise [k0_pay1]

/-- The number of each window's block at a grid point. -/
theorem starts : ∀ t : Fin grid0.N,
    win0_0.index t 0 = t.val / 16 ∧ win0_0.index t 1 = 0
    ∧ win0_1.index t 0 = 0 ∧ win0_1.index t 1 = 0 ∧ win0_1.index t 2 = t.val % 16
    ∧ win0_2.index t 0 = t.val / 16 ∧ win0_2.index t 1 = t.val % 16
    ∧ win0_3.index t 0 = t.val / 16 ∧ win0_3.index t 1 = t.val % 16 := by decide +kernel

/-- The block of the rows, read from the argument. -/
theorem blk0 (c : Dev nD) (t : Fin cfg0.N) (r : Fin 2048) (k : Fin 4096) (R : Fin 8192) (hR : R.val = t.val / 16 * 2048 + r.val) :
    (iblk m c 0 t : Vec Ideal S2048x4096 .bf16) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 2048 + 1 * r.val = R.val; omega
  | ⟨1, _⟩ => show win0_0.index t 1 * 4096 + 1 * k.val = k.val; omega

/-- The block of the weights' columns, read from the argument. -/
theorem blk1 (c : Dev nD) (t : Fin cfg0.N) (k : Fin 4096) (l : Fin 256) (C : Fin 4096) (hC : C.val = t.val % 16 * 256 + l.val) :
    (iblk m c 1 t : Vec Ideal S1x4096x256 .f32) (ix3 0 k l) = m ((c : Thread nD τ).loc main_arg1) (ix3 0 k C) := by
  have hi := starts t
  unfold iblk
  rw [View.read_apply]
  show V m c main_arg1 _ = _
  rw [V_main_arg1]
  congr 1
  funext a
  apply Fin.ext
  match a with
  | ⟨0, _⟩ => show win0_1.index t 0 * 1 + 1 * 0 = 0; omega
  | ⟨1, _⟩ => show win0_1.index t 1 * 4096 + 1 * k.val = k.val; omega
  | ⟨2, _⟩ => show win0_1.index t 2 * 256 + 1 * l.val = C.val; omega

/-- The block of the hidden state, read from the argument. -/
theorem blk2 (c : Dev nD) (t : Fin cfg0.N) (r : Fin 2048) (l : Fin 256) (R : Fin 8192) (C : Fin 4096)
    (hR : R.val = t.val / 16 * 2048 + r.val) (hC : C.val = t.val % 16 * 256 + l.val) :
    (iblk m c 2 t : Vec Ideal S2048x256 .f32) (ix2 r l) = m ((c : Thread nD τ).loc main_arg2) (ix2 R C) := by
  have hi := starts t
  unfold iblk
  rw [View.read_apply]
  show V m c main_arg2 _ = _
  rw [V_main_arg2]
  congr 1
  funext a
  apply Fin.ext
  match a with
  | ⟨0, _⟩ => show win0_2.index t 0 * 2048 + 1 * r.val = R.val; omega
  | ⟨1, _⟩ => show win0_2.index t 1 * 256 + 1 * l.val = C.val; omega

/-- The hidden state with the mixer's projected output added. -/
def G (A : Vec Ideal S8192x4096 .bf16) (W : Vec Ideal S1x4096x4096 .f32) (H : Vec Ideal S8192x4096 .f32) : Vec Ideal S8192x4096 .f32 := fun j =>
  (∑ k : Fin 4096, A (ix2 (j 0) k) * W (ix3 0 k (j 1))) + H (ix2 (j 0) (j 1))

/-- One entry of it. -/
theorem G_apply (A : Vec Ideal S8192x4096 .bf16) (W : Vec Ideal S1x4096x4096 .f32) (H : Vec Ideal S8192x4096 .f32) (r : Fin 8192) (c : Fin 4096) :
    G A W H (ix2 r c) = (∑ k : Fin 4096, A (ix2 r k) * W (ix3 0 k c)) + H (ix2 r c) := rfl

/-- What each grid point writes back is its block of that array. -/
theorem flushed_eq (c : Dev nD) (t : Fin cfg0.N) :
    (dats m 0 c).flushed 3 t = (win0_3.blk t).view.read (Elt Ideal)
      (G (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  have hi := starts t
  have ht : t.val < 64 := lt_of_lt_of_eq t.isLt Gen.N_0
  show out0_3 (iblk m c 0 t) (iblk m c 1 t) (iblk m c 2 t) = _
  funext j
  idx_vars j
  rw [pay, View.read_apply]
  have e : (win0_3.blk t).view.emb (ix2 j0 j1) = (ix2 ⟨t.val / 16 * 2048 + j0.val, by omega⟩ ⟨t.val % 16 * 256 + j1.val, by omega⟩ : S8192x4096.Idx) := by
    funext a
    apply Fin.ext
    match a with
    | ⟨0, _⟩ => show win0_3.index t 0 * 2048 + 1 * j0.val = t.val / 16 * 2048 + j0.val; omega
    | ⟨1, _⟩ => show win0_3.index t 1 * 256 + 1 * j1.val = t.val % 16 * 256 + j1.val; omega
  rw [e, G_apply]
  refine congrArg₂ (· + ·) (Finset.sum_congr rfl fun k _ => ?_) (blk2 m c t j0 j1 _ _ rfl rfl)
  exact congrArg₂ (· * ·) (blk0 m c t j0 k _ rfl) (blk1 m c t k j1 _ rfl)

/-- The blocks written back fill the result. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, ht⟩ : ∃ t : Fin cfg0.N, t.val = (i 0).val / 2048 * 16 + (i 1).val / 256 :=
    ⟨⟨_, by show _ < grid0.N; rw [Gen.N_0]; omega⟩, rfl⟩
  refine ⟨t, flush0_3 t, ?_⟩
  have hi := starts t
  show i ∈ ((View.whole main_v0).slice (win0_3.rect t)).set
  rw [View.set_slice_whole, Rect.mem_set_unit]
  intro a
  match a with
  | ⟨0, _⟩ => show win0_3.index t 0 * 2048 ≤ (i 0).val ∧ (i 0).val < win0_3.index t 0 * 2048 + 2048; omega
  | ⟨1, _⟩ => show win0_3.index t 1 * 256 ≤ (i 1).val ∧ (i 1).val < win0_3.index t 1 * 256 + 256; omega

/-- The array after the run. -/
theorem final (c : Dev nD) : (dats m 0 c).arrAt 3 cfg0.N =
    G (m ((c : Thread nD τ).loc main_arg0)) (m ((c : Thread nD τ).loc main_arg1)) (m ((c : Thread nD τ).loc main_arg2)) :=
  (dats m 0 c).arrAt_eq_of_cover 3 _ (fun t _ => flushed_eq m c t) cover

/-- The plain expression is the same array. -/
theorem ref_eq [Cert.MixOutRefIdeal.Facts] (A : FVec Ideal S8192x4096 .bf16) (W : FVec Ideal S1x4096x4096 .f32) (H : FVec Ideal S8192x4096 .f32) :
    addf H (Host.dotGeneral Cert.MixOutRefIdeal.dot_S8192x4096_S4096x4096_S8192x4096_1_0_0_1_n_n none
        (extf .f32 A Cert.MixOutRefIdeal.Facts₀.bitsLt_bf16_f32)
        (shapeCast Cert.MixOutRefIdeal.S4096x4096 W Cert.MixOutRefIdeal.Facts₀.shapeCasts_S1x4096x4096_S4096x4096)
        : FVec Ideal S8192x4096 .f32) = G A W H := by
  funext j
  idx_vars j
  rw [G_apply]
  pointwise
  rw [add_comm]

end Cert.MixOutIdeal.Value
end
-- ==== Proof.RwkvRValue.lean ====
module

public import proofs.«01_k».proof.Proof.Gen.RwkvRIdeal.Value
public import proofs.«01_k».proof.Proof.Starts
public import proofs.«01_k».proof.Proof.Gen.RwkvRRefIdeal.Run

@[expose] public section

set_option maxRecDepth 16384

noncomputable section

namespace Cert.RwkvRIdeal.Value

open Cert.Common Cert.RwkvRIdeal Cert.RwkvRIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: the product of its two blocks. -/
theorem pay (x0 : Vec Ideal S1024x4096 .bf16) (x1 : Vec Ideal S1x4096x512 .f32) (r : Fin 1024) (l : Fin 512) :
    out0_2 x0 x1 (ix2 r l) = (∑ k : Fin 4096, x0 (ix2 r k) * x1 (ix3 0 k l)) := by
  unfold out0_2
  rw [View.canon_unit_zero hz2, View.ld_unit_zero hz3, View.ld_unit_zero hz2]
  pointwise [k0_pay1]

/-- The number of each window's block at a grid point. -/
theorem starts : ∀ t : Fin grid0.N,
    win0_0.index t 0 = t.val / 8 ∧ win0_0.index t 1 = 0
    ∧ win0_1.index t 0 = 0 ∧ win0_1.index t 1 = 0 ∧ win0_1.index t 2 = t.val % 8
    ∧ win0_2.index t 0 = t.val / 8 ∧ win0_2.index t 1 = t.val % 8 := by decide +kernel

/-- The block of the rows, read from the argument. -/
theorem blk0 (c : Dev nD) (t : Fin cfg0.N) (r : Fin 1024) (k : Fin 4096) (R : Fin 8192) (hR : R.val = t.val / 8 * 1024 + r.val) :
    (iblk m c 0 t : Vec Ideal S1024x4096 .bf16) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 1024 + 1 * r.val = R.val; omega
  | ⟨1, _⟩ => show win0_0.index t 1 * 4096 + 1 * k.val = k.val; omega

/-- The block of the weights' columns, read from the argument. -/
theorem blk1 (c : Dev nD) (t : Fin cfg0.N) (k : Fin 4096) (l : Fin 512) (C : Fin 4096) (hC : C.val = t.val % 8 * 512 + l.val) :
    (iblk m c 1 t : Vec Ideal S1x4096x512 .f32) (ix3 0 k l) = m ((c : Thread nD τ).loc main_arg1) (ix3 0 k C) := by
  have hi := starts t
  unfold iblk
  rw [View.read_apply]
  show V m c main_arg1 _ = _
  rw [V_main_arg1]
  congr 1
  funext a
  apply Fin.ext
  match a with
  | ⟨0, _⟩ => show win0_1.index t 0 * 1 + 1 * 0 = 0; omega
  | ⟨1, _⟩ => show win0_1.index t 1 * 4096 + 1 * k.val = k.val; omega
  | ⟨2, _⟩ => show win0_1.index t 2 * 512 + 1 * l.val = C.val; omega

/-- The projection. -/
def G (A : Vec Ideal S8192x4096 .bf16) (W : Vec Ideal S1x4096x4096 .f32) : Vec Ideal S8192x4096 .f32 := fun j =>
  (∑ k : Fin 4096, A (ix2 (j 0) k) * W (ix3 0 k (j 1)))

/-- One entry of it. -/
theorem G_apply (A : Vec Ideal S8192x4096 .bf16) (W : Vec Ideal S1x4096x4096 .f32) (r : Fin 8192) (c : Fin 4096) :
    G A W (ix2 r c) = (∑ k : Fin 4096, A (ix2 r k) * W (ix3 0 k c)) := rfl

/-- What each grid point writes back is its block of that array. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  show (cfg0.win 2).cut (grid0.coords t) ((dats m 0 c).after 2 t) = _
  rw [after0_2]
  have hi := starts t
  have ht : t.val < 64 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val / 8 * 1024 + j0.val, by omega⟩ ⟨t.val % 8 * 512 + j1.val, by omega⟩ : S8192x4096.Idx) := by
    funext a
    apply Fin.ext
    match a with
    | ⟨0, _⟩ => show win0_2.index t 0 * 1024 + 1 * j0.val = t.val / 8 * 1024 + j0.val; omega
    | ⟨1, _⟩ => show win0_2.index t 1 * 512 + 1 * j1.val = t.val % 8 * 512 + j1.val; omega
  rw [e, G_apply]
  refine Finset.sum_congr rfl fun k _ => ?_
  exact congrArg₂ (· * ·) (blk0 m c t j0 k _ rfl) (blk1 m c t k j1 _ rfl)

/-- The blocks written back fill the result. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht⟩ : ∃ t : Fin cfg0.N, t.val = (i 0).val / 1024 * 8 + (i 1).val / 512 :=
    ⟨⟨_, by show _ < grid0.N; rw [Gen.N_0]; omega⟩, rfl⟩
  refine ⟨t, flush0_2 t, ?_⟩
  have hi := starts t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 512 ≤ (i 1).val ∧ (i 1).val < win0_2.index t 1 * 512 + 512; omega

/-- The array after the run. -/
theorem final (c : Dev nD) : (dats m 0 c).arrAt 2 cfg0.N =
    G (m ((c : Thread nD τ).loc main_arg0)) (m ((c : Thread nD τ).loc main_arg1)) :=
  (dats m 0 c).arrAt_eq_of_cover 2 _ (fun t _ => flushed_eq m c t) cover

/-- The plain expression is the same array. -/
theorem ref_eq [Cert.RwkvRRefIdeal.Facts] (A : FVec Ideal S8192x4096 .bf16) (W : FVec Ideal S1x4096x4096 .f32) :
    (Host.dotGeneral Cert.RwkvRRefIdeal.dot_S8192x4096_S4096x4096_S8192x4096_1_0_0_1_n_n none
        (extf .f32 A Cert.RwkvRRefIdeal.Facts₀.bitsLt_bf16_f32)
        (shapeCast Cert.RwkvRRefIdeal.S4096x4096 W Cert.RwkvRRefIdeal.Facts₀.shapeCasts_S1x4096x4096_S4096x4096)
        : FVec Ideal S8192x4096 .f32) = G A W := by
  funext j
  idx_vars j
  rw [G_apply]
  pointwise

end Cert.RwkvRIdeal.Value
end
-- ==== Proof.NormValue.lean ====
module

public import proofs.«01_k».proof.Proof.Gen.NormIdeal.Value
public import proofs.«01_k».proof.Proof.Starts
public import proofs.«01_k».proof.Proof.Gen.NormRefIdeal.Run

@[expose] public section

set_option maxRecDepth 16384

noncomputable section

namespace Cert.NormIdeal.Value

open Cert.Common Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: each row of its block, normalized and scaled. -/
theorem pay (x0 : Vec Ideal S512x4096 .f32) (x1 : Vec Ideal S1x4096 .f32) (r : Fin 512) (l : Fin 4096) :
    out0_2 x0 x1 (ix2 r l) = rmsEntry (fun k => x0 (ix2 r k)) (x1 (ix2 0 l)) l := by
  unfold out0_2 rmsEntry
  rw [View.canon_unit_zero hz2, View.ld_unit_zero hz2, View.ld_unit_zero hz2]
  pointwise [k0_pay1]

/-- The number of each window's block at a grid point. -/
theorem starts : ∀ t : Fin grid0.N,
    win0_0.index t 0 = t.val ∧ win0_0.index t 1 = 0
    ∧ win0_1.index t 0 = 0 ∧ win0_1.index t 1 = 0
    ∧ win0_2.index t 0 = t.val ∧ win0_2.index t 1 = 0 := by decide +kernel

/-- The gain the kernel is launched on is the argument as one row. -/
theorem V0 (c : Dev nD) : V m c main_v0 = shapeCast S1x4096 (m ((c : Thread nD τ).loc main_arg1)) shapeCasts_S4096_S1x4096 := by
  unfold V; after_results <;> rfl

/-- The block of rows, read from the argument. -/
theorem blk0 (c : Dev nD) (t : Fin cfg0.N) (r : Fin 512) (k : Fin 4096) (R : Fin 8192) (hR : R.val = t.val * 512 + r.val) :
    (iblk m c 0 t : Vec Ideal S512x4096 .f32) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 512 + 1 * r.val = R.val; omega
  | ⟨1, _⟩ => show win0_0.index t 1 * 4096 + 1 * k.val = k.val; omega

/-- A vector as one row, at an entry. -/
theorem row_apply (g : FVec Ideal S4096 .f32) (h : Shape.ShapeCasts S4096 S1x4096) (l : Fin 4096) :
    shapeCast S1x4096 g h (ix2 0 l) = g (ix1 l) := by
  pointwise

/-- The gain, read from the argument. -/
theorem blk1 (c : Dev nD) (t : Fin cfg0.N) (l : Fin 4096) :
    (iblk m c 1 t : Vec Ideal S1x4096 .f32) (ix2 0 l) = m ((c : Thread nD τ).loc main_arg1) (ix1 l) := by
  have hi := starts t
  unfold iblk
  rw [View.read_apply]
  show V m c main_v0 _ = _
  rw [V0]
  have e : ((cfg0.win 1).blk t).view.emb (ix2 0 l) = (ix2 0 l : S1x4096.Idx) := by
    funext a
    apply Fin.ext
    match a with
    | ⟨0, _⟩ => show win0_1.index t 0 * 1 + 1 * 0 = 0; omega
    | ⟨1, _⟩ => show win0_1.index t 1 * 4096 + 1 * l.val = l.val; omega
  rw [e]
  exact row_apply _ _ l

/-- The normalized rows. -/
def G (A : Vec Ideal S8192x4096 .f32) (g : Vec Ideal S4096 .f32) : Vec Ideal S8192x4096 .bf16 := fun j =>
  rmsEntry (fun k => A (ix2 (j 0) k)) (g (ix1 (j 1))) (j 1)

/-- One entry of them. -/
theorem G_apply (A : Vec Ideal S8192x4096 .f32) (g : Vec Ideal S4096 .f32) (r : Fin 8192) (c : Fin 4096) :
    G A g (ix2 r c) = rmsEntry (fun k => A (ix2 r k)) (g (ix1 c)) c := rfl

/-- What each grid point writes back is its block of them. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  show (cfg0.win 2).cut (grid0.coords t) ((dats m 0 c).after 2 t) = _
  rw [after0_2]
  have hi := starts t
  have ht : t.val < 16 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val * 512 + j0.val, by omega⟩ j1 : S8192x4096.Idx) := by
    funext a
    apply Fin.ext
    match a with
    | ⟨0, _⟩ => show win0_2.index t 0 * 512 + 1 * j0.val = t.val * 512 + j0.val; omega
    | ⟨1, _⟩ => show win0_2.index t 1 * 4096 + 1 * j1.val = j1.val; omega
  rw [e, G_apply, blk1]
  exact congrArg (fun x => rmsEntry x _ _) (funext fun k => blk0 m c t j0 k _ rfl)

/-- The blocks written back fill the result. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht⟩ : ∃ t : Fin cfg0.N, t.val = (i 0).val / 512 :=
    ⟨⟨_, by show _ < grid0.N; rw [Gen.N_0]; omega⟩, rfl⟩
  refine ⟨t, flush0_2 t, ?_⟩
  have hi := starts t
  show i ∈ ((View.whole main_v1).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 4096 ≤ (i 1).val ∧ (i 1).val < win0_2.index t 1 * 4096 + 4096; omega

/-- The array after the run. -/
theorem final (c : Dev nD) : (dats m 0 c).arrAt 2 cfg0.N =
    G (m ((c : Thread nD τ).loc main_arg0)) (m ((c : Thread nD τ).loc main_arg1)) :=
  (dats m 0 c).arrAt_eq_of_cover 2 _ (fun t _ => flushed_eq m c t) cover

open Cert.NormRefIdeal.Facts₀ in
/-- The plain normalization is the same array. -/
theorem ref_eq [Cert.NormRefIdeal.Facts] (A : FVec Ideal S8192x4096 .f32) (g : FVec Ideal S4096 .f32) :
    (truncf .bf16 (mulf (mulf A (broadcastInDim S8192x4096 ![0, 1] bcast_S8192x1_S8192x4096_0_1
      (Host.rsqrt (addf (Host.divf (broadcastInDim Cert.NormRefIdeal.S8192x1 ![0] bcast_S8192_S8192x1_0
          (Host.reduceAdd (mulf A A) (constant Cert.NormRefIdeal.S_ .f32 0x00000000#32) reducesTo_S8192x4096_S8192_d1 h_S_))
        (broadcastInDim Cert.NormRefIdeal.S8192x1 ![] bcast_S_S8192x1 (constant Cert.NormRefIdeal.S_ .f32 0x45800000#32)))
        (broadcastInDim Cert.NormRefIdeal.S8192x1 ![] bcast_S_S8192x1 (constant Cert.NormRefIdeal.S_ .f32 0x358637BD#32))))))
      (broadcastInDim S8192x4096 ![0, 1] bcast_S1x4096_S8192x4096_0_1 (broadcastInDim S1x4096 ![1] bcast_S4096_S1x4096_1 g))) Cert.NormRefIdeal.Facts₀.bitsLt_bf16_f32
      : FVec Ideal S8192x4096 .bf16) = G A g := by
  funext j
  idx_vars j
  rw [G_apply]
  unfold rmsEntry
  pointwise

end Cert.NormIdeal.Value
end
-- ==== Proof.FinalNormValue.lean ====
module

public import proofs.«01_k».proof.Proof.Gen.FinalNormIdeal.Value
public import proofs.«01_k».proof.Proof.Starts
public import proofs.«01_k».proof.Proof.Gen.FinalNormRefIdeal.Run

@[expose] public section

set_option maxRecDepth 16384

noncomputable section

namespace Cert.FinalNormIdeal.Value

open Cert.Common Cert.FinalNormIdeal Cert.FinalNormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: each row of its block, normalized and scaled. -/
theorem pay (x0 : Vec Ideal S512x4096 .f32) (x1 : Vec Ideal S1x4096 .f32) (r : Fin 512) (l : Fin 4096) :
    out0_2 x0 x1 (ix2 r l) = rmsEntry (fun k => x0 (ix2 r k)) (x1 (ix2 0 l)) l := by
  unfold out0_2 rmsEntry
  rw [View.canon_unit_zero hz2, View.ld_unit_zero hz2, View.ld_unit_zero hz2]
  pointwise [k0_pay1]

/-- The number of each window's block at a grid point. -/
theorem starts : ∀ t : Fin grid0.N,
    win0_0.index t 0 = t.val ∧ win0_0.index t 1 = 0
    ∧ win0_1.index t 0 = 0 ∧ win0_1.index t 1 = 0
    ∧ win0_2.index t 0 = t.val ∧ win0_2.index t 1 = 0 := by decide +kernel

/-- The gain the kernel is launched on is the argument as one row. -/
theorem V0 (c : Dev nD) : V m c main_v0 = shapeCast S1x4096 (m ((c : Thread nD τ).loc main_arg1)) shapeCasts_S4096_S1x4096 := by
  unfold V; after_results <;> rfl

/-- The block of rows, read from the argument. -/
theorem blk0 (c : Dev nD) (t : Fin cfg0.N) (r : Fin 512) (k : Fin 4096) (R : Fin 8192) (hR : R.val = t.val * 512 + r.val) :
    (iblk m c 0 t : Vec Ideal S512x4096 .f32) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 512 + 1 * r.val = R.val; omega
  | ⟨1, _⟩ => show win0_0.index t 1 * 4096 + 1 * k.val = k.val; omega

/-- A vector as one row, at an entry. -/
theorem row_apply (g : FVec Ideal S4096 .f32) (h : Shape.ShapeCasts S4096 S1x4096) (l : Fin 4096) :
    shapeCast S1x4096 g h (ix2 0 l) = g (ix1 l) := by
  pointwise

/-- The gain, read from the argument. -/
theorem blk1 (c : Dev nD) (t : Fin cfg0.N) (l : Fin 4096) :
    (iblk m c 1 t : Vec Ideal S1x4096 .f32) (ix2 0 l) = m ((c : Thread nD τ).loc main_arg1) (ix1 l) := by
  have hi := starts t
  unfold iblk
  rw [View.read_apply]
  show V m c main_v0 _ = _
  rw [V0]
  have e : ((cfg0.win 1).blk t).view.emb (ix2 0 l) = (ix2 0 l : S1x4096.Idx) := by
    funext a
    apply Fin.ext
    match a with
    | ⟨0, _⟩ => show win0_1.index t 0 * 1 + 1 * 0 = 0; omega
    | ⟨1, _⟩ => show win0_1.index t 1 * 4096 + 1 * l.val = l.val; omega
  rw [e]
  exact row_apply _ _ l

/-- The normalized rows. -/
def G (A : Vec Ideal S8192x4096 .f32) (g : Vec Ideal S4096 .f32) : Vec Ideal S8192x4096 .f32 := fun j =>
  rmsEntry (fun k => A (ix2 (j 0) k)) (g (ix1 (j 1))) (j 1)

/-- One entry of them. -/
theorem G_apply (A : Vec Ideal S8192x4096 .f32) (g : Vec Ideal S4096 .f32) (r : Fin 8192) (c : Fin 4096) :
    G A g (ix2 r c) = rmsEntry (fun k => A (ix2 r k)) (g (ix1 c)) c := rfl

/-- What each grid point writes back is its block of them. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  show (cfg0.win 2).cut (grid0.coords t) ((dats m 0 c).after 2 t) = _
  rw [after0_2]
  have hi := starts t
  have ht : t.val < 16 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val * 512 + j0.val, by omega⟩ j1 : S8192x4096.Idx) := by
    funext a
    apply Fin.ext
    match a with
    | ⟨0, _⟩ => show win0_2.index t 0 * 512 + 1 * j0.val = t.val * 512 + j0.val; omega
    | ⟨1, _⟩ => show win0_2.index t 1 * 4096 + 1 * j1.val = j1.val; omega
  rw [e, G_apply, blk1]
  exact congrArg (fun x => rmsEntry x _ _) (funext fun k => blk0 m c t j0 k _ rfl)

/-- The blocks written back fill the result. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht⟩ : ∃ t : Fin cfg0.N, t.val = (i 0).val / 512 :=
    ⟨⟨_, by show _ < grid0.N; rw [Gen.N_0]; omega⟩, rfl⟩
  refine ⟨t, flush0_2 t, ?_⟩
  have hi := starts t
  show i ∈ ((View.whole main_v1).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 4096 ≤ (i 1).val ∧ (i 1).val < win0_2.index t 1 * 4096 + 4096; omega

/-- The array after the run. -/
theorem final (c : Dev nD) : (dats m 0 c).arrAt 2 cfg0.N =
    G (m ((c : Thread nD τ).loc main_arg0)) (m ((c : Thread nD τ).loc main_arg1)) :=
  (dats m 0 c).arrAt_eq_of_cover 2 _ (fun t _ => flushed_eq m c t) cover

open Cert.FinalNormRefIdeal.Facts₀ in
/-- The plain normalization is the same array. -/
theorem ref_eq [Cert.FinalNormRefIdeal.Facts] (A : FVec Ideal S8192x4096 .f32) (g : FVec Ideal S4096 .f32) :
    (mulf (mulf A (broadcastInDim S8192x4096 ![0, 1] bcast_S8192x1_S8192x4096_0_1
      (Host.rsqrt (addf (Host.divf (broadcastInDim Cert.FinalNormRefIdeal.S8192x1 ![0] bcast_S8192_S8192x1_0
          (Host.reduceAdd (mulf A A) (constant Cert.FinalNormRefIdeal.S_ .f32 0x00000000#32) reducesTo_S8192x4096_S8192_d1 h_S_))
        (broadcastInDim Cert.FinalNormRefIdeal.S8192x1 ![] bcast_S_S8192x1 (constant Cert.FinalNormRefIdeal.S_ .f32 0x45800000#32)))
        (broadcastInDim Cert.FinalNormRefIdeal.S8192x1 ![] bcast_S_S8192x1 (constant Cert.FinalNormRefIdeal.S_ .f32 0x358637BD#32))))))
      (broadcastInDim S8192x4096 ![0, 1] bcast_S1x4096_S8192x4096_0_1 (broadcastInDim S1x4096 ![1] bcast_S4096_S1x4096_1 g))
      : FVec Ideal S8192x4096 .f32) = G A g := by
  funext j
  idx_vars j
  rw [G_apply]
  unfold rmsEntry
  pointwise

end Cert.FinalNormIdeal.Value
end
-- ==== Proof.MemKvValue.lean ====
module

public import proofs.«01_k».proof.Proof.Gen.MemKvIdeal.Frame
public import proofs.«01_k».proof.Proof.Starts
public import proofs.«01_k».proof.Proof.Gen.MemKvRefIdeal.Run

@[expose] public section

set_option maxRecDepth 16384

noncomputable section

namespace Cert.MemKvIdeal.Value

open Cert.Common Cert.MemKvIdeal Cert.MemKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Regions
variable (V : (c : Dev nD) → (b : Ref sig .tc) → Buf (Elt Ideal) ((c : Thread nD τ).loc b))

/-- What the body of the norm stores: each row of its block, normalized and scaled. -/
theorem pay_norm (x0 : Vec Ideal S256x4096 .f32) (x1 : Vec Ideal S1x4096 .f32) (r : Fin 256) (l : Fin 4096) :
    out0_2 x0 x1 (ix2 r l) = rmsEntry (fun k => x0 (ix2 r k)) (x1 (ix2 0 l)) l := by
  unfold out0_2 rmsEntry
  rw [View.canon_unit_zero hz2, View.ld_unit_zero hz2, View.ld_unit_zero hz2]
  pointwise [k0_pay1]

/-- What the body of the product stores: the product of its two blocks. -/
theorem pay_mm (x0 : Vec Ideal S256x4096 .bf16) (x1 : Vec Ideal S4096x512 .f32) (r : Fin 256) (l : Fin 512) :
    out1_2 x0 x1 (ix2 r l) = ∑ k : Fin 4096, x0 (ix2 r k) * x1 (ix2 k l) := by
  unfold out1_2
  rw [View.canon_unit_zero hz2, View.ld_unit_zero hz2, View.ld_unit_zero hz2]
  pointwise [k1_pay1]

/-- The number of each window's block at the grid point of the norm: there is one block. -/
theorem starts0 : ∀ t : Fin grid0.N,
    win0_0.index t 0 = 0 ∧ win0_0.index t 1 = 0
    ∧ win0_1.index t 0 = 0 ∧ win0_1.index t 1 = 0
    ∧ win0_2.index t 0 = 0 ∧ win0_2.index t 1 = 0 := by decide +kernel

/-- The number of each window's block at a grid point of the product. -/
theorem starts1 : ∀ t : Fin grid1.N,
    win1_0.index t 0 = 0 ∧ win1_0.index t 1 = 0
    ∧ win1_1.index t 0 = 0 ∧ win1_1.index t 1 = t.val
    ∧ win1_2.index t 0 = 0 ∧ win1_2.index t 1 = t.val := by decide +kernel

/-- The rows, read from their array. -/
theorem blk0_0 (c : Dev nD) (t : Fin cfg0.N) (r : Fin 256) (k : Fin 4096) :
    (iblk0 V c 0 t : Vec Ideal S256x4096 .f32) (ix2 r k) = V c main_arg0 (ix2 r k) := by
  have hi := starts0 t
  unfold iblk0
  rw [View.read_apply]
  show V c main_arg0 _ = _
  congr 1
  funext a
  apply Fin.ext
  match a with
  | ⟨0, _⟩ => show win0_0.index t 0 * 256 + 1 * r.val = r.val; omega
  | ⟨1, _⟩ => show win0_0.index t 1 * 4096 + 1 * k.val = k.val; omega

/-- The gain, read from its array. -/
theorem blk0_1 (c : Dev nD) (t : Fin cfg0.N) (l : Fin 4096) :
    (iblk0 V c 1 t : Vec Ideal S1x4096 .f32) (ix2 0 l) = V c main_v0 (ix2 0 l) := by
  have hi := starts0 t
  unfold iblk0
  rw [View.read_apply]
  show V c main_v0 _ = _
  congr 1
  funext a
  apply Fin.ext
  match a with
  | ⟨0, _⟩ => show win0_1.index t 0 * 1 + 1 * 0 = 0; omega
  | ⟨1, _⟩ => show win0_1.index t 1 * 4096 + 1 * l.val = l.val; omega

/-- The normalized rows, read from their array. -/
theorem blk1_0 (c : Dev nD) (t : Fin cfg1.N) (r : Fin 256) (k : Fin 4096) :
    (iblk1 V c 0 t : Vec Ideal S256x4096 .bf16) (ix2 r k) = V c main_v1 (ix2 r k) := by
  have hi := starts1 t
  unfold iblk1
  rw [View.read_apply]
  show V c main_v1 _ = _
  congr 1
  funext a
  apply Fin.ext
  match a with
  | ⟨0, _⟩ => show win1_0.index t 0 * 256 + 1 * r.val = r.val; omega
  | ⟨1, _⟩ => show win1_0.index t 1 * 4096 + 1 * k.val = k.val; omega

/-- The block of the weights' columns, read from its array. -/
theorem blk1_1 (c : Dev nD) (t : Fin cfg1.N) (k : Fin 4096) (l : Fin 512) (C : Fin 8192) (hC : C.val = t.val * 512 + l.val) :
    (iblk1 V c 1 t : Vec Ideal S4096x512 .f32) (ix2 k l) = V c main_arg2 (ix2 k C) := by
  have hi := starts1 t
  unfold iblk1
  rw [View.read_apply]
  show V c main_arg2 _ = _
  congr 1
  funext a
  apply Fin.ext
  match a with
  | ⟨0, _⟩ => show win1_1.index t 0 * 4096 + 1 * k.val = k.val; omega
  | ⟨1, _⟩ => show win1_1.index t 1 * 512 + 1 * l.val = C.val; omega

/-- The normalized rows. -/
def Normed (A : Vec Ideal S256x4096 .f32) (g : Vec Ideal S1x4096 .f32) : Vec Ideal S256x4096 .bf16 := fun j =>
  rmsEntry (fun k => A (ix2 (j 0) k)) (g (ix2 0 (j 1))) (j 1)

/-- One entry of them. -/
theorem Normed_apply (A : Vec Ideal S256x4096 .f32) (g : Vec Ideal S1x4096 .f32) (r : Fin 256) (l : Fin 4096) :
    Normed A g (ix2 r l) = rmsEntry (fun k => A (ix2 r k)) (g (ix2 0 l)) l := rfl

/-- The product of the rows with the weights. -/
def Prod (A : Vec Ideal S256x4096 .bf16) (W : Vec Ideal S4096x8192 .f32) : Vec Ideal S256x8192 .bf16 := fun j =>
  ∑ k : Fin 4096, A (ix2 (j 0) k) * W (ix2 k (j 1))

/-- One entry of it. -/
theorem Prod_apply (A : Vec Ideal S256x4096 .bf16) (W : Vec Ideal S4096x8192 .f32) (r : Fin 256) (l : Fin 8192) :
    Prod A W (ix2 r l) = ∑ k : Fin 4096, A (ix2 r k) * W (ix2 k l) := rfl

/-- What the norm writes back is the normalized rows. -/
theorem flushed0 (c : Dev nD) (t : Fin cfg0.N) :
    (dat0 V c).flushed 2 t = (win0_2.blk t).view.read (Elt Ideal) (Normed (V c main_arg0) (V c main_v0)) := by
  show (cfg0.win 2).cut (grid0.coords t) ((dat0 V c).after 2 t) = _
  rw [after0_2]
  have hi := starts0 t
  show out0_2 (iblk0 V c 0 t) (iblk0 V c 1 t) = _
  funext j
  idx_vars j
  rw [pay_norm, View.read_apply]
  have e : (win0_2.blk t).view.emb (ix2 j0 j1) = (ix2 j0 j1 : S256x4096.Idx) := by
    funext a
    apply Fin.ext
    match a with
    | ⟨0, _⟩ => show win0_2.index t 0 * 256 + 1 * j0.val = j0.val; omega
    | ⟨1, _⟩ => show win0_2.index t 1 * 4096 + 1 * j1.val = j1.val; omega
  rw [e, Normed_apply]
  exact congrArg₂ (rmsEntry · · j1) (funext fun k => blk0_0 V c t j0 k) (blk0_1 V c t j1)

/-- What each grid point of the product writes back is its block of it. -/
theorem flushed1 (c : Dev nD) (t : Fin cfg1.N) :
    (dat1 V c).flushed 2 t = (win1_2.blk t).view.read (Elt Ideal) (Prod (V c main_v1) (V c main_arg2)) := by
  show (cfg1.win 2).cut (grid1.coords t) ((dat1 V c).after 2 t) = _
  rw [after1_2]
  have hi := starts1 t
  have ht : t.val < 16 := lt_of_lt_of_eq t.isLt Gen.N_1
  show out1_2 (iblk1 V c 0 t) (iblk1 V c 1 t) = _
  funext j
  idx_vars j
  rw [pay_mm, View.read_apply]
  have e : (win1_2.blk t).view.emb (ix2 j0 j1) = (ix2 j0 ⟨t.val * 512 + j1.val, by omega⟩ : S256x8192.Idx) := by
    funext a
    apply Fin.ext
    match a with
    | ⟨0, _⟩ => show win1_2.index t 0 * 256 + 1 * j0.val = j0.val; omega
    | ⟨1, _⟩ => show win1_2.index t 1 * 512 + 1 * j1.val = t.val * 512 + j1.val; omega
  rw [e, Prod_apply]
  refine Finset.sum_congr rfl fun k _ => ?_
  exact congrArg₂ (· * ·) (blk1_0 V c t j0 k) (blk1_1 V c t k j1 _ rfl)

/-- The one block fills the normalized rows. -/
theorem cover0 (i : S256x4096.Idx) :
    ∃ t : Fin cfg0.N, (cfg0.win 2).flush t = true ∧ i ∈ ((cfg0.win 2).blk t).view.set := by
  have h0 : (i 0).val < 256 := (i 0).isLt
  have h1 : (i 1).val < 4096 := (i 1).isLt
  obtain ⟨t, ht⟩ : ∃ t : Fin cfg0.N, t.val = 0 := ⟨⟨_, by show _ < grid0.N; rw [Gen.N_0]; omega⟩, rfl⟩
  refine ⟨t, flush0_2 t, ?_⟩
  have hi := starts0 t
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256; omega
  | ⟨1, _⟩ => show win0_2.index t 1 * 4096 ≤ (i 1).val ∧ (i 1).val < win0_2.index t 1 * 4096 + 4096; omega

/-- The blocks written back fill the product. -/
theorem cover1 (i : S256x8192.Idx) :
    ∃ t : Fin cfg1.N, (cfg1.win 2).flush t = true ∧ i ∈ ((cfg1.win 2).blk t).view.set := by
  have h0 : (i 0).val < 256 := (i 0).isLt
  have h1 : (i 1).val < 8192 := (i 1).isLt
  obtain ⟨t, ht⟩ : ∃ t : Fin cfg1.N, t.val = (i 1).val / 512 := ⟨⟨_, by show _ < grid1.N; rw [Gen.N_1]; omega⟩, rfl⟩
  refine ⟨t, flush1_2 t, ?_⟩
  have hi := starts1 t
  show i ∈ ((View.whole main_v2).slice (win1_2.rect t)).set
  rw [View.set_slice_whole, Rect.mem_set_unit]
  intro a
  match a with
  | ⟨0, _⟩ => show win1_2.index t 0 * 256 ≤ (i 0).val ∧ (i 0).val < win1_2.index t 0 * 256 + 256; omega
  | ⟨1, _⟩ => show win1_2.index t 1 * 512 ≤ (i 1).val ∧ (i 1).val < win1_2.index t 1 * 512 + 512; omega

/-- The normalized rows' array after the norm. -/
theorem final0 (c : Dev nD) : (dat0 V c).arrAt 2 cfg0.N = Normed (V c main_arg0) (V c main_v0) :=
  (dat0 V c).arrAt_eq_of_cover 2 _ (fun t _ => flushed0 V c t) cover0

/-- The product's array after the product. -/
theorem final1 (c : Dev nD) : (dat1 V c).arrAt 2 cfg1.N = Prod (V c main_v1) (V c main_arg2) :=
  (dat1 V c).arrAt_eq_of_cover 2 _ (fun t _ => flushed1 V c t) cover1

end Regions

variable (m : (ℓ : Loc nD τ sig) → Buf (Elt Ideal) ℓ) (ρ : Dev nD → PrngReg)

set_option backward.isDefEq.respectTransparency.types false in
/-- After the run every buffer of the program holds what the second of the two calls leaves. -/
theorem run_all : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c => h c)

/-- The run, with the contents of the product named, and the arguments as they were. -/
theorem run_blocks : θ_run defs (onTc (τ := τ) (main (F := Ideal))) ⟨m, fun _ => 0, ρ⟩ (fun r => ∀ c : Dev nD,
    r.2.mem ((c.tc : Thread nD τ).loc main_v2) = W3 m ρ c (Proc.devRef .tc main_v2)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨h c _ (mem_uc main_v2 (by decide)),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩) (run_all m ρ)

/-- A vector as one row, at an entry. -/
theorem row_apply (g : FVec Ideal S4096 .f32) (h : Shape.ShapeCasts S4096 S1x4096) (l : Fin 4096) :
    shapeCast S1x4096 g h (ix2 0 l) = g (ix1 l) := by
  pointwise

/-- The rows normalized, scaled by the gain and multiplied by the weights. -/
def G (A : Vec Ideal S256x4096 .f32) (g : Vec Ideal S4096 .f32) (W : Vec Ideal S4096x8192 .f32) : Vec Ideal S256x8192 .bf16 := fun j =>
  ∑ k : Fin 4096, rmsEntry (fun k => A (ix2 (j 0) k)) (g (ix1 k)) k * W (ix2 k (j 1))

/-- One entry of it. -/
theorem G_apply (A : Vec Ideal S256x4096 .f32) (g : Vec Ideal S4096 .f32) (W : Vec Ideal S4096x8192 .f32) (r : Fin 256) (l : Fin 8192) :
    G A g W (ix2 r l) = ∑ k : Fin 4096, rmsEntry (fun k => A (ix2 r k)) (g (ix1 k)) k * W (ix2 k l) := rfl

/-- The gain the norm is launched on is the argument as one row. -/
theorem gain (c : Dev nD) : V1 m ρ c main_v0 = shapeCast S1x4096 (m ((c : Thread nD τ).loc main_arg1)) shapeCasts_S4096_S1x4096 := by
  unfold V1; after_results <;> rfl

/-- The array after the run. -/
theorem final (c : Dev nD) : W3 m ρ c (Proc.devRef .tc main_v2) =
    G (m ((c : Thread nD τ).loc main_arg0)) (m ((c : Thread nD τ).loc main_arg1)) (m ((c : Thread nD τ).loc main_arg2)) := by
  have a0 : V1 m ρ c main_arg0 = m ((c : Thread nD τ).loc main_arg0) := W1_args m ρ c _ (by decide)
  have a2 : V2 m ρ c main_arg2 = m ((c : Thread nD τ).loc main_arg2) := W2_args m ρ c _ (by decide)
  have e1 : V2 m ρ c main_v1 = _ := (W2_arr m ρ c 2).trans (final0 (V1 m ρ) c)
  have e2 : W3 m ρ c (Proc.devRef .tc main_v2) = _ := (W3_arr m ρ c 2).trans (final1 (V2 m ρ) c)
  rw [e2, e1, a0, a2, gain]
  funext j
  idx_vars j
  rw [Prod_apply, G_apply]
  refine Finset.sum_congr rfl fun k _ => ?_
  rw [Normed_apply, row_apply]

/-- The plain expression is the same array. -/
theorem ref_eq [Cert.MemKvRefIdeal.Facts] (A : FVec Ideal S256x4096 .f32) (g : FVec Ideal S4096 .f32) (W : FVec Ideal S4096x8192 .f32) :
    (truncf .bf16 (Host.dotGeneral Cert.MemKvRefIdeal.dot_S256x4096_S4096x8192_S256x8192_1_0_0_1_n_n none (mulf (mulf A (broadcastInDim Cert.MemKvRefIdeal.S256x4096 ![0, 1] Cert.MemKvRefIdeal.Facts₀.bcast_S256x1_S256x4096_0_1 (Host.rsqrt (addf (Host.divf (broadcastInDim Cert.MemKvRefIdeal.S256x1 ![0] Cert.MemKvRefIdeal.Facts₀.bcast_S256_S256x1_0 (Host.reduceAdd (mulf A A) (constant Cert.MemKvRefIdeal.S_ .f32 0x00000000#32) Cert.MemKvRefIdeal.Facts₀.reducesTo_S256x4096_S256_d1 Cert.MemKvRefIdeal.Facts₀.h_S_)) (broadcastInDim Cert.MemKvRefIdeal.S256x1 ![] Cert.MemKvRefIdeal.Facts₀.bcast_S_S256x1 (constant Cert.MemKvRefIdeal.S_ .f32 0x45800000#32))) (broadcastInDim Cert.MemKvRefIdeal.S256x1 ![] Cert.MemKvRefIdeal.Facts₀.bcast_S_S256x1 (constant Cert.MemKvRefIdeal.S_ .f32 0x358637BD#32)))))) (broadcastInDim Cert.MemKvRefIdeal.S256x4096 ![0, 1] Cert.MemKvRefIdeal.Facts₀.bcast_S1x4096_S256x4096_0_1 (broadcastInDim Cert.MemKvRefIdeal.S1x4096 ![1] Cert.MemKvRefIdeal.Facts₀.bcast_S4096_S1x4096_1 g))) W : FVec Ideal S256x8192 .f32) Cert.MemKvRefIdeal.Facts₀.bitsLt_bf16_f32
      : FVec Ideal S256x8192 .bf16) = G A g W := by
  funext j
  idx_vars j
  rw [G_apply]
  unfold rmsEntry
  pointwise

end Cert.MemKvIdeal.Value
end
-- ==== Proof.LoraW2Value.lean ====
module

public import proofs.«01_k».proof.Proof.Gen.LoraW2Ideal.Value
public import proofs.«01_k».proof.Proof.Starts
public import proofs.«01_k».proof.Proof.Gen.LoraW2RefIdeal.Run

@[expose] public section

set_option maxRecDepth 16384

noncomputable section

namespace Cert.LoraW2Ideal.Value

open Cert.Common Cert.LoraW2Ideal Cert.LoraW2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: the product of its two blocks. -/
theorem pay (x0 : Vec Ideal S512x128 .bf16) (x1 : Vec Ideal S1x128x4096 .f32) (r : Fin 512) (l : Fin 4096) :
    out0_2 x0 x1 (ix2 r l) = (∑ k : Fin 128, x0 (ix2 r k) * x1 (ix3 0 k l)) := by
  unfold out0_2
  rw [View.canon_unit_zero hz2, View.ld_unit_zero hz3, View.ld_unit_zero hz2]
  pointwise [k0_pay1]

/-- The number of each window's block at a grid point. -/
theorem starts : ∀ t : Fin grid0.N,
    win0_0.index t 0 = t.val ∧ win0_0.index t 1 = 0
    ∧ win0_1.index t 0 = 0 ∧ win0_1.index t 1 = 0 ∧ win0_1.index t 2 = 0
    ∧ win0_2.index t 0 = t.val ∧ win0_2.index t 1 = 0 := by decide +kernel

/-- The block of the rows, read from the argument. -/
theorem blk0 (c : Dev nD) (t : Fin cfg0.N) (r : Fin 512) (k : Fin 128) (R : Fin 8192) (hR : R.val = t.val * 512 + r.val) :
    (iblk m c 0 t : Vec Ideal S512x128 .bf16) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 512 + 1 * r.val = R.val; omega
  | ⟨1, _⟩ => show win0_0.index t 1 * 128 + 1 * k.val = k.val; omega

/-- The block of the weights, read from the argument. -/
theorem blk1 (c : Dev nD) (t : Fin cfg0.N) (k : Fin 128) (l : Fin 4096)  :
    (iblk m c 1 t : Vec Ideal S1x128x4096 .f32) (ix3 0 k l) = m ((c : Thread nD τ).loc main_arg1) (ix3 0 k l) := by
  have hi := starts t
  unfold iblk
  rw [View.read_apply]
  show V m c main_arg1 _ = _
  rw [V_main_arg1]
  congr 1
  funext a
  apply Fin.ext
  match a with
  | ⟨0, _⟩ => show win0_1.index t 0 * 1 + 1 * 0 = 0; omega
  | ⟨1, _⟩ => show win0_1.index t 1 * 128 + 1 * k.val = k.val; omega
  | ⟨2, _⟩ => show win0_1.index t 2 * 4096 + 1 * l.val = l.val; omega

/-- The product of the rows with the weights. -/
def G (A : Vec Ideal S8192x128 .bf16) (W : Vec Ideal S1x128x4096 .f32) : Vec Ideal S8192x4096 .f32 := fun j =>
  (∑ k : Fin 128, A (ix2 (j 0) k) * W (ix3 0 k (j 1)))

/-- One entry of it. -/
theorem G_apply (A : Vec Ideal S8192x128 .bf16) (W : Vec Ideal S1x128x4096 .f32) (r : Fin 8192) (c : Fin 4096) :
    G A W (ix2 r c) = (∑ k : Fin 128, A (ix2 r k) * W (ix3 0 k c)) := rfl

/-- What each grid point writes back is its block of that array. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  show (cfg0.win 2).cut (grid0.coords t) ((dats m 0 c).after 2 t) = _
  rw [after0_2]
  have hi := starts t
  have ht : t.val < 16 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val * 512 + j0.val, by omega⟩ j1 : S8192x4096.Idx) := by
    funext a
    apply Fin.ext
    match a with
    | ⟨0, _⟩ => show win0_2.index t 0 * 512 + 1 * j0.val = t.val * 512 + j0.val; omega
    | ⟨1, _⟩ => show win0_2.index t 1 * 4096 + 1 * j1.val = j1.val; omega
  rw [e, G_apply]
  refine Finset.sum_congr rfl fun k _ => ?_
  exact congrArg₂ (· * ·) (blk0 m c t j0 k _ rfl) (blk1 m c t k j1)

/-- The blocks written back fill the result. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht⟩ : ∃ t : Fin cfg0.N, t.val = (i 0).val / 512 :=
    ⟨⟨_, by show _ < grid0.N; rw [Gen.N_0]; omega⟩, rfl⟩
  refine ⟨t, flush0_2 t, ?_⟩
  have hi := starts t
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 4096 ≤ (i 1).val ∧ (i 1).val < win0_2.index t 1 * 4096 + 4096; omega

/-- The array after the run. -/
theorem final (c : Dev nD) : (dats m 0 c).arrAt 2 cfg0.N =
    G (m ((c : Thread nD τ).loc main_arg0)) (m ((c : Thread nD τ).loc main_arg1)) :=
  (dats m 0 c).arrAt_eq_of_cover 2 _ (fun t _ => flushed_eq m c t) cover

/-- The plain expression is the same array. -/
theorem ref_eq [Cert.LoraW2RefIdeal.Facts] (A : FVec Ideal S8192x128 .bf16) (W : FVec Ideal S1x128x4096 .f32) :
    (Host.dotGeneral Cert.LoraW2RefIdeal.dot_S8192x128_S128x4096_S8192x4096_1_0_0_1_n_n none
        (extf .f32 A Cert.LoraW2RefIdeal.Facts₀.bitsLt_bf16_f32)
        (shapeCast Cert.LoraW2RefIdeal.S128x4096 W Cert.LoraW2RefIdeal.Facts₀.shapeCasts_S1x128x4096_S128x4096)
        : FVec Ideal S8192x4096 .f32) = G A W := by
  funext j
  idx_vars j
  rw [G_apply]
  pointwise

end Cert.LoraW2Ideal.Value
end
-- ==== Proof.LoraG2Value.lean ====
module

public import proofs.«01_k».proof.Proof.Gen.LoraG2Ideal.Value
public import proofs.«01_k».proof.Proof.Starts
public import proofs.«01_k».proof.Proof.Gen.LoraG2RefIdeal.Run

@[expose] public section

set_option maxRecDepth 16384

noncomputable section

namespace Cert.LoraG2Ideal.Value

open Cert.Common Cert.LoraG2Ideal Cert.LoraG2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores: the product of its two blocks. -/
theorem pay (x0 : Vec Ideal S512x480 .bf16) (x1 : Vec Ideal S1x480x4096 .f32) (r : Fin 512) (l : Fin 4096) :
    out0_2 x0 x1 (ix2 r l) = (∑ k : Fin 480, x0 (ix2 r k) * x1 (ix3 0 k l)) := by
  unfold out0_2
  rw [View.canon_unit_zero hz2, View.ld_unit_zero hz3, View.ld_unit_zero hz2]
  pointwise [k0_pay1]

/-- The number of each window's block at a grid point. -/
theorem starts : ∀ t : Fin grid0.N,
    win0_0.index t 0 = t.val ∧ win0_0.index t 1 = 0
    ∧ win0_1.index t 0 = 0 ∧ win0_1.index t 1 = 0 ∧ win0_1.index t 2 = 0
    ∧ win0_2.index t 0 = t.val ∧ win0_2.index t 1 = 0 := by decide +kernel

/-- The block of the rows, read from the argument. -/
theorem blk0 (c : Dev nD) (t : Fin cfg0.N) (r : Fin 512) (k : Fin 480) (R : Fin 8192) (hR : R.val = t.val * 512 + r.val) :
    (iblk m c 0 t : Vec Ideal S512x480 .bf16) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 512 + 1 * r.val = R.val; omega
  | ⟨1, _⟩ => show win0_0.index t 1 * 480 + 1 * k.val = k.val; omega

/-- The block of the weights, read from the argument. -/
theorem blk1 (c : Dev nD) (t : Fin cfg0.N) (k : Fin 480) (l : Fin 4096)  :
    (iblk m c 1 t : Vec Ideal S1x480x4096 .f32) (ix3 0 k l) = m ((c : Thread nD τ).loc main_arg1) (ix3 0 k l) := by
  have hi := starts t
  unfold iblk
  rw [View.read_apply]
  show V m c main_arg1 _ = _
  rw [V_main_arg1]
  congr 1
  funext a
  apply Fin.ext
  match a with
  | ⟨0, _⟩ => show win0_1.index t 0 * 1 + 1 * 0 = 0; omega
  | ⟨1, _⟩ => show win0_1.index t 1 * 480 + 1 * k.val = k.val; omega
  | ⟨2, _⟩ => show win0_1.index t 2 * 4096 + 1 * l.val = l.val; omega

/-- The product of the rows with the weights. -/
def G (A : Vec Ideal S8192x480 .bf16) (W : Vec Ideal S1x480x4096 .f32) : Vec Ideal S8192x4096 .f32 := fun j =>
  (∑ k : Fin 480, A (ix2 (j 0) k) * W (ix3 0 k (j 1)))

/-- One entry of it. -/
theorem G_apply (A : Vec Ideal S8192x480 .bf16) (W : Vec Ideal S1x480x4096 .f32) (r : Fin 8192) (c : Fin 4096) :
    G A W (ix2 r c) = (∑ k : Fin 480, A (ix2 r k) * W (ix3 0 k c)) := rfl

/-- What each grid point writes back is its block of that array. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  show (cfg0.win 2).cut (grid0.coords t) ((dats m 0 c).after 2 t) = _
  rw [after0_2]
  have hi := starts t
  have ht : t.val < 16 := lt_of_lt_of_eq t.isLt Gen.N_0
  show out0_2 (iblk m c 0 t) (iblk m c 1 t) = _
  funext j
  idx_vars j
  rw [pay, View.read_apply]
  have e : (win0_2.blk t).view.emb (ix2 j0 j1) = (ix2 ⟨t.val * 512 + j0.val, by omega⟩ j1 : S8192x4096.Idx) := by
    funext a
    apply Fin.ext
    match a with
    | ⟨0, _⟩ => show win0_2.index t 0 * 512 + 1 * j0.val = t.val * 512 + j0.val; omega
    | ⟨1, _⟩ => show win0_2.index t 1 * 4096 + 1 * j1.val = j1.val; omega
  rw [e, G_apply]
  refine Finset.sum_congr rfl fun k _ => ?_
  exact congrArg₂ (· * ·) (blk0 m c t j0 k _ rfl) (blk1 m c t k j1)

/-- The blocks written back fill the result. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht⟩ : ∃ t : Fin cfg0.N, t.val = (i 0).val / 512 :=
    ⟨⟨_, by show _ < grid0.N; rw [Gen.N_0]; omega⟩, rfl⟩
  refine ⟨t, flush0_2 t, ?_⟩
  have hi := starts t
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 4096 ≤ (i 1).val ∧ (i 1).val < win0_2.index t 1 * 4096 + 4096; omega

/-- The array after the run. -/
theorem final (c : Dev nD) : (dats m 0 c).arrAt 2 cfg0.N =
    G (m ((c : Thread nD τ).loc main_arg0)) (m ((c : Thread nD τ).loc main_arg1)) :=
  (dats m 0 c).arrAt_eq_of_cover 2 _ (fun t _ => flushed_eq m c t) cover

/-- The plain expression is the same array. -/
theorem ref_eq [Cert.LoraG2RefIdeal.Facts] (A : FVec Ideal S8192x480 .bf16) (W : FVec Ideal S1x480x4096 .f32) :
    (Host.dotGeneral Cert.LoraG2RefIdeal.dot_S8192x480_S480x4096_S8192x4096_1_0_0_1_n_n none
        (extf .f32 A Cert.LoraG2RefIdeal.Facts₀.bitsLt_bf16_f32)
        (shapeCast Cert.LoraG2RefIdeal.S480x4096 W Cert.LoraG2RefIdeal.Facts₀.shapeCasts_S1x480x4096_S480x4096)
        : FVec Ideal S8192x4096 .f32) = G A W := by
  funext j
  idx_vars j
  rw [G_apply]
  pointwise

end Cert.LoraG2Ideal.Value
end
-- ==== Proof.RealFacts.lean ====
module

public import proofs.«01_k».proof.Proof.Starts
public import Idealize.ShloMosaic.Lib.IdealHost

@[expose] public section

/-! Extended reals that are real numbers: sums, products, quotients, norms and softmaxes of them are real numbers again,
and their products may be reassociated. -/

noncomputable section

namespace Cert.Common

open Idealize.ShloMosaic

/-- An extended real that is a real number. -/
def IsReal (x : EReal) : Prop := ∃ r : ℝ, x = (r : EReal)

/-- A real number is neither infinity. -/
theorem isReal_of_ne {x : EReal} (h₁ : x ≠ ⊤) (h₂ : x ≠ ⊥) : IsReal x := ⟨x.toReal, (EReal.coe_toReal h₁ h₂).symm⟩

/-- A number whose absolute value is below +∞ is real. -/
theorem isReal_of_abs {x : EReal} (h : max x (-x) < ⊤) : IsReal x := by
  refine isReal_of_ne (fun e => ?_) (fun e => ?_)
  · rw [e] at h; exact absurd h (by simp)
  · rw [e] at h; exact absurd h (by simp)

/-- The sum of two real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real numbers is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The sum of a family of real numbers, taken in the extended reals, is their sum as real numbers. -/
theorem coe_sum_real {ι : Type} (s : Finset ι) (f : ι → ℝ) : ∑ i ∈ s, (f i : EReal) = ((∑ i ∈ s, f i : ℝ) : EReal) := by
  classical
  refine Finset.induction_on s (by simp) fun i t hi ih => ?_
  rw [Finset.sum_insert hi, Finset.sum_insert hi, ih, EReal.coe_add]

/-- A family of real numbers, given as a family of reals. -/
theorem exists_real {ι : Type} {f : ι → EReal} (hf : ∀ i, IsReal (f i)) : ∃ g : ι → ℝ, f = fun i => (g i : EReal) :=
  ⟨fun i => (hf i).choose, funext fun i => (hf i).choose_spec⟩

/-- The sum of a family of real numbers is real. -/
theorem IsReal.sum {ι : Type} {s : Finset ι} {f : ι → EReal} (hf : ∀ i, IsReal (f i)) : IsReal (∑ i ∈ s, f i) := by
  obtain ⟨g, rfl⟩ := exists_real hf; exact ⟨_, coe_sum_real s g⟩

/-- A product of three matrices of real numbers, at one entry: it does not matter which product is taken first. -/
theorem sum_mul_sum_real {ι κ : Type} [Fintype ι] [Fintype κ] {a : ι → EReal} {b : ι → κ → EReal} {c : κ → EReal}
    (ha : ∀ i, IsReal (a i)) (hb : ∀ i k, IsReal (b i k)) (hc : ∀ k, IsReal (c k)) :
    ∑ i, a i * ∑ k, b i k * c k = ∑ k, (∑ i, a i * b i k) * c k := by
  obtain ⟨a, rfl⟩ := exists_real ha
  obtain ⟨c, rfl⟩ := exists_real hc
  obtain ⟨b', hb'⟩ := exists_real (f := fun p : ι × κ => b p.1 p.2) fun p => hb p.1 p.2
  have e : ∀ i k, b i k = (b' (i, k) : EReal) := fun i k => congrFun hb' (i, k)
  simp only [e, ← EReal.coe_mul, coe_sum_real]
  refine congrArg _ ?_
  simp only [Finset.mul_sum, Finset.sum_mul]
  rw [Finset.sum_comm]
  exact Finset.sum_congr rfl fun k _ => Finset.sum_congr rfl fun i _ => (mul_assoc _ _ _).symm

/-- The quotient of two real numbers is real when the divisor is not zero. -/
theorem IsReal.div {x y : EReal} (hx : IsReal x) (hy : IsReal y) (h0 : y ≠ 0) : IsReal (Ideal.div x y) := by
  obtain ⟨b, rfl⟩ := hy
  rw [Ideal.div_coe (by exact_mod_cast h0)]
  exact hx.mul ⟨_, rfl⟩

/-- An entry that the precondition's comparison passes is a real number. -/
theorem isReal_of_pass {S : Shape} {t : FTy} (a : FVec Ideal S t) (w : BitVec t.bits) (hw : Ideal.ofBits t w = ⊤) (hb : (⟨0, ![]⟩ : Shape).BroadcastsInDim S ![])
    (h : cmpf .olt (Host.absf a) (broadcastInDim S ![] hb (constant (F := Ideal) ⟨0, ![]⟩ t w)) = fun _ => 1#1) (j : S.Idx) : IsReal (a j) := by
  have e : Ideal.cmp .olt (max (a j) (-(a j))) (Ideal.ofBits t w) = 1 := congrFun h j
  rw [hw] at e
  exact isReal_of_abs ((Ideal.cmp_olt_eq_one _ _).1 e)

/-- A sum over `m · n` indices, as sums over `m` blocks of `n`. -/
theorem sum_blocks {m n N : Nat} (hN : m * n = N) (f : Fin N → EReal) :
    ∑ i, f i = ∑ h : Fin m, ∑ k : Fin n, f ⟨h.val * n + k.val, by
      have := h.isLt; have := k.isLt; rw [← hN]
      calc h.val * n + k.val < h.val * n + n := by omega
        _ = (h.val + 1) * n := by ring
        _ ≤ m * n := Nat.mul_le_mul_right n (by omega)⟩ := by
  subst hN
  rw [← Equiv.sum_comp finProdFinEquiv f, Fintype.sum_prod_type]
  refine Finset.sum_congr rfl fun h _ => Finset.sum_congr rfl fun k _ => congrArg f (Fin.ext ?_)
  show k.val + n * h.val = h.val * n + k.val
  ring

/-- The word of 4096. -/
theorem word_4096 : Ideal.ofBits FTy.f32 1166016512#32 = ((4096 : ℝ) : EReal) := by
  simp [Ideal.ofBits, Ideal.ieee, -EReal.coe_mul]
  norm_num

/-- The word of ε is a positive real number. -/
theorem word_eps : ∃ r : ℝ, 0 < r ∧ Ideal.ofBits FTy.f32 897988541#32 = (r : EReal) := by
  refine ⟨_, ?_, by simp [Ideal.ofBits, Ideal.ieee, -EReal.coe_mul]; rfl⟩
  norm_num

/-- The word of 1/32 is a real number. -/
theorem word_scale : IsReal (Ideal.ofBits FTy.f32 1023410176#32) := by
  refine ⟨_, by simp [Ideal.ofBits, Ideal.ieee, -EReal.coe_mul]; rfl⟩

/-- The word that the maximum starts from is −∞. -/
theorem word_bot : Ideal.ofBits FTy.f32 4286578688#32 = ⊥ := by
  simp [Ideal.ofBits, Ideal.ieee]

/-- The f32 word of +∞. -/
theorem word_top : Ideal.ofBits FTy.f32 2139095040#32 = ⊤ := by
  simp [Ideal.ofBits, Ideal.ieee]

/-- The bf16 word of +∞. -/
theorem word_top16 : Ideal.ofBits FTy.bf16 32640#16 = ⊤ := by
  simp [Ideal.ofBits, Ideal.ieee]

/-- An entry of a normalized row of real numbers is a real number: the mean of the squares plus ε is positive. -/
theorem isReal_rmsEntry {x : Fin 4096 → EReal} {g : EReal} (hx : ∀ k, IsReal (x k)) (hg : IsReal g) (c : Fin 4096) :
    IsReal (rmsEntry x g c) := by
  obtain ⟨x, rfl⟩ := exists_real hx
  obtain ⟨ε, hε, e⟩ := word_eps
  have h : (0 : ℝ) < (∑ k : Fin 4096, x k * x k) * (1 / 4096) + ε :=
    add_pos_of_nonneg_of_pos (mul_nonneg (Finset.sum_nonneg fun k _ => mul_self_nonneg _) (by norm_num)) hε
  unfold rmsEntry
  refine (IsReal.mul (x := (x c : EReal)) ⟨x c, rfl⟩ ?_).mul hg
  simp only [← EReal.coe_mul, coe_sum_real]
  rw [word_4096, e, Ideal.div_coe (by norm_num), ← EReal.coe_mul, ← EReal.coe_add, Ideal.rsqrt_coe, if_neg (not_lt.2 h.le), if_neg h.ne']
  exact ⟨_, rfl⟩

/-- The greatest of a row of 256 scores. -/
def maxOf (s : Fin 256 → EReal) : EReal := Finset.univ.fold max (Ideal.ofBits FTy.f32 4286578688#32) s

/-- Taking the maximum with −∞ once more changes nothing. -/
theorem max_maxOf (s : Fin 256 → EReal) : max (Ideal.ofBits FTy.f32 4286578688#32) (maxOf s) = maxOf s := by
  rw [word_bot]; exact max_eq_right bot_le

/-- The greatest of a row of real scores is a real number. -/
theorem isReal_maxOf {s : Fin 256 → EReal} (hs : ∀ k, IsReal (s k)) : IsReal (maxOf s) := by
  obtain ⟨s, rfl⟩ := exists_real hs
  refine isReal_of_ne (ne_of_lt ?_) (ne_of_gt ?_)
  · refine (Finset.fold_max_lt _).2 ⟨by rw [word_bot]; exact bot_lt_top, fun k _ => EReal.coe_lt_top _⟩
  · exact lt_of_lt_of_le (EReal.bot_lt_coe (s 0)) ((Finset.le_fold_max _).2 (.inr ⟨0, Finset.mem_univ _, le_rfl⟩))

/-- One entry of the softmax of a row of 256 scores. -/
def softmaxEntry (s : Fin 256 → EReal) (k : Fin 256) : EReal :=
  Ideal.div (Ideal.exp (s k - maxOf s)) (∑ i, Ideal.exp (s i - maxOf s))

/-- An entry of the softmax of a row of real scores is a real number: the divisor is a sum of exponentials. -/
theorem isReal_softmaxEntry {s : Fin 256 → EReal} (hs : ∀ k, IsReal (s k)) (k : Fin 256) : IsReal (softmaxEntry s k) := by
  obtain ⟨t, ht⟩ := exists_real fun i => (hs i).sub (isReal_maxOf hs)
  have e : ∀ i, s i - maxOf s = (t i : EReal) := fun i => congrFun ht i
  unfold softmaxEntry
  simp only [e, Ideal.exp_coe, coe_sum_real]
  refine IsReal.div ⟨_, rfl⟩ ⟨_, rfl⟩ ?_
  exact_mod_cast (Finset.sum_pos (fun i _ => Real.exp_pos (t i)) ⟨k, Finset.mem_univ k⟩).ne'

end Cert.Common
end
-- ==== Proof.XattnPay.lean ====
module

public import proofs.«01_k».proof.Proof.Gen.XattnIdeal.Frame
public import proofs.«01_k».proof.Proof.RealFacts
public import Idealize.ShloMosaic.Lib.Pipeline.ValueKit.Tiles

@[expose] public section

set_option maxRecDepth 16384

noncomputable section

namespace Cert.XattnIdeal.Value

open Cert.Common Cert.XattnIdeal Cert.XattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What each of the four bodies of the attention stores, at one entry. -/

/-- The word of 1/32 both programs print. -/
abbrev scaleW : EReal := Ideal.ofBits FTy.f32 1023410176#32

/-- What the body of the query weights stores: the product of its two blocks along their columns. -/
theorem pay_wqk (x0 : Vec Ideal S1x1024x1024 .f32) (x1 : Vec Ideal S256x1024 .bf16) (r : Fin 1024) (l : Fin 256) :
    out0_2 x0 x1 (ix2 r l) = ∑ d : Fin 1024, x0 (ix3 0 r d) * x1 (ix2 l d) := by
  unfold out0_2
  rw [View.canon_unit_zero hz2, View.ld_unit_zero hz3, View.ld_unit_zero hz2]
  pointwise [k0_pay1]

/-- What the body of the output weights stores: the product of its two blocks. -/
theorem pay_vwo (x0 : Vec Ideal S256x1024 .bf16) (x1 : Vec Ideal S1x1024x1024 .f32) (r : Fin 256) (l : Fin 1024) :
    out1_2 x0 x1 (ix2 r l) = ∑ d : Fin 1024, x0 (ix2 r d) * x1 (ix3 0 d l) := by
  unfold out1_2
  rw [View.canon_unit_zero hz2, View.ld_unit_zero hz2, View.ld_unit_zero hz3]
  pointwise [k1_pay1]

/-- The unscaled scores: the normalized rows times the query weights. -/
theorem pay_raw (x0 : Vec Ideal S512x4096 .f32) (x1 : Vec Ideal S1x4096 .f32) (x2 : Vec Ideal S4096x1024 .bf16) (r : Fin 512) (l : Fin 1024) :
    k2_pay4 x0 x1 x2 (ix2 r l) = ∑ k : Fin 4096, rmsEntry (fun k => x0 (ix2 r k)) (x1 (ix2 0 k)) k * x2 (ix2 k l) := by
  unfold rmsEntry
  pointwise [k2_pay4]

/-- The scores of one head, scaled. -/
def scaled (o : Nat) (h : S512x1024.Slices ![0, o] S512x256) (S : FVec Ideal S512x1024 .f32) : FVec Ideal S512x256 .f32 :=
  mulf (extractStridedSlice S512x256 ![0, o] S h) (broadcast S512x256 (Scalar.ofBits (F := Ideal) .f32 0x3D000000#32))

/-- One of them. -/
theorem scaled_apply (o : Nat) (h : S512x1024.Slices ![0, o] S512x256) (S : FVec Ideal S512x1024 .f32) (r : Fin 512) (l : Fin 256)
    (C : Fin 1024) (hC : C.val = o + l.val) : scaled o h S (ix2 r l) = S (ix2 r C) * scaleW := by
  refine congrArg (· * scaleW) ?_
  refine congrArg S (funext fun a => Fin.ext ?_)
  match a with
  | ⟨0, _⟩ => show 0 + r.val = r.val; omega
  | ⟨1, _⟩ => show o + l.val = C.val; omega

/-- The scores less the greatest of their row, as exponentials. -/
def expsOf (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- One of them. -/
theorem expsOf_apply (s : FVec Ideal S512x256 .f32) (r : Fin 512) (l : Fin 256) :
    expsOf s (ix2 r l) = Ideal.exp (s (ix2 r l) - maxOf fun k => s (ix2 r k)) := by
  unfold maxOf
  pointwise [expsOf]

/-- Each entry over the sum of its row is an entry of the softmax. -/
theorem pay_share (s : FVec Ideal S512x256 .f32) (r : Fin 512) (l : Fin 256) :
    k2_pay1 (expsOf s) (ix2 r l) = softmaxEntry (fun k => s (ix2 r k)) l := by
  have e : ∀ x : FVec Ideal S512x256 .f32, k2_pay1 x (ix2 r l) = Ideal.div (x (ix2 r l)) (∑ k : Fin 256, x (ix2 r k)) := fun x => by
    pointwise [k2_pay1]
  rw [e]
  unfold softmaxEntry
  simp only [expsOf_apply]

/-- What the body of the scores stores: in each of its four blocks of 256 columns, the softmax of that head's scaled scores. -/
theorem pay_scores (x0 : Vec Ideal S512x4096 .f32) (x1 : Vec Ideal S1x4096 .f32) (x2 : Vec Ideal S4096x1024 .bf16) (r : Fin 512)
    (h : Fin 4) (l : Fin 256) (C : Fin 1024) (hC : C.val = h.val * 256 + l.val) :
    out2_3 x0 x1 x2 (ix2 r C) = softmaxEntry (fun k => k2_pay4 x0 x1 x2 (ix2 r ⟨h.val * 256 + k.val, by omega⟩) * scaleW) l := by
  have key : ∀ (o : Nat) (ho : S512x1024.Slices ![0, o] S512x256) (r' : Fin 512) (l' : Fin 256), r'.val = r.val → C.val = o + l'.val →
      o = h.val * 256 →
      k2_pay1 (expsOf (scaled o ho (k2_pay4 x0 x1 x2))) (ix2 r' l')
        = softmaxEntry (fun k => k2_pay4 x0 x1 x2 (ix2 r ⟨h.val * 256 + k.val, by omega⟩) * scaleW) l := by
    intro o ho r' l' hr hl hoh
    obtain rfl : r' = r := Fin.ext hr
    obtain rfl : l' = l := Fin.ext (by omega)
    subst hoh
    rw [pay_share]
    exact congrArg (softmaxEntry · _) (funext fun k => scaled_apply _ _ _ _ _ _ rfl)
  unfold out2_3 k2_pay7
  rw [View.ld_unit_zero hz2, View.ld_unit_zero hz2, View.ld_unit_zero hz2]
  canon_tiles y hy using cover2_3 ..
  all_goals idx_vars y
  · exact key 768 slices_S512x1024_o0_768_S512x256 y0 y1 (by omega) (by omega) (by omega)
  · exact key 512 slices_S512x1024_o0_512_S512x256 y0 y1 (by omega) (by omega) (by omega)
  · exact key 256 slices_S512x1024_o0_256_S512x256 y0 y1 (by omega) (by omega) (by omega)
  · exact key 0 slices_S512x1024_o0_0_S512x256 y0 y1 (by omega) (by omega) (by omega)

/-- What the body of the output stores in its first result: the rows plus the product. -/
theorem pay_out (x0 : Vec Ideal S256x1024 .bf16) (x1 : Vec Ideal S1024x4096 .bf16) (x2 : Vec Ideal S256x4096 .f32) (x3 : Vec Ideal S1x4096 .f32)
    (r : Fin 256) (l : Fin 4096) :
    out3_4 x0 x1 x2 x3 (ix2 r l) = x2 (ix2 r l) + ∑ k : Fin 1024, x0 (ix2 r k) * x1 (ix2 k l) := by
  unfold out3_4
  rw [View.canon_unit_zero hz2, View.ld_unit_zero hz2, View.ld_unit_zero hz2, View.ld_unit_zero hz2]
  pointwise [k3_pay1]

/-- What it stores in its second result: each row of the first, normalized and scaled. -/
theorem pay_outn (x0 : Vec Ideal S256x1024 .bf16) (x1 : Vec Ideal S1024x4096 .bf16) (x2 : Vec Ideal S256x4096 .f32) (x3 : Vec Ideal S1x4096 .f32)
    (r : Fin 256) (l : Fin 4096) :
    out3_5 x0 x1 x2 x3 (ix2 r l) = rmsEntry (fun c => x2 (ix2 r c) + ∑ k : Fin 1024, x0 (ix2 r k) * x1 (ix2 k c)) (x3 (ix2 0 l)) l := by
  unfold out3_5 rmsEntry
  rw [View.canon_unit_zero hz2, View.ld_unit_zero hz2, View.ld_unit_zero hz2, View.ld_unit_zero hz2, View.ld_unit_zero hz2]
  pointwise [k3_pay2, k3_pay1]

end Cert.XattnIdeal.Value
end
-- ==== Proof.XattnRegions.lean ====
module

public import proofs.«01_k».proof.Proof.XattnPay

@[expose] public section

set_option maxRecDepth 16384

noncomputable section

namespace Cert.XattnIdeal.Value

open Cert.Common Cert.XattnIdeal Cert.XattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The four launches of the attention, each with its array named. -/

section Regions
variable (V : (c : Dev nD) → (b : Ref sig .tc) → Buf (Elt Ideal) ((c : Thread nD τ).loc b))

/-- The number of each window's block at a grid point of the query weights. -/
theorem starts0 : ∀ t : Fin grid0.N,
    win0_0.index t 0 = 0 ∧ win0_0.index t 1 = t.val / 4 ∧ win0_0.index t 2 = t.val % 4
    ∧ win0_1.index t 0 = 0 ∧ win0_1.index t 1 = t.val % 4
    ∧ win0_2.index t 0 = t.val / 4 ∧ win0_2.index t 1 = t.val % 4 := by decide +kernel

/-- The number of each window's block at a grid point of the output weights. -/
theorem starts1 : ∀ t : Fin grid1.N,
    win1_0.index t 0 = 0 ∧ win1_0.index t 1 = 4 + t.val / 4
    ∧ win1_1.index t 0 = 0 ∧ win1_1.index t 1 = t.val / 4 ∧ win1_1.index t 2 = t.val % 4
    ∧ win1_2.index t 0 = t.val / 4 ∧ win1_2.index t 1 = t.val % 4 := by decide +kernel

/-- The number of each window's block at a grid point of the scores. -/
theorem starts2 : ∀ t : Fin grid2.N,
    win2_0.index t 0 = t.val ∧ win2_0.index t 1 = 0
    ∧ win2_1.index t 0 = 0 ∧ win2_1.index t 1 = 0
    ∧ win2_2.index t 0 = 0 ∧ win2_2.index t 1 = 0
    ∧ win2_3.index t 0 = t.val ∧ win2_3.index t 1 = 0 := by decide +kernel

/-- The number of each window's block at a grid point of the output. -/
theorem starts3 : ∀ t : Fin grid3.N,
    win3_0.index t 0 = t.val ∧ win3_0.index t 1 = 0
    ∧ win3_1.index t 0 = 0 ∧ win3_1.index t 1 = 0
    ∧ win3_2.index t 0 = t.val ∧ win3_2.index t 1 = 0
    ∧ win3_3.index t 0 = 0 ∧ win3_3.index t 1 = 0
    ∧ win3_4.index t 0 = t.val ∧ win3_4.index t 1 = 0
    ∧ win3_5.index t 0 = t.val ∧ win3_5.index t 1 = 0 := by decide +kernel

/-- The block of the layer's query weights, read from its array. -/
theorem blk0_0 (c : Dev nD) (t : Fin cfg0.N) (r d : Fin 1024) (D E : Fin 4096) (hD : D.val = t.val / 4 * 1024 + r.val) (hE : E.val = t.val % 4 * 1024 + d.val) :
    (iblk0 V c 0 t : Vec Ideal S1x1024x1024 .f32) (ix3 0 r d) = V c main_arg2 (ix3 0 D E) := by
  have hi := starts0 t
  unfold iblk0
  rw [View.read_apply]
  show V c main_arg2 _ = _
  congr 1
  funext a
  apply Fin.ext
  match a with
  | ⟨0, _⟩ => show win0_0.index t 0 * 1 + 1 * 0 = 0; omega
  | ⟨1, _⟩ => show win0_0.index t 1 * 1024 + 1 * r.val = D.val; omega
  | ⟨2, _⟩ => show win0_0.index t 2 * 1024 + 1 * d.val = E.val; omega

/-- The block of the memory's keys, read from its array. -/
theorem blk0_1 (c : Dev nD) (t : Fin cfg0.N) (l : Fin 256) (d : Fin 1024) (E : Fin 8192) (hE : E.val = t.val % 4 * 1024 + d.val) :
    (iblk0 V c 1 t : Vec Ideal S256x1024 .bf16) (ix2 l d) = V c main_arg1 (ix2 l E) := by
  have hi := starts0 t
  unfold iblk0
  rw [View.read_apply]
  show V c main_arg1 _ = _
  congr 1
  funext a
  apply Fin.ext
  match a with
  | ⟨0, _⟩ => show win0_1.index t 0 * 256 + 1 * l.val = l.val; omega
  | ⟨1, _⟩ => show win0_1.index t 1 * 1024 + 1 * d.val = E.val; omega

/-- The block of the memory's values, read from its array. -/
theorem blk1_0 (c : Dev nD) (t : Fin cfg1.N) (l : Fin 256) (d : Fin 1024) (E : Fin 8192) (hE : E.val = (4 + t.val / 4) * 1024 + d.val) :
    (iblk1 V c 0 t : Vec Ideal S256x1024 .bf16) (ix2 l d) = V c main_arg1 (ix2 l E) := by
  have hi := starts1 t
  unfold iblk1
  rw [View.read_apply]
  show V c main_arg1 _ = _
  congr 1
  funext a
  apply Fin.ext
  match a with
  | ⟨0, _⟩ => show win1_0.index t 0 * 256 + 1 * l.val = l.val; omega
  | ⟨1, _⟩ => show win1_0.index t 1 * 1024 + 1 * d.val = E.val; omega

/-- The block of the layer's output weights, read from its array. -/
theorem blk1_1 (c : Dev nD) (t : Fin cfg1.N) (d l : Fin 1024) (D E : Fin 4096) (hD : D.val = t.val / 4 * 1024 + d.val) (hE : E.val = t.val % 4 * 1024 + l.val) :
    (iblk1 V c 1 t : Vec Ideal S1x1024x1024 .f32) (ix3 0 d l) = V c main_arg3 (ix3 0 D E) := by
  have hi := starts1 t
  unfold iblk1
  rw [View.read_apply]
  show V c main_arg3 _ = _
  congr 1
  funext a
  apply Fin.ext
  match a with
  | ⟨0, _⟩ => show win1_1.index t 0 * 1 + 1 * 0 = 0; omega
  | ⟨1, _⟩ => show win1_1.index t 1 * 1024 + 1 * d.val = D.val; omega
  | ⟨2, _⟩ => show win1_1.index t 2 * 1024 + 1 * l.val = E.val; omega

/-- The block of rows, read from its array. -/
theorem blk2_0 (c : Dev nD) (t : Fin cfg2.N) (r : Fin 512) (k : Fin 4096) (R : Fin 8192) (hR : R.val = t.val * 512 + r.val) :
    (iblk2 V c 0 t : Vec Ideal S512x4096 .f32) (ix2 r k) = V c main_arg0 (ix2 R k) := by
  have hi := starts2 t
  unfold iblk2
  rw [View.read_apply]
  show V c main_arg0 _ = _
  congr 1
  funext a
  apply Fin.ext
  match a with
  | ⟨0, _⟩ => show win2_0.index t 0 * 512 + 1 * r.val = R.val; omega
  | ⟨1, _⟩ => show win2_0.index t 1 * 4096 + 1 * k.val = k.val; omega

/-- The gain, read from its array. -/
theorem blk2_1 (c : Dev nD) (t : Fin cfg2.N) (k : Fin 4096) :
    (iblk2 V c 1 t : Vec Ideal S1x4096 .f32) (ix2 0 k) = V c main_v2 (ix2 0 k) := by
  have hi := starts2 t
  unfold iblk2
  rw [View.read_apply]
  show V c main_v2 _ = _
  congr 1
  funext a
  apply Fin.ext
  match a with
  | ⟨0, _⟩ => show win2_1.index t 0 * 1 + 1 * 0 = 0; omega
  | ⟨1, _⟩ => show win2_1.index t 1 * 4096 + 1 * k.val = k.val; omega

/-- The query weights, read from their array. -/
theorem blk2_2 (c : Dev nD) (t : Fin cfg2.N) (k : Fin 4096) (l : Fin 1024) :
    (iblk2 V c 2 t : Vec Ideal S4096x1024 .bf16) (ix2 k l) = V c main_v0 (ix2 k l) := by
  have hi := starts2 t
  unfold iblk2
  rw [View.read_apply]
  show V c main_v0 _ = _
  congr 1
  funext a
  apply Fin.ext
  match a with
  | ⟨0, _⟩ => show win2_2.index t 0 * 4096 + 1 * k.val = k.val; omega
  | ⟨1, _⟩ => show win2_2.index t 1 * 1024 + 1 * l.val = l.val; omega

/-- The block of rows of the softmax, read from its array. -/
theorem blk3_0 (c : Dev nD) (t : Fin cfg3.N) (r : Fin 256) (k : Fin 1024) (R : Fin 8192) (hR : R.val = t.val * 256 + r.val) :
    (iblk3 V c 0 t : Vec Ideal S256x1024 .bf16) (ix2 r k) = V c main_v3 (ix2 R k) := by
  have hi := starts3 t
  unfold iblk3
  rw [View.read_apply]
  show V c main_v3 _ = _
  congr 1
  funext a
  apply Fin.ext
  match a with
  | ⟨0, _⟩ => show win3_0.index t 0 * 256 + 1 * r.val = R.val; omega
  | ⟨1, _⟩ => show win3_0.index t 1 * 1024 + 1 * k.val = k.val; omega

/-- The output weights, read from their array. -/
theorem blk3_1 (c : Dev nD) (t : Fin cfg3.N) (k : Fin 1024) (l : Fin 4096) :
    (iblk3 V c 1 t : Vec Ideal S1024x4096 .bf16) (ix2 k l) = V c main_v1 (ix2 k l) := by
  have hi := starts3 t
  unfold iblk3
  rw [View.read_apply]
  show V c main_v1 _ = _
  congr 1
  funext a
  apply Fin.ext
  match a with
  | ⟨0, _⟩ => show win3_1.index t 0 * 1024 + 1 * k.val = k.val; omega
  | ⟨1, _⟩ => show win3_1.index t 1 * 4096 + 1 * l.val = l.val; omega

/-- The block of hidden rows, read from its array. -/
theorem blk3_2 (c : Dev nD) (t : Fin cfg3.N) (r : Fin 256) (k : Fin 4096) (R : Fin 8192) (hR : R.val = t.val * 256 + r.val) :
    (iblk3 V c 2 t : Vec Ideal S256x4096 .f32) (ix2 r k) = V c main_arg0 (ix2 R k) := by
  have hi := starts3 t
  unfold iblk3
  rw [View.read_apply]
  show V c main_arg0 _ = _
  congr 1
  funext a
  apply Fin.ext
  match a with
  | ⟨0, _⟩ => show win3_2.index t 0 * 256 + 1 * r.val = R.val; omega
  | ⟨1, _⟩ => show win3_2.index t 1 * 4096 + 1 * k.val = k.val; omega

/-- The gain of the second result, read from its array. -/
theorem blk3_3 (c : Dev nD) (t : Fin cfg3.N) (k : Fin 4096) :
    (iblk3 V c 3 t : Vec Ideal S1x4096 .f32) (ix2 0 k) = V c main_v4 (ix2 0 k) := by
  have hi := starts3 t
  unfold iblk3
  rw [View.read_apply]
  show V c main_v4 _ = _
  congr 1
  funext a
  apply Fin.ext
  match a with
  | ⟨0, _⟩ => show win3_3.index t 0 * 1 + 1 * 0 = 0; omega
  | ⟨1, _⟩ => show win3_3.index t 1 * 4096 + 1 * k.val = k.val; omega

/-- Head of a column of the scores. -/
def headOf (C : Fin 1024) : Fin 4 := ⟨C.val / 256, by omega⟩

/-- Row of the memory of a column of the scores. -/
def memOf (C : Fin 1024) : Fin 256 := ⟨C.val % 256, Nat.mod_lt _ (by omega)⟩

/-- The query weights times the keys: row, then head and row of the memory. -/
def Wqk (Wq : Vec Ideal S2x4096x4096 .f32) (KV : Vec Ideal S256x8192 .bf16) : Vec Ideal S4096x1024 .bf16 := fun j =>
  ∑ d : Fin 1024, Wq (ix3 0 (j 0) ⟨(headOf (j 1)).val * 1024 + d.val, by omega⟩) * KV (ix2 (memOf (j 1)) ⟨(headOf (j 1)).val * 1024 + d.val, by omega⟩)

/-- One entry of them. -/
theorem Wqk_apply (Wq : Vec Ideal S2x4096x4096 .f32) (KV : Vec Ideal S256x8192 .bf16) (r : Fin 4096) (C : Fin 1024) (h : Fin 4) (l : Fin 256)
    (hC : C.val = h.val * 256 + l.val) :
    Wqk Wq KV (ix2 r C) = ∑ d : Fin 1024, Wq (ix3 0 r ⟨h.val * 1024 + d.val, by omega⟩) * KV (ix2 l ⟨h.val * 1024 + d.val, by omega⟩) := by
  obtain rfl : h = headOf C := Fin.ext (by show h.val = C.val / 256; omega)
  obtain rfl : l = memOf C := Fin.ext (by show l.val = C.val % 256; omega)
  rfl

/-- The values times the output weights: head and row of the memory, then column. -/
def Vwo (KV : Vec Ideal S256x8192 .bf16) (Wo : Vec Ideal S2x4096x4096 .f32) : Vec Ideal S1024x4096 .bf16 := fun j =>
  ∑ d : Fin 1024, KV (ix2 (memOf (j 0)) ⟨4096 + ((headOf (j 0)).val * 1024 + d.val), by omega⟩) * Wo (ix3 0 ⟨(headOf (j 0)).val * 1024 + d.val, by omega⟩ (j 1))

/-- One entry of them. -/
theorem Vwo_apply (KV : Vec Ideal S256x8192 .bf16) (Wo : Vec Ideal S2x4096x4096 .f32) (C : Fin 1024) (c : Fin 4096) (h : Fin 4) (l : Fin 256)
    (hC : C.val = h.val * 256 + l.val) :
    Vwo KV Wo (ix2 C c) = ∑ d : Fin 1024, KV (ix2 l ⟨4096 + (h.val * 1024 + d.val), by omega⟩) * Wo (ix3 0 ⟨h.val * 1024 + d.val, by omega⟩ c) := by
  obtain rfl : h = headOf C := Fin.ext (by show h.val = C.val / 256; omega)
  obtain rfl : l = memOf C := Fin.ext (by show l.val = C.val % 256; omega)
  rfl

/-- The softmax of the scaled scores: row, then head and row of the memory. -/
def Soft (A : Vec Ideal S8192x4096 .f32) (g : Vec Ideal S1x4096 .f32) (W : Vec Ideal S4096x1024 .bf16) : Vec Ideal S8192x1024 .bf16 := fun j =>
  softmaxEntry (fun i => (∑ k : Fin 4096, rmsEntry (fun k => A (ix2 (j 0) k)) (g (ix2 0 k)) k * W (ix2 k ⟨(headOf (j 1)).val * 256 + i.val, by omega⟩)) * scaleW)
    (memOf (j 1))

/-- One entry of it. -/
theorem Soft_apply (A : Vec Ideal S8192x4096 .f32) (g : Vec Ideal S1x4096 .f32) (W : Vec Ideal S4096x1024 .bf16) (r : Fin 8192) (C : Fin 1024)
    (h : Fin 4) (l : Fin 256) (hC : C.val = h.val * 256 + l.val) :
    Soft A g W (ix2 r C) = softmaxEntry
      (fun i => (∑ k : Fin 4096, rmsEntry (fun k => A (ix2 r k)) (g (ix2 0 k)) k * W (ix2 k ⟨h.val * 256 + i.val, by omega⟩)) * scaleW) l := by
  obtain rfl : h = headOf C := Fin.ext (by show h.val = C.val / 256; omega)
  obtain rfl : l = memOf C := Fin.ext (by show l.val = C.val % 256; omega)
  rfl

/-- The rows plus the softmax times the output weights. -/
def Out (P : Vec Ideal S8192x1024 .bf16) (W : Vec Ideal S1024x4096 .bf16) (A : Vec Ideal S8192x4096 .f32) : Vec Ideal S8192x4096 .f32 := fun j =>
  A (ix2 (j 0) (j 1)) + ∑ k : Fin 1024, P (ix2 (j 0) k) * W (ix2 k (j 1))

/-- One entry of them. -/
theorem Out_apply (P : Vec Ideal S8192x1024 .bf16) (W : Vec Ideal S1024x4096 .bf16) (A : Vec Ideal S8192x4096 .f32) (r : Fin 8192) (l : Fin 4096) :
    Out P W A (ix2 r l) = A (ix2 r l) + ∑ k : Fin 1024, P (ix2 r k) * W (ix2 k l) := rfl

/-- Rows normalized and scaled. -/
def Normed (A : Vec Ideal S8192x4096 .f32) (g : Vec Ideal S1x4096 .f32) : Vec Ideal S8192x4096 .bf16 := fun j =>
  rmsEntry (fun k => A (ix2 (j 0) k)) (g (ix2 0 (j 1))) (j 1)

/-- One entry of them. -/
theorem Normed_apply (A : Vec Ideal S8192x4096 .f32) (g : Vec Ideal S1x4096 .f32) (r : Fin 8192) (l : Fin 4096) :
    Normed A g (ix2 r l) = rmsEntry (fun k => A (ix2 r k)) (g (ix2 0 l)) l := rfl

/-- What each grid point of the query weights writes back is its block of them. -/
theorem flushed0 (c : Dev nD) (t : Fin cfg0.N) :
    (dat0 V c).flushed 2 t = (win0_2.blk t).view.read (Elt Ideal) (Wqk (V c main_arg2) (V c main_arg1)) := by
  show (cfg0.win 2).cut (grid0.coords t) ((dat0 V c).after 2 t) = _
  rw [after0_2]
  have hi := starts0 t
  have ht : t.val < 16 := lt_of_lt_of_eq t.isLt Gen.N_0
  show out0_2 (iblk0 V c 0 t) (iblk0 V c 1 t) = _
  funext j
  idx_vars j
  rw [View.read_apply]
  have e : (win0_2.blk t).view.emb (ix2 j0 j1) = (ix2 ⟨t.val / 4 * 1024 + j0.val, by omega⟩ ⟨t.val % 4 * 256 + j1.val, by omega⟩ : S4096x1024.Idx) := by
    funext a
    apply Fin.ext
    match a with
    | ⟨0, _⟩ => show win0_2.index t 0 * 1024 + 1 * j0.val = t.val / 4 * 1024 + j0.val; omega
    | ⟨1, _⟩ => show win0_2.index t 1 * 256 + 1 * j1.val = t.val % 4 * 256 + j1.val; omega
  rw [e, pay_wqk, Wqk_apply _ _ _ _ ⟨t.val % 4, by omega⟩ j1 rfl]
  refine Finset.sum_congr rfl fun d _ => ?_
  exact congrArg₂ (· * ·) (blk0_0 V c t j0 d _ _ rfl rfl) (blk0_1 V c t j1 d _ rfl)

/-- What each grid point of the output weights writes back is its block of them. -/
theorem flushed1 (c : Dev nD) (t : Fin cfg1.N) :
    (dat1 V c).flushed 2 t = (win1_2.blk t).view.read (Elt Ideal) (Vwo (V c main_arg1) (V c main_arg3)) := by
  show (cfg1.win 2).cut (grid1.coords t) ((dat1 V c).after 2 t) = _
  rw [after1_2]
  have hi := starts1 t
  have ht : t.val < 16 := lt_of_lt_of_eq t.isLt Gen.N_1
  show out1_2 (iblk1 V c 0 t) (iblk1 V c 1 t) = _
  funext j
  idx_vars j
  rw [View.read_apply]
  have e : (win1_2.blk t).view.emb (ix2 j0 j1) = (ix2 ⟨t.val / 4 * 256 + j0.val, by omega⟩ ⟨t.val % 4 * 1024 + j1.val, by omega⟩ : S1024x4096.Idx) := by
    funext a
    apply Fin.ext
    match a with
    | ⟨0, _⟩ => show win1_2.index t 0 * 256 + 1 * j0.val = t.val / 4 * 256 + j0.val; omega
    | ⟨1, _⟩ => show win1_2.index t 1 * 1024 + 1 * j1.val = t.val % 4 * 1024 + j1.val; omega
  rw [e, pay_vwo, Vwo_apply _ _ _ _ ⟨t.val / 4, by omega⟩ j0 rfl]
  refine Finset.sum_congr rfl fun d _ => ?_
  exact congrArg₂ (· * ·) (blk1_0 V c t j0 d _ (by show 4096 + (t.val / 4 * 1024 + d.val) = _; omega)) (blk1_1 V c t d j1 _ _ rfl rfl)

/-- What each grid point of the scores writes back is its rows of the softmax. -/
theorem flushed2 (c : Dev nD) (t : Fin cfg2.N) :
    (dat2 V c).flushed 3 t = (win2_3.blk t).view.read (Elt Ideal) (Soft (V c main_arg0) (V c main_v2) (V c main_v0)) := by
  show (cfg2.win 3).cut (grid2.coords t) ((dat2 V c).after 3 t) = _
  rw [after2_3]
  have hi := starts2 t
  have ht : t.val < 16 := lt_of_lt_of_eq t.isLt Gen.N_2
  show out2_3 (iblk2 V c 0 t) (iblk2 V c 1 t) (iblk2 V c 2 t) = _
  funext j
  idx_vars j
  rw [View.read_apply]
  have e : (win2_3.blk t).view.emb (ix2 j0 j1) = (ix2 ⟨t.val * 512 + j0.val, by omega⟩ j1 : S8192x1024.Idx) := by
    funext a
    apply Fin.ext
    match a with
    | ⟨0, _⟩ => show win2_3.index t 0 * 512 + 1 * j0.val = t.val * 512 + j0.val; omega
    | ⟨1, _⟩ => show win2_3.index t 1 * 1024 + 1 * j1.val = j1.val; omega
  have hj : j1.val = (headOf j1).val * 256 + (memOf j1).val := by show j1.val = j1.val / 256 * 256 + j1.val % 256; omega
  rw [e, pay_scores _ _ _ _ _ _ _ hj, Soft_apply _ _ _ _ _ _ _ hj]
  refine congrArg (softmaxEntry · _) (funext fun i => congrArg (· * scaleW) ?_)
  rw [pay_raw]
  refine Finset.sum_congr rfl fun k _ => ?_
  exact congrArg₂ (· * ·) (congrArg₂ (rmsEntry · · k) (funext fun k => blk2_0 V c t j0 k _ rfl) (blk2_1 V c t k)) (blk2_2 V c t k _)

/-- One entry of the rows plus the product, computed from the blocks of a grid point. -/
theorem blk3 (c : Dev nD) (t : Fin cfg3.N) (x0 : Vec Ideal S256x1024 .bf16) (x1 : Vec Ideal S1024x4096 .bf16) (x2 : Vec Ideal S256x4096 .f32)
    (e0 : x0 = iblk3 V c 0 t) (e1 : x1 = iblk3 V c 1 t) (e2 : x2 = iblk3 V c 2 t)
    (r : Fin 256) (l : Fin 4096) (R : Fin 8192) (hR : R.val = t.val * 256 + r.val) :
    x2 (ix2 r l) + ∑ k : Fin 1024, x0 (ix2 r k) * x1 (ix2 k l) = Out (V c main_v3) (V c main_v1) (V c main_arg0) (ix2 R l) := by
  subst e0 e1 e2
  rw [Out_apply]
  refine congrArg₂ (· + ·) (blk3_2 V c t r l _ hR) (Finset.sum_congr rfl fun k _ => ?_)
  exact congrArg₂ (· * ·) (blk3_0 V c t r k _ hR) (blk3_1 V c t k l)

/-- What each grid point of the output writes back to its first result is its rows of it. -/
theorem flushed3 (c : Dev nD) (t : Fin cfg3.N) :
    (dat3 V c).flushed 4 t = (win3_4.blk t).view.read (Elt Ideal) (Out (V c main_v3) (V c main_v1) (V c main_arg0)) := by
  show (cfg3.win 4).cut (grid3.coords t) ((dat3 V c).after 4 t) = _
  rw [after3_4]
  have hi := starts3 t
  have ht : t.val < 32 := lt_of_lt_of_eq t.isLt Gen.N_3
  show out3_4 (iblk3 V c 0 t) (iblk3 V c 1 t) (iblk3 V c 2 t) (iblk3 V c 3 t) = _
  funext j
  idx_vars j
  rw [View.read_apply]
  have e : (win3_4.blk t).view.emb (ix2 j0 j1) = (ix2 ⟨t.val * 256 + j0.val, by omega⟩ j1 : S8192x4096.Idx) := by
    funext a
    apply Fin.ext
    match a with
    | ⟨0, _⟩ => show win3_4.index t 0 * 256 + 1 * j0.val = t.val * 256 + j0.val; omega
    | ⟨1, _⟩ => show win3_4.index t 1 * 4096 + 1 * j1.val = j1.val; omega
  rw [e, pay_out]
  exact blk3 V c t _ _ _ rfl rfl rfl j0 j1 ⟨t.val * 256 + j0.val, by omega⟩ rfl

/-- What each grid point of the output writes back to its second result is its rows of it. -/
theorem flushed4 (c : Dev nD) (t : Fin cfg3.N) :
    (dat3 V c).flushed 5 t = (win3_5.blk t).view.read (Elt Ideal) (Normed (Out (V c main_v3) (V c main_v1) (V c main_arg0)) (V c main_v4)) := by
  show (cfg3.win 5).cut (grid3.coords t) ((dat3 V c).after 5 t) = _
  rw [after3_5]
  have hi := starts3 t
  have ht : t.val < 32 := lt_of_lt_of_eq t.isLt Gen.N_3
  show out3_5 (iblk3 V c 0 t) (iblk3 V c 1 t) (iblk3 V c 2 t) (iblk3 V c 3 t) = _
  funext j
  idx_vars j
  rw [View.read_apply]
  have e : (win3_5.blk t).view.emb (ix2 j0 j1) = (ix2 ⟨t.val * 256 + j0.val, by omega⟩ j1 : S8192x4096.Idx) := by
    funext a
    apply Fin.ext
    match a with
    | ⟨0, _⟩ => show win3_5.index t 0 * 256 + 1 * j0.val = t.val * 256 + j0.val; omega
    | ⟨1, _⟩ => show win3_5.index t 1 * 4096 + 1 * j1.val = j1.val; omega
  rw [e, pay_outn, Normed_apply]
  exact congrArg₂ (rmsEntry · · j1) (funext fun l => blk3 V c t _ _ _ rfl rfl rfl j0 l ⟨t.val * 256 + j0.val, by omega⟩ rfl) (blk3_3 V c t j1)

/-- The blocks written back fill the query weights. -/
theorem cover0 (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, ht⟩ : ∃ t : Fin cfg0.N, t.val = (i 0).val / 1024 * 4 + (i 1).val / 256 := ⟨⟨_, by show _ < grid0.N; rw [Gen.N_0]; omega⟩, rfl⟩
  refine ⟨t, flush0_2 t, ?_⟩
  have hi := starts0 t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 256 ≤ (i 1).val ∧ (i 1).val < win0_2.index t 1 * 256 + 256; omega

/-- The blocks written back fill the output weights. -/
theorem cover1 (i : S1024x4096.Idx) :
    ∃ t : Fin cfg1.N, (cfg1.win 2).flush t = true ∧ i ∈ ((cfg1.win 2).blk t).view.set := by
  have h0 : (i 0).val < 1024 := (i 0).isLt
  have h1 : (i 1).val < 4096 := (i 1).isLt
  obtain ⟨t, ht⟩ : ∃ t : Fin cfg1.N, t.val = (i 0).val / 256 * 4 + (i 1).val / 1024 := ⟨⟨_, by show _ < grid1.N; rw [Gen.N_1]; omega⟩, rfl⟩
  refine ⟨t, flush1_2 t, ?_⟩
  have hi := starts1 t
  show i ∈ ((View.whole main_v1).slice (win1_2.rect t)).set
  rw [View.set_slice_whole, Rect.mem_set_unit]
  intro a
  match a with
  | ⟨0, _⟩ => show win1_2.index t 0 * 256 ≤ (i 0).val ∧ (i 0).val < win1_2.index t 0 * 256 + 256; omega
  | ⟨1, _⟩ => show win1_2.index t 1 * 1024 ≤ (i 1).val ∧ (i 1).val < win1_2.index t 1 * 1024 + 1024; omega

/-- The blocks written back fill the softmax. -/
theorem cover2 (i : S8192x1024.Idx) :
    ∃ t : Fin cfg2.N, (cfg2.win 3).flush t = true ∧ i ∈ ((cfg2.win 3).blk t).view.set := by
  have h0 : (i 0).val < 8192 := (i 0).isLt
  have h1 : (i 1).val < 1024 := (i 1).isLt
  obtain ⟨t, ht⟩ : ∃ t : Fin cfg2.N, t.val = (i 0).val / 512 := ⟨⟨_, by show _ < grid2.N; rw [Gen.N_2]; omega⟩, rfl⟩
  refine ⟨t, flush2_3 t, ?_⟩
  have hi := starts2 t
  show i ∈ ((View.whole main_v3).slice (win2_3.rect t)).set
  rw [View.set_slice_whole, Rect.mem_set_unit]
  intro a
  match a with
  | ⟨0, _⟩ => show win2_3.index t 0 * 512 ≤ (i 0).val ∧ (i 0).val < win2_3.index t 0 * 512 + 512; omega
  | ⟨1, _⟩ => show win2_3.index t 1 * 1024 ≤ (i 1).val ∧ (i 1).val < win2_3.index t 1 * 1024 + 1024; omega

/-- The blocks written back fill the first result. -/
theorem cover3 (i : S8192x4096.Idx) :
    ∃ t : Fin cfg3.N, (cfg3.win 4).flush t = true ∧ i ∈ ((cfg3.win 4).blk t).view.set := by
  have h0 : (i 0).val < 8192 := (i 0).isLt
  have h1 : (i 1).val < 4096 := (i 1).isLt
  obtain ⟨t, ht⟩ : ∃ t : Fin cfg3.N, t.val = (i 0).val / 256 := ⟨⟨_, by show _ < grid3.N; rw [Gen.N_3]; omega⟩, rfl⟩
  refine ⟨t, flush3_4 t, ?_⟩
  have hi := starts3 t
  show i ∈ ((View.whole main_v5_0).slice (win3_4.rect t)).set
  rw [View.set_slice_whole, Rect.mem_set_unit]
  intro a
  match a with
  | ⟨0, _⟩ => show win3_4.index t 0 * 256 ≤ (i 0).val ∧ (i 0).val < win3_4.index t 0 * 256 + 256; omega
  | ⟨1, _⟩ => show win3_4.index t 1 * 4096 ≤ (i 1).val ∧ (i 1).val < win3_4.index t 1 * 4096 + 4096; omega

/-- The blocks written back fill the second result. -/
theorem cover4 (i : S8192x4096.Idx) :
    ∃ t : Fin cfg3.N, (cfg3.win 5).flush t = true ∧ i ∈ ((cfg3.win 5).blk t).view.set := by
  have h0 : (i 0).val < 8192 := (i 0).isLt
  have h1 : (i 1).val < 4096 := (i 1).isLt
  obtain ⟨t, ht⟩ : ∃ t : Fin cfg3.N, t.val = (i 0).val / 256 := ⟨⟨_, by show _ < grid3.N; rw [Gen.N_3]; omega⟩, rfl⟩
  refine ⟨t, flush3_5 t, ?_⟩
  have hi := starts3 t
  show i ∈ ((View.whole main_v5_1).slice (win3_5.rect t)).set
  rw [View.set_slice_whole, Rect.mem_set_unit]
  intro a
  match a with
  | ⟨0, _⟩ => show win3_5.index t 0 * 256 ≤ (i 0).val ∧ (i 0).val < win3_5.index t 0 * 256 + 256; omega
  | ⟨1, _⟩ => show win3_5.index t 1 * 4096 ≤ (i 1).val ∧ (i 1).val < win3_5.index t 1 * 4096 + 4096; omega

/-- The query weights' array after its launch. -/
theorem final0 (c : Dev nD) : (dat0 V c).arrAt 2 cfg0.N = Wqk (V c main_arg2) (V c main_arg1) :=
  (dat0 V c).arrAt_eq_of_cover 2 _ (fun t _ => flushed0 V c t) cover0

/-- The output weights' array after its launch. -/
theorem final1 (c : Dev nD) : (dat1 V c).arrAt 2 cfg1.N = Vwo (V c main_arg1) (V c main_arg3) :=
  (dat1 V c).arrAt_eq_of_cover 2 _ (fun t _ => flushed1 V c t) cover1

/-- The softmax's array after its launch. -/
theorem final2 (c : Dev nD) : (dat2 V c).arrAt 3 cfg2.N = Soft (V c main_arg0) (V c main_v2) (V c main_v0) :=
  (dat2 V c).arrAt_eq_of_cover 3 _ (fun t _ => flushed2 V c t) cover2

/-- The first result's array after its launch. -/
theorem final3 (c : Dev nD) : (dat3 V c).arrAt 4 cfg3.N = Out (V c main_v3) (V c main_v1) (V c main_arg0) :=
  (dat3 V c).arrAt_eq_of_cover 4 _ (fun t _ => flushed3 V c t) cover3

/-- The second result's array after its launch. -/
theorem final4 (c : Dev nD) : (dat3 V c).arrAt 5 cfg3.N = Normed (Out (V c main_v3) (V c main_v1) (V c main_arg0)) (V c main_v4) :=
  (dat3 V c).arrAt_eq_of_cover 5 _ (fun t _ => flushed4 V c t) cover4

end Regions

end Cert.XattnIdeal.Value
end
-- ==== Proof.XattnRef.lean ====
module

public import proofs.«01_k».proof.Proof.Gen.XattnRefIdeal.Run
public import proofs.«01_k».proof.Proof.RealFacts

@[expose] public section

set_option maxRecDepth 16384

/-! The plain attention over the memory, stage by stage, each at one entry. -/

noncomputable section

namespace Cert.XattnRefIdeal.Stages

open Cert.Common Cert.XattnRefIdeal Cert.XattnRefIdeal.Gen
open Idealize.ShloMosaic Idealize.ShloMosaic.TcCoe Idealize.ShloMosaic.Tactic Idealize.SL.Sem

/-- The rows normalized by their root mean square and scaled. -/
def normed (A : FVec Ideal S8192x4096 .f32) (g : FVec Ideal S4096 .f32) : FVec Ideal S8192x4096 .f32 :=
  mulf (mulf A (broadcastInDim S8192x4096 ![0, 1] bcast_S8192x1_S8192x4096_0_1 (Host.rsqrt (addf (Host.divf (broadcastInDim S8192x1 ![0] bcast_S8192_S8192x1_0 (Host.reduceAdd (mulf A A) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

/-- One entry of the normalized rows. -/
theorem normed_apply (A : FVec Ideal S8192x4096 .f32) (g : FVec Ideal S4096 .f32) (t : Fin 8192) (c : Fin 4096) :
    normed A g (ix2 t c) = rmsEntry (fun k => A (ix2 t k)) (g (ix1 c)) c := by
  unfold normed rmsEntry
  pointwise

/-- The first layer of a stack of weights, as a matrix. -/
def layer (W : FVec Ideal S2x4096x4096 .f32) : FVec Ideal S4096x4096 .f32 :=
  shapeCast S4096x4096 (extractStridedSlice S1x4096x4096 ![0, 0, 0] W slices_S2x4096x4096_S1x4096x4096_0_0_0) shapeCasts_S1x4096x4096_S4096x4096

/-- One entry of it. -/
theorem layer_apply (W : FVec Ideal S2x4096x4096 .f32) (a b : Fin 4096) : layer W (ix2 a b) = W (ix3 0 a b) := by
  unfold layer
  pointwise

/-- The product of rows with a matrix. -/
def prod (x : FVec Ideal S8192x4096 .f32) (w : FVec Ideal S4096x4096 .f32) : FVec Ideal S8192x4096 .f32 :=
  Host.dotGeneral dot_S8192x4096_S4096x4096_S8192x4096_1_0_0_1_n_n none x w

/-- One entry of it. -/
theorem prod_apply (x : FVec Ideal S8192x4096 .f32) (w : FVec Ideal S4096x4096 .f32) (t : Fin 8192) (c : Fin 4096) :
    prod x w (ix2 t c) = ∑ k : Fin 4096, x (ix2 t k) * w (ix2 k c) := by
  unfold prod
  pointwise

/-- Column `d` of head `h`. -/
def headCol (h : Fin 4) (d : Fin 1024) : Fin 4096 := ⟨h.val * 1024 + d.val, by omega⟩

/-- A row of 4096 columns as four heads of 1024. -/
def heads (q : FVec Ideal S8192x4096 .f32) : FVec Ideal S8192x4x1024 .f32 := shapeCast S8192x4x1024 q shapeCasts_S8192x4096_S8192x4x1024

/-- One entry of the heads. -/
theorem heads_apply (q : FVec Ideal S8192x4096 .f32) (t : Fin 8192) (h : Fin 4) (d : Fin 1024) :
    heads q (ix3 t h d) = q (ix2 t (headCol h d)) := by
  unfold heads headCol
  pointwise

/-- The keys of the memory, as four heads of 1024. -/
def keys (KV : FVec Ideal S256x8192 .bf16) : FVec Ideal S256x4x1024 .f32 :=
  shapeCast S256x4x1024 (extractStridedSlice S256x4096 ![0, 0] (extf .f32 KV bitsLt_bf16_f32) slices_S256x8192_S256x4096_0_0) shapeCasts_S256x4096_S256x4x1024

/-- One entry of the keys. -/
theorem keys_apply (KV : FVec Ideal S256x8192 .bf16) (k : Fin 256) (h : Fin 4) (d : Fin 1024) :
    keys KV (ix3 k h d) = KV (ix2 k ⟨h.val * 1024 + d.val, by omega⟩) := by
  unfold keys
  pointwise

/-- The values of the memory, as four heads of 1024. -/
def values (KV : FVec Ideal S256x8192 .bf16) : FVec Ideal S256x4x1024 .f32 :=
  shapeCast S256x4x1024 (extractStridedSlice S256x4096 ![0, 4096] (extf .f32 KV bitsLt_bf16_f32) slices_S256x8192_S256x4096_0_4096) shapeCasts_S256x4096_S256x4x1024

/-- One entry of the values. -/
theorem values_apply (KV : FVec Ideal S256x8192 .bf16) (k : Fin 256) (h : Fin 4) (d : Fin 1024) :
    values KV (ix3 k h d) = KV (ix2 k ⟨4096 + (h.val * 1024 + d.val), by omega⟩) := by
  unfold values
  pointwise

/-- The scaled scores of each row against each row of the memory, by head. -/
def scores (q : FVec Ideal S8192x4x1024 .f32) (k : FVec Ideal S256x4x1024 .f32) : FVec Ideal S4x8192x256 .f32 :=
  mulf (Host.dotGeneral dot_S8192x4x1024_S256x4x1024_S4x8192x256_2_2_0_0_1_1 none q k) (broadcastInDim S4x8192x256 ![] bcast_S_S4x8192x256 (constant S_ .f32 0x3D000000#32))

/-- One score. -/
theorem scores_apply (q : FVec Ideal S8192x4x1024 .f32) (k : FVec Ideal S256x4x1024 .f32) (h : Fin 4) (t : Fin 8192) (i : Fin 256) :
    scores q k (ix3 h t i) = (∑ d : Fin 1024, q (ix3 t h d) * k (ix3 i h d)) * Ideal.ofBits FTy.f32 1023410176#32 := by
  unfold scores
  pointwise

/-- The maximum along the last of three axes, at an entry. -/
theorem hostMax_apply {a b n : Nat} (x : FVec Ideal ⟨3, ![a, b, n]⟩ .f32) (h : Shape.ReducesTo ⟨3, ![a, b, n]⟩ [2] ⟨2, ![a, b]⟩)
    (hu : 0 < (⟨0, ![]⟩ : Shape).numel) (i : Fin a) (j : Fin b) :
    Host.reduce FloatOps.maximumf x (constant ⟨0, ![]⟩ .f32 0xFF800000#32) h hu (ix2 i j)
      = Finset.univ.fold max (Ideal.ofBits FTy.f32 4286578688#32) fun k => x (ix3 i j k) := by
  pointwise

/-- The same, with −∞ taken into the maximum once more. -/
theorem hostMax_apply' {a b n : Nat} (x : FVec Ideal ⟨3, ![a, b, n]⟩ .f32) (hb : (⟨0, ![]⟩ : Shape).BroadcastsInDim ⟨2, ![a, b]⟩ ![])
    (h : Shape.ReducesTo ⟨3, ![a, b, n]⟩ [2] ⟨2, ![a, b]⟩) (hu : 0 < (⟨0, ![]⟩ : Shape).numel) (i : Fin a) (j : Fin b) :
    maximumf (broadcastInDim ⟨2, ![a, b]⟩ ![] hb (constant (F := Ideal) ⟨0, ![]⟩ .f32 0xFF800000#32))
        (Host.reduce FloatOps.maximumf x (constant ⟨0, ![]⟩ .f32 0xFF800000#32) h hu) (ix2 i j)
      = max (Ideal.ofBits FTy.f32 4286578688#32) (Finset.univ.fold max (Ideal.ofBits FTy.f32 4286578688#32) fun k => x (ix3 i j k)) := by
  rw [← hostMax_apply x h hu i j]
  rfl

/-- The greatest score of each row, by head. -/
def greatest (s : FVec Ideal S4x8192x256 .f32) : FVec Ideal S4x8192 .f32 :=
  maximumf (broadcastInDim S4x8192 ![] bcast_S_S4x8192 (constant S_ .f32 0xFF800000#32)) (Host.reduce FloatOps.maximumf s (constant S_ .f32 0xFF800000#32) reducesTo_S4x8192x256_S4x8192_d2 h_S_)

/-- One of them. -/
theorem greatest_apply (s : FVec Ideal S4x8192x256 .f32) (h : Fin 4) (t : Fin 8192) :
    greatest s (ix2 h t) = maxOf fun i => s (ix3 h t i) :=
  (hostMax_apply' s bcast_S_S4x8192 reducesTo_S4x8192x256_S4x8192_d2 h_S_ h t).trans (max_maxOf _)

/-- The exponentials of the scores less a number for each row. -/
def exps (s : FVec Ideal S4x8192x256 .f32) (M : FVec Ideal S4x8192 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 M)))

/-- One of them. -/
theorem exps_apply (s : FVec Ideal S4x8192x256 .f32) (M : FVec Ideal S4x8192 .f32) (h : Fin 4) (t : Fin 8192) (i : Fin 256) :
    exps s M (ix3 h t i) = Ideal.exp (s (ix3 h t i) - M (ix2 h t)) := by
  unfold exps
  pointwise

/-- Each entry over the sum of its row. -/
def shares (e : FVec Ideal S4x8192x256 .f32) : FVec Ideal S4x8192x256 .f32 :=
  Host.divf e (broadcastInDim S4x8192x256 ![0, 1, 2] bcast_S4x8192x1_S4x8192x256_0_1_2 (broadcastInDim S4x8192x1 ![0, 1] bcast_S4x8192_S4x8192x1_0_1 (Host.reduceAdd e (constant S_ .f32 0x00000000#32) reducesTo_S4x8192x256_S4x8192_d2 h_S_)))

/-- One of them. -/
theorem shares_apply (e : FVec Ideal S4x8192x256 .f32) (h : Fin 4) (t : Fin 8192) (i : Fin 256) :
    shares e (ix3 h t i) = Ideal.div (e (ix3 h t i)) (∑ k : Fin 256, e (ix3 h t k)) := by
  unfold shares
  pointwise

/-- The softmax of the scores, over the rows of the memory. -/
def softmax (s : FVec Ideal S4x8192x256 .f32) : FVec Ideal S4x8192x256 .f32 := shares (exps s (greatest s))

/-- One entry of the softmax. -/
theorem softmax_apply (s : FVec Ideal S4x8192x256 .f32) (h : Fin 4) (t : Fin 8192) (i : Fin 256) :
    softmax s (ix3 h t i) = softmaxEntry (fun k => s (ix3 h t k)) i := by
  unfold softmax softmaxEntry
  simp only [shares_apply, exps_apply, greatest_apply]

/-- The values weighted by the softmax: row, head, column. -/
def mixed (v : FVec Ideal S256x4x1024 .f32) (p : FVec Ideal S4x8192x256 .f32) : FVec Ideal S8192x4x1024 .f32 :=
  transpose S8192x4x1024 [2, 0, 1] (Host.dotGeneral dot_S256x4x1024_S4x8192x256_S4x1024x8192_0_2_2_1_1_0 none v p) transposes_S4x1024x8192_S8192x4x1024_2_0_1

/-- One entry of them. -/
theorem mixed_apply (v : FVec Ideal S256x4x1024 .f32) (p : FVec Ideal S4x8192x256 .f32) (t : Fin 8192) (h : Fin 4) (d : Fin 1024) :
    mixed v p (ix3 t h d) = ∑ i : Fin 256, v (ix3 i h d) * p (ix3 h t i) := by
  unfold mixed
  pointwise

/-- The four heads of a row, side by side. -/
def joined (o : FVec Ideal S8192x4x1024 .f32) : FVec Ideal S8192x4096 .f32 := shapeCast S8192x4096 o shapeCasts_S8192x4x1024_S8192x4096

/-- One entry of them. -/
theorem joined_apply (o : FVec Ideal S8192x4x1024 .f32) (t : Fin 8192) (h : Fin 4) (d : Fin 1024) :
    joined o (ix2 t (headCol h d)) = o (ix3 t h d) :=
  (heads_apply (joined o) t h d).symm.trans (congrFun (shapeCast_shapeCast o shapeCasts_S8192x4x1024_S8192x4096 shapeCasts_S8192x4096_S8192x4x1024) _)

/-- The hidden rows plus the attention. -/
def out (A : FVec Ideal S8192x4096 .f32) (KV : FVec Ideal S256x8192 .bf16) (Wq Wo : FVec Ideal S2x4096x4096 .f32) (g : FVec Ideal S4096 .f32) :
    FVec Ideal S8192x4096 .f32 :=
  addf A (prod (joined (mixed (values KV) (softmax (scores (heads (prod (normed A g) (layer Wq))) (keys KV))))) (layer Wo))

/-- The first result is the hidden rows plus the attention. -/
theorem res0 (m : (ℓ : Loc nD τ sig) → Buf (Elt Ideal) ℓ) (c : Dev nD) : Value.res_main_v42 (F := Ideal) m c =
    out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The second result is the first, normalized and scaled. -/
theorem res1 (m : (ℓ : Loc nD τ sig) → Buf (Elt Ideal) ℓ) (c : Dev nD) : Value.res_main_v56 (F := Ideal) m c =
    truncf .bf16 (normed (out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5))) bitsLt_bf16_f32 := rfl

end Cert.XattnRefIdeal.Stages
end
-- ==== Proof.XattnMath.lean ====
module

public import proofs.«01_k».proof.Proof.XattnRegions
public import proofs.«01_k».proof.Proof.XattnRef
public import proofs.«01_k».proof.Pre_finite

@[expose] public section

set_option maxRecDepth 16384

noncomputable section

namespace Cert.XattnIdeal.Value

open Cert.Common Cert.XattnIdeal Cert.XattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.XattnRefIdeal.Stages

/-! The two forms of the attention agree on real inputs: the kernel multiplies the weights with the memory first, the
plain form multiplies the rows with the weights first. -/

/-- A vector as one row, at an entry. -/
theorem row_apply (g : FVec Ideal S4096 .f32) (h : Shape.ShapeCasts S4096 S1x4096) (l : Fin 4096) :
    shapeCast S1x4096 g h (ix2 0 l) = g (ix1 l) := by
  pointwise

variable {A : FVec Ideal S8192x4096 .f32} {KV : FVec Ideal S256x8192 .bf16} {Wq Wo : FVec Ideal S2x4096x4096 .f32} {g g₂ : FVec Ideal S4096 .f32}

/-- The scores of a head in the plain form. -/
theorem scores_real (hA : ∀ j, IsReal (A j)) (hKV : ∀ j, IsReal (KV j)) (hWq : ∀ j, IsReal (Wq j)) (hg : ∀ j, IsReal (g j))
    (t : Fin 8192) (h : Fin 4) (i : Fin 256) :
    scores (heads (prod (normed A g) (layer Wq))) (keys KV) (ix3 h t i)
      = (∑ k : Fin 4096, rmsEntry (fun k => A (ix2 t k)) (g (ix1 k)) k
          * ∑ d : Fin 1024, Wq (ix3 0 k ⟨h.val * 1024 + d.val, by omega⟩) * KV (ix2 i ⟨h.val * 1024 + d.val, by omega⟩)) * scaleW := by
  rw [scores_apply, sum_mul_sum_real (fun k => isReal_rmsEntry (fun _ => hA _) (hg _) k) (fun _ _ => hWq _) (fun _ => hKV _)]
  refine congrArg (· * scaleW) (Finset.sum_congr rfl fun d _ => ?_)
  rw [heads_apply, keys_apply, prod_apply]
  refine congrArg (· * _) (Finset.sum_congr rfl fun k _ => ?_)
  rw [normed_apply, layer_apply]
  rfl

/-- Those scores are real. -/
theorem isReal_scores (hA : ∀ j, IsReal (A j)) (hKV : ∀ j, IsReal (KV j)) (hWq : ∀ j, IsReal (Wq j)) (hg : ∀ j, IsReal (g j))
    (t : Fin 8192) (h : Fin 4) (i : Fin 256) :
    IsReal (scores (heads (prod (normed A g) (layer Wq))) (keys KV) (ix3 h t i)) := by
  rw [scores_real hA hKV hWq hg]
  exact (IsReal.sum fun k => (isReal_rmsEntry (fun _ => hA _) (hg _) k).mul (IsReal.sum fun d => (hWq _).mul (hKV _))).mul word_scale

/-- The first result: the kernel's form is the plain form. -/
theorem out_real (hA : ∀ j, IsReal (A j)) (hKV : ∀ j, IsReal (KV j)) (hWq : ∀ j, IsReal (Wq j)) (hWo : ∀ j, IsReal (Wo j))
    (hg : ∀ j, IsReal (g j)) (hs : Shape.ShapeCasts S4096 S1x4096) :
    Out (Soft A (shapeCast S1x4096 g hs) (Wqk Wq KV)) (Vwo KV Wo) A = out A KV Wq Wo g := by
  funext j
  idx_vars j
  rw [Out_apply]
  refine congrArg (A (ix2 j0 j1) + ·) (Eq.trans ?_ (prod_apply _ _ _ _).symm)
  rw [sum_blocks (m := 4) (n := 256) rfl, sum_blocks (m := 4) (n := 1024) rfl]
  refine Finset.sum_congr rfl fun h _ => ?_
  have hp : ∀ i : Fin 256, Soft A (shapeCast S1x4096 g hs) (Wqk Wq KV) (ix2 j0 ⟨h.val * 256 + i.val, by omega⟩)
      = softmax (scores (heads (prod (normed A g) (layer Wq))) (keys KV)) (ix3 h j0 i) := fun i => by
    rw [Soft_apply _ _ _ _ _ h i rfl, softmax_apply]
    refine congrArg (softmaxEntry · i) (funext fun k => ?_)
    rw [scores_real hA hKV hWq hg]
    refine congrArg (· * scaleW) (Finset.sum_congr rfl fun D _ => ?_)
    rw [Wqk_apply _ _ _ _ h k rfl, row_apply]
  have hr : ∀ i : Fin 256, IsReal (softmax (scores (heads (prod (normed A g) (layer Wq))) (keys KV)) (ix3 h j0 i)) := fun i => by
    rw [softmax_apply]
    exact isReal_softmaxEntry (fun k => isReal_scores hA hKV hWq hg _ _ _) i
  refine (Finset.sum_congr rfl fun i _ => congrArg₂ (· * ·) (hp i) (Vwo_apply KV Wo _ j1 h i rfl)).trans ?_
  refine (sum_mul_sum_real (b := fun (i : Fin 256) (d : Fin 1024) => KV (ix2 i ⟨4096 + (h.val * 1024 + d.val), by omega⟩))
    (c := fun d : Fin 1024 => Wo (ix3 0 ⟨h.val * 1024 + d.val, by omega⟩ j1)) hr (fun _ _ => hKV _) (fun _ => hWo _)).trans ?_
  refine Finset.sum_congr rfl fun d _ => ?_
  rw [layer_apply]
  refine congrArg (· * _) (Eq.trans ?_ (joined_apply _ _ _ _).symm)
  rw [mixed_apply]
  refine Finset.sum_congr rfl fun i _ => ?_
  rw [values_apply, mul_comm]

/-- The second result: the kernel's form is the plain form. -/
theorem outn_real (hA : ∀ j, IsReal (A j)) (hKV : ∀ j, IsReal (KV j)) (hWq : ∀ j, IsReal (Wq j)) (hWo : ∀ j, IsReal (Wo j))
    (hg : ∀ j, IsReal (g j)) (hs : Shape.ShapeCasts S4096 S1x4096) (hb : FTy.bf16.bits < FTy.f32.bits) :
    Normed (Out (Soft A (shapeCast S1x4096 g hs) (Wqk Wq KV)) (Vwo KV Wo) A) (shapeCast S1x4096 g₂ hs)
      = truncf .bf16 (normed (out A KV Wq Wo g) g₂) hb := by
  rw [out_real hA hKV hWq hWo hg hs]
  funext j
  idx_vars j
  rw [Normed_apply, row_apply]
  exact (normed_apply _ _ _ _).symm

end Cert.XattnIdeal.Value
end
-- ==== Proof.XattnValue.lean ====
module

public import proofs.«01_k».proof.Proof.XattnMath
public import proofs.«01_k».proof.Pre_finite

@[expose] public section

set_option maxRecDepth 16384

noncomputable section

namespace Cert.XattnIdeal.Value

open Cert.Common Cert.XattnIdeal Cert.XattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The run of the attention, its two results named from the arguments. -/

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the run every buffer of the program holds what the last of the four calls leaves. -/
theorem run_all : θ_run defs (onTc (τ := τ) (main (F := Ideal))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c => h c)

/-- The run, with the contents of both results named, and the arguments as they were. -/
theorem run_blocks : θ_run defs (onTc (τ := τ) (main (F := Ideal))) ⟨m, fun _ => 0, ρ⟩ (fun r => ∀ c : Dev nD,
    r.2.mem ((c.tc : Thread nD τ).loc main_v5_0) = W6 m ρ c (Proc.devRef .tc main_v5_0)
    ∧ r.2.mem ((c.tc : Thread nD τ).loc main_v5_1) = W6 m ρ c (Proc.devRef .tc main_v5_1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c =>
    ⟨h c _ (mem_uc main_v5_0 (by decide)), h c _ (mem_uc main_v5_1 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run_all m ρ)

/-- The gain of the scores is the argument as one row. -/
theorem gain2 (c : Dev nD) : V3 m ρ c main_v2 = shapeCast S1x4096 (m ((c : Thread nD τ).loc main_arg4)) shapeCasts_S4096_S1x4096 := by
  unfold V3; after_results <;> rfl

/-- The gain of the second result is the argument as one row. -/
theorem gain3 (c : Dev nD) : V5 m ρ c main_v4 = shapeCast S1x4096 (m ((c : Thread nD τ).loc main_arg5)) shapeCasts_S4096_S1x4096 := by
  unfold V5; after_results <;> rfl

/-- The first result in the kernel's form, from the arguments. -/
def K0 (c : Dev nD) : Vec Ideal S8192x4096 .f32 :=
  Out (Soft (m ((c : Thread nD τ).loc main_arg0)) (shapeCast S1x4096 (m ((c : Thread nD τ).loc main_arg4)) shapeCasts_S4096_S1x4096) (Wqk (m ((c : Thread nD τ).loc main_arg2)) (m ((c : Thread nD τ).loc main_arg1)))) (Vwo (m ((c : Thread nD τ).loc main_arg1)) (m ((c : Thread nD τ).loc main_arg3))) (m ((c : Thread nD τ).loc main_arg0))

/-- What the output's launch is given and computes. -/
theorem out_eq (c : Dev nD) : Out (V5 m ρ c main_v3) (V5 m ρ c main_v1) (V5 m ρ c main_arg0) = K0 m c := by
  have a0 : V5 m ρ c main_arg0 = m ((c : Thread nD τ).loc main_arg0) := W5_args m ρ c _ (by decide)
  have p : V5 m ρ c main_v3 = Soft (V3 m ρ c main_arg0) (V3 m ρ c main_v2) (V3 m ρ c main_v0) :=
    (W5_of m ρ c main_v3 (by decide)).trans ((W4_arr m ρ c 3).trans (final2 (V3 m ρ) c))
  have w : V5 m ρ c main_v1 = Vwo (V1 m ρ c main_arg1) (V1 m ρ c main_arg3) :=
    (W5_of m ρ c main_v1 (by decide)).trans ((W4_of m ρ c main_v1 (by decide)).trans ((W3_of m ρ c main_v1 (by decide)).trans
      ((W2_arr m ρ c 2).trans (final1 (V1 m ρ) c))))
  have q : V3 m ρ c main_v0 = Wqk (V0 m ρ c main_arg2) (V0 m ρ c main_arg1) :=
    (W3_of m ρ c main_v0 (by decide)).trans ((W2_of m ρ c main_v0 (by decide)).trans ((W1_arr m ρ c 2).trans (final0 (V0 m ρ) c)))
  have b0 : V3 m ρ c main_arg0 = m ((c : Thread nD τ).loc main_arg0) := W3_args m ρ c _ (by decide)
  have b1 : V1 m ρ c main_arg1 = m ((c : Thread nD τ).loc main_arg1) := W1_args m ρ c _ (by decide)
  have b3 : V1 m ρ c main_arg3 = m ((c : Thread nD τ).loc main_arg3) := W1_args m ρ c _ (by decide)
  rw [p, w, a0, b0, b1, b3, q, gain2]
  rfl

/-- The first result's array after the run. -/
theorem final_out (c : Dev nD) : W6 m ρ c (Proc.devRef .tc main_v5_0) = K0 m c :=
  ((W6_arr m ρ c 4).trans (final3 (V5 m ρ) c)).trans (out_eq m ρ c)

/-- The second result in the kernel's form, from the arguments. -/
def K1 (c : Dev nD) : Vec Ideal S8192x4096 .bf16 := Normed (K0 m c) (shapeCast S1x4096 (m ((c : Thread nD τ).loc main_arg5)) shapeCasts_S4096_S1x4096)

/-- The second result's array after the run. -/
theorem final_outn (c : Dev nD) : W6 m ρ c (Proc.devRef .tc main_v5_1) = K1 m c := by
  have e : W6 m ρ c (Proc.devRef .tc main_v5_1) = _ := (W6_arr m ρ c 5).trans (final4 (V5 m ρ) c)
  rw [e, out_eq, gain3]
  rfl

/-- The precondition makes every entry of the first five arguments a real number. -/
theorem reals_of_pre [Cert.Pre_finite.Facts] (c : Dev nD)
    (h0 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).1 = fun _ => 1#1)
    (h1 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).2.1 = fun _ => 1#1)
    (h2 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).2.2.1 = fun _ => 1#1)
    (h3 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).2.2.2.1 = fun _ => 1#1)
    (h4 : (Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).2.2.2.2 = fun _ => 1#1) :
    (∀ j, IsReal ((m ((c : Thread nD τ).loc main_arg0) : FVec Ideal S8192x4096 .f32) j))
      ∧ (∀ j, IsReal ((m ((c : Thread nD τ).loc main_arg1) : FVec Ideal S256x8192 .bf16) j))
      ∧ (∀ j, IsReal ((m ((c : Thread nD τ).loc main_arg2) : FVec Ideal S2x4096x4096 .f32) j))
      ∧ (∀ j, IsReal ((m ((c : Thread nD τ).loc main_arg3) : FVec Ideal S2x4096x4096 .f32) j))
      ∧ (∀ j, IsReal ((m ((c : Thread nD τ).loc main_arg4) : FVec Ideal S4096 .f32) j)) :=
  ⟨isReal_of_pass _ _ word_top Cert.Pre_finite.Facts.bcast_S_S8192x4096 h0, isReal_of_pass _ _ word_top16 Cert.Pre_finite.Facts.bcast_S_S256x8192 h1,
    isReal_of_pass _ _ word_top Cert.Pre_finite.Facts.bcast_S_S2x4096x4096 h2, isReal_of_pass _ _ word_top Cert.Pre_finite.Facts.bcast_S_S2x4096x4096 h3,
    isReal_of_pass _ _ word_top Cert.Pre_finite.Facts.bcast_S_S4096 h4⟩

end Cert.XattnIdeal.Value
end
-- ==== Proof.ShiftRef.lean ====
module

public import proofs.«01_k».proof.Proof.Gen.ShiftRefIdeal.Run
public import proofs.«01_k».proof.Proof.Starts
public import Idealize.ShloMosaic.Lib.Pipeline.Value

@[expose] public section

set_option maxRecDepth 16384

/-! The plain token shift, stage by stage, each at one entry. -/

noncomputable section

namespace Cert.ShiftRefIdeal.Stages

open Cert.Common Cert.ShiftRefIdeal Cert.ShiftRefIdeal.Gen
open Idealize.ShloMosaic Idealize.ShloMosaic.TcCoe Idealize.ShloMosaic.Tactic Idealize.SL.Sem

/-- One entry of row `t`, normalized and scaled. -/
def normEntry (A : FVec Ideal S8192x4096 .f32) (g : FVec Ideal S4096 .f32) (t : Fin 8192) (c : Fin 4096) : EReal :=
  rmsEntry (fun k => A (ix2 t k)) (g (ix1 c)) c

/-- One entry of the row before row `t`: zero in front of the first. -/
def prevEntry (A : FVec Ideal S8192x4096 .f32) (g : FVec Ideal S4096 .f32) (t : Fin 8192) (c : Fin 4096) : EReal :=
  if t.val = 0 then 0 else normEntry A g ⟨t.val - 1, by omega⟩ c

/-- A number moved towards another by a share of the way. -/
def towards (x y s : EReal) : EReal := x + (y - x) * s

/-- One entry of row `t` moved towards the row before it by the share `j`. -/
def mixEntry (A : FVec Ideal S8192x4096 .f32) (g : FVec Ideal S4096 .f32) (mu : FVec Ideal S6x4096 .f32) (j : Fin 6) (t : Fin 8192)
    (c : Fin 4096) : EReal :=
  towards (normEntry A g t c) (prevEntry A g t c) (mu (ix2 j c))

/-- One over one plus the exponential of the number's negative, with the word of one both programs print. -/
def sigm (x : EReal) : EReal :=
  Ideal.div (Ideal.ofBits FTy.f32 1065353216#32) (Ideal.ofBits FTy.f32 1065353216#32 + Ideal.exp (-x))

/-- The rows normalized by their root mean square and scaled. -/
def normed (A : FVec Ideal S8192x4096 .f32) (g : FVec Ideal S4096 .f32) : FVec Ideal S8192x4096 .f32 :=
  mulf (mulf A (broadcastInDim S8192x4096 ![0, 1] bcast_S8192x1_S8192x4096_0_1 (Host.rsqrt (addf (Host.divf (broadcastInDim S8192x1 ![0] bcast_S8192_S8192x1_0 (Host.reduceAdd (mulf A A) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

/-- One entry of the normalized rows. -/
theorem normed_apply (A : FVec Ideal S8192x4096 .f32) (g : FVec Ideal S4096 .f32) (t : Fin 8192) (c : Fin 4096) :
    normed A g (ix2 t c) = normEntry A g t c := by
  unfold normed normEntry rmsEntry
  pointwise

/-- The rows moved down by one, with a row of zeros in front. -/
def before (x : FVec Ideal S8192x4096 .f32) : FVec Ideal S8192x4096 .f32 :=
  concatenate S8192x4096 0 [⟨S1x4096, (broadcastInDim S1x4096 ![] bcast_S_S1x4096 (constant (F := Ideal) S_ .f32 0x00000000#32) : FVec Ideal S1x4096 .f32)⟩, ⟨S8191x4096, extractStridedSlice S8191x4096 ![0, 0] x slices_S8192x4096_S8191x4096_0_0⟩] concatenates_S1x4096_S8191x4096_S8192x4096_d0

/-- The first of them is zero. -/
theorem before_zero (x : FVec Ideal S8192x4096 .f32) (t : Fin 8192) (ht : t.val = 0) (c : Fin 4096) : before x (ix2 t c) = 0 := by
  refine (concatenate_pair_apply_left (t := S8192x4096) (s₁ := S1x4096) (s₂ := S8191x4096) (0 : Fin 2) _ _ _ _ rfl
    (ix2 (0 : Fin 1) c) (fun b => ?_)).trans ?_
  · match b with
    | ⟨0, _⟩ => exact ht.symm
    | ⟨1, _⟩ => rfl
  · pointwise

/-- The others are the row before. -/
theorem before_succ (x : FVec Ideal S8192x4096 .f32) (t : Fin 8192) (ht : t.val ≠ 0) (c : Fin 4096) :
    before x (ix2 t c) = x (ix2 ⟨t.val - 1, by omega⟩ c) := by
  refine (concatenate_pair_apply_right (t := S8192x4096) (s₁ := S1x4096) (s₂ := S8191x4096) (0 : Fin 2) _ _ _ _ rfl rfl
    (ix2 (⟨t.val - 1, by omega⟩ : Fin 8191) c) (fun b hb => ?_) ?_).trans ?_
  · match b with
    | ⟨0, _⟩ => exact absurd rfl hb
    | ⟨1, _⟩ => rfl
  · show t.val - 1 + 1 = t.val
    omega
  · refine congrArg x (funext fun a => Fin.ext ?_)
    match a with
    | ⟨0, _⟩ => show 0 + (t.val - 1) = t.val - 1; omega
    | ⟨1, _⟩ => show 0 + c.val = c.val; omega

/-- The normalized rows moved down by one, at an entry. -/
theorem before_apply (A : FVec Ideal S8192x4096 .f32) (g : FVec Ideal S4096 .f32) (t : Fin 8192) (c : Fin 4096) :
    before (normed A g) (ix2 t c) = prevEntry A g t c := by
  unfold prevEntry
  by_cases ht : t.val = 0
  · rw [if_pos ht, before_zero _ t ht]
  · rw [if_neg ht, before_succ _ t ht, normed_apply]

/-- Rows `x` moved towards the rows before them by the shares in row `o` of `mu`. -/
def mixed (o : Nat) (h : S6x4096.Slices ![o, 0] S1x4096) (x : FVec Ideal S8192x4096 .f32) (mu : FVec Ideal S6x4096 .f32) : FVec Ideal S8192x4096 .f32 :=
  addf x (mulf (subf (before x) x) (broadcastInDim S8192x4096 ![0, 1] bcast_S1x4096_S8192x4096_0_1 (broadcastInDim S1x4096 ![1] bcast_S4096_S1x4096_1 (shapeCast S4096 (extractStridedSlice S1x4096 ![o, 0] mu h) shapeCasts_S1x4096_S4096))))

/-- A row of the shares, written under every row, at an entry. -/
theorem share_apply (o : Nat) (h : S6x4096.Slices ![o, 0] S1x4096) (mu : FVec Ideal S6x4096 .f32) (j : Fin 6) (hj : j.val = o) (t : Fin 8192) (c : Fin 4096) :
    broadcastInDim S8192x4096 ![0, 1] bcast_S1x4096_S8192x4096_0_1 (broadcastInDim S1x4096 ![1] bcast_S4096_S1x4096_1 (shapeCast S4096 (extractStridedSlice S1x4096 ![o, 0] mu h) shapeCasts_S1x4096_S4096)) (ix2 t c)
      = mu (ix2 j c) := by
  have e : ∀ y : FVec Ideal S1x4096 .f32, broadcastInDim S8192x4096 ![0, 1] bcast_S1x4096_S8192x4096_0_1 (broadcastInDim S1x4096 ![1] bcast_S4096_S1x4096_1 (shapeCast S4096 y shapeCasts_S1x4096_S4096)) (ix2 t c)
      = y (ix2 0 c) := fun y => by pointwise
  refine (e _).trans (congrArg mu (funext fun a => Fin.ext ?_))
  match a with
  | ⟨0, _⟩ => show o + 0 = j.val; omega
  | ⟨1, _⟩ => show 0 + c.val = c.val; omega

/-- One entry of the moved rows. -/
theorem mixed_apply (o : Nat) (h : S6x4096.Slices ![o, 0] S1x4096) (A : FVec Ideal S8192x4096 .f32) (g : FVec Ideal S4096 .f32) (mu : FVec Ideal S6x4096 .f32)
    (j : Fin 6) (hj : j.val = o) (t : Fin 8192) (c : Fin 4096) :
    mixed o h (normed A g) mu (ix2 t c) = mixEntry A g mu j t c := by
  unfold mixEntry towards
  rw [← share_apply o h mu j hj t c, ← before_apply, ← normed_apply]
  rfl

/-- The product of moved rows with a matrix of 128 columns, at an entry. -/
theorem low128 (x : FVec Ideal S8192x4096 .f32) (w : FVec Ideal S1x4096x128 .f32) (t : Fin 8192) (l : Fin 128) :
    Host.dotGeneral dot_S8192x4096_S4096x128_S8192x128_1_0_0_1_n_n none x (shapeCast S4096x128 w shapeCasts_S1x4096x128_S4096x128) (ix2 t l)
      = ∑ k : Fin 4096, x (ix2 t k) * w (ix3 0 k l) := by
  pointwise

/-- The product of moved rows with a matrix of 480 columns, at an entry. -/
theorem low480 (x : FVec Ideal S8192x4096 .f32) (w : FVec Ideal S1x4096x480 .f32) (t : Fin 8192) (l : Fin 480) :
    Host.dotGeneral dot_S8192x4096_S4096x480_S8192x480_1_0_0_1_n_n none x (shapeCast S4096x480 w shapeCasts_S1x4096x480_S4096x480) (ix2 t l)
      = ∑ k : Fin 4096, x (ix2 t k) * w (ix3 0 k l) := by
  pointwise

/-- The sigmoid of an array, as it is printed. -/
def sigmoid (x : FVec Ideal S8192x480 .f32) : FVec Ideal S8192x480 .f32 :=
  Host.divf (broadcastInDim S8192x480 ![] bcast_S_S8192x480 (constant S_ .f32 0x3F800000#32)) (addf (broadcastInDim S8192x480 ![] bcast_S_S8192x480 (constant S_ .f32 0x3F800000#32)) (Host.exp (Host.negf x)))

/-- One entry of it. -/
theorem sigmoid_apply (x : FVec Ideal S8192x480 .f32) (t : Fin 8192) (l : Fin 480) : sigmoid x (ix2 t l) = sigm (x (ix2 t l)) := by
  unfold sigmoid sigm
  pointwise

/-- The moved rows, as an array. -/
def Mixed (j : Fin 6) (A : FVec Ideal S8192x4096 .f32) (g : FVec Ideal S4096 .f32) (mu : FVec Ideal S6x4096 .f32) : FVec Ideal S8192x4096 .bf16 := fun i =>
  mixEntry A g mu j (i 0) (i 1)

/-- A product of moved rows with a matrix of `n` columns, each entry through a function. -/
def Low {n : Nat} (f : EReal → EReal) (j : Fin 6) (A : FVec Ideal S8192x4096 .f32) (g : FVec Ideal S4096 .f32) (mu : FVec Ideal S6x4096 .f32)
    (w : FVec Ideal ⟨3, ![1, 4096, n]⟩ .f32) : FVec Ideal ⟨2, ![8192, n]⟩ .bf16 := fun i =>
  f (∑ k : Fin 4096, mixEntry A g mu j (i 0) k * w (ix3 0 k (i 1)))

/-- The moved rows rounded are the array of moved rows. -/
theorem mixed_eq (o : Nat) (h : S6x4096.Slices ![o, 0] S1x4096) (j : Fin 6) (hj : j.val = o) (A : FVec Ideal S8192x4096 .f32) (g : FVec Ideal S4096 .f32)
    (mu : FVec Ideal S6x4096 .f32) : (truncf .bf16 (mixed o h (normed A g) mu) bitsLt_bf16_f32 : FVec Ideal S8192x4096 .bf16) = Mixed j A g mu := by
  funext i
  idx_vars i
  exact mixed_apply o h A g mu j hj i0 i1

/-- The hyperbolic tangent of a product of moved rows. -/
theorem tanh_eq (o : Nat) (h : S6x4096.Slices ![o, 0] S1x4096) (j : Fin 6) (hj : j.val = o) (A : FVec Ideal S8192x4096 .f32) (g : FVec Ideal S4096 .f32)
    (mu : FVec Ideal S6x4096 .f32) (w : FVec Ideal S1x4096x128 .f32) :
    (truncf .bf16 (Host.tanh (Host.dotGeneral dot_S8192x4096_S4096x128_S8192x128_1_0_0_1_n_n none (mixed o h (normed A g) mu) (shapeCast S4096x128 w shapeCasts_S1x4096x128_S4096x128))) bitsLt_bf16_f32 : FVec Ideal S8192x128 .bf16)
      = Low Ideal.tanh j A g mu w := by
  funext i
  idx_vars i
  refine congrArg Ideal.tanh ((low128 _ w i0 i1).trans ?_)
  exact Finset.sum_congr rfl fun k _ => congrArg (· * _) (mixed_apply o h A g mu j hj i0 k)

/-- A product of moved rows. -/
theorem low_eq (o : Nat) (h : S6x4096.Slices ![o, 0] S1x4096) (j : Fin 6) (hj : j.val = o) (A : FVec Ideal S8192x4096 .f32) (g : FVec Ideal S4096 .f32)
    (mu : FVec Ideal S6x4096 .f32) (w : FVec Ideal S1x4096x128 .f32) :
    (truncf .bf16 (Host.dotGeneral dot_S8192x4096_S4096x128_S8192x128_1_0_0_1_n_n none (mixed o h (normed A g) mu) (shapeCast S4096x128 w shapeCasts_S1x4096x128_S4096x128)) bitsLt_bf16_f32 : FVec Ideal S8192x128 .bf16)
      = Low id j A g mu w := by
  funext i
  idx_vars i
  refine (low128 _ w i0 i1).trans ?_
  exact Finset.sum_congr rfl fun k _ => congrArg (· * _) (mixed_apply o h A g mu j hj i0 k)

/-- The sigmoid of a product of moved rows. -/
theorem sigm_eq (o : Nat) (h : S6x4096.Slices ![o, 0] S1x4096) (j : Fin 6) (hj : j.val = o) (A : FVec Ideal S8192x4096 .f32) (g : FVec Ideal S4096 .f32)
    (mu : FVec Ideal S6x4096 .f32) (w : FVec Ideal S1x4096x480 .f32) :
    (truncf .bf16 (sigmoid (Host.dotGeneral dot_S8192x4096_S4096x480_S8192x480_1_0_0_1_n_n none (mixed o h (normed A g) mu) (shapeCast S4096x480 w shapeCasts_S1x4096x480_S4096x480))) bitsLt_bf16_f32 : FVec Ideal S8192x480 .bf16)
      = Low sigm j A g mu w := by
  funext i
  idx_vars i
  refine (sigmoid_apply _ i0 i1).trans (congrArg sigm ((low480 _ w i0 i1).trans ?_))
  exact Finset.sum_congr rfl fun k _ => congrArg (· * _) (mixed_apply o h A g mu j hj i0 k)

end Cert.ShiftRefIdeal.Stages
end
-- ==== Proof.ShiftPay.lean ====
module

public import proofs.«01_k».proof.Proof.Gen.ShiftIdeal.Value
public import proofs.«01_k».proof.Proof.ShiftRef
public import Idealize.ShloMosaic.Lib.Pipeline.ValueKit.Tiles
public import Idealize.ShloMosaic.Lib.KernelVsHost

@[expose] public section

set_option maxRecDepth 16384

/-! What the body of the token shift stores, at one entry. -/

noncomputable section

namespace Cert.ShiftIdeal.Value

open Cert.Common Cert.ShiftIdeal Cert.ShiftIdeal.Gen Idealize.ShloMosaic Idealize.ShloMosaic.TcCoe Idealize.ShloMosaic.Tactic Idealize.SL.Sem
open Cert.ShiftRefIdeal.Stages (towards sigm)

/-- The rows of the block, normalized and scaled. -/
theorem normB (x0 : Vec Ideal S256x4096 .f32) (x2 : Vec Ideal S1x4096 .f32) (r : Fin 256) (c : Fin 4096) :
    k0_pay3 x0 x2 (ix2 r c) = rmsEntry (fun k => x0 (ix2 r k)) (x2 (ix2 0 c)) c := by
  unfold rmsEntry
  pointwise [k0_pay3]

/-- The eight rows in front of the block, normalized and scaled. -/
def front (x1 : FVec Ideal S8x4096 .f32) (x2 : FVec Ideal S1x4096 .f32) : FVec Ideal S8x4096 .f32 :=
  mulf (mulf x1 (broadcastTo S8x4096 (rsqrt (addf (divf (shapeCast S8x1 (multiReduction .add [1] S8 (mulf x1 x1) 0x00000000#32 reduces_S8x4096_S8 (.inl rfl) rfl) shapeCasts_S8_S8x1) (broadcast S8x1 (Scalar.ofBits (F := Ideal) .f32 0x45800000#32))) (broadcast S8x1 (Scalar.ofBits (F := Ideal) .f32 0x358637BD#32)))) broadcasts_S8x1_S8x4096))
    (broadcastTo S8x4096 (shapeCast S1x4096 x2 shapeCasts_S1x4096_S1x4096) broadcasts_S1x4096_S8x4096)

/-- The last of them. -/
theorem front_last (x1 : FVec Ideal S8x4096 .f32) (x2 : FVec Ideal S1x4096 .f32) (c : Fin 4096) :
    extractStridedSlice S1x4096 ![7, 0] (front x1 x2) slices_S8x4096_o7_0_S1x4096 (ix2 0 c) = rmsEntry (fun k => x1 (ix2 7 k)) (x2 (ix2 0 c)) c := by
  unfold rmsEntry front
  pointwise

/-- A row under every row, at an entry. -/
theorem rowB (y : FVec Ideal S1x4096 .f32) (r : Fin 256) (c : Fin 4096) :
    broadcastTo S256x4096 (shapeCast S1x4096 y shapeCasts_S1x4096_S1x4096) broadcasts_S1x4096_S256x4096 (ix2 r c) = y (ix2 0 c) := by
  pointwise

/-- The mask of the first row is set at an entry exactly when the entry's row is the first. -/
theorem mask_apply (r : Fin 256) (c : Fin 4096) :
    cmpi .eq (iota .tc S256x4096 32 [0] iota_S256x4096_d0_w32) (broadcast S256x4096 0#32) (ix2 r c) = BitVec.ofBool (decide (r.val = 0)) := by
  have h : ∀ l < 256, IntOp.cmpi .eq (BitVec.ofNat 32 l) 0#32 = BitVec.ofBool (decide (l = 0)) := by decide
  simp only [cmpi, iota, broadcast, List.foldl, Nat.zero_mul, Nat.zero_add]
  exact h _ r.isLt

/-- The first grid point's flag. -/
theorem flag_eq (i : grid0.Coords) : Scalar.cmpi .eq (BitVec.ofNat 32 (i 0).val) 0#32 = BitVec.ofBool (decide ((i 0).val = 0)) := by
  have h : ∀ l < 32, IntOp.cmpi .eq (BitVec.ofNat 32 l) 0#32 = BitVec.ofBool (decide (l = 0)) := by decide
  exact h _ (i 0).isLt

/-- The block's rows moved down by one, with the row in front of the block as the first: zeros at the first grid point. -/
theorem prevB (i : grid0.Coords) (x0 : Vec Ideal S256x4096 .f32) (x1 : Vec Ideal S8x4096 .f32) (x2 : Vec Ideal S1x4096 .f32) (r : Fin 256) (c : Fin 4096) :
    k0_pay4 i x0 x2 x1 x2 (ix2 r c) = if r.val = 0 then (if (i 0).val = 0 then 0 else rmsEntry (fun k => x1 (ix2 7 k)) (x2 (ix2 0 c)) c)
      else rmsEntry (fun k => x0 (ix2 ⟨r.val - 1, by omega⟩ k)) (x2 (ix2 0 c)) c := by
  have e : k0_pay4 i x0 x2 x1 x2 (ix2 r c)
      = Scalar.select (cmpi .eq (iota .tc S256x4096 32 [0] iota_S256x4096_d0_w32) (broadcast S256x4096 0#32) (ix2 r c))
          (broadcastTo S256x4096 (shapeCast S1x4096 (Scalar.select (Scalar.cmpi .eq (BitVec.ofNat 32 (i 0).val) 0#32)
            (broadcast S1x4096 (Scalar.ofBits (F := Ideal) .f32 0x00000000#32))
            (extractStridedSlice S1x4096 ![7, 0] (front x1 x2) slices_S8x4096_o7_0_S1x4096)) shapeCasts_S1x4096_S1x4096) broadcasts_S1x4096_S256x4096 (ix2 r c))
          (dynamicRotate 0 1#32 none (k0_pay3 x0 x2) rotates_S256x4096_d0 (ix2 r c)) := rfl
  rw [e, mask_apply, rowB, flag_eq]
  by_cases hr : r.val = 0
  · rw [if_pos hr, decide_eq_true hr]
    by_cases hi : (i 0).val = 0
    · rw [if_pos hi, decide_eq_true hi]
      show Ideal.ofBits FTy.f32 0x00000000#32 = 0
      pointwise
    · rw [if_neg hi, decide_eq_false hi]
      exact front_last x1 x2 c
  · rw [if_neg hr, decide_eq_false hr]
    refine Eq.trans ?_ (normB x0 x2 ⟨r.val - 1, by omega⟩ c)
    show dynamicRotate 0 1#32 none (k0_pay3 x0 x2) rotates_S256x4096_d0 (ix2 r c) = _
    refine dynamicRotate_apply (s := S256x4096) (0 : Fin 2) 1#32 _ rotates_S256x4096_d0 _ _ fun b => ?_
    match b with
    | ⟨0, _⟩ => show r.val - 1 = (r.val + 256 - 1 % 256) % 256; omega
    | ⟨1, _⟩ => rfl

/-- What the body stores of the moved rows: each of the three stores. -/
theorem storeMix (x p : FVec Ideal S256x4096 .f32) (s : FVec Ideal S1x4096 .f32) (r : Fin 256) (c : Fin 4096) :
    k0_pay6 x p s (ix2 r c) = towards (x (ix2 r c)) (p (ix2 r c)) (s (ix2 0 c)) := by
  unfold towards
  pointwise [k0_pay6, k0_pay5]

/-- What it stores of the first product. -/
theorem storeTanh (x p : FVec Ideal S256x4096 .f32) (s : FVec Ideal S1x4096 .f32) (w : FVec Ideal S1x4096x128 .f32) (r : Fin 256) (l : Fin 128) :
    k0_pay9 x p s w (ix2 r l) = Ideal.tanh (∑ k : Fin 4096, towards (x (ix2 r k)) (p (ix2 r k)) (s (ix2 0 k)) * w (ix3 0 k l)) := by
  unfold towards
  pointwise [k0_pay9, k0_pay5]

/-- What it stores of the second product. -/
theorem storeLow (x p : FVec Ideal S256x4096 .f32) (s : FVec Ideal S1x4096 .f32) (w : FVec Ideal S1x4096x128 .f32) (r : Fin 256) (l : Fin 128) :
    k0_pay1 x (k0_pay10 x p s) w (ix2 r l) = ∑ k : Fin 4096, towards (x (ix2 r k)) (p (ix2 r k)) (s (ix2 0 k)) * w (ix3 0 k l) := by
  unfold towards
  pointwise [k0_pay1, k0_pay10, k0_pay5]

/-- What it stores of the third product. -/
theorem storeSigm (x p : FVec Ideal S256x4096 .f32) (s : FVec Ideal S1x4096 .f32) (w : FVec Ideal S1x4096x480 .f32) (r : Fin 256) (l : Fin 480) :
    k0_pay2 x (k0_pay5 x p) s w (ix2 r l) = sigm (∑ k : Fin 4096, towards (x (ix2 r k)) (p (ix2 r k)) (s (ix2 0 k)) * w (ix3 0 k l)) := by
  unfold towards sigm
  pointwise [k0_pay2, k0_pay5]
  rw [zero_sub]

end Cert.ShiftIdeal.Value
end
-- ==== Proof.ShiftValue.lean ====
module

public import proofs.«01_k».proof.Proof.ShiftPay

@[expose] public section

set_option maxRecDepth 16384

/-! The token shift with the first halves of the low-rank products: six results. -/

noncomputable section

namespace Cert.ShiftIdeal.Value

open Cert.Common Cert.ShiftIdeal Cert.ShiftIdeal.Gen Idealize.ShloMosaic Idealize.ShloMosaic.TcCoe Idealize.ShloMosaic.Tactic Idealize.SL.Sem
open Idealize.ShloMosaic.Pipeline (Dat)
open Cert.ShiftRefIdeal.Stages (normEntry prevEntry towards mixEntry sigm Mixed Low)

variable (m : (ℓ : Loc nD τ sig) → Buf (Elt Ideal) ℓ) (ρ : Dev nD → PrngReg)

/-- The hidden state. -/
abbrev hid (c : Dev nD) : FVec Ideal S8192x4096 .f32 := m ((c : Thread nD τ).loc main_arg0)
/-- The gain. -/
abbrev gain (c : Dev nD) : FVec Ideal S4096 .f32 := m ((c : Thread nD τ).loc main_arg1)
/-- The shares. -/
abbrev share (c : Dev nD) : FVec Ideal S6x4096 .f32 := m ((c : Thread nD τ).loc main_arg2)

/-- The number of each window's block at a grid point. -/
theorem starts : ∀ t : Fin grid0.N,
    (win0_0.index t 0 = t.val ∧ win0_0.index t 1 = 0
      ∧ win0_1.index t 0 = t.val * 32 - 1 ∧ win0_1.index t 1 = 0
      ∧ win0_2.index t 0 = 0 ∧ win0_2.index t 1 = 0
      ∧ win0_3.index t 0 = 0 ∧ win0_3.index t 1 = 0)
    ∧ (win0_4.index t 0 = 0 ∧ win0_4.index t 1 = 0 ∧ win0_4.index t 2 = 0
      ∧ win0_5.index t 0 = 0 ∧ win0_5.index t 1 = 0 ∧ win0_5.index t 2 = 0
      ∧ win0_6.index t 0 = 0 ∧ win0_6.index t 1 = 0 ∧ win0_6.index t 2 = 0)
    ∧ (win0_7.index t 0 = t.val ∧ win0_7.index t 1 = 0
      ∧ win0_8.index t 0 = t.val ∧ win0_8.index t 1 = 0
      ∧ win0_9.index t 0 = t.val ∧ win0_9.index t 1 = 0
      ∧ win0_10.index t 0 = t.val ∧ win0_10.index t 1 = 0
      ∧ win0_11.index t 0 = t.val ∧ win0_11.index t 1 = 0
      ∧ win0_12.index t 0 = t.val ∧ win0_12.index t 1 = 0)
    ∧ (grid0.coords t 0).val = t.val := by decide +kernel

/-- The gain the kernel is launched on is the argument as one row. -/
theorem V0 (c : Dev nD) : V m c main_v0 = shapeCast S1x4096 (m ((c : Thread nD τ).loc main_arg1)) shapeCasts_S4096_S1x4096 := by
  unfold V; after_results <;> rfl

/-- The block of rows, read from the argument. -/
theorem blk0 (c : Dev nD) (t : Fin cfg0.N) (r : Fin 256) (k : Fin 4096) (R : Fin 8192) (hR : R.val = t.val * 256 + r.val) :
    (iblk m c 0 t : Vec Ideal S256x4096 .f32) (ix2 r k) = hid m c (ix2 R k) := by
  have hi := (starts t).1
  unfold iblk
  rw [View.read_apply]
  show V m c main_arg0 _ = _
  rw [V_main_arg0]
  congr 1
  funext a
  apply Fin.ext
  match a with
  | ⟨0, _⟩ => show win0_0.index t 0 * 256 + 1 * r.val = R.val; omega
  | ⟨1, _⟩ => show win0_0.index t 1 * 4096 + 1 * k.val = k.val; omega

/-- The last of the eight rows in front of the block, read from the argument. -/
theorem blk1 (c : Dev nD) (t : Fin cfg0.N) (k : Fin 4096) (R : Fin 8192) (hR : R.val + 1 = t.val * 256) :
    (iblk m c 1 t : Vec Ideal S8x4096 .f32) (ix2 7 k) = hid m c (ix2 R k) := by
  have hi := (starts t).1
  unfold iblk
  rw [View.read_apply]
  show V m c main_arg0 _ = _
  rw [V_main_arg0]
  congr 1
  funext a
  apply Fin.ext
  match a with
  | ⟨0, _⟩ => show win0_1.index t 0 * 8 + 1 * 7 = R.val; omega
  | ⟨1, _⟩ => show win0_1.index t 1 * 4096 + 1 * k.val = k.val; omega

/-- A vector as one row, at an entry. -/
theorem row_apply (g : FVec Ideal S4096 .f32) (h : Shape.ShapeCasts S4096 S1x4096) (l : Fin 4096) :
    shapeCast S1x4096 g h (ix2 0 l) = g (ix1 l) := by
  pointwise

/-- The gain, read from the argument. -/
theorem blk2 (c : Dev nD) (t : Fin cfg0.N) (l : Fin 4096) :
    (iblk m c 2 t : Vec Ideal S1x4096 .f32) (ix2 0 l) = gain m c (ix1 l) := by
  have hi := (starts t).1
  unfold iblk
  rw [View.read_apply]
  show V m c main_v0 _ = _
  rw [V0]
  have e : ((cfg0.win 2).blk t).view.emb (ix2 0 l) = (ix2 0 l : S1x4096.Idx) := by
    funext a
    apply Fin.ext
    match a with
    | ⟨0, _⟩ => show win0_2.index t 0 * 1 + 1 * 0 = 0; omega
    | ⟨1, _⟩ => show win0_2.index t 1 * 4096 + 1 * l.val = l.val; omega
  rw [e]
  exact row_apply _ _ l

/-- The shares, read from the argument. -/
theorem blk3 (c : Dev nD) (t : Fin cfg0.N) (j : Fin 6) (l : Fin 4096) :
    (iblk m c 3 t : Vec Ideal S6x4096 .f32) (ix2 j l) = share m c (ix2 j l) := by
  have hi := (starts t).1
  unfold iblk
  rw [View.read_apply]
  show V m c main_arg2 _ = _
  rw [V_main_arg2]
  congr 1
  funext a
  apply Fin.ext
  match a with
  | ⟨0, _⟩ => show win0_3.index t 0 * 6 + 1 * j.val = j.val; omega
  | ⟨1, _⟩ => show win0_3.index t 1 * 4096 + 1 * l.val = l.val; omega

/-- The first weights, whole. -/
theorem blk4 (c : Dev nD) (t : Fin cfg0.N) (k : Fin 4096) (l : Fin 128) :
    (iblk m c 4 t : Vec Ideal S1x4096x128 .f32) (ix3 0 k l) = m ((c : Thread nD τ).loc main_arg3) (ix3 0 k l) := by
  have hi := (starts t).2.1
  unfold iblk
  rw [View.read_apply]
  show V m c main_arg3 _ = _
  rw [V_main_arg3]
  congr 1
  funext a
  apply Fin.ext
  match a with
  | ⟨0, _⟩ => show win0_4.index t 0 * 1 + 1 * 0 = 0; omega
  | ⟨1, _⟩ => show win0_4.index t 1 * 4096 + 1 * k.val = k.val; omega
  | ⟨2, _⟩ => show win0_4.index t 2 * 128 + 1 * l.val = l.val; omega

/-- The second weights, whole. -/
theorem blk5 (c : Dev nD) (t : Fin cfg0.N) (k : Fin 4096) (l : Fin 128) :
    (iblk m c 5 t : Vec Ideal S1x4096x128 .f32) (ix3 0 k l) = m ((c : Thread nD τ).loc main_arg4) (ix3 0 k l) := by
  have hi := (starts t).2.1
  unfold iblk
  rw [View.read_apply]
  show V m c main_arg4 _ = _
  rw [V_main_arg4]
  congr 1
  funext a
  apply Fin.ext
  match a with
  | ⟨0, _⟩ => show win0_5.index t 0 * 1 + 1 * 0 = 0; omega
  | ⟨1, _⟩ => show win0_5.index t 1 * 4096 + 1 * k.val = k.val; omega
  | ⟨2, _⟩ => show win0_5.index t 2 * 128 + 1 * l.val = l.val; omega

/-- The third weights, whole. -/
theorem blk6 (c : Dev nD) (t : Fin cfg0.N) (k : Fin 4096) (l : Fin 480) :
    (iblk m c 6 t : Vec Ideal S1x4096x480 .f32) (ix3 0 k l) = m ((c : Thread nD τ).loc main_arg5) (ix3 0 k l) := by
  have hi := (starts t).2.1
  unfold iblk
  rw [View.read_apply]
  show V m c main_arg5 _ = _
  rw [V_main_arg5]
  congr 1
  funext a
  apply Fin.ext
  match a with
  | ⟨0, _⟩ => show win0_6.index t 0 * 1 + 1 * 0 = 0; omega
  | ⟨1, _⟩ => show win0_6.index t 1 * 4096 + 1 * k.val = k.val; omega
  | ⟨2, _⟩ => show win0_6.index t 2 * 480 + 1 * l.val = l.val; omega

/-- A row of the shares as the body loads it, at an entry. -/
theorem ld_row (x : Vec Ideal S6x4096 .f32) (o : Nat) (inb) (j : Fin 6) (hj : j.val = o) (l : Fin 4096) :
    View.ld x (Rect.unit (s := S6x4096) ![o, 0] S1x4096.size inb) (ix2 0 l) = x (ix2 j l) :=
  View.ld_unit_apply_of _ _ _ _ _ _ fun a => by
    match a with
    | ⟨0, _⟩ => show j.val = o + 0; omega
    | ⟨1, _⟩ => show l.val = 0 + l.val; omega

/-- A moved row of the block is the moved row of the whole. -/
theorem mix_blk (c : Dev nD) (t : Fin cfg0.N) (x0 : Vec Ideal S256x4096 .f32) (x1 : Vec Ideal S8x4096 .f32) (x2 : Vec Ideal S1x4096 .f32) (x3 : Vec Ideal S6x4096 .f32)
    (e0 : x0 = iblk m c 0 t) (e1 : x1 = iblk m c 1 t) (e2 : x2 = iblk m c 2 t) (e3 : x3 = iblk m c 3 t)
    (o : Nat) (inb) (j : Fin 6) (hj : j.val = o) (r : Fin 256) (l : Fin 4096) (R : Fin 8192) (hR : R.val = t.val * 256 + r.val) :
    towards (k0_pay3 (View.ld x0 r0_0) (View.ld x2 r0_1) (ix2 r l))
        (k0_pay4 (grid0.coords t) (View.ld x0 r0_0) (View.ld x2 r0_1) (View.ld x1 r0_2) (View.ld x2 r0_1) (ix2 r l))
        (View.ld x3 (Rect.unit (s := S6x4096) ![o, 0] S1x4096.size inb) (ix2 0 l))
      = mixEntry (hid m c) (gain m c) (share m c) j R l := by
  have ht : t.val < 32 := lt_of_lt_of_eq t.isLt Gen.N_0
  rw [View.ld_unit_zero hz2, View.ld_unit_zero hz2, View.ld_unit_zero hz2, ld_row x3 o inb j hj l, normB, prevB, (starts t).2.2.2]
  subst e0 e1 e2 e3
  rw [blk2, blk3]
  unfold mixEntry
  have en : ∀ (r : Fin 256) (R : Fin 8192), R.val = t.val * 256 + r.val →
      rmsEntry (fun k => (iblk m c 0 t : Vec Ideal S256x4096 .f32) (ix2 r k)) (gain m c (ix1 l)) l = normEntry (hid m c) (gain m c) R l :=
    fun r R h => congrArg (rmsEntry · _ _) (funext fun k => blk0 m c t r k R h)
  refine congrArg₂ (towards · · _) (en r R hR) ?_
  unfold prevEntry
  by_cases hr : r.val = 0
  · rw [if_pos hr]
    by_cases h0 : t.val = 0
    · rw [if_pos h0, if_pos (by omega)]
    · rw [if_neg h0, if_neg (by omega)]
      exact congrArg (rmsEntry · _ _) (funext fun k => blk1 m c t k _ (by show R.val - 1 + 1 = t.val * 256; omega))
  · rw [if_neg hr, if_neg (by omega)]
    exact en _ _ (by show R.val - 1 = t.val * 256 + (r.val - 1); omega)

/-- Some grid point's 256 rows hold a row. -/
theorem point_of (R : Nat) (hR : R < 8192) : ∃ t : Fin cfg0.N, t.val * 256 ≤ R ∧ R < t.val * 256 + 256 :=
  ⟨⟨R / 256, by show _ < grid0.N; rw [Gen.N_0]; omega⟩, by show R / 256 * 256 ≤ R; omega, by show R < R / 256 * 256 + 256; omega⟩

/-- The bounds of a block of 256 rows and all columns, at an index whose row is among them. -/
theorem in_rows {n : Nat} (i : (⟨2, ![8192, n]⟩ : Shape).Idx) (t : Nat) (ix : Fin 2 → Nat) (h0 : ix 0 = t) (h1 : ix 1 = 0)
    (h : t * 256 ≤ (i 0).val ∧ (i 0).val < t * 256 + 256) (a : Fin 2) :
    ix a * (![256, n] : Fin 2 → Nat) a ≤ (i a).val ∧ (i a).val < ix a * (![256, n] : Fin 2 → Nat) a + (![256, n] : Fin 2 → Nat) a := by
  match a with
  | ⟨0, _⟩ => show ix 0 * 256 ≤ (i 0).val ∧ (i 0).val < ix 0 * 256 + 256; rw [h0]; exact h
  | ⟨1, _⟩ =>
    have hl : (i 1).val < n := (i 1).isLt
    show ix 1 * n ≤ (i 1).val ∧ (i 1).val < ix 1 * n + n
    rw [h1]; omega

/-- A block whose entries are the block's moved rows is the part of the moved rows that lies at the grid point's rows. -/
theorem mixed_part (c : Dev nD) (t : Fin cfg0.N) (x0 : Vec Ideal S256x4096 .f32) (x1 : Vec Ideal S8x4096 .f32) (x2 : Vec Ideal S1x4096 .f32) (x3 : Vec Ideal S6x4096 .f32)
    (e0 : x0 = iblk m c 0 t) (e1 : x1 = iblk m c 1 t) (e2 : x2 = iblk m c 2 t) (e3 : x3 = iblk m c 3 t)
    (o : Nat) (inb) (j : Fin 6) (hj : j.val = o) (Q : FVec Ideal S256x4096 .bf16)
    (hQ : ∀ (r : Fin 256) (l : Fin 4096), Q (ix2 r l) = (towards (k0_pay3 (View.ld x0 r0_0) (View.ld x2 r0_1) (ix2 r l))
        (k0_pay4 (grid0.coords t) (View.ld x0 r0_0) (View.ld x2 r0_1) (View.ld x1 r0_2) (View.ld x2 r0_1) (ix2 r l))
        (View.ld x3 (Rect.unit (s := S6x4096) ![o, 0] S1x4096.size inb) (ix2 0 l))))
    (ix : Fin 2 → Nat) (h0 : ix 0 = t.val) (h1 : ix 1 = 0) (y : S256x4096.Idx) (i : S8192x4096.Idx)
    (i0 : (i 0).val = ix 0 * 256 + 1 * (y 0).val) (i1 : (i 1).val = ix 1 * 4096 + 1 * (y 1).val) :
    Q y = Mixed j (hid m c) (gain m c) (share m c) i := by
  idx_vars y
  have ei : i = ix2 (i 0) y1 := by
    funext a
    match a with
    | ⟨0, _⟩ => rfl
    | ⟨1, _⟩ => exact Fin.ext (by show (i 1).val = y1.val; rw [i1, h1]; show 0 * 4096 + 1 * y1.val = y1.val; omega)
  rw [hQ, ei]
  exact mix_blk m c t x0 x1 x2 x3 e0 e1 e2 e3 o inb j hj y0 y1 (i 0) (by rw [i0, h0]; show t.val * 256 + 1 * y0.val = _; omega)

/-- The same of a product of the block's moved rows, each entry through a function. -/
theorem low_part {n : Nat} (f : EReal → EReal) (c : Dev nD) (t : Fin cfg0.N) (x0 : Vec Ideal S256x4096 .f32) (x1 : Vec Ideal S8x4096 .f32) (x2 : Vec Ideal S1x4096 .f32)
    (x3 : Vec Ideal S6x4096 .f32) (e0 : x0 = iblk m c 0 t) (e1 : x1 = iblk m c 1 t) (e2 : x2 = iblk m c 2 t) (e3 : x3 = iblk m c 3 t)
    (o : Nat) (inb) (j : Fin 6) (hj : j.val = o) (w W : FVec Ideal ⟨3, ![1, 4096, n]⟩ .f32) (hw : ∀ (k : Fin 4096) (l : Fin n), w (ix3 0 k l) = W (ix3 0 k l))
    (Q : FVec Ideal ⟨2, ![256, n]⟩ .bf16)
    (hQ : ∀ (r : Fin 256) (l : Fin n), Q (ix2 r l) = f (∑ k : Fin 4096, (towards (k0_pay3 (View.ld x0 r0_0) (View.ld x2 r0_1) (ix2 r k))
        (k0_pay4 (grid0.coords t) (View.ld x0 r0_0) (View.ld x2 r0_1) (View.ld x1 r0_2) (View.ld x2 r0_1) (ix2 r k))
        (View.ld x3 (Rect.unit (s := S6x4096) ![o, 0] S1x4096.size inb) (ix2 0 k))) * w (ix3 0 k l)))
    (ix : Fin 2 → Nat) (h0 : ix 0 = t.val) (h1 : ix 1 = 0) (y : (⟨2, ![256, n]⟩ : Shape).Idx) (i : (⟨2, ![8192, n]⟩ : Shape).Idx)
    (i0 : (i 0).val = ix 0 * 256 + 1 * (y 0).val) (i1 : (i 1).val = ix 1 * n + 1 * (y 1).val) :
    Q y = Low f j (hid m c) (gain m c) (share m c) W i := by
  obtain ⟨r, l, rfl⟩ : ∃ (r : Fin 256) (l : Fin n), y = ix2 r l :=
    ⟨y 0, y 1, funext fun a => match a with | ⟨0, _⟩ => rfl | ⟨1, _⟩ => rfl⟩
  have ei : i = ix2 (i 0) l := by
    funext a
    match a with
    | ⟨0, _⟩ => rfl
    | ⟨1, _⟩ => exact Fin.ext (by show (i 1).val = l.val; rw [i1, h1]; show 0 * n + 1 * l.val = l.val; omega)
  rw [hQ, ei]
  refine congrArg f (Finset.sum_congr rfl fun k _ => congrArg₂ (· * ·) ?_ (hw k l))
  exact mix_blk m c t x0 x1 x2 x3 e0 e1 e2 e3 o inb j hj r k (i 0) (by rw [i0, h0]; show t.val * 256 + 1 * r.val = _; omega)

/-- The first result's array after the run. -/
theorem final7 (c : Dev nD) : (dats m 0 c).arrAt 7 cfg0.N = Mixed 0 (hid m c) (gain m c) (share m c) := by
  refine (dats m 0 c).arrAt_eq_of_cover 7 _ (fun t _ => ?_) fun i => ?_
  · have hi := (starts t).2.2.1
    show (cfg0.win 7).cut (grid0.coords t) ((dats m 0 c).after 7 t) = _
    rw [after0_7]
    show out0_7 (grid0.coords t) (iblk m c 0 t) (iblk m c 1 t) (iblk m c 2 t) (iblk m c 3 t) (iblk m c 4 t) (iblk m c 5 t) (iblk m c 6 t) = _
    funext y
    rw [View.read_apply]
    unfold_out out0_7
    rw [View.canon_unit_zero hz2]
    exact mixed_part m c t _ _ _ _ rfl rfl rfl rfl 0 _ 0 rfl _ (storeMix _ _ _) (win0_7.index t) hi.1 hi.2.1 y _ rfl rfl
  · obtain ⟨t, h⟩ := point_of _ (i 0).isLt
    have hi := (starts t).2.2.1
    refine ⟨t, flush0_7 t, ?_⟩
    show i ∈ ((View.whole main_v1_0).slice (win0_7.rect t)).set
    rw [View.set_slice_whole, Rect.mem_set_unit]
    exact in_rows i t.val _ hi.1 hi.2.1 h

/-- The second result's array after the run. -/
theorem final8 (c : Dev nD) : (dats m 0 c).arrAt 8 cfg0.N = Mixed 2 (hid m c) (gain m c) (share m c) := by
  refine (dats m 0 c).arrAt_eq_of_cover 8 _ (fun t _ => ?_) fun i => ?_
  · have hi := (starts t).2.2.1
    show (cfg0.win 8).cut (grid0.coords t) ((dats m 0 c).after 8 t) = _
    rw [after0_8]
    show out0_8 (grid0.coords t) (iblk m c 0 t) (iblk m c 1 t) (iblk m c 2 t) (iblk m c 3 t) (iblk m c 4 t) (iblk m c 5 t) (iblk m c 6 t) = _
    funext y
    rw [View.read_apply]
    unfold_out out0_8
    rw [View.canon_unit_zero hz2]
    exact mixed_part m c t _ _ _ _ rfl rfl rfl rfl 2 _ 2 rfl _ (storeMix _ _ _) (win0_8.index t) hi.2.2.1 hi.2.2.2.1 y _ rfl rfl
  · obtain ⟨t, h⟩ := point_of _ (i 0).isLt
    have hi := (starts t).2.2.1
    refine ⟨t, flush0_8 t, ?_⟩
    show i ∈ ((View.whole main_v1_1).slice (win0_8.rect t)).set
    rw [View.set_slice_whole, Rect.mem_set_unit]
    exact in_rows i t.val _ hi.2.2.1 hi.2.2.2.1 h

/-- The third result's array after the run. -/
theorem final9 (c : Dev nD) : (dats m 0 c).arrAt 9 cfg0.N = Mixed 3 (hid m c) (gain m c) (share m c) := by
  refine (dats m 0 c).arrAt_eq_of_cover 9 _ (fun t _ => ?_) fun i => ?_
  · have hi := (starts t).2.2.1
    show (cfg0.win 9).cut (grid0.coords t) ((dats m 0 c).after 9 t) = _
    rw [after0_9]
    show out0_9 (grid0.coords t) (iblk m c 0 t) (iblk m c 1 t) (iblk m c 2 t) (iblk m c 3 t) (iblk m c 4 t) (iblk m c 5 t) (iblk m c 6 t) = _
    funext y
    rw [View.read_apply]
    unfold_out out0_9
    rw [View.canon_unit_zero hz2]
    exact mixed_part m c t _ _ _ _ rfl rfl rfl rfl 3 _ 3 rfl _ (storeMix _ _ _) (win0_9.index t) hi.2.2.2.2.1 hi.2.2.2.2.2.1 y _ rfl rfl
  · obtain ⟨t, h⟩ := point_of _ (i 0).isLt
    have hi := (starts t).2.2.1
    refine ⟨t, flush0_9 t, ?_⟩
    show i ∈ ((View.whole main_v1_2).slice (win0_9.rect t)).set
    rw [View.set_slice_whole, Rect.mem_set_unit]
    exact in_rows i t.val _ hi.2.2.2.2.1 hi.2.2.2.2.2.1 h

/-- The fourth result's array after the run. -/
theorem final10 (c : Dev nD) : (dats m 0 c).arrAt 10 cfg0.N = Low Ideal.tanh 1 (hid m c) (gain m c) (share m c) (m ((c : Thread nD τ).loc main_arg3)) := by
  refine (dats m 0 c).arrAt_eq_of_cover 10 _ (fun t _ => ?_) fun i => ?_
  · have hi := (starts t).2.2.1
    show (cfg0.win 10).cut (grid0.coords t) ((dats m 0 c).after 10 t) = _
    rw [after0_10]
    show out0_10 (grid0.coords t) (iblk m c 0 t) (iblk m c 1 t) (iblk m c 2 t) (iblk m c 3 t) (iblk m c 4 t) (iblk m c 5 t) (iblk m c 6 t) = _
    funext y
    rw [View.read_apply]
    unfold_out out0_10
    rw [View.canon_unit_zero hz2, View.ld_unit_zero (S := S1x4096x128) hz3]
    exact low_part m Ideal.tanh c t _ _ _ _ rfl rfl rfl rfl 1 _ 1 rfl _ _ (blk4 m c t) _ (storeTanh _ _ _ _) (win0_10.index t) hi.2.2.2.2.2.2.1 hi.2.2.2.2.2.2.2.1 y _ rfl rfl
  · obtain ⟨t, h⟩ := point_of _ (i 0).isLt
    have hi := (starts t).2.2.1
    refine ⟨t, flush0_10 t, ?_⟩
    show i ∈ ((View.whole main_v1_3).slice (win0_10.rect t)).set
    rw [View.set_slice_whole, Rect.mem_set_unit]
    exact in_rows i t.val _ hi.2.2.2.2.2.2.1 hi.2.2.2.2.2.2.2.1 h

/-- The fifth result's array after the run. -/
theorem final11 (c : Dev nD) : (dats m 0 c).arrAt 11 cfg0.N = Low id 4 (hid m c) (gain m c) (share m c) (m ((c : Thread nD τ).loc main_arg4)) := by
  refine (dats m 0 c).arrAt_eq_of_cover 11 _ (fun t _ => ?_) fun i => ?_
  · have hi := (starts t).2.2.1
    show (cfg0.win 11).cut (grid0.coords t) ((dats m 0 c).after 11 t) = _
    rw [after0_11]
    show out0_11 (grid0.coords t) (iblk m c 0 t) (iblk m c 1 t) (iblk m c 2 t) (iblk m c 3 t) (iblk m c 4 t) (iblk m c 5 t) (iblk m c 6 t) = _
    funext y
    rw [View.read_apply]
    unfold_out out0_11
    rw [View.canon_unit_zero hz2, View.ld_unit_zero (S := S1x4096x128) hz3]
    exact low_part m id c t _ _ _ _ rfl rfl rfl rfl 4 _ 4 rfl _ _ (blk5 m c t) _ (storeLow _ _ _ _) (win0_11.index t) hi.2.2.2.2.2.2.2.2.1 hi.2.2.2.2.2.2.2.2.2.1 y _ rfl rfl
  · obtain ⟨t, h⟩ := point_of _ (i 0).isLt
    have hi := (starts t).2.2.1
    refine ⟨t, flush0_11 t, ?_⟩
    show i ∈ ((View.whole main_v1_4).slice (win0_11.rect t)).set
    rw [View.set_slice_whole, Rect.mem_set_unit]
    exact in_rows i t.val _ hi.2.2.2.2.2.2.2.2.1 hi.2.2.2.2.2.2.2.2.2.1 h

/-- The sixth result's array after the run. -/
theorem final12 (c : Dev nD) : (dats m 0 c).arrAt 12 cfg0.N = Low sigm 5 (hid m c) (gain m c) (share m c) (m ((c : Thread nD τ).loc main_arg5)) := by
  refine (dats m 0 c).arrAt_eq_of_cover 12 _ (fun t _ => ?_) fun i => ?_
  · have hi := (starts t).2.2.1
    show (cfg0.win 12).cut (grid0.coords t) ((dats m 0 c).after 12 t) = _
    rw [after0_12]
    show out0_12 (grid0.coords t) (iblk m c 0 t) (iblk m c 1 t) (iblk m c 2 t) (iblk m c 3 t) (iblk m c 4 t) (iblk m c 5 t) (iblk m c 6 t) = _
    funext y
    rw [View.read_apply]
    unfold_out out0_12
    rw [View.canon_unit_zero hz2, View.ld_unit_zero (S := S1x4096x480) hz3]
    exact low_part m sigm c t _ _ _ _ rfl rfl rfl rfl 5 _ 5 rfl _ _ (blk6 m c t) _ (storeSigm _ _ _ _) (win0_12.index t) hi.2.2.2.2.2.2.2.2.2.2.1 hi.2.2.2.2.2.2.2.2.2.2.2 y _ rfl rfl
  · obtain ⟨t, h⟩ := point_of _ (i 0).isLt
    have hi := (starts t).2.2.1
    refine ⟨t, flush0_12 t, ?_⟩
    show i ∈ ((View.whole main_v1_5).slice (win0_12.rect t)).set
    rw [View.set_slice_whole, Rect.mem_set_unit]
    exact in_rows i t.val _ hi.2.2.2.2.2.2.2.2.2.2.1 hi.2.2.2.2.2.2.2.2.2.2.2 h

end Cert.ShiftIdeal.Value
end
-- ==== Proof.RwkvOutPay.lean ====
module

public import proofs.«01_k».proof.Proof.Gen.RwkvOutIdeal.Value
public import proofs.«01_k».proof.Proof.RealFacts
public import proofs.«01_k».proof.Proof.Starts
public import Idealize.ShloMosaic.Lib.Pipeline.ValueKit.Tiles

@[expose] public section

set_option maxRecDepth 16384

/-! What one grid point of the per-head normalization stores. -/

noncomputable section

namespace Cert.RwkvOutIdeal.Value

open Cert.Common Cert.RwkvOutIdeal Cert.RwkvOutIdeal.Gen Idealize.ShloMosaic Idealize.ShloMosaic.TcCoe Idealize.ShloMosaic.Tactic Idealize.SL.Sem

/-- The averaging matrix: its four blocks of 64 rows and columns on the diagonal hold one value, the rest is zero. -/
abbrev avg : FVec Ideal S256x256 .bf16 := k0_pay7 (F := Ideal) k0_pay2 k0_pay3 k0_pay4 k0_pay5 k0_pay6

/-- The block a row number lies in, as the body computes it. -/
theorem row_block : ∀ i : Fin 256, k0_pay2 (ix2 i 0) = BitVec.ofNat 32 (i.val / 64) := by decide +kernel

/-- The block a column number lies in, as the body computes it. -/
theorem col_block : ∀ j : Fin 256,
    Scalar.select (Scalar.andi (k0_pay4 (ix2 0 j)) (Scalar.cmpi .ne (k0_pay5 (ix2 0 j)) (k0_pay6 (ix2 0 j)))) (Scalar.subi (k0_pay3 (ix2 0 j)) 1#32) (k0_pay3 (ix2 0 j))
      = BitVec.ofNat 32 (j.val / 64) := by decide +kernel

/-- One entry of the averaging matrix. -/
theorem avg_apply (i j : Fin 256) :
    avg (ix2 i j) = if i.val / 64 = j.val / 64 then Ideal.ofBits .f32 0x3C800000#32 else 0 := by
  have hr : k0_pay2 (ix2 i j) = BitVec.ofNat 32 (i.val / 64) := row_block i
  have hn : ∀ a b : Fin 256, BitVec.ofNat 32 (a.val / 64) = BitVec.ofNat 32 (b.val / 64) ↔ a.val / 64 = b.val / 64 := fun a b => by
    refine ⟨fun h => ?_, fun h => by rw [h]⟩
    have := congrArg BitVec.toNat h
    simp only [BitVec.toNat_ofNat] at this
    omega
  have e : avg (ix2 i j) = Scalar.select (Scalar.cmpi .eq (k0_pay2 (ix2 i j))
      (Scalar.select (Scalar.andi (k0_pay4 (ix2 0 j)) (Scalar.cmpi .ne (k0_pay5 (ix2 0 j)) (k0_pay6 (ix2 0 j)))) (Scalar.subi (k0_pay3 (ix2 0 j)) 1#32) (k0_pay3 (ix2 0 j))))
      (Ideal.ofBits .f32 0x3C800000#32) (Ideal.ofBits .f32 0x00000000#32) := rfl
  rw [e, hr, col_block j]
  by_cases h : i.val / 64 = j.val / 64
  · rw [if_pos h, h]
    simp [Scalar.select, Scalar.cmpi, IntOp.cmpi]
  · rw [if_neg h]
    have h' : (BitVec.ofNat 32 (i.val / 64) == BitVec.ofNat 32 (j.val / 64)) = false := beq_eq_false_iff_ne.2 fun x => h ((hn i j).1 x)
    simp only [Scalar.select, Scalar.cmpi, IntOp.cmpi, h']
    simp [Ideal.ofBits, Ideal.ieee]

/-- Two-part product of a block with the averaging matrix: the parts stacked, multiplied, and their halves added. -/
def means (W : FVec Ideal S256x256 .bf16) (x : FVec Ideal S64x256 .f32) : FVec Ideal S64x256 .f32 :=
  have hi : FVec Ideal S64x256 .bf16 := truncf .bf16 x bitsLt_bf16_f32
  have lo : FVec Ideal S64x256 .bf16 := truncf .bf16 (subf x (extf .f32 hi bitsLt_bf16_f32)) bitsLt_bf16_f32
  have p : FVec Ideal S128x256 .f32 := matmul dot_S128x256_S256x256_S128x256_1_0_0_1_n_n none
    (concatenate S128x256 0 [⟨S64x256, hi⟩, ⟨S64x256, lo⟩] concatenates_S64x256_S64x256_S128x256_d0) W (constant S128x256 .f32 0x00000000#32)
  addf (extractStridedSlice S64x256 ![0, 0] p slices_S128x256_o0_0_S64x256) (extractStridedSlice S64x256 ![64, 0] p slices_S128x256_o64_0_S64x256)

/-- One entry of it. -/
theorem means_apply (W : FVec Ideal S256x256 .bf16) (x : FVec Ideal S64x256 .f32) (r : Fin 64) (l : Fin 256) :
    means W x (ix2 r l) = (∑ k : Fin 256, x (ix2 r k) * W (ix2 k l)) + ∑ k : Fin 256, (x (ix2 r k) - x (ix2 r k)) * W (ix2 k l) := by
  pointwise [means]

/-- What one group of 256 columns stores: normalized, scaled, shifted, the bonus added, gated. -/
def group (W : FVec Ideal S256x256 .bf16) (y : FVec Ideal S64x256 .f32) (w b : FVec Ideal S1x256 .f32) (bon g : FVec Ideal S64x256 .f32) : FVec Ideal S64x256 .bf16 :=
  have d : FVec Ideal S64x256 .f32 := subf y (means W y)
  have v : FVec Ideal S64x256 .f32 := addf (means W (mulf d d)) (broadcast S64x256 (Scalar.ofBits (F := Ideal) .f32 0x3A27C5AC#32))
  have s : FVec Ideal S64x256 .f32 := mulf (mulf d (rsqrt v)) (broadcastTo S64x256 (shapeCast S1x256 w shapeCasts_S1x256_S1x256) broadcasts_S1x256_S64x256)
  truncf .bf16 (mulf (addf (addf s (broadcastTo S64x256 (shapeCast S1x256 b shapeCasts_S1x256_S1x256) broadcasts_S1x256_S64x256)) bon) g) bitsLt_bf16_f32

/-- One entry of it. -/
theorem group_apply (W : FVec Ideal S256x256 .bf16) (y : FVec Ideal S64x256 .f32) (w b : FVec Ideal S1x256 .f32) (bon g : FVec Ideal S64x256 .f32)
    (r : Fin 64) (l : Fin 256) :
    group W y w b bon g (ix2 r l)
      = ((y (ix2 r l) - means W y (ix2 r l)) * Ideal.rsqrt (means W (mulf (subf y (means W y)) (subf y (means W y))) (ix2 r l) + Ideal.ofBits .f32 0x3A27C5AC#32)
          * w (ix2 0 l) + b (ix2 0 l) + bon (ix2 r l)) * g (ix2 r l) := by
  pointwise [group]

/-- The deviation of an entry of a head from the mean of its head. -/
def devEntry (y : Fin 64 → EReal) (i : Fin 64) : EReal := y i - Ideal.div (∑ k, y k) (Ideal.ofBits .f32 0x42800000#32)

/-- The normalized entry of a head. -/
def headEntry (y : Fin 64 → EReal) (i : Fin 64) : EReal :=
  devEntry y i * Ideal.rsqrt (Ideal.div (∑ k, devEntry y k * devEntry y k) (Ideal.ofBits .f32 0x42800000#32) + Ideal.ofBits .f32 0x3A27C5AC#32)

/-- The word of the averaging matrix is 1/64. -/
theorem word_64th : Ideal.ofBits FTy.f32 0x3C800000#32 = ((1 / 64 : ℝ) : EReal) := by
  simp [Ideal.ofBits, Ideal.ieee, -EReal.coe_mul]
  norm_num

/-- The word of 64. -/
theorem word_64 : Ideal.ofBits FTy.f32 0x42800000#32 = ((64 : ℝ) : EReal) := by
  simp [Ideal.ofBits, Ideal.ieee, -EReal.coe_mul]
  norm_num

/-- Of a row of real numbers the averaging matrix makes the means of its four heads. -/
theorem means_avg (x : FVec Ideal S64x256 .f32) (r : Fin 64) (hx : ∀ k : Fin 256, IsReal (x (ix2 r k))) (h : Fin 4) (i : Fin 64) (l : Fin 256)
    (hl : l.val = h.val * 64 + i.val) :
    means avg x (ix2 r l) = Ideal.div (∑ k : Fin 64, x (ix2 r ⟨h.val * 64 + k.val, by omega⟩)) (Ideal.ofBits .f32 0x42800000#32) := by
  obtain ⟨g, hg⟩ := exists_real hx
  have hg' : ∀ k, x (ix2 r k) = (g k : EReal) := fun k => congrFun hg k
  rw [means_apply, word_64, Ideal.div_coe (by norm_num)]
  simp only [avg_apply, hg', word_64th]
  have z : ∀ k : Fin 256, ((g k : EReal) - (g k : EReal)) = 0 := fun k => by rw [← EReal.coe_sub, sub_self]; rfl
  simp only [z, zero_mul, Finset.sum_const_zero, add_zero]
  have one : ∀ k : Fin 256, (g k : EReal) * (if k.val / 64 = l.val / 64 then ((1 / 64 : ℝ) : EReal) else 0)
      = ((if k.val / 64 = l.val / 64 then g k * (1 / 64) else 0 : ℝ) : EReal) := fun k => by
    split
    · rw [EReal.coe_mul]
    · rw [mul_zero]; rfl
  rw [Finset.sum_congr rfl fun k _ => one k, sum_blocks (m := 4) (n := 64) rfl]
  simp only [coe_sum_real]
  rw [← EReal.coe_mul]
  congr 1
  rw [Finset.sum_eq_single h, Finset.sum_mul]
  · refine Finset.sum_congr rfl fun k _ => ?_
    rw [if_pos (by show (h.val * 64 + k.val) / 64 = l.val / 64; omega)]
  · intro b _ hb
    refine Finset.sum_eq_zero fun k _ => if_neg ?_
    have : b.val ≠ h.val := fun e => hb (Fin.ext e)
    show ¬ (b.val * 64 + k.val) / 64 = l.val / 64
    omega
  · exact fun hh => absurd (Finset.mem_univ _) hh

/-- The mean of a head of real numbers is a real number. -/
theorem isReal_mean {y : Fin 64 → EReal} (hy : ∀ k, IsReal (y k)) : IsReal (Ideal.div (∑ k, y k) (Ideal.ofBits .f32 0x42800000#32)) :=
  (IsReal.sum hy).div ⟨64, word_64⟩ (by rw [word_64]; exact_mod_cast (by norm_num : (64 : ℝ) ≠ 0))

/-- What one group of columns stores, from rows of real numbers: each head normalized. -/
theorem group_avg (y : FVec Ideal S64x256 .f32) (w b : FVec Ideal S1x256 .f32) (bon g : FVec Ideal S64x256 .f32) (r : Fin 64)
    (hy : ∀ k : Fin 256, IsReal (y (ix2 r k))) (h : Fin 4) (i : Fin 64) (l : Fin 256) (hl : l.val = h.val * 64 + i.val) :
    group avg y w b bon g (ix2 r l)
      = (headEntry (fun k => y (ix2 r ⟨h.val * 64 + k.val, by omega⟩)) i * w (ix2 0 l) + b (ix2 0 l) + bon (ix2 r l)) * g (ix2 r l) := by
  have d : ∀ (h' : Fin 4) (i' : Fin 64), subf y (means avg y) (ix2 r ⟨h'.val * 64 + i'.val, by omega⟩)
      = devEntry (fun k => y (ix2 r ⟨h'.val * 64 + k.val, by omega⟩)) i' := fun h' i' => by
    show y _ - means avg y _ = _
    rw [means_avg y r hy h' i' _ rfl]
    rfl
  have hd : ∀ (h' : Fin 4) (i' : Fin 64), IsReal (devEntry (fun k => y (ix2 r ⟨h'.val * 64 + k.val, by omega⟩)) i') := fun h' i' =>
    (hy _).sub (isReal_mean fun k => hy _)
  have hq : ∀ k : Fin 256, IsReal (mulf (subf y (means avg y)) (subf y (means avg y)) (ix2 r k)) := fun k => by
    have hk : k = ⟨(⟨k.val / 64, by omega⟩ : Fin 4).val * 64 + (⟨k.val % 64, by omega⟩ : Fin 64).val, by show k.val / 64 * 64 + k.val % 64 < 256; omega⟩ :=
      Fin.ext (by show k.val = k.val / 64 * 64 + k.val % 64; omega)
    show IsReal (subf y (means avg y) (ix2 r k) * subf y (means avg y) (ix2 r k))
    rw [hk, d]
    exact (hd _ _).mul (hd _ _)
  rw [group_apply, means_avg y r hy h i l hl, means_avg _ r hq h i l hl]
  have s : ∀ k : Fin 64, mulf (subf y (means avg y)) (subf y (means avg y)) (ix2 r ⟨h.val * 64 + k.val, by omega⟩)
      = devEntry (fun k => y (ix2 r ⟨h.val * 64 + k.val, by omega⟩)) k * devEntry (fun k => y (ix2 r ⟨h.val * 64 + k.val, by omega⟩)) k := fun k => by
    show subf y (means avg y) _ * subf y (means avg y) _ = _
    rw [d]
  simp only [s]
  have el : y (ix2 r l) = y (ix2 r ⟨h.val * 64 + i.val, by omega⟩) := congrArg (fun q => y (ix2 r q)) (Fin.ext hl)
  rw [el]
  rfl

/-- What one grid point stores: each head of its rows normalized, scaled, shifted, the bonus added, gated. -/
theorem pay (x0 x1 x2 : Vec Ideal S64x4096 .f32) (x3 : Vec Ideal S8x4096 .f32) (r : Fin 64) (hx : ∀ k : Fin 4096, IsReal (x0 (ix2 r k)))
    (h i : Fin 64) (C : Fin 4096) (hC : C.val = h.val * 64 + i.val) :
    out0_4 x0 x1 x2 x3 (ix2 r C)
      = (headEntry (fun k => x0 (ix2 r ⟨h.val * 64 + k.val, by omega⟩)) i * x3 (ix2 0 C) + x3 (ix2 1 C) + x1 (ix2 r C)) * x2 (ix2 r C) := by
  have key : ∀ (o : Nat) (ho : o + 256 ≤ 4096) (hy : ∀ a : Fin 2, ![0, o] a + S64x256.size a ≤ S64x4096.size a)
      (hw : ∀ a : Fin 2, ![0, o] a + S1x256.size a ≤ S8x4096.size a) (hb : ∀ a : Fin 2, ![1, o] a + S1x256.size a ≤ S8x4096.size a)
      (r' : Fin 64) (l : Fin 256), r'.val = r.val → C.val = o + l.val → o % 256 = 0 →
      group avg (View.ld x0 (Rect.unit (s := S64x4096) ![0, o] S64x256.size hy)) (View.ld x3 (Rect.unit (s := S8x4096) ![0, o] S1x256.size hw))
          (View.ld x3 (Rect.unit (s := S8x4096) ![1, o] S1x256.size hb)) (View.ld x1 (Rect.unit (s := S64x4096) ![0, o] S64x256.size hy))
          (View.ld x2 (Rect.unit (s := S64x4096) ![0, o] S64x256.size hy)) (ix2 r' l)
        = (headEntry (fun k => x0 (ix2 r ⟨h.val * 64 + k.val, by omega⟩)) i * x3 (ix2 0 C) + x3 (ix2 1 C) + x1 (ix2 r C)) * x2 (ix2 r C) := by
    intro o ho hy hw hb r' l hr hl ho256
    obtain rfl : r' = r := Fin.ext hr
    have at64 : ∀ (x : Vec Ideal S64x4096 .f32) (k : Fin 256) (K : Fin 4096), K.val = o + k.val →
        View.ld x (Rect.unit (s := S64x4096) ![0, o] S64x256.size hy) (ix2 r' k) = x (ix2 r' K) := fun x k K hK =>
      congrArg x (funext fun a => Fin.ext (match a with
        | ⟨0, _⟩ => by show 0 + 1 * r'.val = r'.val; omega
        | ⟨1, _⟩ => by show o + 1 * k.val = K.val; omega))
    have at0 : View.ld x3 (Rect.unit (s := S8x4096) ![0, o] S1x256.size hw) (ix2 0 l) = x3 (ix2 0 C) :=
      congrArg x3 (funext fun a => Fin.ext (match a with
        | ⟨0, _⟩ => rfl
        | ⟨1, _⟩ => by show o + 1 * l.val = C.val; omega))
    have at1 : View.ld x3 (Rect.unit (s := S8x4096) ![1, o] S1x256.size hb) (ix2 0 l) = x3 (ix2 1 C) :=
      congrArg x3 (funext fun a => Fin.ext (match a with
        | ⟨0, _⟩ => rfl
        | ⟨1, _⟩ => by show o + 1 * l.val = C.val; omega))
    rw [group_avg _ _ _ _ _ r' (fun k => by rw [at64 x0 k ⟨o + k.val, by omega⟩ rfl]; exact hx _) ⟨h.val % 4, by omega⟩ i l
        (by show l.val = h.val % 4 * 64 + i.val; omega),
      at0, at1, at64 x1 l C hl, at64 x2 l C hl]
    refine congrArg (fun f => (headEntry f i * _ + _ + _) * _) (funext fun k => at64 x0 _ _ ?_)
    show h.val * 64 + k.val = o + (h.val % 4 * 64 + k.val)
    omega
  unfold_out out0_4
  canon_tiles y hy using cover0_4 ..
  all_goals idx_vars y
  all_goals exact key _ (by omega) _ _ _ y0 y1 (by omega) (by omega) (by omega)

end Cert.RwkvOutIdeal.Value
end
-- ==== Proof.RwkvOutValue.lean ====
module

public import proofs.«01_k».proof.Proof.RwkvOutPay
public import proofs.«01_k».proof.Proof.Gen.RwkvOutRefIdeal.Run
public import proofs.«01_k».proof.Pre_finite_y

@[expose] public section

set_option maxRecDepth 16384

/-! The per-head normalization with its bonus and its gate: the kernel's array and the plain form of it. -/

noncomputable section

namespace Cert.RwkvOutIdeal.Value

open Cert.Common Cert.RwkvOutIdeal Cert.RwkvOutIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The number of each window's block at a grid point. -/
theorem starts : ∀ t : Fin grid0.N,
    win0_0.index t 0 = t.val ∧ win0_0.index t 1 = 0
    ∧ win0_1.index t 0 = t.val ∧ win0_1.index t 1 = 0
    ∧ win0_2.index t 0 = t.val ∧ win0_2.index t 1 = 0
    ∧ win0_3.index t 0 = 0 ∧ win0_3.index t 1 = 0
    ∧ win0_4.index t 0 = t.val ∧ win0_4.index t 1 = 0 := by decide +kernel

/-- The scale and the shift as the first two of eight rows. -/
def lnRows (w b : FVec Ideal S4096 .f32) : FVec Ideal S8x4096 .f32 :=
  concatenate S8x4096 0 [⟨S2x4096, concatenate S2x4096 0 [⟨S1x4096, broadcastInDim S1x4096 ![1] bcast_S4096_S1x4096_1 w⟩, ⟨S1x4096, broadcastInDim S1x4096 ![1] bcast_S4096_S1x4096_1 b⟩] concatenates_S1x4096_S1x4096_S2x4096_d0⟩,
    ⟨S6x4096, broadcastInDim S6x4096 ![] bcast_S_S6x4096 (constant (F := Ideal) S_ .f32 0x00000000#32)⟩] concatenates_S2x4096_S6x4096_S8x4096_d0

/-- The first of them is the scale. -/
theorem lnRows_zero (w b : FVec Ideal S4096 .f32) (C : Fin 4096) : lnRows w b (ix2 0 C) = w (ix1 C) := by
  pointwise [lnRows]

/-- The second of them is the shift. -/
theorem lnRows_one (w b : FVec Ideal S4096 .f32) (C : Fin 4096) : lnRows w b (ix2 1 C) = b (ix1 C) := by
  pointwise [lnRows]

/-- The rows of scale and shift the kernel is launched on. -/
theorem V4 (c : Dev nD) : V m c main_v4 = lnRows (m ((c : Thread nD τ).loc main_arg3)) (m ((c : Thread nD τ).loc main_arg4)) := by
  unfold V; after_results <;> rfl

/-- The block of rows to normalize, read from the argument. -/
theorem blk0 (c : Dev nD) (t : Fin cfg0.N) (r : Fin 64) (k : Fin 4096) (R : Fin 8192) (hR : R.val = t.val * 64 + r.val) :
    (iblk m c 0 t : Vec Ideal S64x4096 .f32) (ix2 r k) = m ((c : Thread nD τ).loc main_arg0) (ix2 R k) := by
  have hi := starts t
  unfold iblk
  rw [View.read_apply]
  show V m c main_arg0 _ = _
  rw [V_main_arg0]
  congr 1
  funext a
  apply Fin.ext
  match a with
  | ⟨0, _⟩ => show win0_0.index t 0 * 64 + 1 * r.val = R.val; omega
  | ⟨1, _⟩ => show win0_0.index t 1 * 4096 + 1 * k.val = k.val; omega

/-- The block of the bonus, read from the argument. -/
theorem blk1 (c : Dev nD) (t : Fin cfg0.N) (r : Fin 64) (k : Fin 4096) (R : Fin 8192) (hR : R.val = t.val * 64 + r.val) :
    (iblk m c 1 t : Vec Ideal S64x4096 .f32) (ix2 r k) = m ((c : Thread nD τ).loc main_arg1) (ix2 R k) := by
  have hi := starts t
  unfold iblk
  rw [View.read_apply]
  show V m c main_arg1 _ = _
  rw [V_main_arg1]
  congr 1
  funext a
  apply Fin.ext
  match a with
  | ⟨0, _⟩ => show win0_1.index t 0 * 64 + 1 * r.val = R.val; omega
  | ⟨1, _⟩ => show win0_1.index t 1 * 4096 + 1 * k.val = k.val; omega

/-- The block of the gate, read from the argument. -/
theorem blk2 (c : Dev nD) (t : Fin cfg0.N) (r : Fin 64) (k : Fin 4096) (R : Fin 8192) (hR : R.val = t.val * 64 + r.val) :
    (iblk m c 2 t : Vec Ideal S64x4096 .f32) (ix2 r k) = m ((c : Thread nD τ).loc main_arg2) (ix2 R k) := by
  have hi := starts t
  unfold iblk
  rw [View.read_apply]
  show V m c main_arg2 _ = _
  rw [V_main_arg2]
  congr 1
  funext a
  apply Fin.ext
  match a with
  | ⟨0, _⟩ => show win0_2.index t 0 * 64 + 1 * r.val = R.val; omega
  | ⟨1, _⟩ => show win0_2.index t 1 * 4096 + 1 * k.val = k.val; omega

/-- The rows of scale and shift, read whole at every grid point. -/
theorem blk3 (c : Dev nD) (t : Fin cfg0.N) (q : Fin 8) (k : Fin 4096) :
    (iblk m c 3 t : Vec Ideal S8x4096 .f32) (ix2 q k) = lnRows (m ((c : Thread nD τ).loc main_arg3)) (m ((c : Thread nD τ).loc main_arg4)) (ix2 q k) := by
  have hi := starts t
  unfold iblk
  rw [View.read_apply]
  show V m c main_v4 _ = _
  rw [V4]
  congr 1
  funext a
  apply Fin.ext
  match a with
  | ⟨0, _⟩ => show win0_3.index t 0 * 8 + 1 * q.val = q.val; omega
  | ⟨1, _⟩ => show win0_3.index t 1 * 4096 + 1 * k.val = k.val; omega

/-- Entry `(R, h · 64 + i)`: its head normalized, scaled, shifted, the bonus added, gated. -/
def outEntry (Y B Gt : FVec Ideal S8192x4096 .f32) (w b : FVec Ideal S4096 .f32) (R : Fin 8192) (h i : Fin 64) : EReal :=
  (headEntry (fun k => Y (ix2 R ⟨h.val * 64 + k.val, by omega⟩)) i * w (ix1 ⟨h.val * 64 + i.val, by omega⟩) + b (ix1 ⟨h.val * 64 + i.val, by omega⟩)
    + B (ix2 R ⟨h.val * 64 + i.val, by omega⟩)) * Gt (ix2 R ⟨h.val * 64 + i.val, by omega⟩)

/-- All entries. -/
def G (Y B Gt : FVec Ideal S8192x4096 .f32) (w b : FVec Ideal S4096 .f32) : FVec Ideal S8192x4096 .bf16 := fun j =>
  outEntry Y B Gt w b (j 0) ⟨(j 1).val / 64, by have h : (j 1).val < 4096 := (j 1).isLt; omega⟩ ⟨(j 1).val % 64, by omega⟩

/-- One of them. -/
theorem G_apply (Y B Gt : FVec Ideal S8192x4096 .f32) (w b : FVec Ideal S4096 .f32) (R : Fin 8192) (h i : Fin 64) (C : Fin 4096) (hC : C.val = h.val * 64 + i.val) :
    G Y B Gt w b (ix2 R C) = outEntry Y B Gt w b R h i := by
  show outEntry Y B Gt w b R ⟨C.val / 64, _⟩ ⟨C.val % 64, _⟩ = _
  congr 1 <;> exact Fin.ext (by show _ = _; simp only []; omega)

/-- What each grid point writes back is its block of them. -/
theorem flushed_eq (c : Dev nD) (hy : ∀ j, IsReal ((m ((c : Thread nD τ).loc main_arg0) : FVec Ideal S8192x4096 .f32) j)) (t : Fin cfg0.N) :
    (dats m 0 c).flushed 4 t = (win0_4.blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed4]
  have hi := starts t
  have ht : t.val < 128 := lt_of_lt_of_eq t.isLt Gen.N_0
  show out0_4 (iblk m c 0 t) (iblk m c 1 t) (iblk m c 2 t) (iblk m c 3 t) = _
  funext j
  idx_vars j
  have hC : j1.val = (⟨j1.val / 64, by omega⟩ : Fin 64).val * 64 + (⟨j1.val % 64, by omega⟩ : Fin 64).val := by
    show j1.val = j1.val / 64 * 64 + j1.val % 64; omega
  have e : (win0_4.blk t).view.emb (ix2 j0 j1) = (ix2 ⟨t.val * 64 + j0.val, by omega⟩ j1 : S8192x4096.Idx) := by
    funext a
    apply Fin.ext
    match a with
    | ⟨0, _⟩ => show win0_4.index t 0 * 64 + 1 * j0.val = t.val * 64 + j0.val; omega
    | ⟨1, _⟩ => show win0_4.index t 1 * 4096 + 1 * j1.val = j1.val; omega
  rw [pay _ _ _ _ j0 (fun k => by rw [blk0 m c t j0 k ⟨t.val * 64 + j0.val, by omega⟩ rfl]; exact hy _) _ _ j1 hC, View.read_apply, e,
    G_apply _ _ _ _ _ _ _ _ j1 hC, blk1 m c t j0 j1 ⟨t.val * 64 + j0.val, by omega⟩ rfl, blk2 m c t j0 j1 ⟨t.val * 64 + j0.val, by omega⟩ rfl, blk3, blk3, lnRows_zero, lnRows_one]
  have hj : (⟨(⟨j1.val / 64, by omega⟩ : Fin 64).val * 64 + (⟨j1.val % 64, by omega⟩ : Fin 64).val, by show j1.val / 64 * 64 + j1.val % 64 < 4096; omega⟩ : Fin 4096) = j1 := Fin.ext hC.symm
  unfold outEntry
  rw [hj]
  exact congrArg (fun f => (headEntry f _ * _ + _ + _) * _) (funext fun k => blk0 m c t j0 _ _ rfl)

/-- The blocks written back fill the result. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, ht⟩ : ∃ t : Fin cfg0.N, t.val = (i 0).val / 64 :=
    ⟨⟨_, by show _ < grid0.N; rw [Gen.N_0]; omega⟩, rfl⟩
  refine ⟨t, flush0_4 t, ?_⟩
  have hi := starts t
  show i ∈ ((View.whole main_v5).slice (win0_4.rect t)).set
  rw [View.set_slice_whole, Rect.mem_set_unit]
  intro a
  match a with
  | ⟨0, _⟩ => show win0_4.index t 0 * 64 ≤ (i 0).val ∧ (i 0).val < win0_4.index t 0 * 64 + 64; omega
  | ⟨1, _⟩ => show win0_4.index t 1 * 4096 ≤ (i 1).val ∧ (i 1).val < win0_4.index t 1 * 4096 + 4096; omega

/-- The array after the run, when the rows to normalize are real numbers. -/
theorem final (c : Dev nD) (hy : ∀ j, IsReal ((m ((c : Thread nD τ).loc main_arg0) : FVec Ideal S8192x4096 .f32) j)) : (dats m 0 c).arrAt 4 cfg0.N =
    G (m ((c : Thread nD τ).loc main_arg0)) (m ((c : Thread nD τ).loc main_arg1)) (m ((c : Thread nD τ).loc main_arg2))
      (m ((c : Thread nD τ).loc main_arg3)) (m ((c : Thread nD τ).loc main_arg4)) :=
  (dats m 0 c).arrAt_eq_of_cover 4 _ (fun t _ => flushed_eq m c hy t) cover

/-- The precondition makes every entry to normalize a real number. -/
theorem real_of_pre [Cert.Pre_finite_y.Facts] (Y B Gt : FVec Ideal S8192x4096 .f32) (w b : FVec Ideal S4096 .f32)
    (h : Cert.Pre_finite_y.fn (F := Ideal) Y B Gt w b = fun _ => 1#1) (j : S8192x4096.Idx) : IsReal (Y j) :=
  isReal_of_pass _ _ word_top Cert.Pre_finite_y.Facts.bcast_S_S8192x4096 h j

end Cert.RwkvOutIdeal.Value

namespace Cert.RwkvOutRefIdeal.Stages

open Cert.Common Cert.RwkvOutRefIdeal Cert.RwkvOutRefIdeal.Gen Idealize.ShloMosaic Idealize.ShloMosaic.TcCoe Idealize.ShloMosaic.Tactic Idealize.SL.Sem
open Cert.RwkvOutIdeal.Value (devEntry headEntry outEntry G G_apply)

/-- Each entry less the mean of its head. -/
def dev (x : FVec Ideal S8192x64x64 .f32) : FVec Ideal S8192x64x64 .f32 :=
  subf x (broadcastInDim S8192x64x64 ![0, 1, 2] bcast_S8192x64x1_S8192x64x64_0_1_2 (Host.divf (broadcastInDim S8192x64x1 ![0, 1] bcast_S8192x64_S8192x64x1_0_1
    (Host.reduceAdd x (constant S_ .f32 0x00000000#32) reducesTo_S8192x64x64_S8192x64_d2 h_S_)) (broadcastInDim S8192x64x1 ![] bcast_S_S8192x64x1 (constant S_ .f32 0x42800000#32))))

/-- One of them. -/
theorem dev_apply (x : FVec Ideal S8192x64x64 .f32) (t : Fin 8192) (h i : Fin 64) :
    dev x (ix3 t h i) = devEntry (fun k => x (ix3 t h k)) i := by
  unfold devEntry
  pointwise [dev]

/-- One over the deviation of each head. -/
def scale (d : FVec Ideal S8192x64x64 .f32) : FVec Ideal S8192x64x64 .f32 :=
  broadcastInDim S8192x64x64 ![0, 1, 2] bcast_S8192x64x1_S8192x64x64_0_1_2 (Host.rsqrt (addf (Host.divf (broadcastInDim S8192x64x1 ![0, 1] bcast_S8192x64_S8192x64x1_0_1
    (Host.reduceAdd (mulf d d) (constant S_ .f32 0x00000000#32) reducesTo_S8192x64x64_S8192x64_d2 h_S_)) (broadcastInDim S8192x64x1 ![] bcast_S_S8192x64x1 (constant S_ .f32 0x42800000#32)))
    (broadcastInDim S8192x64x1 ![] bcast_S_S8192x64x1 (constant S_ .f32 0x3A27C5AC#32))))

/-- One of them. -/
theorem scale_apply (d : FVec Ideal S8192x64x64 .f32) (t : Fin 8192) (h i : Fin 64) :
    scale d (ix3 t h i) = Ideal.rsqrt (Ideal.div (∑ k : Fin 64, d (ix3 t h k) * d (ix3 t h k)) (Ideal.ofBits .f32 0x42800000#32) + Ideal.ofBits .f32 0x3A27C5AC#32) := by
  pointwise [scale]

/-- A vector cut into heads and written under every row. -/
def spread (w : FVec Ideal S4096 .f32) : FVec Ideal S8192x64x64 .f32 :=
  broadcastInDim S8192x64x64 ![0, 1, 2] bcast_S1x64x64_S8192x64x64_0_1_2 (broadcastInDim S1x64x64 ![1, 2] bcast_S64x64_S1x64x64_1_2 (shapeCast _ w shapeCasts_S4096_S64x64))

/-- One entry of it. -/
theorem spread_apply (w : FVec Ideal S4096 .f32) (t : Fin 8192) (h i : Fin 64) : spread w (ix3 t h i) = w (ix1 ⟨h.val * 64 + i.val, by omega⟩) := by
  pointwise [spread]

/-- The rows cut into heads. -/
def heads (Y : FVec Ideal S8192x4096 .f32) : FVec Ideal S8192x64x64 .f32 := shapeCast S8192x64x64 Y shapeCasts_S8192x4096_S8192x64x64

/-- One entry of them. -/
theorem heads_apply (Y : FVec Ideal S8192x4096 .f32) (t : Fin 8192) (h i : Fin 64) : heads Y (ix3 t h i) = Y (ix2 t ⟨h.val * 64 + i.val, by omega⟩) := by
  pointwise [heads]

/-- The heads joined to rows and gated. -/
theorem joined_apply (x : FVec Ideal S8192x64x64 .f32) (Gt : FVec Ideal S8192x4096 .f32) (t : Fin 8192) (h i : Fin 64) (C : Fin 4096) (hC : C.val = h.val * 64 + i.val) :
    (truncf .bf16 (mulf (shapeCast S8192x4096 x shapeCasts_S8192x64x64_S8192x4096) Gt) bitsLt_bf16_f32 : FVec Ideal S8192x4096 .bf16) (ix2 t C)
      = x (ix3 t h i) * Gt (ix2 t C) := by
  have hl : h.val * 64 + i.val < 4096 := by omega
  have e : C = ⟨h.val * 64 + i.val, hl⟩ := Fin.ext hC
  rw [e]
  pointwise

/-- The plain form is the same array. -/
theorem res_eq (Y B Gt : FVec Ideal S8192x4096 .f32) (w b : FVec Ideal S4096 .f32) :
    (truncf .bf16 (mulf (shapeCast S8192x4096 (addf (addf (mulf (mulf (dev (heads Y)) (scale (dev (heads Y)))) (spread w)) (spread b)) (heads B)) shapeCasts_S8192x64x64_S8192x4096) Gt) bitsLt_bf16_f32
      : FVec Ideal S8192x4096 .bf16) = G Y B Gt w b := by
  funext j
  idx_vars j
  have hC : j1.val = (⟨j1.val / 64, by omega⟩ : Fin 64).val * 64 + (⟨j1.val % 64, by omega⟩ : Fin 64).val := by
    show j1.val = j1.val / 64 * 64 + j1.val % 64; omega
  rw [joined_apply _ _ j0 _ _ j1 hC, G_apply _ _ _ _ _ _ _ _ j1 hC]
  have hj : (⟨(⟨j1.val / 64, by omega⟩ : Fin 64).val * 64 + (⟨j1.val % 64, by omega⟩ : Fin 64).val, by show j1.val / 64 * 64 + j1.val % 64 < 4096; omega⟩ : Fin 4096) = j1 := Fin.ext hC.symm
  show (dev (heads Y) _ * scale (dev (heads Y)) _ * spread w _ + spread b _ + heads B _) * _ = _
  unfold outEntry headEntry
  rw [dev_apply, scale_apply, spread_apply, spread_apply, heads_apply, hj]
  simp only [dev_apply, heads_apply]

end Cert.RwkvOutRefIdeal.Stages
end
-- ==== Proof.MlstmPay.lean ====
module

public import proofs.«01_k».proof.Proof.Gen.MlstmIdeal.Value
public import proofs.«01_k».proof.Proof.RealFacts
public import proofs.«01_k».proof.Proof.Starts
public import Idealize.ShloMosaic.Lib.Pipeline.ValueKit.Tiles

@[expose] public section

set_option maxRecDepth 16384

/-! What the body of the mLSTM computes for one head, at one entry. -/

noncomputable section

namespace Cert.MlstmIdeal.Value

open Cert.Common Cert.MlstmIdeal Cert.MlstmIdeal.Gen Idealize.ShloMosaic Idealize.ShloMosaic.TcCoe Idealize.ShloMosaic.Tactic Idealize.SL.Sem

/-- The row and column numbers of a chunk's square. -/
abbrev rowN : IVec S64x64 32 := iota .tc S64x64 32 [0] iota_S64x64_d0_w32
abbrev colN : IVec S64x64 32 := iota .tc S64x64 32 [1] iota_S64x64_d1_w32

/-- The mask of the diagonal. -/
theorem eye_apply : ∀ i j : Fin 64, k0_pay7 (ix2 i j) = if i = j then 1#1 else 0#1 := by decide +kernel

/-- The mask of the columns up to the row's own. -/
theorem lower_apply : ∀ i j : Fin 64, k0_pay8 (ix2 i j) = if j ≤ i then 1#1 else 0#1 := by decide +kernel

/-- The mask of the rows up to the column's own. -/
theorem upper_apply : ∀ i j : Fin 64, cmpi .sle rowN colN (ix2 i j) = if i ≤ j then 1#1 else 0#1 := by decide +kernel

/-- One lane of the gates, as a column. -/
def lane (k : BitVec 32) (v : FVec Ideal S64x128 .f32) : FVec Ideal S64x1 .f32 :=
  shapeCast S64x1 (multiReduction .add [1] S64 (select (cmpi .eq (iota .tc S64x128 32 [1] iota_S64x128_d1_w32) (broadcast S64x128 k)) v
    (broadcast S64x128 (Scalar.ofBits (F := Ideal) .f32 0x00000000#32))) 0x00000000#32 reduces_S64x128_S64 (.inl rfl) rfl) shapeCasts_S64_S64x1

/-- Its entry is the lane's. -/
theorem lane_apply (k : Fin 128) (v : FVec Ideal S64x128 .f32) (r : Fin 64) : lane (BitVec.ofNat 32 k.val) v (ix2 r 0) = v (ix2 r k) := by
  pointwise [lane]
  have e : ∀ x : Fin 128, Scalar.select (IntOp.cmpi CmpIPredicate.eq (BitVec.ofNat 32 x.val) (BitVec.ofNat 32 k.val)) (v (ix2 r x)) 0
      = if x = k then v (ix2 r x) else 0 := fun x => by
    by_cases h : x = k
    · subst h; simp [Scalar.select, IntOp.cmpi]
    · have h' : (BitVec.ofNat 32 x.val == BitVec.ofNat 32 k.val) = false := beq_eq_false_iff_ne.2 fun e => h <| Fin.ext <| by
        have := congrArg BitVec.toNat e
        simp only [BitVec.toNat_ofNat] at this
        omega
      rw [if_neg h]
      simp only [Scalar.select, IntOp.cmpi, h']
      simp
  simp only [e, Finset.sum_ite_eq', Finset.mem_univ, if_true]

/-- A choice by a mask is a choice by its condition. -/
theorem select_ite {p : Prop} [Decidable p] (a b : EReal) : Scalar.select (if p then 1#1 else 0#1) a b = if p then a else b := by
  by_cases h : p <;> simp [h, Scalar.select]

/-- The sums of the forget gates up to each row. -/
def bCol (lf : FVec Ideal S64x1 .f32) : FVec Ideal S64x1 .f32 :=
  k0_pay13 k0_pay7 k0_pay8 (broadcastTo S64x64 (shapeCast S64x1 lf shapeCasts_S64x1_S64x1) broadcasts_S64x1_S64x64) k0_pay12

/-- One of them. -/
theorem bCol_apply (lf : FVec Ideal S64x1 .f32) (r : Fin 64) : bCol lf (ix2 r 0) = ∑ c : Fin 64, if c ≤ r then lf (ix2 c 0) else 0 := by
  pointwise [bCol, k0_pay13, k0_pay12]
  simp only [eye_apply, lower_apply, select_ite, Finset.sum_ite_eq', Finset.mem_univ, if_true]

/-- The log-gates of the columns, as a row: each input gate less the forget gates up to it. -/
def gRow (li lf : FVec Ideal S64x1 .f32) : FVec Ideal S1x64 .f32 := k0_pay14 rowN colN k0_pay7 li lf

/-- One of them. -/
theorem gRow_apply (li lf : FVec Ideal S64x1 .f32) (c : Fin 64) :
    gRow li lf (ix2 0 c) = li (ix2 c 0) - ∑ r : Fin 64, if r ≤ c then lf (ix2 r 0) else 0 := by
  have e : gRow li lf (ix2 0 c) = (∑ r : Fin 64, Scalar.select (k0_pay7 (ix2 r c)) (li (ix2 r 0)) 0)
      - ∑ r : Fin 64, Scalar.select (cmpi .sle rowN colN (ix2 r c)) (lf (ix2 r 0)) 0 := by
    pointwise [gRow, k0_pay14]
  rw [e]
  simp only [eye_apply, upper_apply, select_ite, Finset.sum_ite_eq', Finset.mem_univ, if_true]

/-- The stabilizers of the rows. -/
def aCol (li lf : FVec Ideal S64x1 .f32) (M : Vec Ideal S1x1x128 .f32) : FVec Ideal S64x1 .f32 := k0_pay17 rowN colN k0_pay7 k0_pay8 li lf M

/-- One of them. -/
theorem aCol_apply (li lf : FVec Ideal S64x1 .f32) (M : Vec Ideal S1x1x128 .f32) (r : Fin 64) :
    aCol li lf M (ix2 r 0) = max (M (ix3 0 0 0)) (Finset.univ.fold max (Ideal.ofBits FTy.f32 4286578688#32) fun c : Fin 64 =>
      if c ≤ r then gRow li lf (ix2 0 c) else Ideal.ofBits FTy.f32 4286578688#32) := by
  pointwise [aCol, k0_pay17, k0_pay16]
  simp only [lower_apply, select_ite]
  rfl

/-- The stabilizer after the chunk. -/
def aLast (li lf : FVec Ideal S64x1 .f32) (M : Vec Ideal S1x1x128 .f32) : FVec Ideal S1x1 .f32 := k0_pay18 rowN colN k0_pay7 k0_pay8 li lf M

/-- It is the greatest. -/
theorem aLast_apply (li lf : FVec Ideal S64x1 .f32) (M : Vec Ideal S1x1x128 .f32) :
    aLast li lf M (ix2 0 0) = Finset.univ.fold max (Ideal.ofBits FTy.f32 4286578688#32) fun r : Fin 64 => aCol li lf M (ix2 r 0) := by
  pointwise [aLast, k0_pay18]
  rfl

/-- The weights of the columns for each row. -/
def dMat (li lf : FVec Ideal S64x1 .f32) (M : Vec Ideal S1x1x128 .f32) : FVec Ideal S64x64 .f32 := k0_pay20 rowN colN k0_pay7 k0_pay8 li lf M

/-- One of them. -/
theorem dMat_apply (li lf : FVec Ideal S64x1 .f32) (M : Vec Ideal S1x1x128 .f32) (r c : Fin 64) :
    dMat li lf M (ix2 r c) = if c ≤ r then Ideal.exp (gRow li lf (ix2 0 c) - aCol li lf M (ix2 r 0)) else 0 := by
  have e : dMat li lf M (ix2 r c) = Scalar.select (k0_pay8 (ix2 r c)) (Ideal.exp (gRow li lf (ix2 0 c) - aCol li lf M (ix2 r 0))) 0 := by
    pointwise [dMat, k0_pay20]
    rfl
  rw [e, lower_apply, select_ite]

/-- The weights of what came before the chunk, for each row. -/
def gIn (li lf : FVec Ideal S64x1 .f32) (M : Vec Ideal S1x1x128 .f32) : FVec Ideal S64x1 .f32 := k0_pay21 (k0_pay16 M) (aCol li lf M)

/-- One of them. -/
theorem gIn_apply (li lf : FVec Ideal S64x1 .f32) (M : Vec Ideal S1x1x128 .f32) (r : Fin 64) :
    gIn li lf M (ix2 r 0) = Ideal.exp (M (ix3 0 0 0) - aCol li lf M (ix2 r 0)) := by
  pointwise [gIn, k0_pay21, k0_pay16]

/-- The least divisors of the rows. -/
def floorC (li lf : FVec Ideal S64x1 .f32) (M : Vec Ideal S1x1x128 .f32) : FVec Ideal S64x1 .f32 := k0_pay22 (bCol lf) (aCol li lf M)

/-- One of them. -/
theorem floorC_apply (li lf : FVec Ideal S64x1 .f32) (M : Vec Ideal S1x1x128 .f32) (r : Fin 64) :
    floorC li lf M (ix2 r 0) = Ideal.exp (0 - (bCol lf (ix2 r 0) + aCol li lf M (ix2 r 0))) := by
  pointwise [floorC, k0_pay22]

/-- The weights of the rows in the state after the chunk. -/
def wCol (li lf : FVec Ideal S64x1 .f32) (M : Vec Ideal S1x1x128 .f32) : FVec Ideal S64x1 .f32 := k0_pay23
  (k0_pay15 k0_pay7 k0_pay8 li (broadcastTo S64x64 (shapeCast S64x1 lf shapeCasts_S64x1_S64x1) broadcasts_S64x1_S64x64) k0_pay12) (aLast li lf M)

/-- One of them. -/
theorem wCol_apply (li lf : FVec Ideal S64x1 .f32) (M : Vec Ideal S1x1x128 .f32) (r : Fin 64) :
    wCol li lf M (ix2 r 0) = Ideal.exp (li (ix2 r 0) - bCol lf (ix2 r 0) - aLast li lf M (ix2 0 0)) := by
  have e : wCol li lf M = k0_pay23 (subf li (bCol lf)) (aLast li lf M) := rfl
  rw [e]
  pointwise [k0_pay23]

/-- The weight of the state before the chunk in the state after it. -/
def dec (li lf : FVec Ideal S64x1 .f32) (M : Vec Ideal S1x1x128 .f32) : FVec Ideal S1x1 .f32 := k0_pay24 (k0_pay16 M) (aLast li lf M)

/-- It is one number. -/
theorem dec_apply (li lf : FVec Ideal S64x1 .f32) (M : Vec Ideal S1x1x128 .f32) :
    dec li lf M (ix2 0 0) = Ideal.exp (M (ix3 0 0 0) - aLast li lf M (ix2 0 0)) := by
  pointwise [dec, k0_pay24, k0_pay16]

/-- The stabilizer handed to the next chunk. -/
def mNew (li lf : FVec Ideal S64x1 .f32) (M : Vec Ideal S1x1x128 .f32) : FVec Ideal S1x1x128 .f32 :=
  k0_pay119 (k0_pay118 (k0_pay25 (aLast li lf M) (k0_pay19 lf)))

/-- It is one number in every lane. -/
theorem mNew_apply (li lf : FVec Ideal S64x1 .f32) (M : Vec Ideal S1x1x128 .f32) (j : Fin 128) :
    mNew li lf M (ix3 0 0 j) = (∑ r : Fin 64, lf (ix2 r 0)) + aLast li lf M (ix2 0 0) := by
  pointwise [mNew, k0_pay119, k0_pay118, k0_pay25, k0_pay19]

/-- The gates of a chunk whose input and forget gates are real numbers, and whose stabilizer was one: all are exponentials of real numbers. -/
theorem gates (li lf : FVec Ideal S64x1 .f32) (M : Vec Ideal S1x1x128 .f32) (l f : Fin 64 → ℝ) (mp : ℝ)
    (hl : ∀ r, li (ix2 r 0) = (l r : EReal)) (hf : ∀ r, lf (ix2 r 0) = (f r : EReal)) (hM : M (ix3 0 0 0) = (mp : EReal)) :
    ∃ (a : Fin 64 → ℝ) (al : ℝ),
      (∀ r c, dMat li lf M (ix2 r c) = ((if c ≤ r then Real.exp (l c - (∑ i : Fin 64, if i ≤ c then f i else 0) - a r) else 0 : ℝ) : EReal)) ∧
      (∀ r, gIn li lf M (ix2 r 0) = (Real.exp (mp - a r) : EReal)) ∧
      (∀ r, floorC li lf M (ix2 r 0) = (Real.exp (-((∑ i : Fin 64, if i ≤ r then f i else 0) + a r)) : EReal)) ∧
      (∀ r, wCol li lf M (ix2 r 0) = (Real.exp (l r - (∑ i : Fin 64, if i ≤ r then f i else 0) - al) : EReal)) ∧
      dec li lf M (ix2 0 0) = (Real.exp (mp - al) : EReal) ∧
      (∀ j, mNew li lf M (ix3 0 0 j) = (((∑ i, f i) + al : ℝ) : EReal)) := by
  have hs : ∀ r : Fin 64, (∑ c : Fin 64, if c ≤ r then lf (ix2 c 0) else 0) = ((∑ i : Fin 64, if i ≤ r then f i else 0 : ℝ) : EReal) := fun r => by
    rw [← coe_sum_real]
    refine Finset.sum_congr rfl fun c _ => ?_
    rw [hf]
    split <;> rfl
  have hg : ∀ c, gRow li lf (ix2 0 c) = ((l c - ∑ i : Fin 64, if i ≤ c then f i else 0 : ℝ) : EReal) := fun c => by
    rw [gRow_apply, hs, hl, ← EReal.coe_sub]
  have ha : ∀ r, IsReal (aCol li lf M (ix2 r 0)) := fun r => by
    rw [aCol_apply, hM, word_bot]
    refine isReal_of_ne (ne_of_lt ?_) (ne_of_gt ?_)
    · refine max_lt (EReal.coe_lt_top _) ((Finset.fold_max_lt _).2 ⟨bot_lt_top, fun c _ => ?_⟩)
      split
      · rw [hg]; exact EReal.coe_lt_top _
      · exact bot_lt_top
    · exact lt_of_lt_of_le (EReal.bot_lt_coe mp) (le_max_left _ _)
  obtain ⟨a, ha'⟩ := exists_real ha
  have ha : ∀ r, aCol li lf M (ix2 r 0) = (a r : EReal) := fun r => congrFun ha' r
  have hal : IsReal (aLast li lf M (ix2 0 0)) := by
    rw [aLast_apply, word_bot]
    refine isReal_of_ne (ne_of_lt ?_) (ne_of_gt ?_)
    · exact (Finset.fold_max_lt _).2 ⟨bot_lt_top, fun c _ => by rw [ha]; exact EReal.coe_lt_top _⟩
    · exact lt_of_lt_of_le (EReal.bot_lt_coe (a 0)) ((Finset.le_fold_max _).2 (.inr ⟨0, Finset.mem_univ _, by rw [ha]⟩))
  obtain ⟨al, hal⟩ := hal
  refine ⟨a, al, fun r c => ?_, fun r => ?_, fun r => ?_, fun r => ?_, ?_, fun j => ?_⟩
  · rw [dMat_apply, hg, ha, ← EReal.coe_sub, Ideal.exp_coe]
    split <;> rfl
  · rw [gIn_apply, hM, ha, ← EReal.coe_sub, Ideal.exp_coe]
  · rw [floorC_apply, bCol_apply, hs, ha, ← EReal.coe_add, zero_sub, ← EReal.coe_neg, Ideal.exp_coe]
  · rw [wCol_apply, bCol_apply, hs, hl, hal, ← EReal.coe_sub, ← EReal.coe_sub, Ideal.exp_coe]
  · rw [dec_apply, hM, hal, ← EReal.coe_sub, Ideal.exp_coe]
  · rw [mNew_apply, hal]
    simp only [hf, coe_sum_real]
    rw [← EReal.coe_add]

end Cert.MlstmIdeal.Value
end
-- ==== Proof.MlstmHead.lean ====
module

public import proofs.«01_k».proof.Proof.MlstmPay

@[expose] public section

set_option maxRecDepth 16384

/-! The four heads of the mLSTM's body: the operands of each, and what is stored for each. -/

noncomputable section

namespace Cert.MlstmIdeal.Value

open Cert.Common Cert.MlstmIdeal Cert.MlstmIdeal.Gen Idealize.ShloMosaic Idealize.ShloMosaic.TcCoe Idealize.ShloMosaic.Tactic Idealize.SL.Sem

/-- The products of the queries and keys of the four heads. -/
theorem pay89_apply (k : Fin 4 → FVec Ideal S64x256 .f32) (q : Fin 4 → FVec Ideal S64x256 .bf16) (h : Fin 4) (r c : Fin 64) :
    k0_pay89 (F := Ideal) (k 0) (k 1) (k 2) (k 3) (q 0) (q 1) (q 2) (q 3) (ix3 h r c) = ∑ d : Fin 256, q h (ix2 r d) * k h (ix2 c d) := by
  match h with
  | 0 => pointwise [k0_pay89]
  | 1 => pointwise [k0_pay89]
  | 2 => pointwise [k0_pay89]
  | 3 => pointwise [k0_pay89]

/-- The products of the queries of the four heads and their states. -/
theorem pay96_apply (q : Fin 4 → FVec Ideal S64x256 .bf16) (C : Fin 4 → FVec Ideal S1x256x512 .f32) (h : Fin 4) (r : Fin 64) (e : Fin 512) :
    k0_pay96 (F := Ideal) (k0_pay94 (q 0) (q 1) (q 2) (q 3)) (k0_pay95 (C 0) (C 1) (C 2) (C 3)) (ix3 h r e) = ∑ d : Fin 256, q h (ix2 r d) * C h (ix3 0 d e) := by
  match h with
  | 0 => pointwise [k0_pay96, k0_pay94, k0_pay95, k0_pay85]
  | 1 => pointwise [k0_pay96, k0_pay94, k0_pay95, k0_pay86]
  | 2 => pointwise [k0_pay96, k0_pay94, k0_pay95, k0_pay87]
  | 3 => pointwise [k0_pay96, k0_pay94, k0_pay95, k0_pay88]

/-- The products of the weighted scores of the four heads and their values. -/
theorem pay101_apply (v : Fin 4 → FVec Ideal S64x512 .bf16) (s : Fin 4 → FVec Ideal S64x64 .f32) (h : Fin 4) (r : Fin 64) (e : Fin 512) :
    k0_pay101 (F := Ideal) (v 0) (v 1) (v 2) (v 3) (s 0) (s 1) (s 2) (s 3) (ix3 h r e) = ∑ c : Fin 64, s h (ix2 r c) * v h (ix2 c e) := by
  match h with
  | 0 => pointwise [k0_pay101]
  | 1 => pointwise [k0_pay101]
  | 2 => pointwise [k0_pay101]
  | 3 => pointwise [k0_pay101]

/-- The products of the weighted keys of the four heads and their values. -/
theorem pay110_apply (w : Fin 4 → FVec Ideal S64x1 .f32) (k : Fin 4 → FVec Ideal S64x256 .f32) (v : Fin 4 → FVec Ideal S64x512 .bf16)
    (h : Fin 4) (d : Fin 256) (e : Fin 512) :
    k0_pay110 (F := Ideal) (w 0) (w 1) (w 2) (w 3) (k 0) (k 1) (k 2) (k 3) (v 0) (v 1) (v 2) (v 3) (ix3 h d e)
      = ∑ c : Fin 64, k h (ix2 c d) * w h (ix2 c 0) * v h (ix2 c e) := by
  match h with
  | 0 => pointwise [k0_pay110, k0_pay106]
  | 1 => pointwise [k0_pay110, k0_pay107]
  | 2 => pointwise [k0_pay110, k0_pay108]
  | 3 => pointwise [k0_pay110, k0_pay109]

/-- The 256 columns of each head. -/
def qv (x : Vec Ideal S64x1024 .f32) : Fin 4 → FVec Ideal S64x256 .f32 :=
  ![View.ld x (Rect.unit (s := S64x1024) ![0, 0] S64x256.size inb_S64x1024_S64x256_0_0),
    View.ld x (Rect.unit (s := S64x1024) ![0, 256] S64x256.size inb_S64x1024_S64x256_0_256),
    View.ld x (Rect.unit (s := S64x1024) ![0, 512] S64x256.size inb_S64x1024_S64x256_0_512),
    View.ld x (Rect.unit (s := S64x1024) ![0, 768] S64x256.size inb_S64x1024_S64x256_0_768)]

/-- The 512 columns of each head. -/
def vv (x : Vec Ideal S64x2048 .f32) : Fin 4 → FVec Ideal S64x512 .f32 :=
  ![View.ld x (Rect.unit (s := S64x2048) ![0, 0] S64x512.size inb_S64x2048_S64x512_0_0),
    View.ld x (Rect.unit (s := S64x2048) ![0, 512] S64x512.size inb_S64x2048_S64x512_0_512),
    View.ld x (Rect.unit (s := S64x2048) ![0, 1024] S64x512.size inb_S64x2048_S64x512_0_1024),
    View.ld x (Rect.unit (s := S64x2048) ![0, 1536] S64x512.size inb_S64x2048_S64x512_0_1536)]

/-- The 512 gains of each head. -/
def gv (x : Vec Ideal S1x2048 .f32) : Fin 4 → FVec Ideal S1x512 .f32 :=
  ![View.ld x (Rect.unit (s := S1x2048) ![0, 0] S1x512.size inb_S1x2048_S1x512_0_0),
    View.ld x (Rect.unit (s := S1x2048) ![0, 512] S1x512.size inb_S1x2048_S1x512_0_512),
    View.ld x (Rect.unit (s := S1x2048) ![0, 1024] S1x512.size inb_S1x2048_S1x512_0_1024),
    View.ld x (Rect.unit (s := S1x2048) ![0, 1536] S1x512.size inb_S1x2048_S1x512_0_1536)]

/-- The state of each head. -/
def cv (x : Vec Ideal S4x256x512 .f32) : Fin 4 → FVec Ideal S1x256x512 .f32 :=
  ![View.ld x (Rect.unit (s := S4x256x512) ![0, 0, 0] S1x256x512.size inb_S4x256x512_S1x256x512_0_0_0),
    View.ld x (Rect.unit (s := S4x256x512) ![1, 0, 0] S1x256x512.size inb_S4x256x512_S1x256x512_1_0_0),
    View.ld x (Rect.unit (s := S4x256x512) ![2, 0, 0] S1x256x512.size inb_S4x256x512_S1x256x512_2_0_0),
    View.ld x (Rect.unit (s := S4x256x512) ![3, 0, 0] S1x256x512.size inb_S4x256x512_S1x256x512_3_0_0)]

/-- The normalizer of each head. -/
def nv (x : Vec Ideal S4x1x256 .f32) : Fin 4 → FVec Ideal S1x1x256 .f32 :=
  ![View.ld x (Rect.unit (s := S4x1x256) ![0, 0, 0] S1x1x256.size inb_S4x1x256_S1x1x256_0_0_0),
    View.ld x (Rect.unit (s := S4x1x256) ![1, 0, 0] S1x1x256.size inb_S4x1x256_S1x1x256_1_0_0),
    View.ld x (Rect.unit (s := S4x1x256) ![2, 0, 0] S1x1x256.size inb_S4x1x256_S1x1x256_2_0_0),
    View.ld x (Rect.unit (s := S4x1x256) ![3, 0, 0] S1x1x256.size inb_S4x1x256_S1x1x256_3_0_0)]

/-- The stabilizer of each head. -/
def mv (x : Vec Ideal S4x1x128 .f32) : Fin 4 → FVec Ideal S1x1x128 .f32 :=
  ![View.ld x (Rect.unit (s := S4x1x128) ![0, 0, 0] S1x1x128.size inb_S4x1x128_S1x1x128_0_0_0),
    View.ld x (Rect.unit (s := S4x1x128) ![1, 0, 0] S1x1x128.size inb_S4x1x128_S1x1x128_1_0_0),
    View.ld x (Rect.unit (s := S4x1x128) ![2, 0, 0] S1x1x128.size inb_S4x1x128_S1x1x128_2_0_0),
    View.ld x (Rect.unit (s := S4x1x128) ![3, 0, 0] S1x1x128.size inb_S4x1x128_S1x1x128_3_0_0)]

/-- The input gates of each head. -/
def liv (x : Vec Ideal S64x128 .f32) (b : Vec Ideal S1x128 .f32) : Fin 4 → FVec Ideal S64x1 .f32 :=
  ![lane 0#32 (k0_pay5 x b), lane 1#32 (k0_pay5 x b), lane 2#32 (k0_pay5 x b), lane 3#32 (k0_pay5 x b)]

/-- The forget gates of each head. -/
def lfv (x : Vec Ideal S64x128 .f32) (b : Vec Ideal S1x128 .f32) : Fin 4 → FVec Ideal S64x1 .f32 :=
  ![lane 4#32 (k0_pay6 x b), lane 5#32 (k0_pay6 x b), lane 6#32 (k0_pay6 x b), lane 7#32 (k0_pay6 x b)]

/-- One head of a product of all four. -/
def pickS (x : FVec Ideal S4x64x64 .f32) : Fin 4 → FVec Ideal S64x64 .f32 :=
  ![shapeCast S64x64 (extractStridedSlice S1x64x64 ![0, 0, 0] x slices_S4x64x64_o0_0_0_S1x64x64) shapeCasts_S1x64x64_S64x64,
    shapeCast S64x64 (extractStridedSlice S1x64x64 ![1, 0, 0] x slices_S4x64x64_o1_0_0_S1x64x64) shapeCasts_S1x64x64_S64x64,
    shapeCast S64x64 (extractStridedSlice S1x64x64 ![2, 0, 0] x slices_S4x64x64_o2_0_0_S1x64x64) shapeCasts_S1x64x64_S64x64,
    shapeCast S64x64 (extractStridedSlice S1x64x64 ![3, 0, 0] x slices_S4x64x64_o3_0_0_S1x64x64) shapeCasts_S1x64x64_S64x64]

/-- One entry of it. -/
theorem pickS_apply (x : FVec Ideal S4x64x64 .f32) (h : Fin 4) (i : Fin 64) (j : Fin 64) : pickS x h (ix2 i j) = x (ix3 h i j) := by
  match h with
  | 0 => show shapeCast S64x64 (extractStridedSlice S1x64x64 ![0, 0, 0] x slices_S4x64x64_o0_0_0_S1x64x64) shapeCasts_S1x64x64_S64x64 (ix2 i j) = _; pointwise
  | 1 => show shapeCast S64x64 (extractStridedSlice S1x64x64 ![1, 0, 0] x slices_S4x64x64_o1_0_0_S1x64x64) shapeCasts_S1x64x64_S64x64 (ix2 i j) = _; pointwise
  | 2 => show shapeCast S64x64 (extractStridedSlice S1x64x64 ![2, 0, 0] x slices_S4x64x64_o2_0_0_S1x64x64) shapeCasts_S1x64x64_S64x64 (ix2 i j) = _; pointwise
  | 3 => show shapeCast S64x64 (extractStridedSlice S1x64x64 ![3, 0, 0] x slices_S4x64x64_o3_0_0_S1x64x64) shapeCasts_S1x64x64_S64x64 (ix2 i j) = _; pointwise

/-- One head of a product of all four. -/
def pickV (x : FVec Ideal S4x64x512 .f32) : Fin 4 → FVec Ideal S64x512 .f32 :=
  ![shapeCast S64x512 (extractStridedSlice S1x64x512 ![0, 0, 0] x slices_S4x64x512_o0_0_0_S1x64x512) shapeCasts_S1x64x512_S64x512,
    shapeCast S64x512 (extractStridedSlice S1x64x512 ![1, 0, 0] x slices_S4x64x512_o1_0_0_S1x64x512) shapeCasts_S1x64x512_S64x512,
    shapeCast S64x512 (extractStridedSlice S1x64x512 ![2, 0, 0] x slices_S4x64x512_o2_0_0_S1x64x512) shapeCasts_S1x64x512_S64x512,
    shapeCast S64x512 (extractStridedSlice S1x64x512 ![3, 0, 0] x slices_S4x64x512_o3_0_0_S1x64x512) shapeCasts_S1x64x512_S64x512]

/-- One entry of it. -/
theorem pickV_apply (x : FVec Ideal S4x64x512 .f32) (h : Fin 4) (i : Fin 64) (j : Fin 512) : pickV x h (ix2 i j) = x (ix3 h i j) := by
  match h with
  | 0 => show shapeCast S64x512 (extractStridedSlice S1x64x512 ![0, 0, 0] x slices_S4x64x512_o0_0_0_S1x64x512) shapeCasts_S1x64x512_S64x512 (ix2 i j) = _; pointwise
  | 1 => show shapeCast S64x512 (extractStridedSlice S1x64x512 ![1, 0, 0] x slices_S4x64x512_o1_0_0_S1x64x512) shapeCasts_S1x64x512_S64x512 (ix2 i j) = _; pointwise
  | 2 => show shapeCast S64x512 (extractStridedSlice S1x64x512 ![2, 0, 0] x slices_S4x64x512_o2_0_0_S1x64x512) shapeCasts_S1x64x512_S64x512 (ix2 i j) = _; pointwise
  | 3 => show shapeCast S64x512 (extractStridedSlice S1x64x512 ![3, 0, 0] x slices_S4x64x512_o3_0_0_S1x64x512) shapeCasts_S1x64x512_S64x512 (ix2 i j) = _; pointwise

/-- One head of a product of all four. -/
def pickU (x : FVec Ideal S4x256x512 .f32) : Fin 4 → FVec Ideal S256x512 .f32 :=
  ![shapeCast S256x512 (extractStridedSlice S1x256x512 ![0, 0, 0] x slices_S4x256x512_o0_0_0_S1x256x512) shapeCasts_S1x256x512_S256x512,
    shapeCast S256x512 (extractStridedSlice S1x256x512 ![1, 0, 0] x slices_S4x256x512_o1_0_0_S1x256x512) shapeCasts_S1x256x512_S256x512,
    shapeCast S256x512 (extractStridedSlice S1x256x512 ![2, 0, 0] x slices_S4x256x512_o2_0_0_S1x256x512) shapeCasts_S1x256x512_S256x512,
    shapeCast S256x512 (extractStridedSlice S1x256x512 ![3, 0, 0] x slices_S4x256x512_o3_0_0_S1x256x512) shapeCasts_S1x256x512_S256x512]

/-- One entry of it. -/
theorem pickU_apply (x : FVec Ideal S4x256x512 .f32) (h : Fin 4) (i : Fin 256) (j : Fin 512) : pickU x h (ix2 i j) = x (ix3 h i j) := by
  match h with
  | 0 => show shapeCast S256x512 (extractStridedSlice S1x256x512 ![0, 0, 0] x slices_S4x256x512_o0_0_0_S1x256x512) shapeCasts_S1x256x512_S256x512 (ix2 i j) = _; pointwise
  | 1 => show shapeCast S256x512 (extractStridedSlice S1x256x512 ![1, 0, 0] x slices_S4x256x512_o1_0_0_S1x256x512) shapeCasts_S1x256x512_S256x512 (ix2 i j) = _; pointwise
  | 2 => show shapeCast S256x512 (extractStridedSlice S1x256x512 ![2, 0, 0] x slices_S4x256x512_o2_0_0_S1x256x512) shapeCasts_S1x256x512_S256x512 (ix2 i j) = _; pointwise
  | 3 => show shapeCast S256x512 (extractStridedSlice S1x256x512 ![3, 0, 0] x slices_S4x256x512_o3_0_0_S1x256x512) shapeCasts_S1x256x512_S256x512 (ix2 i j) = _; pointwise

variable (x0 x1 : Vec Ideal S64x1024 .f32) (x2 x3 : Vec Ideal S64x2048 .f32) (x4 : Vec Ideal S64x128 .f32) (x5 : Vec Ideal S1x128 .f32) (x6 : Vec Ideal S1x2048 .f32)
  (C : Vec Ideal S4x256x512 .f32) (N : Vec Ideal S4x1x256 .f32) (M : Vec Ideal S4x1x128 .f32)

/-- The weighted scores of a head. -/
def sm (h : Fin 4) : FVec Ideal S64x64 .f32 :=
  mulf (pickS (k0_pay89 (qv x1 0) (qv x1 1) (qv x1 2) (qv x1 3) (k0_pay81 (qv x0 0)) (k0_pay81 (qv x0 1)) (k0_pay81 (qv x0 2)) (k0_pay81 (qv x0 3))) h)
    (dMat (liv x4 x5 h) (lfv x4 x5 h) (mv M h))

/-- The hidden rows of a head: the chunk's own part plus the state's, over the divisor. -/
def hid (h : Fin 4) : FVec Ideal S64x512 .f32 :=
  k0_pay115 (gIn (liv x4 x5 h) (lfv x4 x5 h) (mv M h)) (floorC (liv x4 x5 h) (lfv x4 x5 h) (mv M h)) (k0_pay73 (qv x0 h)) (sm x0 x1 x4 x5 M h)
    (pickV (k0_pay96 (k0_pay94 (k0_pay81 (qv x0 0)) (k0_pay81 (qv x0 1)) (k0_pay81 (qv x0 2)) (k0_pay81 (qv x0 3))) (k0_pay95 (cv C 0) (cv C 1) (cv C 2) (cv C 3))) h)
    (pickV (k0_pay101 (k0_pay77 (vv x2 0)) (k0_pay77 (vv x2 1)) (k0_pay77 (vv x2 2)) (k0_pay77 (vv x2 3))
      (sm x0 x1 x4 x5 M 0) (sm x0 x1 x4 x5 M 1) (sm x0 x1 x4 x5 M 2) (sm x0 x1 x4 x5 M 3)) h)
    (nv N h)

/-- What is stored for a head: its hidden rows normalized, scaled, and gated. -/
def outH (h : Fin 4) : FVec Ideal S64x512 .bf16 := k0_pay120 (hid x0 x1 x2 x4 x5 C N M h) (gv x6 h) (vv x3 h)

/-- The weights of the rows in the next state of a head. -/
abbrev wv (h : Fin 4) : FVec Ideal S64x1 .f32 := wCol (liv x4 x5 h) (lfv x4 x5 h) (mv M h)

/-- The next state of a head. -/
def cNew (h : Fin 4) : FVec Ideal S1x256x512 .f32 :=
  k0_pay116 (dec (liv x4 x5 h) (lfv x4 x5 h) (mv M h)) (k0_pay85 (cv C h))
    (pickU (k0_pay110 (wv x4 x5 M 0) (wv x4 x5 M 1) (wv x4 x5 M 2) (wv x4 x5 M 3) (qv x1 0) (qv x1 1) (qv x1 2) (qv x1 3)
      (k0_pay77 (vv x2 0)) (k0_pay77 (vv x2 1)) (k0_pay77 (vv x2 2)) (k0_pay77 (vv x2 3))) h)

/-- The next normalizer of a head. -/
def nNew (h : Fin 4) : FVec Ideal S1x1x256 .f32 :=
  k0_pay117 (dec (liv x4 x5 h) (lfv x4 x5 h) (mv M h)) (k0_pay106 (wv x4 x5 M h) (qv x1 h)) (nv N h)

/-- The next stabilizer of a head. -/
def mNewH (h : Fin 4) : FVec Ideal S1x1x128 .f32 := mNew (liv x4 x5 h) (lfv x4 x5 h) (mv M h)

end Cert.MlstmIdeal.Value
end
-- ==== Proof.MlstmRun.lean ====
module

public import proofs.«01_k».proof.Proof.MlstmHead
public import Idealize.ShloMosaic.Lib.Pipeline.ReadBack

@[expose] public section

set_option maxRecDepth 16384
set_option maxHeartbeats 1000000

/-! What the body of the mLSTM leaves in its result's block and in its three scratch buffers: the first chunk starts from zero, a later one from
what the chunk before left. -/

noncomputable section

namespace Cert.MlstmIdeal.Value

open Cert.Common Cert.MlstmIdeal Cert.MlstmIdeal.Gen Idealize.ShloMosaic Idealize.ShloMosaic.TcCoe Idealize.ShloMosaic.Tactic Idealize.SL.Sem

/-- Where the four later stores cover an index, the fill before them does not show. -/
theorem canon_drop {s : Shape} {e : EltTy} (p0 p1 p2 p3 q : View.Piece (Elt Ideal) s e) (y : s.Idx) (h : ∃ p ∈ [p0, p1, p2, p3], y ∈ p.1.set)
    {v : Elt Ideal e} (hv : (∃ p ∈ [p0, p1, p2, p3], y ∈ p.1.set) → View.canon [p0, p1, p2, p3] y = v) : View.canon [p0, p1, p2, p3, q] y = v := by
  have key : ∀ L : List (View.Piece (Elt Ideal) s e), (∃ p ∈ L, y ∈ p.1.set) → View.canon (L ++ [q]) y = View.canon L y := by
    intro L
    induction L with
    | nil => rintro ⟨p, hp, -⟩; cases hp
    | cons p L ih =>
      intro hL
      by_cases hy : y ∈ p.1.set
      · obtain ⟨r, w⟩ := p
        obtain ⟨x, rfl⟩ : ∃ x, r.emb x = y := r.exists_idx_of_mem hy
        rw [List.cons_append, View.canon_cons_emb, View.canon_cons_emb]
      · rw [List.cons_append, View.canon_cons_of_not_mem _ _ hy, View.canon_cons_of_not_mem _ _ hy]
        obtain ⟨p', hp', hy'⟩ := hL
        rcases List.mem_cons.1 hp' with rfl | hp'
        · exact absurd hy' hy
        · exact ih ⟨p', hp', hy'⟩
  exact (key [p0, p1, p2, p3] h).trans (hv h)

/-- The state of the first chunk: zero. -/
abbrev zC : Vec Ideal S4x256x512 .f32 := k0_pay2 (F := Ideal)
/-- The normalizer of the first chunk: zero. -/
abbrev zN : Vec Ideal S4x1x256 .f32 := k0_pay3 (F := Ideal)
/-- The stabilizer of the first chunk: zero. -/
abbrev zM : Vec Ideal S4x1x128 .f32 := k0_pay4 (F := Ideal)

section
variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x2048 .f32) (harg7 : arg7.IsWhole) (arg9 : Memref sig .tc .vmem S64x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x128 .f32) (harg12 : arg12.IsWhole)
  (x0 x1 : Vec Ideal S64x1024 .f32) (x2 x3 : Vec Ideal S64x2048 .f32) (x4 : Vec Ideal S64x128 .f32) (x5 : Vec Ideal S1x128 .f32) (x6 : Vec Ideal S1x2048 .f32)

/-- A later chunk's block of the result, at an entry of a head. -/
theorem outB (hc0 : ¬cond0_0 i) (xs0 : Vec Ideal S4x256x512 .f32) (xs1 : Vec Ideal S4x1x256 .f32) (xs2 : Vec Ideal S4x1x128 .f32)
    (r : Fin 64) (h : Fin 4) (e : Fin 512) (c' : Fin 2048) (hc : c'.val = 512 * h.val + e.val) :
    out0_B_7 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix2 r c') = outH x0 x1 x2 x3 x4 x5 x6 xs0 xs1 xs2 h (ix2 r e) := by
  unfold out0_B_7
  rw [View.read_writes_eq_canon _ _ _ (cover0_B_7 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2)]
  unfold kernelRun0_B
  dsimp only
  canon_tiles y hy using cover0_B_7 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix2 r c')
  all_goals idx_vars y
  all_goals obtain rfl : y0 = r := Fin.ext (by omega)
  all_goals rcases (show h = 0 ∨ h = 1 ∨ h = 2 ∨ h = 3 by omega) with rfl | rfl | rfl | rfl
  all_goals first | (exfalso; simp at hc; omega) | (obtain rfl : y1 = e := Fin.ext (by simp at hc; omega))
  all_goals sl_unfold_words
  all_goals simp only [View.readAt_eq_ld, harg1.read_unread, harg2.read_unread, harg3.read_unread, harg4.read_unread, harg5.read_unread, harg6.read_unread,
      harg7.read_unread, harg10.read_unread, harg11.read_unread, harg12.read_unread, View.ld_unit_zero (S := S64x128) hz2, View.ld_unit_zero (S := S1x128) hz2]
  all_goals rfl
/-- A later chunk's state, at an entry of a head. -/
theorem stateB (hc0 : ¬cond0_0 i) (xs0 : Vec Ideal S4x256x512 .f32) (xs1 : Vec Ideal S4x1x256 .f32) (xs2 : Vec Ideal S4x1x128 .f32)
    (h : Fin 4) (d : Fin 256) (e : Fin 512) :
    sout0_B_0 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix3 h d e) = cNew x1 x2 x4 x5 xs0 xs2 h (ix3 0 d e) := by
  unfold sout0_B_0
  rw [View.read_writes_eq_canon _ _ _ (scover0_B_0 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2)]
  unfold kernelRun0_B
  dsimp only
  canon_tiles y hy using scover0_B_0 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix3 h d e)
  all_goals idx_vars y
  all_goals obtain rfl : y0 = 0 := Fin.ext (by omega)
  all_goals obtain rfl : y1 = d := Fin.ext (by omega)
  all_goals obtain rfl : y2 = e := Fin.ext (by omega)
  all_goals rcases (show h = 0 ∨ h = 1 ∨ h = 2 ∨ h = 3 by omega) with rfl | rfl | rfl | rfl
  all_goals first | (exfalso; simp at hy0; done) | skip
  all_goals sl_unfold_words
  all_goals simp only [View.readAt_eq_ld, harg1.read_unread, harg2.read_unread, harg3.read_unread, harg4.read_unread, harg5.read_unread, harg6.read_unread,
      harg7.read_unread, harg10.read_unread, harg11.read_unread, harg12.read_unread, View.ld_unit_zero (S := S64x128) hz2, View.ld_unit_zero (S := S1x128) hz2]
  all_goals rfl
/-- A later chunk's normalizer, at an entry of a head. -/
theorem normB (hc0 : ¬cond0_0 i) (xs0 : Vec Ideal S4x256x512 .f32) (xs1 : Vec Ideal S4x1x256 .f32) (xs2 : Vec Ideal S4x1x128 .f32)
    (h : Fin 4) (d : Fin 256) :
    sout0_B_1 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix3 h 0 d) = nNew x1 x4 x5 xs1 xs2 h (ix3 0 0 d) := by
  unfold sout0_B_1
  rw [View.read_writes_eq_canon _ _ _ (scover0_B_1 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2)]
  unfold kernelRun0_B
  dsimp only
  canon_tiles y hy using scover0_B_1 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix3 h 0 d)
  all_goals idx_vars y
  all_goals obtain rfl : y0 = 0 := Fin.ext (by omega)
  all_goals obtain rfl : y1 = 0 := Fin.ext (by omega)
  all_goals obtain rfl : y2 = d := Fin.ext (by omega)
  all_goals rcases (show h = 0 ∨ h = 1 ∨ h = 2 ∨ h = 3 by omega) with rfl | rfl | rfl | rfl
  all_goals first | (exfalso; simp at hy0; done) | skip
  all_goals sl_unfold_words
  all_goals simp only [View.readAt_eq_ld, harg1.read_unread, harg2.read_unread, harg3.read_unread, harg4.read_unread, harg5.read_unread, harg6.read_unread,
      harg7.read_unread, harg10.read_unread, harg11.read_unread, harg12.read_unread, View.ld_unit_zero (S := S64x128) hz2, View.ld_unit_zero (S := S1x128) hz2]
  all_goals rfl
/-- A later chunk's stabilizer, at an entry of a head. -/
theorem stabB (hc0 : ¬cond0_0 i) (xs0 : Vec Ideal S4x256x512 .f32) (xs1 : Vec Ideal S4x1x256 .f32) (xs2 : Vec Ideal S4x1x128 .f32)
    (h : Fin 4) (j : Fin 128) :
    sout0_B_2 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix3 h 0 j) = mNewH x4 x5 xs2 h (ix3 0 0 j) := by
  unfold sout0_B_2
  rw [View.read_writes_eq_canon _ _ _ (scover0_B_2 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2)]
  unfold kernelRun0_B
  dsimp only
  canon_tiles y hy using scover0_B_2 c i arg1 harg1 arg2 harg2 arg3 harg3 arg4 harg4 arg5 harg5 arg6 harg6 arg7 harg7 arg9 harg9 arg10 harg10 arg11 harg11 arg12 harg12 hc0 x0 x1 x2 x3 x4 x5 x6 xs0 xs1 xs2 (ix3 h 0 j)
  all_goals idx_vars y
  all_goals obtain rfl : y0 = 0 := Fin.ext (by omega)
  all_goals obtain rfl : y1 = 0 := Fin.ext (by omega)
  all_goals obtain rfl : y2 = j := Fin.ext (by omega)
  all_goals rcases (show h = 0 ∨ h = 1 ∨ h = 2 ∨ h = 3 by omega) with rfl | rfl | rfl | rfl
  all_goals first | (exfalso; simp at hy0; done) | skip
  all_goals sl_unfold_words
  all_goals simp only [View.readAt_eq_ld, harg1.read_unread, harg2.read_unread, harg3.read_unread, harg4.read_unread, harg5.read_unread, harg6.read_unread,
      harg7.read_unread, harg10.read_unread, harg11.read_unread, harg12.read_unread, View.ld_unit_zero (S := S64x128) hz2, View.ld_unit_zero (S := S1x128) hz2]
  all_goals rfl
/-- The first chunk's block of the result, at an entry of a head. -/
theorem outA (hc0 : cond0_0 i)
    (r : Fin 64) (h : Fin 4) (e : Fin 512) (c' : Fin 2048) (hc : c'.val = 512 * h.val + e.val) :
    out0_A_7 c i arg1 harg1 arg2 harg2 arg3 harg3 arg4 harg4 arg5 harg5 arg6 harg6 arg7 harg7 arg9 harg9 arg10 harg10 arg11 harg11 arg12 harg12 hc0 x0 x1 x2 x3 x4 x5 x6 (ix2 r c') = outH x0 x1 x2 x3 x4 x5 x6 zC zN zM h (ix2 r e) := by
  unfold out0_A_7
  rw [View.read_writes_eq_canon _ _ _ (cover0_A_7 c i arg1 harg1 arg2 harg2 arg3 harg3 arg4 harg4 arg5 harg5 arg6 harg6 arg7 harg7 arg9 harg9 arg10 harg10 arg11 harg11 arg12 harg12 hc0 x0 x1 x2 x3 x4 x5 x6)]
  unfold kernelRun0_A
  dsimp only
  canon_tiles y hy using cover0_A_7 c i arg1 harg1 arg2 harg2 arg3 harg3 arg4 harg4 arg5 harg5 arg6 harg6 arg7 harg7 arg9 harg9 arg10 harg10 arg11 harg11 arg12 harg12 hc0 x0 x1 x2 x3 x4 x5 x6 (ix2 r c')
  all_goals idx_vars y
  all_goals obtain rfl : y0 = r := Fin.ext (by omega)
  all_goals rcases (show h = 0 ∨ h = 1 ∨ h = 2 ∨ h = 3 by omega) with rfl | rfl | rfl | rfl
  all_goals first | (exfalso; simp at hc; omega) | (obtain rfl : y1 = e := Fin.ext (by simp at hc; omega))
  all_goals sl_unfold_words
  all_goals simp (disch := first | decide | exact congrFun hz3) only [↓View.readCov_skip, ↓View.readCov_fill, View.readAt_eq_ld, harg1.read_unread, harg2.read_unread, harg3.read_unread, harg4.read_unread, harg5.read_unread, harg6.read_unread,
      harg7.read_unread, View.ld_unit_zero (S := S64x128) hz2, View.ld_unit_zero (S := S1x128) hz2]
  all_goals rfl
/-- The first chunk's state, at an entry of a head. -/
theorem stateA (hc0 : cond0_0 i)
    (h : Fin 4) (d : Fin 256) (e : Fin 512) :
    sout0_A_0 c i arg1 harg1 arg2 harg2 arg3 harg3 arg4 harg4 arg5 harg5 arg6 harg6 arg7 harg7 arg9 harg9 arg10 harg10 arg11 harg11 arg12 harg12 hc0 x0 x1 x2 x3 x4 x5 x6 (ix3 h d e) = cNew x1 x2 x4 x5 zC zM h (ix3 0 d e) := by
  unfold sout0_A_0
  rw [View.read_writes_eq_canon _ _ _ (scover0_A_0 c i arg1 harg1 arg2 harg2 arg3 harg3 arg4 harg4 arg5 harg5 arg6 harg6 arg7 harg7 arg9 harg9 arg10 harg10 arg11 harg11 arg12 harg12 hc0 x0 x1 x2 x3 x4 x5 x6)]
  unfold kernelRun0_A
  dsimp only
  sl_unfold_words
  refine canon_drop _ _ _ _ _ _ ?_ fun hcov => ?_
  · have H := fun L h => View.cover_of_tiledL (Val := Elt Ideal) (e := .f32) (s := S4x256x512) L S1x256x512.size h
    exact H _ (by rfl) _
  canon_tiles y hy using hcov
  all_goals idx_vars y
  all_goals obtain rfl : y0 = 0 := Fin.ext (by omega)
  all_goals obtain rfl : y1 = d := Fin.ext (by omega)
  all_goals obtain rfl : y2 = e := Fin.ext (by omega)
  all_goals rcases (show h = 0 ∨ h = 1 ∨ h = 2 ∨ h = 3 by omega) with rfl | rfl | rfl | rfl
  all_goals first | (exfalso; simp at hy0; done) | skip
  all_goals sl_unfold_words
  all_goals simp (disch := first | decide | exact congrFun hz3) only [↓View.readCov_skip, ↓View.readCov_fill, View.readAt_eq_ld, harg1.read_unread, harg2.read_unread, harg3.read_unread, harg4.read_unread, harg5.read_unread, harg6.read_unread,
      harg7.read_unread, View.ld_unit_zero (S := S64x128) hz2, View.ld_unit_zero (S := S1x128) hz2]
  all_goals rfl
/-- The first chunk's normalizer, at an entry of a head. -/
theorem normA (hc0 : cond0_0 i)
    (h : Fin 4) (d : Fin 256) :
    sout0_A_1 c i arg1 harg1 arg2 harg2 arg3 harg3 arg4 harg4 arg5 harg5 arg6 harg6 arg7 harg7 arg9 harg9 arg10 harg10 arg11 harg11 arg12 harg12 hc0 x0 x1 x2 x3 x4 x5 x6 (ix3 h 0 d) = nNew x1 x4 x5 zN zM h (ix3 0 0 d) := by
  unfold sout0_A_1
  rw [View.read_writes_eq_canon _ _ _ (scover0_A_1 c i arg1 harg1 arg2 harg2 arg3 harg3 arg4 harg4 arg5 harg5 arg6 harg6 arg7 harg7 arg9 harg9 arg10 harg10 arg11 harg11 arg12 harg12 hc0 x0 x1 x2 x3 x4 x5 x6)]
  unfold kernelRun0_A
  dsimp only
  sl_unfold_words
  refine canon_drop _ _ _ _ _ _ ?_ fun hcov => ?_
  · have H := fun L h => View.cover_of_tiledL (Val := Elt Ideal) (e := .f32) (s := S4x1x256) L S1x1x256.size h
    exact H _ (by rfl) _
  canon_tiles y hy using hcov
  all_goals idx_vars y
  all_goals obtain rfl : y0 = 0 := Fin.ext (by omega)
  all_goals obtain rfl : y1 = 0 := Fin.ext (by omega)
  all_goals obtain rfl : y2 = d := Fin.ext (by omega)
  all_goals rcases (show h = 0 ∨ h = 1 ∨ h = 2 ∨ h = 3 by omega) with rfl | rfl | rfl | rfl
  all_goals first | (exfalso; simp at hy0; done) | skip
  all_goals sl_unfold_words
  all_goals simp (disch := first | decide | exact congrFun hz3) only [↓View.readCov_skip, ↓View.readCov_fill, View.readAt_eq_ld, harg1.read_unread, harg2.read_unread, harg3.read_unread, harg4.read_unread, harg5.read_unread, harg6.read_unread,
      harg7.read_unread, View.ld_unit_zero (S := S64x128) hz2, View.ld_unit_zero (S := S1x128) hz2]
  all_goals rfl
/-- The first chunk's stabilizer, at an entry of a head. -/
theorem stabA (hc0 : cond0_0 i)
    (h : Fin 4) (j : Fin 128) :
    sout0_A_2 c i arg1 harg1 arg2 harg2 arg3 harg3 arg4 harg4 arg5 harg5 arg6 harg6 arg7 harg7 arg9 harg9 arg10 harg10 arg11 harg11 arg12 harg12 hc0 x0 x1 x2 x3 x4 x5 x6 (ix3 h 0 j) = mNewH x4 x5 zM h (ix3 0 0 j) := by
  unfold sout0_A_2
  rw [View.read_writes_eq_canon _ _ _ (scover0_A_2 c i arg1 harg1 arg2 harg2 arg3 harg3 arg4 harg4 arg5 harg5 arg6 harg6 arg7 harg7 arg9 harg9 arg10 harg10 arg11 harg11 arg12 harg12 hc0 x0 x1 x2 x3 x4 x5 x6)]
  unfold kernelRun0_A
  dsimp only
  sl_unfold_words
  refine canon_drop _ _ _ _ _ _ ?_ fun hcov => ?_
  · have H := fun L h => View.cover_of_tiledL (Val := Elt Ideal) (e := .f32) (s := S4x1x128) L S1x1x128.size h
    exact H _ (by rfl) _
  canon_tiles y hy using hcov
  all_goals idx_vars y
  all_goals obtain rfl : y0 = 0 := Fin.ext (by omega)
  all_goals obtain rfl : y1 = 0 := Fin.ext (by omega)
  all_goals obtain rfl : y2 = j := Fin.ext (by omega)
  all_goals rcases (show h = 0 ∨ h = 1 ∨ h = 2 ∨ h = 3 by omega) with rfl | rfl | rfl | rfl
  all_goals first | (exfalso; simp at hy0; done) | skip
  all_goals sl_unfold_words
  all_goals simp (disch := first | decide | exact congrFun hz3) only [↓View.readCov_skip, ↓View.readCov_fill, View.readAt_eq_ld, harg1.read_unread, harg2.read_unread, harg3.read_unread, harg4.read_unread, harg5.read_unread, harg6.read_unread,
      harg7.read_unread, View.ld_unit_zero (S := S64x128) hz2, View.ld_unit_zero (S := S1x128) hz2]
  all_goals rfl
end

end Cert.MlstmIdeal.Value
end
-- ==== Proof.MlstmMath.lean ====
module

public import proofs.«01_k».proof.Proof.RealFacts

@[expose] public section

/-! The mLSTM over the real numbers: what a chunk computes with its stabilizer, and the sum over all earlier rows that it amounts to. -/

noncomputable section

namespace Cert.Mlstm

open Cert.Common

/-- The sum of the log forget gates of the rows before `n`. -/
def pre (f : ℕ → ℝ) (n : ℕ) : ℝ := ∑ i ∈ Finset.range n, f i

/-- The weight of row `s` seen after the rows before `n`: its input gate times the forget gates since. -/
def wt (l f : ℕ → ℝ) (n s : ℕ) : ℝ := Real.exp (pre f n - pre f (s + 1) + l s)

/-- The weighted sum of the rows before `n`. -/
def acc (l f x : ℕ → ℝ) (n : ℕ) : ℝ := ∑ s ∈ Finset.range n, wt l f n s * x s

/-- The sums of the gates within a chunk, as a difference of the sums from the start. -/
theorem sum_le (f : ℕ → ℝ) (n : ℕ) (r : Fin 64) :
    (∑ c : Fin 64, if c ≤ r then f (n + c.val) else 0) = pre f (n + r.val + 1) - pre f n := by
  have e : ∀ k : ℕ, pre f (n + k) - pre f n = ∑ i ∈ Finset.range k, f (n + i) := fun k => by
    unfold pre; rw [Finset.sum_range_add, add_sub_cancel_left]
  rw [add_assoc, e, Finset.sum_ite, Finset.sum_const_zero, add_zero]
  refine Finset.sum_bij (fun c _ => c.val) ?_ ?_ ?_ ?_
  · intro c hc
    have := (Finset.mem_filter.1 hc).2
    exact Finset.mem_range.2 (by have : c.val ≤ r.val := this; omega)
  · exact fun a _ b _ h => Fin.ext h
  · intro b hb
    have hb := Finset.mem_range.1 hb
    exact ⟨⟨b, by omega⟩, Finset.mem_filter.2 ⟨Finset.mem_univ _, (by show b ≤ r.val; omega)⟩, rfl⟩
  · exact fun _ _ => rfl

/-- The weights of a later row carry the gates since: the sum after `n + k` rows from the sum after `n`. -/
theorem acc_add (l f x : ℕ → ℝ) (n k : ℕ) :
    acc l f x (n + k) = Real.exp (pre f (n + k) - pre f n) * acc l f x n + ∑ i ∈ Finset.range k, wt l f (n + k) (n + i) * x (n + i) := by
  unfold acc
  rw [Finset.sum_range_add, Finset.mul_sum]
  refine congrArg (· + _) (Finset.sum_congr rfl fun s _ => ?_)
  unfold wt
  rw [← mul_assoc, ← Real.exp_add]
  congr 2
  ring

/-- A sum over the rows of a chunk up to row `r`. -/
theorem sum_range_le {m : ℕ} (g : ℕ → ℝ) (r : Fin m) : ∑ i ∈ Finset.range (r.val + 1), g i = ∑ c : Fin m, if c ≤ r then g c.val else 0 := by
  rw [Finset.sum_ite, Finset.sum_const_zero, add_zero]
  refine (Finset.sum_bij (fun c _ => c.val) ?_ ?_ ?_ ?_).symm
  · intro c hc
    have := (Finset.mem_filter.1 hc).2
    exact Finset.mem_range.2 (by have : c.val ≤ r.val := this; omega)
  · exact fun a _ b _ h => Fin.ext h
  · intro b hb
    have hb := Finset.mem_range.1 hb
    exact ⟨⟨b, by omega⟩, Finset.mem_filter.2 ⟨Finset.mem_univ _, (by show b ≤ r.val; omega)⟩, rfl⟩
  · exact fun _ _ => rfl

/-- What a row of a chunk computes, with the state before it and the stabilizers `mp` and `a`, is the sum over all rows up to it,
    scaled by the stabilizer. -/
theorem chunk_row (l f x : ℕ → ℝ) (n : ℕ) (r : Fin 64) (mp a : ℝ) :
    (∑ c : Fin 64, (if c ≤ r then Real.exp (l (n + c.val) - (pre f (n + c.val + 1) - pre f n) - a) else 0) * x (n + c.val))
        + Real.exp (mp - a) * (Real.exp (-mp) * acc l f x n)
      = Real.exp (-((pre f (n + r.val + 1) - pre f n) + a)) * acc l f x (n + r.val + 1) := by
  rw [add_assoc n, acc_add, mul_add, ← mul_assoc, ← mul_assoc, ← Real.exp_add, ← Real.exp_add, add_comm,
    sum_range_le (fun i => wt l f (n + (r.val + 1)) (n + i) * x (n + i)), Finset.mul_sum]
  congr 1
  · congr 2; ring
  · refine Finset.sum_congr rfl fun c _ => ?_
    by_cases h : c ≤ r
    · rw [if_pos h, if_pos h, wt, ← mul_assoc, ← Real.exp_add]
      congr 2; ring
    · rw [if_neg h, if_neg h, zero_mul, mul_zero]

/-- The state after a chunk, from the state before it. -/
theorem chunk_state (l f x : ℕ → ℝ) (n : ℕ) (mp a : ℝ) :
    Real.exp (mp - a) * (Real.exp (-mp) * acc l f x n)
        + (∑ c : Fin 64, x (n + c.val) * Real.exp (l (n + c.val) - (pre f (n + c.val + 1) - pre f n) - a))
      = Real.exp (-((pre f (n + 64) - pre f n) + a)) * acc l f x (n + 64) := by
  rw [acc_add, mul_add, ← mul_assoc, ← mul_assoc, ← Real.exp_add, ← Real.exp_add, Finset.sum_range, Finset.mul_sum]
  congr 1
  · congr 2; ring
  · refine Finset.sum_congr rfl fun c _ => ?_
    rw [wt, ← mul_assoc, ← Real.exp_add, mul_comm]
    congr 2; ring

/-- The divisor's floor is the stabilizer's scale of one, so that the quotient carries no stabilizer. -/
theorem quotient (p d e : ℝ) (he : 0 < e) : e * p * (1 / max |e * d| e) = p * (1 / max |d| 1) := by
  have h : max |e * d| e = e * max |d| 1 := by
    rw [abs_mul, abs_of_pos he, mul_max_of_nonneg _ _ he.le, mul_one]
  have h1 : (0 : ℝ) < max |d| 1 := lt_of_lt_of_le one_pos (le_max_right _ _)
  rw [h]
  field_simp

/-- The logarithm of the sigmoid, as the body computes it. -/
theorem log_sigmoid (x : ℝ) : min x 0 - Real.log (1 + Real.exp (-|x|)) = Real.log (1 / (1 + Real.exp (-x))) := by
  rw [one_div, Real.log_inv]
  rcases le_total 0 x with h | h
  · rw [min_eq_right h, abs_of_nonneg h, zero_sub]
  · rw [min_eq_left h, abs_of_nonpos h, neg_neg]
    have e : 1 + Real.exp (-x) = Real.exp (-x) * (1 + Real.exp x) := by
      rw [mul_add, mul_one, ← Real.exp_add, neg_add_cancel, Real.exp_zero, add_comm]
    rw [e, Real.log_mul (Real.exp_pos _).ne' (by positivity), Real.log_exp]
    ring

end Cert.Mlstm
end
-- ==== Proof.MlstmStep.lean ====
module

public import proofs.«01_k».proof.Proof.MlstmHead
public import proofs.«01_k».proof.Proof.MlstmMath

@[expose] public section

set_option maxRecDepth 16384

/-! One chunk of the mLSTM over the real numbers: from the sums over the rows before it to its rows and to the sums over its rows too. -/

noncomputable section

namespace Cert.MlstmIdeal.Value

open Cert.Common Cert.Mlstm Cert.MlstmIdeal Cert.MlstmIdeal.Gen Idealize.ShloMosaic Idealize.ShloMosaic.TcCoe Idealize.ShloMosaic.Tactic Idealize.SL.Sem

/-- One entry of a head's hidden rows. -/
theorem pay115_apply (g fl : FVec Ideal S64x1 .f32) (q : FVec Ideal S64x256 .f32) (s : FVec Ideal S64x64 .f32) (a b : FVec Ideal S64x512 .f32)
    (N : Vec Ideal S1x1x256 .f32) (r : Fin 64) (e : Fin 512) :
    k0_pay115 (F := Ideal) g fl q s a b N (ix2 r e) = Ideal.div (b (ix2 r e) + g (ix2 r 0) * a (ix2 r e))
      (max (max ((∑ c : Fin 64, s (ix2 r c)) + g (ix2 r 0) * ∑ d : Fin 256, q (ix2 r d) * N (ix3 0 0 d))
        (-((∑ c : Fin 64, s (ix2 r c)) + g (ix2 r 0) * ∑ d : Fin 256, q (ix2 r d) * N (ix3 0 0 d)))) (fl (ix2 r 0))) := by
  pointwise [k0_pay115]
  rfl

/-- One entry of a head's next state. -/
theorem pay116_apply (g : FVec Ideal S1x1 .f32) (a b : FVec Ideal S256x512 .f32) (d : Fin 256) (e : Fin 512) :
    k0_pay116 (F := Ideal) g a b (ix3 0 d e) = g (ix2 0 0) * a (ix2 d e) + b (ix2 d e) := by
  pointwise [k0_pay116]

/-- One entry of a head's next normalizer. -/
theorem pay117_apply (g : FVec Ideal S1x1 .f32) (w : FVec Ideal S64x1 .f32) (k : Vec Ideal S64x256 .f32) (N : Vec Ideal S1x1x256 .f32) (d : Fin 256) :
    k0_pay117 (F := Ideal) g (k0_pay106 w k) N (ix3 0 0 d) = g (ix2 0 0) * N (ix3 0 0 d) + ∑ c : Fin 64, k (ix2 c d) * w (ix2 c 0) := by
  pointwise [k0_pay117, k0_pay106]

/-- One entry of a head's state as the body reads it. -/
theorem pay85_apply (C : Vec Ideal S1x256x512 .f32) (d : Fin 256) (e : Fin 512) : k0_pay85 (F := Ideal) C (ix2 d e) = C (ix3 0 d e) := by
  pointwise [k0_pay85]

/-- One of a head's 256 columns. -/
theorem qv_apply (x : Vec Ideal S64x1024 .f32) (h : Fin 4) (r : Fin 64) (d : Fin 256) : qv x h (ix2 r d) = x (ix2 r ⟨256 * h.val + d.val, by omega⟩) := by
  match h with
  | 0 => exact congrArg x (funext fun a => Fin.ext (by match a with | ⟨0, _⟩ => show 0 + 1 * r.val = r.val; omega | ⟨1, _⟩ => show 0 + 1 * d.val = 256 * 0 + d.val; omega))
  | 1 => exact congrArg x (funext fun a => Fin.ext (by match a with | ⟨0, _⟩ => show 0 + 1 * r.val = r.val; omega | ⟨1, _⟩ => show 256 + 1 * d.val = 256 * 1 + d.val; omega))
  | 2 => exact congrArg x (funext fun a => Fin.ext (by match a with | ⟨0, _⟩ => show 0 + 1 * r.val = r.val; omega | ⟨1, _⟩ => show 512 + 1 * d.val = 256 * 2 + d.val; omega))
  | 3 => exact congrArg x (funext fun a => Fin.ext (by match a with | ⟨0, _⟩ => show 0 + 1 * r.val = r.val; omega | ⟨1, _⟩ => show 768 + 1 * d.val = 256 * 3 + d.val; omega))

/-- One of a head's 512 columns. -/
theorem vv_apply (x : Vec Ideal S64x2048 .f32) (h : Fin 4) (r : Fin 64) (e : Fin 512) : vv x h (ix2 r e) = x (ix2 r ⟨512 * h.val + e.val, by omega⟩) := by
  match h with
  | 0 => exact congrArg x (funext fun a => Fin.ext (by match a with | ⟨0, _⟩ => show 0 + 1 * r.val = r.val; omega | ⟨1, _⟩ => show 0 + 1 * e.val = 512 * 0 + e.val; omega))
  | 1 => exact congrArg x (funext fun a => Fin.ext (by match a with | ⟨0, _⟩ => show 0 + 1 * r.val = r.val; omega | ⟨1, _⟩ => show 512 + 1 * e.val = 512 * 1 + e.val; omega))
  | 2 => exact congrArg x (funext fun a => Fin.ext (by match a with | ⟨0, _⟩ => show 0 + 1 * r.val = r.val; omega | ⟨1, _⟩ => show 1024 + 1 * e.val = 512 * 2 + e.val; omega))
  | 3 => exact congrArg x (funext fun a => Fin.ext (by match a with | ⟨0, _⟩ => show 0 + 1 * r.val = r.val; omega | ⟨1, _⟩ => show 1536 + 1 * e.val = 512 * 3 + e.val; omega))

/-- One of a head's 512 gains. -/
theorem gv_apply (x : Vec Ideal S1x2048 .f32) (h : Fin 4) (e : Fin 512) : gv x h (ix2 0 e) = x (ix2 0 ⟨512 * h.val + e.val, by omega⟩) := by
  match h with
  | 0 => exact congrArg x (funext fun a => Fin.ext (by match a with | ⟨0, _⟩ => rfl | ⟨1, _⟩ => show 0 + 1 * e.val = 512 * 0 + e.val; omega))
  | 1 => exact congrArg x (funext fun a => Fin.ext (by match a with | ⟨0, _⟩ => rfl | ⟨1, _⟩ => show 512 + 1 * e.val = 512 * 1 + e.val; omega))
  | 2 => exact congrArg x (funext fun a => Fin.ext (by match a with | ⟨0, _⟩ => rfl | ⟨1, _⟩ => show 1024 + 1 * e.val = 512 * 2 + e.val; omega))
  | 3 => exact congrArg x (funext fun a => Fin.ext (by match a with | ⟨0, _⟩ => rfl | ⟨1, _⟩ => show 1536 + 1 * e.val = 512 * 3 + e.val; omega))

/-- One entry of a head's state. -/
theorem cv_apply (x : Vec Ideal S4x256x512 .f32) (h : Fin 4) (d : Fin 256) (e : Fin 512) : cv x h (ix3 0 d e) = x (ix3 h d e) := by
  have hx : ∀ y : S4x256x512.Idx, (y 0).val = h.val → (y 1).val = d.val → (y 2).val = e.val → x y = x (ix3 h d e) := fun y h0 h1 h2 =>
    congrArg x (funext fun a => Fin.ext (by match a with | ⟨0, _⟩ => exact h0 | ⟨1, _⟩ => exact h1 | ⟨2, _⟩ => exact h2))
  match h with
  | 0 => exact hx _ rfl (by show 0 + 1 * d.val = d.val; omega) (by show 0 + 1 * e.val = e.val; omega)
  | 1 => exact hx _ rfl (by show 0 + 1 * d.val = d.val; omega) (by show 0 + 1 * e.val = e.val; omega)
  | 2 => exact hx _ rfl (by show 0 + 1 * d.val = d.val; omega) (by show 0 + 1 * e.val = e.val; omega)
  | 3 => exact hx _ rfl (by show 0 + 1 * d.val = d.val; omega) (by show 0 + 1 * e.val = e.val; omega)

/-- One entry of a head's normalizer. -/
theorem nv_apply (x : Vec Ideal S4x1x256 .f32) (h : Fin 4) (d : Fin 256) : nv x h (ix3 0 0 d) = x (ix3 h 0 d) := by
  have hx : ∀ y : S4x1x256.Idx, (y 0).val = h.val → (y 2).val = d.val → x y = x (ix3 h 0 d) := fun y h0 h2 =>
    congrArg x (funext fun a => Fin.ext (by match a with | ⟨0, _⟩ => exact h0 | ⟨1, _⟩ => have := (y 1).isLt; show (y 1).val = 0; exact Nat.lt_one_iff.1 this | ⟨2, _⟩ => exact h2))
  match h with
  | 0 => exact hx _ rfl (by show 0 + 1 * d.val = d.val; omega)
  | 1 => exact hx _ rfl (by show 0 + 1 * d.val = d.val; omega)
  | 2 => exact hx _ rfl (by show 0 + 1 * d.val = d.val; omega)
  | 3 => exact hx _ rfl (by show 0 + 1 * d.val = d.val; omega)

/-- A head's stabilizer. -/
theorem mv_apply (x : Vec Ideal S4x1x128 .f32) (h : Fin 4) : mv x h (ix3 0 0 0) = x (ix3 h 0 0) := by
  have hx : ∀ y : S4x1x128.Idx, (y 0).val = h.val → (y 2).val = 0 → x y = x (ix3 h 0 0) := fun y h0 h2 =>
    congrArg x (funext fun a => Fin.ext (by match a with | ⟨0, _⟩ => exact h0 | ⟨1, _⟩ => have := (y 1).isLt; show (y 1).val = 0; exact Nat.lt_one_iff.1 this | ⟨2, _⟩ => exact h2))
  match h with
  | 0 => exact hx _ rfl rfl
  | 1 => exact hx _ rfl rfl
  | 2 => exact hx _ rfl rfl
  | 3 => exact hx _ rfl rfl

/-- The greater of two real numbers, taken in the extended reals. -/
theorem coeMax (x y : ℝ) : ((max x y : ℝ) : EReal) = max (x : EReal) (y : EReal) := EReal.coe_strictMono.monotone.map_max

/-- The smaller of two real numbers, taken in the extended reals. -/
theorem coeMin (x y : ℝ) : ((min x y : ℝ) : EReal) = min (x : EReal) (y : EReal) := EReal.coe_strictMono.monotone.map_min

/-- A gate with its bias, capped softly at ±15. -/
def capE (g b : EReal) : EReal := Ideal.ofBits FTy.f32 1097859072#32 * Ideal.tanh (Ideal.div (g + b) (Ideal.ofBits FTy.f32 1097859072#32))

/-- The word of 15. -/
theorem word_15 : Ideal.ofBits FTy.f32 1097859072#32 = ((15 : ℝ) : EReal) := by
  simp [Ideal.ofBits, Ideal.ieee, -EReal.coe_mul]
  norm_num

/-- A capped gate is a real number, since the hyperbolic tangent of any number is. -/
theorem isReal_capE (g b : EReal) : IsReal (capE g b) := by
  have ht : ∀ x : EReal, IsReal (Ideal.tanh x) := fun x => by
    induction x with
    | bot => exact ⟨-1, Ideal.tanh_bot⟩
    | coe r => exact ⟨_, Ideal.tanh_coe r⟩
    | top => exact ⟨1, Ideal.tanh_top⟩
  exact IsReal.mul ⟨15, word_15⟩ (ht _)

/-- One entry of the capped gates. -/
theorem pay5_apply (x : Vec Ideal S64x128 .f32) (b : Vec Ideal S1x128 .f32) (r : Fin 64) (j : Fin 128) :
    k0_pay5 x b (ix2 r j) = capE (x (ix2 r j)) (b (ix2 0 j)) := by
  pointwise [k0_pay5]
  rfl

/-- One entry of the logarithms of the sigmoids of the capped gates. -/
theorem pay6_apply (x : Vec Ideal S64x128 .f32) (b : Vec Ideal S1x128 .f32) (r : Fin 64) (j : Fin 128) (c : ℝ) (hc : capE (x (ix2 r j)) (b (ix2 0 j)) = (c : EReal)) :
    k0_pay6 x b (ix2 r j) = (Real.log (1 / (1 + Real.exp (-c))) : EReal) := by
  have e : k0_pay6 x b (ix2 r j) = min (k0_pay5 x b (ix2 r j)) 0 - Ideal.log1p (Ideal.exp (0 - max (k0_pay5 x b (ix2 r j)) (-k0_pay5 x b (ix2 r j)))) := by
    pointwise [k0_pay6]
    rfl
  have hm : max (c : EReal) (-(c : EReal)) = ((|c| : ℝ) : EReal) := by
    rw [← EReal.coe_neg, ← coeMax]; rfl
  have hn : min (c : EReal) 0 = ((min c 0 : ℝ) : EReal) := by rw [← EReal.coe_zero, ← coeMin]
  have h0 : (0 : ℝ) < 1 + Real.exp (-|c|) := by positivity
  rw [e, pay5_apply, hc, hm, hn, zero_sub, ← EReal.coe_neg, Ideal.exp_coe, Ideal.log1p, ← EReal.coe_one, ← EReal.coe_add, Ideal.log_coe, if_neg (not_le.2 h0),
    ← EReal.coe_sub, log_sigmoid]

/-- A head's input gates are the lanes of the first four columns. -/
theorem liv_apply (x : Vec Ideal S64x128 .f32) (b : Vec Ideal S1x128 .f32) (h : Fin 4) (r : Fin 64) :
    liv x b h (ix2 r 0) = k0_pay5 x b (ix2 r ⟨h.val, by omega⟩) := by
  match h with
  | 0 => exact lane_apply 0 _ r
  | 1 => exact lane_apply 1 _ r
  | 2 => exact lane_apply 2 _ r
  | 3 => exact lane_apply 3 _ r

/-- A head's forget gates are the lanes of the next four columns. -/
theorem lfv_apply (x : Vec Ideal S64x128 .f32) (b : Vec Ideal S1x128 .f32) (h : Fin 4) (r : Fin 64) :
    lfv x b h (ix2 r 0) = k0_pay6 x b (ix2 r ⟨4 + h.val, by omega⟩) := by
  match h with
  | 0 => exact lane_apply 4 _ r
  | 1 => exact lane_apply 5 _ r
  | 2 => exact lane_apply 6 _ r
  | 3 => exact lane_apply 7 _ r

variable (q k : ℕ → Fin 4 → Fin 256 → ℝ) (v : ℕ → Fin 4 → Fin 512 → ℝ) (l f : Fin 4 → ℕ → ℝ)

/-- The operands of a chunk are the 64 rows from row `n`. -/
structure Chunk (n : ℕ) (x0 x1 : Vec Ideal S64x1024 .f32) (x2 : Vec Ideal S64x2048 .f32) (x4 : Vec Ideal S64x128 .f32) (x5 : Vec Ideal S1x128 .f32) : Prop where
  hq : ∀ h r d, k0_pay73 (F := Ideal) (qv x0 h) (ix2 r d) = (q (n + r.val) h d : EReal)
  hk : ∀ h r d, qv x1 h (ix2 r d) = (k (n + r.val) h d : EReal)
  hv : ∀ h r e, vv x2 h (ix2 r e) = (v (n + r.val) h e : EReal)
  hl : ∀ h r, liv x4 x5 h (ix2 r 0) = (l h (n + r.val) : EReal)
  hf : ∀ h r, lfv x4 x5 h (ix2 r 0) = (f h (n + r.val) : EReal)

/-- The scratch buffers hold the sums over the rows before `n`, scaled by the stabilizers. -/
def Inv (n : ℕ) (C : Vec Ideal S4x256x512 .f32) (N : Vec Ideal S4x1x256 .f32) (M : Vec Ideal S4x1x128 .f32) : Prop :=
  ∃ mp : Fin 4 → ℝ,
    (∀ h d e, C (ix3 h d e) = ((Real.exp (-mp h) * acc (l h) (f h) (fun s => k s h d * v s h e) n : ℝ) : EReal)) ∧
    (∀ h d, N (ix3 h 0 d) = ((Real.exp (-mp h) * acc (l h) (f h) (fun s => k s h d) n : ℝ) : EReal)) ∧
    (∀ h j, M (ix3 h 0 j) = (mp h : EReal))

/-- The score of row `t` for row `s`. -/
def score (h : Fin 4) (t s : ℕ) : ℝ := ∑ d, q t h d * k s h d

/-- The sum that the state holds, applied to a query, is the sum of the scores. -/
theorem acc_score (h : Fin 4) (t n : ℕ) (y : ℕ → ℝ) :
    (∑ d, q t h d * acc (l h) (f h) (fun s => k s h d * y s) n) = acc (l h) (f h) (fun s => score q k h t s * y s) n := by
  unfold acc score
  simp only [Finset.mul_sum, Finset.sum_mul]
  rw [Finset.sum_comm]
  refine Finset.sum_congr rfl fun s _ => Finset.sum_congr rfl fun d _ => by ring

/-- A hidden row of a head: the weighted values of the rows up to it, over the weights' own sum. -/
def hidR (h : Fin 4) (t : ℕ) (e : Fin 512) : ℝ :=
  acc (l h) (f h) (fun s => score q k h t s * v s h e) (t + 1) * (1 / max |acc (l h) (f h) (fun s => score q k h t s) (t + 1)| 1)

variable {q k v l f}
variable {n : ℕ} {x0 x1 : Vec Ideal S64x1024 .f32} {x2 : Vec Ideal S64x2048 .f32} {x4 : Vec Ideal S64x128 .f32} {x5 : Vec Ideal S1x128 .f32}
  {C : Vec Ideal S4x256x512 .f32} {N : Vec Ideal S4x1x256 .f32} {M : Vec Ideal S4x1x128 .f32}

/-- A chunk's hidden rows are the rows of the recurrence solved. -/
theorem row (hX : Chunk q k v l f n x0 x1 x2 x4 x5) (hI : Inv k v l f n C N M) (h : Fin 4) (r : Fin 64) (e : Fin 512) :
    hid x0 x1 x2 x4 x5 C N M h (ix2 r e) = (hidR q k v l f h (n + r.val) e : EReal) := by
  obtain ⟨mp, hC, hN, hM⟩ := hI
  obtain ⟨a, al, hD, hg, hfl, -⟩ := gates _ _ (mv M h) _ _ (mp h) (hX.hl h) (hX.hf h) ((mv_apply M h).trans (hM h 0))
  simp only [sum_le (f h)] at hD hfl
  have hs : ∀ c, sm x0 x1 x4 x5 M h (ix2 r c) = ((score q k h (n + r.val) (n + c.val) * (if c ≤ r then Real.exp (l h (n + c.val) - (pre (f h) (n + c.val + 1) - pre (f h) n) - a r) else 0) : ℝ) : EReal) := fun c => by
    show pickS _ h (ix2 r c) * dMat _ _ _ (ix2 r c) = _
    rw [hD, pickS_apply, pay89_apply (qv x1) (fun h => k0_pay81 (qv x0 h))]
    rw [EReal.coe_mul]
    congr 1
    unfold score
    rw [← coe_sum_real]
    refine Finset.sum_congr rfl fun d _ => ?_
    rw [EReal.coe_mul, ← hX.hk h c d, ← hX.hq h r d]
    rfl
  have hnum : (∑ c : Fin 64, sm x0 x1 x4 x5 M h (ix2 r c) * vv x2 h (ix2 c e)) = ((∑ c : Fin 64, (if c ≤ r then Real.exp (l h (n + c.val) - (pre (f h) (n + c.val + 1) - pre (f h) n) - a r) else 0) * (score q k h (n + r.val) (n + c.val) * v (n + c.val) h e) : ℝ) : EReal) := by
    rw [← coe_sum_real]
    refine Finset.sum_congr rfl fun c _ => ?_
    rw [hs, hX.hv, ← EReal.coe_mul]
    congr 1; ring
  have hden : (∑ c : Fin 64, sm x0 x1 x4 x5 M h (ix2 r c)) = ((∑ c : Fin 64, (if c ≤ r then Real.exp (l h (n + c.val) - (pre (f h) (n + c.val + 1) - pre (f h) n) - a r) else 0) * score q k h (n + r.val) (n + c.val) : ℝ) : EReal) := by
    rw [← coe_sum_real]
    refine Finset.sum_congr rfl fun c _ => ?_
    rw [hs]
    congr 1; ring
  have hqC : (∑ d : Fin 256, k0_pay73 (F := Ideal) (qv x0 h) (ix2 r d) * C (ix3 h d e)) = ((Real.exp (-mp h) * acc (l h) (f h) (fun s => score q k h (n + r.val) s * v s h e) n : ℝ) : EReal) := by
    rw [← acc_score, Finset.mul_sum, ← coe_sum_real]
    refine Finset.sum_congr rfl fun d _ => ?_
    rw [hX.hq, hC, ← EReal.coe_mul]
    congr 1; ring
  have hqN : (∑ d : Fin 256, k0_pay73 (F := Ideal) (qv x0 h) (ix2 r d) * N (ix3 h 0 d)) = ((Real.exp (-mp h) * acc (l h) (f h) (fun s => score q k h (n + r.val) s) n : ℝ) : EReal) := by
    have e1 := acc_score q k l f h (n + r.val) n (fun _ => 1)
    simp only [mul_one] at e1
    rw [← e1, Finset.mul_sum, ← coe_sum_real]
    refine Finset.sum_congr rfl fun d _ => ?_
    rw [hX.hq, hN, ← EReal.coe_mul]
    congr 1; ring
  unfold hid
  rw [pay115_apply, pickV_apply, pickV_apply, pay96_apply (fun h => k0_pay81 (qv x0 h)) (cv C), pay101_apply (fun h => k0_pay77 (vv x2 h)) (fun h => sm x0 x1 x4 x5 M h), hg, hfl, hden]
  simp only [nv_apply, cv_apply]
  rw [hqN]
  have e1 : (∑ c : Fin 64, sm x0 x1 x4 x5 M h (ix2 r c) * k0_pay77 (F := Ideal) (vv x2 h) (ix2 c e)) = _ := hnum
  have e2 : (∑ d : Fin 256, k0_pay81 (F := Ideal) (qv x0 h) (ix2 r d) * C (ix3 h d e)) = _ := hqC
  rw [e1, e2]
  simp only [← EReal.coe_mul, ← EReal.coe_add, ← EReal.coe_neg, ← coeMax]
  rw [chunk_row (l h) (f h) (fun s => score q k h (n + r.val) s * v s h e), chunk_row (l h) (f h) (fun s => score q k h (n + r.val) s)]
  have hpos : 0 < Real.exp (-((pre (f h) (n + r.val + 1) - pre (f h) n) + a r)) := Real.exp_pos _
  rw [Ideal.div_coe (ne_of_gt (lt_of_lt_of_le hpos (le_max_right _ _))), ← EReal.coe_mul]
  congr 1
  exact quotient _ _ _ hpos

/-- What a chunk leaves holds the sums over its rows too. -/
theorem next (hX : Chunk q k v l f n x0 x1 x2 x4 x5) (hI : Inv k v l f n C N M)
    {C' : Vec Ideal S4x256x512 .f32} {N' : Vec Ideal S4x1x256 .f32} {M' : Vec Ideal S4x1x128 .f32}
    (hC' : ∀ h d e, C' (ix3 h d e) = cNew x1 x2 x4 x5 C M h (ix3 0 d e)) (hN' : ∀ h d, N' (ix3 h 0 d) = nNew x1 x4 x5 N M h (ix3 0 0 d))
    (hM' : ∀ h j, M' (ix3 h 0 j) = mNewH x4 x5 M h (ix3 0 0 j)) : Inv k v l f (n + 64) C' N' M' := by
  obtain ⟨mp, hC, hN, hM⟩ := hI
  choose a al hD hg hfl hw hdec hm using fun h => gates _ _ (mv M h) _ _ (mp h) (hX.hl h) (hX.hf h) ((mv_apply M h).trans (hM h 0))
  have hsum : ∀ h, (∑ i : Fin 64, f h (n + i.val)) = pre (f h) (n + 64) - pre (f h) n := fun h => by
    exact (Finset.sum_congr rfl fun i _ => (if_pos (by show i.val ≤ 63; omega)).symm).trans (sum_le (f h) n 63)
  simp only [sum_le, hsum] at hw hm
  have hw' : ∀ h r, wv x4 x5 M h (ix2 r 0) = _ := hw
  refine ⟨fun h => (pre (f h) (n + 64) - pre (f h) n) + al h, fun h d e => ?_, fun h d => ?_, fun h j => ?_⟩
  · rw [hC', cNew, pay116_apply, pay85_apply, cv_apply, pickU_apply, pay110_apply (fun h => wv x4 x5 M h) (qv x1) (fun h => k0_pay77 (vv x2 h)), hdec, hC]
    rw [← chunk_state (l h) (f h) (fun s => k s h d * v s h e) n (mp h) (al h), EReal.coe_add, EReal.coe_mul, ← coe_sum_real]
    congr 1
    refine Finset.sum_congr rfl fun c _ => ?_
    have e1 : k0_pay77 (F := Ideal) (vv x2 h) (ix2 c e) = _ := hX.hv h c e
    rw [e1, hw', hX.hk, ← EReal.coe_mul, ← EReal.coe_mul]
    congr 1; ring
  · rw [hN', nNew, pay117_apply, nv_apply, hdec, hN]
    rw [← chunk_state (l h) (f h) (fun s => k s h d) n (mp h) (al h), EReal.coe_add, EReal.coe_mul, ← coe_sum_real]
    congr 1
    refine Finset.sum_congr rfl fun c _ => ?_
    rw [hw', hX.hk, ← EReal.coe_mul]
  · rw [hM', mNewH, hm]

/-- Before the first chunk the buffers are zero: the empty sums. -/
theorem inv_zero : Inv k v l f 0 (k0_pay2 (F := Ideal)) (k0_pay3 (F := Ideal)) (k0_pay4 (F := Ideal)) := by
  refine ⟨fun _ => 0, fun h d e => ?_, fun h d => ?_, fun h j => ?_⟩
  · have e0 : k0_pay2 (F := Ideal) (ix3 h d e) = 0 := by pointwise [k0_pay2]
    rw [e0]; simp [acc]
  · have e0 : k0_pay3 (F := Ideal) (ix3 h 0 d) = 0 := by pointwise [k0_pay3]
    rw [e0]; simp [acc]
  · have e0 : k0_pay4 (F := Ideal) (ix3 h 0 j) = 0 := by pointwise [k0_pay4]
    rw [e0]; simp

end Cert.MlstmIdeal.Value
end
-- ==== Proof.MlstmSpec.lean ====
module

public import proofs.«01_k».proof.Proof.MlstmStep
public import Idealize.ShloMosaic.Lib.Routing.OpsOne

@[expose] public section

set_option maxRecDepth 16384

/-! The mLSTM of the whole sequence as one array, with its recurrence solved, and the row of gate biases. -/

noncomputable section

namespace Cert.MlstmIdeal.Value

open Cert.Common Cert.Mlstm Cert.MlstmIdeal Cert.MlstmIdeal.Gen Idealize.ShloMosaic Idealize.ShloMosaic.TcCoe Idealize.ShloMosaic.Tactic Idealize.SL.Sem

/-- The row of a number (the numbers of the sequence's rows are below 8192). -/
def seqRow (n : ℕ) : Fin 8192 := ⟨n % 8192, Nat.mod_lt _ (by norm_num)⟩

/-- The row of a row's number. -/
theorem seqRow_val (R : Fin 8192) (n : ℕ) (h : n = R.val) : seqRow n = R := Fin.ext (by subst h; exact Nat.mod_eq_of_lt R.isLt)

/-- A real number is the one it is read as. -/
theorem coe_toReal {x : EReal} (h : IsReal x) : ((x.toReal : ℝ) : EReal) = x := by obtain ⟨r, rfl⟩ := h; rfl

/-- The word of 1/16 is a real number. -/
theorem isReal_scale : IsReal (Ideal.ofBits .f32 0x3D800000#32) := by
  refine ⟨1 / 16, ?_⟩
  simp [Ideal.ofBits, Ideal.ieee, -EReal.coe_mul]
  norm_num

section
variable (P : FVec Ideal S8192x6144 .f32) (Gt : FVec Ideal S8192x128 .f32) (bi bf : FVec Ideal S4 .f32) (w : FVec Ideal S2048 .f32) (Y : FVec Ideal S8192x4096 .bf16)

/-- A head's query, scaled. -/
def qS (n : ℕ) (h : Fin 4) (d : Fin 256) : ℝ := (P (ix2 (seqRow n) ⟨256 * h.val + d.val, by omega⟩) * Ideal.ofBits .f32 0x3D800000#32).toReal
/-- A head's key. -/
def kS (n : ℕ) (h : Fin 4) (d : Fin 256) : ℝ := (P (ix2 (seqRow n) ⟨1024 + (256 * h.val + d.val), by omega⟩)).toReal
/-- A head's value. -/
def vS (n : ℕ) (h : Fin 4) (e : Fin 512) : ℝ := (P (ix2 (seqRow n) ⟨2048 + (512 * h.val + e.val), by omega⟩)).toReal
/-- A head's input gate. -/
def lS (h : Fin 4) (n : ℕ) : ℝ := (capE (Gt (ix2 (seqRow n) ⟨h.val, by omega⟩)) (bi (ix1 h))).toReal
/-- The logarithm of a head's forget gate. -/
def fS (h : Fin 4) (n : ℕ) : ℝ := Real.log (1 / (1 + Real.exp (-(capE (Gt (ix2 (seqRow n) ⟨4 + h.val, by omega⟩)) (bf (ix1 h))).toReal)))

/-- One entry of a head's hidden rows. -/
def hidS (R : Fin 8192) (h : Fin 4) (e : Fin 512) : EReal :=
  ((hidR (qS P) (kS P) (vS P) (lS Gt bi) (fS Gt bf) h R.val e : ℝ) : EReal)

/-- A row of a head normalized by its root mean square, scaled by its gain and gated. -/
def gated (x : Fin 512 → EReal) (g og : EReal) (e : Fin 512) : EReal :=
  x e * Ideal.rsqrt (Ideal.div (∑ k : Fin 512, x k * x k) (Ideal.ofBits .f32 0x44000000#32) + Ideal.ofBits .f32 0x358637BD#32) * g
    * Ideal.div (Ideal.ofBits .f32 0x3F800000#32) (Ideal.ofBits .f32 0x3F800000#32 + Ideal.exp (-og))

/-- One entry of a head's result. -/
def outS (R : Fin 8192) (h : Fin 4) (e : Fin 512) : EReal :=
  gated (hidS P Gt bi bf R h) (w (ix1 ⟨512 * h.val + e.val, by omega⟩)) (P (ix2 R ⟨4096 + (512 * h.val + e.val), by omega⟩)) e

/-- The array: the four heads side by side, then the columns of the other mixer as they were. -/
def G : FVec Ideal S8192x4096 .bf16 := fun j =>
  if hj : (j 1).val < 2048 then outS P Gt bi bf w (j 0) ⟨(j 1).val / 512, by omega⟩ ⟨(j 1).val % 512, by omega⟩ else Y j

/-- A head's entry of it. -/
theorem G_head (R : Fin 8192) (h : Fin 4) (e : Fin 512) (C : Fin 4096) (hC : C.val = 512 * h.val + e.val) :
    G P Gt bi bf w Y (ix2 R C) = outS P Gt bi bf w R h e := by
  have hlt : C.val < 2048 := by omega
  show (if hj : C.val < 2048 then outS P Gt bi bf w R ⟨C.val / 512, _⟩ ⟨C.val % 512, _⟩ else _) = _
  rw [dif_pos hlt]
  congr 1 <;> exact Fin.ext (by show _ = _; simp only []; omega)

/-- An entry of the columns it keeps. -/
theorem G_rest (j : S8192x4096.Idx) (hj : ¬(j 1).val < 2048) : G P Gt bi bf w Y j = Y j := dif_neg hj

end

/-- One entry of a head's result, from its hidden rows. -/
theorem pay120_apply (x : FVec Ideal S64x512 .f32) (g : Vec Ideal S1x512 .f32) (og : Vec Ideal S64x512 .f32) (r : Fin 64) (e : Fin 512) :
    k0_pay120 (F := Ideal) x g og (ix2 r e) = gated (fun k => x (ix2 r k)) (g (ix2 0 e)) (og (ix2 r e)) e := by
  unfold gated
  rw [← zero_sub]
  pointwise [k0_pay120]

/-- The pair of words a literal update starts at. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- Update `k` of four entries written from column `b` of the row lands in column `b + k`. -/
theorem lands (b : BitVec 32) (k : Fin 4) (c : Fin 128) :
    scatter_S1x128_S2_S4_0_0_01_0.resultIdx? (ix1 k) (pair 0 b) = some (ix2 0 c) ↔ b.toInt + (k.val : Int) = c.val := by
  have h0 : pair 0 b (ix1 (0 : Fin 2)) = 0 := by pointwise [pair]
  have h1 : pair 0 b (ix1 (1 : Fin 2)) = b := by pointwise [pair]
  have w0 : scatter_S1x128_S2_S4_0_0_01_0.window (ix1 k) 0 = 0 := by revert k; decide
  have w1 : scatter_S1x128_S2_S4_0_0_01_0.window (ix1 k) 1 = k.val := by revert k; decide
  have s0 : scatter_S1x128_S2_S4_0_0_01_0.start (ix1 k) (pair 0 b) 0 = (pair 0 b (ix1 (0 : Fin 2))).toInt := Routing.start_pair (R := 1) (C := 128) _ rfl rfl _ _ 0
  have s1 : scatter_S1x128_S2_S4_0_0_01_0.start (ix1 k) (pair 0 b) 1 = (pair 0 b (ix1 (1 : Fin 2))).toInt := Routing.start_pair (R := 1) (C := 128) _ rfl rfl _ _ 1
  rw [h0] at s0
  rw [h1] at s1
  refine (Routing.resultIdx?_ix2 (R := 1) (C := 128) _ _ _ 0 c).trans ?_
  have e0 : (0 : BitVec 32).toInt = 0 := by decide
  refine ⟨fun h => ?_, fun h => ⟨?_, ?_⟩⟩
  · have := h.2; rw [s1, w1] at this; exact this
  · rw [s0, w0, e0]; rfl
  · rw [s1, w1]; exact h

/-- The row of gate biases: the input gates' in the first four columns, the forget gates' in the next four, zero elsewhere. -/
def biasRow (bi bf : FVec Ideal S4 .f32) : FVec Ideal S1x128 .f32 :=
  Host.scatter scatter_S1x128_S2_S4_0_0_01_0 (fun _ b => b) (Host.scatter scatter_S1x128_S2_S4_0_0_01_0 (fun _ b => b)
    (broadcastInDim S1x128 ![] bcast_S_S1x128 (constant (F := Ideal) S_ .f32 0x00000000#32)) (pair 0#32 0#32) bi) (pair 0#32 4#32) bf

/-- A forget gate's bias. -/
theorem biasRow_f (bi bf : FVec Ideal S4 .f32) (h : Fin 4) (c : Fin 128) (hc : c.val = 4 + h.val) : biasRow bi bf (ix2 0 c) = bf (ix1 h) := by
  have e4 : (4#32 : BitVec 32).toInt = 4 := by decide
  refine Routing.scatter_set_hit _ _ _ _ _ _ (fun j hj => ?_) (ix1 h) ((lands _ h c).2 (by rw [e4]; omega))
  obtain ⟨k, rfl⟩ : ∃ k : Fin 4, j = ix1 k := ⟨j 0, ValueIdx.eq_ix1 j⟩
  have := (lands _ k c).1 hj
  rw [e4] at this
  exact congrArg (fun a => bf (ix1 a)) (Fin.ext (by omega))

/-- An input gate's bias. -/
theorem biasRow_i (bi bf : FVec Ideal S4 .f32) (h : Fin 4) (c : Fin 128) (hc : c.val = h.val) : biasRow bi bf (ix2 0 c) = bi (ix1 h) := by
  have e4 : (4#32 : BitVec 32).toInt = 4 := by decide
  have e0 : (0#32 : BitVec 32).toInt = 0 := by decide
  refine (Routing.scatter_set_miss _ _ _ _ _ fun j hj => ?_).trans (Routing.scatter_set_hit _ _ _ _ _ _ (fun j hj => ?_) (ix1 h) ((lands _ h c).2 (by rw [e0]; omega)))
  · obtain ⟨k, rfl⟩ : ∃ k : Fin 4, j = ix1 k := ⟨j 0, ValueIdx.eq_ix1 j⟩
    have := (lands _ k c).1 hj
    rw [e4] at this
    omega
  · obtain ⟨k, rfl⟩ : ∃ k : Fin 4, j = ix1 k := ⟨j 0, ValueIdx.eq_ix1 j⟩
    have := (lands _ k c).1 hj
    rw [e0] at this
    exact congrArg (fun a => bi (ix1 a)) (Fin.ext (by omega))

end Cert.MlstmIdeal.Value
end
-- ==== Proof.MlstmValue.lean ====
module

public import proofs.«01_k».proof.Proof.MlstmRun
public import proofs.«01_k».proof.Proof.MlstmSpec
public import proofs.«01_k».proof.Proof.Gen.MlstmIdeal.Value

@[expose] public section

set_option maxRecDepth 16384
set_option maxHeartbeats 1000000

/-! The mLSTM: the kernel's array, chunk after chunk. -/

noncomputable section

namespace Cert.MlstmIdeal.Value

open Cert.Common Cert.Mlstm Cert.MlstmIdeal Cert.MlstmIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The number of each window's block at a grid point. -/
theorem starts : ∀ t : Fin grid0.N,
    win0_0.index t 0 = t.val ∧ win0_0.index t 1 = 0
    ∧ win0_1.index t 0 = t.val ∧ win0_1.index t 1 = 1
    ∧ win0_2.index t 0 = t.val ∧ win0_2.index t 1 = 1
    ∧ win0_3.index t 0 = t.val ∧ win0_3.index t 1 = 2
    ∧ win0_4.index t 0 = t.val ∧ win0_4.index t 1 = 0
    ∧ win0_5.index t 0 = 0 ∧ win0_5.index t 1 = 0
    ∧ win0_6.index t 0 = 0 ∧ win0_6.index t 1 = 0
    ∧ win0_7.index t 0 = t.val ∧ win0_7.index t 1 = 0 := by decide +kernel

/-- The row of gate biases the kernel is launched on. -/
theorem V8 (c : Dev nD) : V m c main_v8 = biasRow (m ((c : Thread nD τ).loc main_arg2)) (m ((c : Thread nD τ).loc main_arg3)) := by
  unfold V; after_results <;> rfl

/-- The gains the kernel is launched on. -/
theorem V9 (c : Dev nD) : V m c main_v9 = shapeCast S1x2048 (m ((c : Thread nD τ).loc main_arg4)) shapeCasts_S2048_S1x2048 := by
  unfold V; after_results <;> rfl

/-- The array the kernel writes into is a copy of its last argument. -/
theorem V10 (c : Dev nD) : V m c main_v10 = m ((c : Thread nD τ).loc main_arg5) := by
  unfold V; after_results <;> rfl

/-- The block of queries. -/
theorem blk0 (c : Dev nD) (t : Fin cfg0.N) (r : Fin 64) (j : Fin 1024) (R : Fin 8192) (hR : R.val = 64 * t.val + r.val) (C : Fin 6144) (hC : C.val = j.val) :
    (iblk m c 0 t : Vec Ideal S64x1024 .f32) (ix2 r j) = m ((c : Thread nD τ).loc main_arg0) (ix2 R C) := by
  have hi := starts t
  unfold iblk
  rw [View.read_apply]
  show V m c main_arg0 _ = _
  rw [V_main_arg0]
  congr 1
  funext a
  apply Fin.ext
  match a with
  | ⟨0, _⟩ => show win0_0.index t 0 * 64 + 1 * r.val = R.val; omega
  | ⟨1, _⟩ => show win0_0.index t 1 * 1024 + 1 * j.val = C.val; omega

/-- The block of keys. -/
theorem blk1 (c : Dev nD) (t : Fin cfg0.N) (r : Fin 64) (j : Fin 1024) (R : Fin 8192) (hR : R.val = 64 * t.val + r.val) (C : Fin 6144) (hC : C.val = 1024 + j.val) :
    (iblk m c 1 t : Vec Ideal S64x1024 .f32) (ix2 r j) = m ((c : Thread nD τ).loc main_arg0) (ix2 R C) := by
  have hi := starts t
  unfold iblk
  rw [View.read_apply]
  show V m c main_arg0 _ = _
  rw [V_main_arg0]
  congr 1
  funext a
  apply Fin.ext
  match a with
  | ⟨0, _⟩ => show win0_1.index t 0 * 64 + 1 * r.val = R.val; omega
  | ⟨1, _⟩ => show win0_1.index t 1 * 1024 + 1 * j.val = C.val; omega

/-- The block of values. -/
theorem blk2 (c : Dev nD) (t : Fin cfg0.N) (r : Fin 64) (j : Fin 2048) (R : Fin 8192) (hR : R.val = 64 * t.val + r.val) (C : Fin 6144) (hC : C.val = 2048 + j.val) :
    (iblk m c 2 t : Vec Ideal S64x2048 .f32) (ix2 r j) = m ((c : Thread nD τ).loc main_arg0) (ix2 R C) := by
  have hi := starts t
  unfold iblk
  rw [View.read_apply]
  show V m c main_arg0 _ = _
  rw [V_main_arg0]
  congr 1
  funext a
  apply Fin.ext
  match a with
  | ⟨0, _⟩ => show win0_2.index t 0 * 64 + 1 * r.val = R.val; omega
  | ⟨1, _⟩ => show win0_2.index t 1 * 2048 + 1 * j.val = C.val; omega

/-- The block of output gates. -/
theorem blk3 (c : Dev nD) (t : Fin cfg0.N) (r : Fin 64) (j : Fin 2048) (R : Fin 8192) (hR : R.val = 64 * t.val + r.val) (C : Fin 6144) (hC : C.val = 4096 + j.val) :
    (iblk m c 3 t : Vec Ideal S64x2048 .f32) (ix2 r j) = m ((c : Thread nD τ).loc main_arg0) (ix2 R C) := by
  have hi := starts t
  unfold iblk
  rw [View.read_apply]
  show V m c main_arg0 _ = _
  rw [V_main_arg0]
  congr 1
  funext a
  apply Fin.ext
  match a with
  | ⟨0, _⟩ => show win0_3.index t 0 * 64 + 1 * r.val = R.val; omega
  | ⟨1, _⟩ => show win0_3.index t 1 * 2048 + 1 * j.val = C.val; omega

/-- The block of input and forget gates. -/
theorem blk4 (c : Dev nD) (t : Fin cfg0.N) (r : Fin 64) (j : Fin 128) (R : Fin 8192) (hR : R.val = 64 * t.val + r.val) (C : Fin 128) (hC : C.val = j.val) :
    (iblk m c 4 t : Vec Ideal S64x128 .f32) (ix2 r j) = m ((c : Thread nD τ).loc main_arg1) (ix2 R C) := by
  have hi := starts t
  unfold iblk
  rw [View.read_apply]
  show V m c main_arg1 _ = _
  rw [V_main_arg1]
  congr 1
  funext a
  apply Fin.ext
  match a with
  | ⟨0, _⟩ => show win0_4.index t 0 * 64 + 1 * r.val = R.val; omega
  | ⟨1, _⟩ => show win0_4.index t 1 * 128 + 1 * j.val = C.val; omega

/-- The row of gate biases, read whole at every grid point. -/
theorem blk5 (c : Dev nD) (t : Fin cfg0.N) (j : Fin 128) : (iblk m c 5 t : Vec Ideal S1x128 .f32) (ix2 0 j)
    = biasRow (m ((c : Thread nD τ).loc main_arg2)) (m ((c : Thread nD τ).loc main_arg3)) (ix2 0 j) := by
  have hi := starts t
  unfold iblk
  rw [View.read_apply]
  show V m c main_v8 _ = _
  rw [V8]
  congr 1
  funext a
  apply Fin.ext
  match a with
  | ⟨0, _⟩ => show win0_5.index t 0 * 1 + 1 * 0 = 0; omega
  | ⟨1, _⟩ => show win0_5.index t 1 * 128 + 1 * j.val = j.val; omega

/-- The gains, read whole at every grid point. -/
theorem blk6 (c : Dev nD) (t : Fin cfg0.N) (j : Fin 2048) : (iblk m c 6 t : Vec Ideal S1x2048 .f32) (ix2 0 j) = m ((c : Thread nD τ).loc main_arg4) (ix1 j) := by
  have hi := starts t
  have e : shapeCast S1x2048 (m ((c : Thread nD τ).loc main_arg4) : FVec Ideal S2048 .f32) shapeCasts_S2048_S1x2048 (ix2 0 j) = m ((c : Thread nD τ).loc main_arg4) (ix1 j) := by
    pointwise
  rw [← e]
  unfold iblk
  rw [View.read_apply]
  show V m c main_v9 _ = _
  rw [V9]
  congr 1
  funext a
  apply Fin.ext
  match a with
  | ⟨0, _⟩ => show win0_6.index t 0 * 1 + 1 * 0 = 0; omega
  | ⟨1, _⟩ => show win0_6.index t 1 * 2048 + 1 * j.val = j.val; omega

section
variable (c : Dev nD)

/-- The projections. -/
abbrev aP : FVec Ideal S8192x6144 .f32 := m ((c : Thread nD τ).loc main_arg0)
/-- The gates before their biases. -/
abbrev aG : FVec Ideal S8192x128 .f32 := m ((c : Thread nD τ).loc main_arg1)
/-- The input gates' biases. -/
abbrev aI : FVec Ideal S4 .f32 := m ((c : Thread nD τ).loc main_arg2)
/-- The forget gates' biases. -/
abbrev aF : FVec Ideal S4 .f32 := m ((c : Thread nD τ).loc main_arg3)
/-- The gains. -/
abbrev aW : FVec Ideal S2048 .f32 := m ((c : Thread nD τ).loc main_arg4)
/-- The array written into. -/
abbrev aY : FVec Ideal S8192x4096 .bf16 := m ((c : Thread nD τ).loc main_arg5)

variable (hP : ∀ (r : Fin 8192) (j : Fin 6144), j.val < 4096 → IsReal (aP m c (ix2 r j)))
include hP

/-- A grid point reads its 64 rows. -/
theorem chunk (t : Fin cfg0.N) : Chunk (qS (aP m c)) (kS (aP m c)) (vS (aP m c)) (lS (aG m c) (aI m c)) (fS (aG m c) (aF m c)) (64 * t.val)
    (iblk m c 0 t) (iblk m c 1 t) (iblk m c 2 t) (iblk m c 4 t) (iblk m c 5 t) := by
  have ht : t.val < 128 := lt_of_lt_of_eq t.isLt Gen.N_0
  have hR : ∀ r : Fin 64, (seqRow (64 * t.val + r.val)).val = 64 * t.val + r.val := fun r => Nat.mod_eq_of_lt (by omega)
  refine ⟨fun h r d => ?_, fun h r d => ?_, fun h r e => ?_, fun h r => ?_, fun h r => ?_⟩
  · have e : k0_pay73 (F := Ideal) (qv (iblk m c 0 t) h) (ix2 r d) = qv (iblk m c 0 t) h (ix2 r d) * Ideal.ofBits .f32 0x3D800000#32 := by pointwise [k0_pay73]
    rw [e, qv_apply, blk0 m c t r _ (seqRow (64 * t.val + r.val)) (hR r) ⟨256 * h.val + d.val, by omega⟩ rfl]
    exact (coe_toReal ((hP _ _ (by show 256 * h.val + d.val < 4096; omega)).mul isReal_scale)).symm
  · rw [qv_apply, blk1 m c t r _ (seqRow (64 * t.val + r.val)) (hR r) ⟨1024 + (256 * h.val + d.val), by omega⟩ rfl]
    exact (coe_toReal (hP _ _ (by show 1024 + (256 * h.val + d.val) < 4096; omega))).symm
  · rw [vv_apply, blk2 m c t r _ (seqRow (64 * t.val + r.val)) (hR r) ⟨2048 + (512 * h.val + e.val), by omega⟩ rfl]
    exact (coe_toReal (hP _ _ (by show 2048 + (512 * h.val + e.val) < 4096; omega))).symm
  · rw [liv_apply, pay5_apply, blk4 m c t r _ (seqRow (64 * t.val + r.val)) (hR r) ⟨h.val, by omega⟩ rfl, blk5, biasRow_i _ _ h _ rfl]
    exact (coe_toReal (isReal_capE _ _)).symm
  · rw [lfv_apply]
    refine pay6_apply _ _ _ _ _ ?_
    rw [blk4 m c t r _ (seqRow (64 * t.val + r.val)) (hR r) ⟨4 + h.val, by omega⟩ rfl, blk5, biasRow_f _ _ h _ rfl]
    exact (coe_toReal (isReal_capE _ _)).symm

/-- After a grid point the scratch buffers hold the sums over the rows up to its last. -/
theorem inv_after (n : ℕ) : ∀ hn : n < cfg0.N, Inv (kS (aP m c)) (vS (aP m c)) (lS (aG m c) (aI m c)) (fS (aG m c) (aF m c)) (64 * n + 64)
    (outsAt0 m c n hn).2.1 (outsAt0 m c n hn).2.2.1 (outsAt0 m c n hn).2.2.2 := by
  induction n with
  | zero =>
    intro hn
    have ha := outsAt0_A m c ⟨0, hn⟩ rfl
    refine next (chunk m c hP ⟨0, hn⟩) inv_zero (fun h d e => ?_) (fun h d => ?_) (fun h j => ?_)
    · have q := congrFun (congrArg (fun x => x.2.1) ha) (ix3 h d e)
      dsimp only at q
      exact q.trans (stateA ..)
    · have q := congrFun (congrArg (fun x => x.2.2.1) ha) (ix3 h 0 d)
      dsimp only at q
      exact q.trans (normA ..)
    · have q := congrFun (congrArg (fun x => x.2.2.2) ha) (ix3 h 0 j)
      dsimp only at q
      exact q.trans (stabA ..)
  | succ n ih =>
    intro hn
    have hlt : n + 1 < 128 := lt_of_lt_of_eq hn Gen.N_0
    have hb := outsAt0_B m c ⟨n + 1, hn⟩ (by show ¬(n + 1) % 128 = 0; omega)
    refine next (chunk m c hP ⟨n + 1, hn⟩) (ih (Nat.lt_of_succ_lt hn)) (fun h d e => ?_) (fun h d => ?_) (fun h j => ?_)
    · have q := congrFun (congrArg (fun x => x.2.1) hb) (ix3 h d e)
      dsimp only at q
      exact q.trans (stateB ..)
    · have q := congrFun (congrArg (fun x => x.2.2.1) hb) (ix3 h 0 d)
      dsimp only at q
      exact q.trans (normB ..)
    · have q := congrFun (congrArg (fun x => x.2.2.2) hb) (ix3 h 0 j)
      dsimp only at q
      exact q.trans (stabB ..)

/-- One entry of what a chunk writes, from the sums over the rows before it. -/
theorem outH_eq (t : Fin cfg0.N) {C : Vec Ideal S4x256x512 .f32} {N : Vec Ideal S4x1x256 .f32} {M : Vec Ideal S4x1x128 .f32}
    (hV : Inv (kS (aP m c)) (vS (aP m c)) (lS (aG m c) (aI m c)) (fS (aG m c) (aF m c)) (64 * t.val) C N M) (h : Fin 4) (r : Fin 64) (e : Fin 512)
    (R : Fin 8192) (hR : R.val = 64 * t.val + r.val) :
    outH (iblk m c 0 t) (iblk m c 1 t) (iblk m c 2 t) (iblk m c 3 t) (iblk m c 4 t) (iblk m c 5 t) (iblk m c 6 t) C N M h (ix2 r e)
      = outS (aP m c) (aG m c) (aI m c) (aF m c) (aW m c) R h e := by
  unfold outH outS
  rw [pay120_apply, gv_apply, vv_apply, blk6, blk3 m c t r _ R hR ⟨4096 + (512 * h.val + e.val), by omega⟩ rfl]
  have ex : (fun k => hid (iblk m c 0 t) (iblk m c 1 t) (iblk m c 2 t) (iblk m c 4 t) (iblk m c 5 t) C N M h (ix2 r k)) = hidS (aP m c) (aG m c) (aI m c) (aF m c) R h :=
    funext fun k => by
      rw [row (chunk m c hP t) hV h r k]
      unfold hidS
      rw [hR]
  rw [ex]

/-- One entry of what a grid point leaves in its block. -/
theorem out_eq (t : Fin cfg0.N) (r : Fin 64) (j : Fin 2048) (R : Fin 8192) (hR : R.val = 64 * t.val + r.val) (C : Fin 4096) (hC : C.val = j.val) :
    (outsAt0 m c t.val t.isLt).1 (ix2 r j) = G (aP m c) (aG m c) (aI m c) (aF m c) (aW m c) (aY m c) (ix2 R C) := by
  have ht : t.val < 128 := lt_of_lt_of_eq t.isLt Gen.N_0
  have hj : j.val = 512 * (⟨j.val / 512, by omega⟩ : Fin 4).val + (⟨j.val % 512, by omega⟩ : Fin 512).val := by
    show j.val = 512 * (j.val / 512) + j.val % 512; omega
  rw [G_head _ _ _ _ _ _ R ⟨j.val / 512, by omega⟩ ⟨j.val % 512, by omega⟩ C (hC.trans hj)]
  by_cases h0 : t.val % 128 = 0
  · have ha := outsAt0_A m c t h0
    have q := congrFun (congrArg (fun x => x.1) ha) (ix2 r j)
    dsimp only at q
    refine q.trans ((outA (hc := hj) ..).trans (outH_eq m c hP t ?_ _ r _ R hR))
    have h00 : 64 * t.val = 0 := by omega
    rw [h00]
    exact inv_zero
  · have hb := outsAt0_B m c t h0
    have q := congrFun (congrArg (fun x => x.1) hb) (ix2 r j)
    dsimp only at q
    refine q.trans ((outB (hc := hj) ..).trans (outH_eq m c hP t ?_ _ r _ R hR))
    have h1 : 64 * t.val = 64 * (t.val - 1) + 64 := by omega
    rw [h1]
    exact inv_after m c hP (t.val - 1) _

/-- The array after the run, when the queries, keys and values are real numbers. -/
theorem final : (dats m 0 c).arrAt 7 cfg0.N = G (aP m c) (aG m c) (aI m c) (aF m c) (aW m c) (aY m c) := by
  funext i
  have h0 : (i 0).val < 8192 := (i 0).isLt
  have h1 : (i 1).val < 4096 := (i 1).isLt
  by_cases hlt : (i 1).val < 2048
  · obtain ⟨t, ht⟩ : ∃ t : Fin cfg0.N, t.val = (i 0).val / 64 := ⟨⟨_, by show _ < grid0.N; rw [Gen.N_0]; omega⟩, rfl⟩
    have hi := starts t
    have hb := congrFun (blocks7 m c t (flush0_7 t)) (ix2 (⟨(i 0).val % 64, by omega⟩ : Fin 64) (⟨(i 1).val, hlt⟩ : Fin 2048))
    have e : (win0_7.blk t).view.emb (ix2 (⟨(i 0).val % 64, by omega⟩ : Fin 64) (⟨(i 1).val, hlt⟩ : Fin 2048)) = i := by
      funext a
      apply Fin.ext
      match a with
      | ⟨0, _⟩ => show win0_7.index t 0 * 64 + 1 * ((i 0).val % 64) = (i 0).val; omega
      | ⟨1, _⟩ => show win0_7.index t 1 * 2048 + 1 * (i 1).val = (i 1).val; omega
    rw [View.read_apply, flushed7] at hb
    refine ((congrArg _ e.symm).trans hb).trans ?_
    refine (out_eq m c hP t _ _ (i 0) (by show (i 0).val = 64 * t.val + (i 0).val % 64; omega) (i 1) rfl).trans ?_
    exact congrArg _ (ValueIdx.eq_ix2 i).symm
  · rw [G_rest _ _ _ _ _ _ i hlt, entry7 m c i fun t _ hm => ?_]
    · exact congrFun (V10 m c) i
    · have hi := starts t
      have hs : i ∈ ((View.whole main_v10).slice (win0_7.rect t)).set := hm
      rw [View.set_slice_whole, Rect.mem_set_unit] at hs
      have h2 : win0_7.index t 1 * 2048 ≤ (i 1).val ∧ (i 1).val < win0_7.index t 1 * 2048 + 2048 := hs 1
      omega

end

end Cert.MlstmIdeal.Value
end
-- ==== Proof.MlstmRef.lean ====
module

public import proofs.«01_k».proof.Proof.MlstmSpec
public import proofs.«01_k».proof.Proof.Gen.MlstmRefIdeal.Run
public import proofs.«01_k».proof.Proof.RealFacts
public import proofs.«01_k».proof.Pre_finite_qkv
public import Idealize.ShloMosaic.Lib.WordCmp

@[expose] public section

set_option maxRecDepth 16384
set_option maxHeartbeats 1000000

/-! The plain form of the mLSTM, part by part: it is the same array. -/

noncomputable section

namespace Cert.MlstmRefIdeal.Stages

open Cert.Common Cert.Mlstm Cert.MlstmRefIdeal Cert.MlstmRefIdeal.Gen Idealize.ShloMosaic Idealize.ShloMosaic.TcCoe Idealize.ShloMosaic.Tactic Idealize.SL.Sem
open Cert.MlstmIdeal.Value (seqRow seqRow_val coe_toReal isReal_scale qS kS vS lS fS hidS gated outS G G_head G_rest capE isReal_capE score hidR coeMax select_ite)

/-- The mask of the columns up to the row's own. -/
def causal : IVec S8192x8192 1 :=
  select (cmpi .sge (addi (iotaInDim S8192x8192 32 0) (broadcastInDim S8192x8192 ![] bcast_S_S8192x8192 (constantI S_ 32 0#32))) (iotaInDim S8192x8192 32 1)) (broadcastInDim S8192x8192 ![] bcast_S_S8192x8192 (constantI S_ 1 1#1)) (broadcastInDim S8192x8192 ![] bcast_S_S8192x8192 (constantI S_ 1 0#1))

/-- One entry of it. -/
theorem causal_apply (t s : Fin 8192) : causal (ix2 t s) = if s ≤ t then 1#1 else 0#1 := by
  pointwise [causal]
  have e : IntOp.addi (BitVec.ofNat 32 t.val) 0#32 = BitVec.ofNat 32 t.val := BitVec.add_zero _
  rw [e, WordCmp.cmpi_sge_ofNat (by omega) (by omega)]
  by_cases hs : s ≤ t
  · rw [if_pos hs, decide_eq_true (show s.val ≤ t.val from hs)]; rfl
  · rw [if_neg hs, decide_eq_false (show ¬s.val ≤ t.val from hs)]; rfl

/-- Gates with their biases, capped softly at ±15. -/
def capped (x : FVec Ideal S8192x4 .f32) (b : FVec Ideal S4 .f32) : FVec Ideal S8192x4 .f32 :=
  mulf (broadcastInDim S8192x4 ![] bcast_S_S8192x4 (constant S_ .f32 0x41700000#32)) (Host.tanh (Host.divf (addf x (broadcastInDim S8192x4 ![0, 1] bcast_S1x4_S8192x4_0_1 (broadcastInDim S1x4 ![1] bcast_S4_S1x4_1 b))) (broadcastInDim S8192x4 ![] bcast_S_S8192x4 (constant S_ .f32 0x41700000#32))))

/-- One of them. -/
theorem capped_apply (x : FVec Ideal S8192x4 .f32) (b : FVec Ideal S4 .f32) (t : Fin 8192) (h : Fin 4) : capped x b (ix2 t h) = capE (x (ix2 t h)) (b (ix1 h)) := by
  unfold capE
  pointwise [capped]

/-- The input gates. -/
def iG (Gt : FVec Ideal S8192x128 .f32) (bi : FVec Ideal S4 .f32) : FVec Ideal S8192x4 .f32 :=
  capped (extractStridedSlice S8192x4 ![0, 0] Gt slices_S8192x128_S8192x4_0_0) bi

/-- The capped forget gates. -/
def fG (Gt : FVec Ideal S8192x128 .f32) (bf : FVec Ideal S4 .f32) : FVec Ideal S8192x4 .f32 :=
  capped (extractStridedSlice S8192x4 ![0, 4] Gt slices_S8192x128_S8192x4_0_4) bf

/-- One input gate. -/
theorem iG_apply (Gt : FVec Ideal S8192x128 .f32) (bi : FVec Ideal S4 .f32) (t : Fin 8192) (h : Fin 4) :
    iG Gt bi (ix2 t h) = capE (Gt (ix2 t ⟨h.val, by omega⟩)) (bi (ix1 h)) := by
  unfold iG
  rw [capped_apply]
  congr 1
  pointwise

/-- One capped forget gate. -/
theorem fG_apply (Gt : FVec Ideal S8192x128 .f32) (bf : FVec Ideal S4 .f32) (t : Fin 8192) (h : Fin 4) :
    fG Gt bf (ix2 t h) = capE (Gt (ix2 t ⟨4 + h.val, by omega⟩)) (bf (ix1 h)) := by
  unfold fG
  rw [capped_apply]
  congr 1
  pointwise

/-- The logarithms of the sigmoids of the capped forget gates. -/
def logF (x : FVec Ideal S8192x4 .f32) : FVec Ideal S8192x4 .f32 :=
  Host.log (Host.divf (broadcastInDim S8192x4 ![] bcast_S_S8192x4 (constant S_ .f32 0x3F800000#32)) (addf (broadcastInDim S8192x4 ![] bcast_S_S8192x4 (constant S_ .f32 0x3F800000#32)) (Host.exp (Host.negf x))))

/-- One of them. -/
theorem logF_apply (x : FVec Ideal S8192x4 .f32) (t : Fin 8192) (h : Fin 4) :
    logF x (ix2 t h) = Ideal.log (Ideal.div 1 (1 + Ideal.exp (-(x (ix2 t h))))) := by
  pointwise [logF]

/-- Their sums from the first row on. -/
def cum (x : FVec Ideal S8192x4 .f32) : FVec Ideal S8192x4 .f32 :=
  Host.dotGeneral dot_S8192x8192_S8192x4_S8192x4_1_0_0_1_n_n none (select causal (broadcastInDim S8192x8192 ![] bcast_S_S8192x8192 (constant S_ .f32 0x3F800000#32)) (broadcastInDim S8192x8192 ![] bcast_S_S8192x8192 (constant S_ .f32 0x00000000#32))) x

/-- One of them. -/
theorem cum_apply (x : FVec Ideal S8192x4 .f32) (t : Fin 8192) (h : Fin 4) :
    cum x (ix2 t h) = ∑ s : Fin 8192, Scalar.select (causal (ix2 t s)) 1 0 * x (ix2 s h) := by
  pointwise [cum]

/-- The logarithms of the weights of the rows. -/
def logD (B I : FVec Ideal S8192x4 .f32) : FVec Ideal S4x8192x8192 .f32 :=
  addf (subf (broadcastInDim S4x8192x8192 ![0, 1, 2] bcast_S4x8192x1_S4x8192x8192_0_1_2 (broadcastInDim S4x8192x1 ![0, 1] bcast_S4x8192_S4x8192x1_0_1 (transpose S4x8192 [1, 0] B transposes_S8192x4_S4x8192_1_0)))
    (broadcastInDim S4x8192x8192 ![0, 1, 2] bcast_S4x1x8192_S4x8192x8192_0_1_2 (broadcastInDim S4x1x8192 ![0, 2] bcast_S4x8192_S4x1x8192_0_2 (transpose S4x8192 [1, 0] B transposes_S8192x4_S4x8192_1_0))))
    (broadcastInDim S4x8192x8192 ![0, 1, 2] bcast_S4x1x8192_S4x8192x8192_0_1_2 (broadcastInDim S4x1x8192 ![0, 2] bcast_S4x8192_S4x1x8192_0_2 (transpose S4x8192 [1, 0] I transposes_S8192x4_S4x8192_1_0)))

/-- One of them. -/
theorem logD_apply (B I : FVec Ideal S8192x4 .f32) (h : Fin 4) (t s : Fin 8192) :
    logD B I (ix3 h t s) = B (ix2 t h) - B (ix2 s h) + I (ix2 s h) := by
  pointwise [logD]

/-- The products of queries and keys. -/
def prod (P : FVec Ideal S8192x6144 .f32) : FVec Ideal S4x8192x8192 .f32 :=
  Host.dotGeneral dot_S8192x4x256_S8192x4x256_S4x8192x8192_2_2_0_0_1_1 none (mulf (shapeCast S8192x4x256 (extractStridedSlice S8192x1024 ![0, 0] P slices_S8192x6144_S8192x1024_0_0) shapeCasts_S8192x1024_S8192x4x256) (broadcastInDim S8192x4x256 ![] bcast_S_S8192x4x256 (constant S_ .f32 0x3D800000#32)))
    (shapeCast S8192x4x256 (extractStridedSlice S8192x1024 ![0, 1024] P slices_S8192x6144_S8192x1024_0_1024) shapeCasts_S8192x1024_S8192x4x256)

/-- One of them. -/
theorem prod_apply (P : FVec Ideal S8192x6144 .f32) (h : Fin 4) (t s : Fin 8192) :
    prod P (ix3 h t s) = ∑ d : Fin 256, P (ix2 t ⟨256 * h.val + d.val, by omega⟩) * Ideal.ofBits .f32 0x3D800000#32 * P (ix2 s ⟨1024 + (256 * h.val + d.val), by omega⟩) := by
  pointwise [prod]
  simp only [Nat.mul_comm _ 256]

/-- The scores: the products weighted. -/
def scores (A D : FVec Ideal S4x8192x8192 .f32) : FVec Ideal S4x8192x8192 .f32 :=
  mulf A (select (broadcastInDim S4x8192x8192 ![1, 2] bcast_S8192x8192_S4x8192x8192_1_2 causal) (Host.exp D) (broadcastInDim S4x8192x8192 ![] bcast_S_S4x8192x8192 (id (constant S_ .f32 0x00000000#32))))

/-- One of them. -/
theorem scores_apply (A D : FVec Ideal S4x8192x8192 .f32) (h : Fin 4) (t s : Fin 8192) :
    scores A D (ix3 h t s) = Scalar.select (causal (ix2 t s)) (A (ix3 h t s) * Ideal.exp (D (ix3 h t s))) 0 := by
  pointwise [scores, id]

/-- The hidden rows. -/
def hidden (P : FVec Ideal S8192x6144 .f32) (S : FVec Ideal S4x8192x8192 .f32) : FVec Ideal S8192x4x512 .f32 :=
  Host.divf (transpose S8192x4x512 [2, 0, 1] (Host.dotGeneral dot_S8192x4x512_S4x8192x8192_S4x512x8192_0_2_2_1_1_0 none (shapeCast S8192x4x512 (extractStridedSlice S8192x2048 ![0, 2048] P slices_S8192x6144_S8192x2048_0_2048) shapeCasts_S8192x2048_S8192x4x512) S) transposes_S4x512x8192_S8192x4x512_2_0_1)
    (broadcastInDim S8192x4x512 ![0, 1, 2] bcast_S8192x4x1_S8192x4x512_0_1_2 (broadcastInDim S8192x4x1 ![0, 1] bcast_S8192x4_S8192x4x1_0_1 (transpose S8192x4 [1, 0] (maximumf (Host.absf (Host.reduceAdd S (constant S_ .f32 0x00000000#32) reducesTo_S4x8192x8192_S4x8192_d2 h_S_)) (broadcastInDim S4x8192 ![] bcast_S_S4x8192 (constant S_ .f32 0x3F800000#32))) transposes_S4x8192_S8192x4_1_0)))

/-- One entry of them. -/
theorem hidden_apply (P : FVec Ideal S8192x6144 .f32) (S : FVec Ideal S4x8192x8192 .f32) (t : Fin 8192) (h : Fin 4) (e : Fin 512) :
    hidden P S (ix3 t h e) = Ideal.div (∑ s : Fin 8192, P (ix2 s ⟨2048 + (512 * h.val + e.val), by omega⟩) * S (ix3 h t s))
      (max (max (∑ s : Fin 8192, S (ix3 h t s)) (-(∑ s : Fin 8192, S (ix3 h t s)))) 1) := by
  pointwise [hidden]
  simp only [Nat.mul_comm _ 512]
  rfl

/-- The hidden rows normalized, scaled and gated, the heads side by side. -/
def joined (P : FVec Ideal S8192x6144 .f32) (w : FVec Ideal S2048 .f32) (H : FVec Ideal S8192x4x512 .f32) : FVec Ideal S8192x2048 .bf16 :=
  truncf .bf16 (shapeCast S8192x2048 (mulf (mulf (mulf H (broadcastInDim S8192x4x512 ![0, 1, 2] bcast_S8192x4x1_S8192x4x512_0_1_2 (Host.rsqrt (addf (Host.divf (broadcastInDim S8192x4x1 ![0, 1] bcast_S8192x4_S8192x4x1_0_1 (Host.reduceAdd (mulf H H) (constant S_ .f32 0x00000000#32) reducesTo_S8192x4x512_S8192x4_d2 h_S_)) (broadcastInDim S8192x4x1 ![] bcast_S_S8192x4x1 (constant S_ .f32 0x44000000#32))) (broadcastInDim S8192x4x1 ![] bcast_S_S8192x4x1 (constant S_ .f32 0x358637BD#32))))))
    (broadcastInDim S8192x4x512 ![0, 1, 2] bcast_S1x4x512_S8192x4x512_0_1_2 (broadcastInDim S1x4x512 ![1, 2] bcast_S4x512_S1x4x512_1_2 (shapeCast S4x512 w shapeCasts_S2048_S4x512))))
    (shapeCast S8192x4x512 (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 4096] P slices_S8192x6144_S8192x2048_0_4096))))) shapeCasts_S8192x2048_S8192x4x512)) shapeCasts_S8192x4x512_S8192x2048) bitsLt_bf16_f32

/-- One entry of them. -/
theorem joined_apply (P : FVec Ideal S8192x6144 .f32) (w : FVec Ideal S2048 .f32) (H : FVec Ideal S8192x4x512 .f32) (t : Fin 8192) (h : Fin 4) (e : Fin 512) :
    joined P w H (ix2 t ⟨h.val * 512 + e.val, by omega⟩)
      = gated (fun k => H (ix3 t h k)) (w (ix1 ⟨512 * h.val + e.val, by omega⟩)) (P (ix2 t ⟨4096 + (512 * h.val + e.val), by omega⟩)) e := by
  unfold gated
  pointwise [joined]
  simp only [Nat.mul_comm _ 512]

/-- The whole plain form. -/
def whole (P : FVec Ideal S8192x6144 .f32) (Gt : FVec Ideal S8192x128 .f32) (bi bf : FVec Ideal S4 .f32) (w : FVec Ideal S2048 .f32) (Y : FVec Ideal S8192x4096 .bf16) : FVec Ideal S8192x4096 .bf16 :=
  concatenate S8192x4096 1 [⟨S8192x2048, joined P w (hidden P (scores (prod P) (logD (cum (logF (fG Gt bf))) (iG Gt bi))))⟩,
    ⟨S8192x2048, extractStridedSlice S8192x2048 ![0, 2048] Y slices_S8192x4096_S8192x2048_0_2048⟩] concatenates_S8192x2048_S8192x2048_S8192x4096_d1

/-- The program's term is these parts put together. -/
theorem res_eq_whole (m : (ℓ : Loc nD τ sig) → Buf (Elt Ideal) ℓ) (c : Dev nD) : Value.res_out0 m c
    = whole (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := rfl

/-- A logarithm of a sigmoid is a real number. -/
theorem logF_real (x : FVec Ideal S8192x4 .f32) (t : Fin 8192) (h : Fin 4) (c : ℝ) (hx : x (ix2 t h) = (c : EReal)) :
    logF x (ix2 t h) = (Real.log (1 / (1 + Real.exp (-c))) : EReal) := by
  have h0 : (0 : ℝ) < 1 + Real.exp (-c) := by positivity
  have h1 : (0 : ℝ) < 1 / (1 + Real.exp (-c)) := by positivity
  rw [logF_apply, hx, ← EReal.coe_neg, Ideal.exp_coe, ← EReal.coe_one, ← EReal.coe_add, Ideal.div_coe h0.ne', ← EReal.coe_mul, one_mul, Ideal.log_coe, if_neg (not_le.2 h1)]

section
variable (P : FVec Ideal S8192x6144 .f32) (Gt : FVec Ideal S8192x128 .f32) (bi bf : FVec Ideal S4 .f32) (w : FVec Ideal S2048 .f32) (Y : FVec Ideal S8192x4096 .bf16)

/-- The sums of the forget gates are the recurrence's. -/
theorem cum_real (t : Fin 8192) (h : Fin 4) :
    cum (logF (fG Gt bf)) (ix2 t h) = (pre (fS Gt bf h) (t.val + 1) : EReal) := by
  rw [cum_apply]
  unfold pre
  rw [sum_range_le, ← coe_sum_real]
  refine Finset.sum_congr rfl fun s _ => ?_
  rw [causal_apply, select_ite, logF_real _ _ _ _ ((fG_apply Gt bf s h).trans (coe_toReal (isReal_capE _ _)).symm)]
  unfold fS
  rw [seqRow_val s _ rfl]
  by_cases hs : s ≤ t
  · rw [if_pos hs, if_pos hs, one_mul]
  · rw [if_neg hs, if_neg hs, zero_mul, EReal.coe_zero]

/-- The products of queries and keys are real numbers. -/
theorem prod_real (hP : ∀ (r : Fin 8192) (j : Fin 6144), j.val < 4096 → IsReal (P (ix2 r j))) (h : Fin 4) (t s : Fin 8192) :
    prod P (ix3 h t s) = (score (qS P) (kS P) h t.val s.val : EReal) := by
  rw [prod_apply]
  unfold score
  rw [← coe_sum_real]
  refine Finset.sum_congr rfl fun d _ => ?_
  unfold qS kS
  rw [seqRow_val t _ rfl, seqRow_val s _ rfl, EReal.coe_mul, coe_toReal ((hP _ _ (by show 256 * h.val + d.val < 4096; omega)).mul isReal_scale),
    coe_toReal (hP _ _ (by show 1024 + (256 * h.val + d.val) < 4096; omega))]

/-- The scores are the recurrence's: each earlier row's product by its weight. -/
theorem scores_real (hP : ∀ (r : Fin 8192) (j : Fin 6144), j.val < 4096 → IsReal (P (ix2 r j))) (h : Fin 4) (t s : Fin 8192) :
    scores (prod P) (logD (cum (logF (fG Gt bf))) (iG Gt bi)) (ix3 h t s)
      = ((if s ≤ t then wt (lS Gt bi h) (fS Gt bf h) (t.val + 1) s.val * score (qS P) (kS P) h t.val s.val else 0 : ℝ) : EReal) := by
  rw [scores_apply, causal_apply, select_ite]
  by_cases hs : s ≤ t
  · have hl : iG Gt bi (ix2 s h) = (lS Gt bi h s.val : EReal) := by
      unfold lS
      rw [iG_apply, seqRow_val s _ rfl, coe_toReal (isReal_capE _ _)]
    rw [if_pos hs, if_pos hs, prod_real P hP, logD_apply, cum_real Gt bf, cum_real Gt bf, hl, ← EReal.coe_sub, ← EReal.coe_add, Ideal.exp_coe, ← EReal.coe_mul, mul_comm]
    rfl
  · rw [if_neg hs, if_neg hs, EReal.coe_zero]

/-- A sum over the sequence of what is zero after row `t` is a sum over the rows up to it. -/
theorem sum_upto (g : ℕ → ℝ) (f : Fin 8192 → EReal) (t : Fin 8192) (hf : ∀ s, f s = ((if s ≤ t then g s.val else 0 : ℝ) : EReal)) :
    ∑ s, f s = ((∑ i ∈ Finset.range (t.val + 1), g i : ℝ) : EReal) := by
  rw [sum_range_le, ← coe_sum_real]
  exact Finset.sum_congr rfl fun s _ => hf s

/-- The hidden rows are the recurrence's. -/
theorem hidden_real (hP : ∀ (r : Fin 8192) (j : Fin 6144), j.val < 4096 → IsReal (P (ix2 r j))) (t : Fin 8192) (h : Fin 4) (e : Fin 512) :
    hidden P (scores (prod P) (logD (cum (logF (fG Gt bf))) (iG Gt bi))) (ix3 t h e) = hidS P Gt bi bf t h e := by
  have hS := scores_real P Gt bi bf hP h t
  have hn := sum_upto (fun s => wt (lS Gt bi h) (fS Gt bf h) (t.val + 1) s * (score (qS P) (kS P) h t.val s * vS P s h e))
    (fun s => P (ix2 s ⟨2048 + (512 * h.val + e.val), by omega⟩) * scores (prod P) (logD (cum (logF (fG Gt bf))) (iG Gt bi)) (ix3 h t s)) t fun s => by
      have hv : P (ix2 s ⟨2048 + (512 * h.val + e.val), by omega⟩) = (vS P s.val h e : EReal) := by
        unfold vS
        rw [seqRow_val s _ rfl, coe_toReal (hP _ _ (by show 2048 + (512 * h.val + e.val) < 4096; omega))]
      show P _ * scores _ _ _ = _
      rw [hS, hv, ← EReal.coe_mul]
      by_cases hs : s ≤ t
      · rw [if_pos hs, if_pos hs]; congr 1; ring
      · rw [if_neg hs, if_neg hs, mul_zero]
  have hd := sum_upto (fun s => wt (lS Gt bi h) (fS Gt bf h) (t.val + 1) s * score (qS P) (kS P) h t.val s) _ t hS
  have hm : ∀ x : ℝ, max (max (x : EReal) (-(x : EReal))) 1 = ((max |x| 1 : ℝ) : EReal) := fun x => by
    rw [← EReal.coe_neg, ← coeMax, ← EReal.coe_one, ← coeMax]; rfl
  have h0 : ∀ x : ℝ, max |x| 1 ≠ 0 := fun x => (lt_of_lt_of_le one_pos (le_max_right _ _)).ne'
  rw [hidden_apply, hn, hd, hm, Ideal.div_coe (h0 _), ← EReal.coe_mul]
  rfl

/-- The plain form is the same array. -/
theorem whole_eq (hP : ∀ (r : Fin 8192) (j : Fin 6144), j.val < 4096 → IsReal (P (ix2 r j))) : whole P Gt bi bf w Y = G P Gt bi bf w Y := by
  funext j
  idx_vars j
  by_cases hlt : j1.val < 2048
  · have hC : j1.val = 512 * (⟨j1.val / 512, by omega⟩ : Fin 4).val + (⟨j1.val % 512, by omega⟩ : Fin 512).val := by
      show j1.val = 512 * (j1.val / 512) + j1.val % 512; omega
    have e0 : whole P Gt bi bf w Y (ix2 j0 j1) = joined P w (hidden P (scores (prod P) (logD (cum (logF (fG Gt bf))) (iG Gt bi)))) (ix2 j0 ⟨j1.val, hlt⟩) := by
      pointwise [whole]
      exact dif_pos hlt
    rw [e0, G_head P Gt bi bf w Y j0 _ _ j1 hC]
    have e1 : (⟨j1.val, hlt⟩ : Fin 2048) = ⟨(⟨j1.val / 512, by omega⟩ : Fin 4).val * 512 + (⟨j1.val % 512, by omega⟩ : Fin 512).val, by show j1.val / 512 * 512 + j1.val % 512 < 2048; omega⟩ :=
      Fin.ext (by show j1.val = j1.val / 512 * 512 + j1.val % 512; omega)
    rw [e1, joined_apply]
    unfold outS
    exact congrArg (fun f => gated f _ _ _) (funext fun k => hidden_real P Gt bi bf hP j0 _ k)
  · rw [G_rest P Gt bi bf w Y _ hlt]
    pointwise [whole]
    refine (dif_neg hlt).trans (congrArg (fun a => Y (ix2 j0 a)) (Fin.ext ?_))
    show 2048 + (j1.val - 2048) = j1.val
    omega

end

/-- The precondition makes the queries, keys and values real numbers. -/
theorem real_of_pre [Cert.Pre_finite_qkv.Facts] (P : FVec Ideal S8192x6144 .f32) (Gt : FVec Ideal S8192x128 .f32) (bi bf : FVec Ideal S4 .f32)
    (w : FVec Ideal S2048 .f32) (Y : FVec Ideal S8192x4096 .bf16) (h : Cert.Pre_finite_qkv.fn (F := Ideal) P Gt bi bf w Y = fun _ => 1#1)
    (r : Fin 8192) (j : Fin 6144) (hj : j.val < 4096) : IsReal (P (ix2 r j)) := by
  have q := isReal_of_pass _ _ word_top Cert.Pre_finite_qkv.Facts.bcast_S_S8192x4096 h (ix2 r (⟨j.val, hj⟩ : Fin 4096))
  have e : extractStridedSlice S8192x4096 ![0, 0] P Cert.Pre_finite_qkv.Facts.slices_S8192x6144_S8192x4096_0_0 (ix2 r (⟨j.val, hj⟩ : Fin 4096)) = P (ix2 r j) := by
    pointwise
  exact e ▸ q

end Cert.MlstmRefIdeal.Stages
end
-- ==== Proof.lean ====
module

public import proofs.«01_k».proof.Proof.MlstmInValue
public import proofs.«01_k».proof.Proof.GatesInValue
public import proofs.«01_k».proof.Proof.HgrnInValue
public import proofs.«01_k».proof.Proof.MlpValue
public import proofs.«01_k».proof.Proof.MixOutValue
public import proofs.«01_k».proof.Proof.RwkvRValue
public import proofs.«01_k».proof.Proof.NormValue
public import proofs.«01_k».proof.Proof.FinalNormValue
public import proofs.«01_k».proof.Proof.MemKvValue
public import proofs.«01_k».proof.Proof.LoraW2Value
public import proofs.«01_k».proof.Proof.LoraG2Value
public import proofs.«01_k».proof.Proof.XattnValue
public import proofs.«01_k».proof.Proof.ShiftValue
public import proofs.«01_k».proof.Proof.RwkvOutValue
public import proofs.«01_k».proof.Proof.MlstmValue
public import proofs.«01_k».proof.Proof.MlstmRef
public import proofs.«01_k».proof.Defs
public import proofs.«01_k».proof.Proof.Gen.MlstmIn.Frame
public import proofs.«01_k».proof.Proof.Gen.GatesIn.Frame
public import proofs.«01_k».proof.Proof.Gen.HgrnIn.Frame
public import proofs.«01_k».proof.Proof.Gen.Mlp.Frame
public import proofs.«01_k».proof.Proof.Gen.MixOut.Frame
public import proofs.«01_k».proof.Proof.Gen.RwkvR.Frame
public import proofs.«01_k».proof.Proof.Gen.Norm.Frame
public import proofs.«01_k».proof.Proof.Gen.FinalNorm.Frame
public import proofs.«01_k».proof.Proof.Gen.MemKv.Frame
public import proofs.«01_k».proof.Proof.Gen.LoraW2.Frame
public import proofs.«01_k».proof.Proof.Gen.LoraG2.Frame
public import proofs.«01_k».proof.Proof.Gen.Xattn.Frame
public import proofs.«01_k».proof.Proof.Gen.Shift.Frame
public import proofs.«01_k».proof.Proof.Gen.RwkvOut.Frame
public import proofs.«01_k».proof.Proof.Gen.Mlstm.Frame
public import proofs.«01_k».proof.Proof.Gen.Pre_finite
public import proofs.«01_k».proof.Proof.Gen.Pre_finite_y
public import proofs.«01_k».proof.Proof.Gen.Pre_finite_qkv
public import Idealize.ShloMosaic.Adequacy
public import Idealize.ShloMosaic.Init

@[expose] public section

noncomputable section

namespace Cert.Proof

open Idealize.ShloMosaic Idealize.SL.Sem

/-- The plain MlstmIn leaves its arguments and its semaphores as they were. -/
theorem frame_MlstmInRef : Cert.quiescent_MlstmInRefIdeal := fun m ρ _ =>
  (θ_run _ _ _).mono (fun r h => ⟨fun c => (h c).2, Idealize.ShloMosaic.sem_eq_zero_of_no_sems (by decide) r.2⟩)
    (Cert.MlstmInRefIdeal.Value.run (F := Ideal) m ρ)

/-- MlstmIn and the plain MlstmIn leave the same array. -/
theorem algebraic_MlstmIn : Cert.algebraic_MlstmInIdeal_MlstmInRefIdeal := by
  intro m ρ m' ρ' _ hag
  refine ⟨fun c => Cert.MlstmInIdeal.Value.G (m ((c.tc : Thread Cert.MlstmInIdeal.nD Cert.MlstmInIdeal.τ).loc Cert.MlstmInIdeal.main_arg0)) (m ((c.tc : Thread Cert.MlstmInIdeal.nD Cert.MlstmInIdeal.τ).loc Cert.MlstmInIdeal.main_arg1)),
    (θ_run _ _ _).mono (fun _ h c => ⟨(h c).1.trans (Cert.MlstmInIdeal.Value.final m c), (h c).2⟩) (Cert.MlstmInIdeal.Value.run_blocks m ρ),
    (θ_run _ _ _).mono (fun _ h c => ⟨(h c).1.trans (by rw [(hag c).1, (hag c).2]; exact Cert.MlstmInIdeal.Value.ref_eq _ _ ), (h c).2⟩)
      (Cert.MlstmInRefIdeal.Value.run (F := Ideal) m' ρ')⟩

/-- The plain GatesIn leaves its arguments and its semaphores as they were. -/
theorem frame_GatesInRef : Cert.quiescent_GatesInRefIdeal := fun m ρ _ =>
  (θ_run _ _ _).mono (fun r h => ⟨fun c => (h c).2, Idealize.ShloMosaic.sem_eq_zero_of_no_sems (by decide) r.2⟩)
    (Cert.GatesInRefIdeal.Value.run (F := Ideal) m ρ)

/-- GatesIn and the plain GatesIn leave the same array. -/
theorem algebraic_GatesIn : Cert.algebraic_GatesInIdeal_GatesInRefIdeal := by
  intro m ρ m' ρ' _ hag
  refine ⟨fun c => Cert.GatesInIdeal.Value.G (m ((c.tc : Thread Cert.GatesInIdeal.nD Cert.GatesInIdeal.τ).loc Cert.GatesInIdeal.main_arg0)) (m ((c.tc : Thread Cert.GatesInIdeal.nD Cert.GatesInIdeal.τ).loc Cert.GatesInIdeal.main_arg1)),
    (θ_run _ _ _).mono (fun _ h c => ⟨(h c).1.trans (Cert.GatesInIdeal.Value.final m c), (h c).2⟩) (Cert.GatesInIdeal.Value.run_blocks m ρ),
    (θ_run _ _ _).mono (fun _ h c => ⟨(h c).1.trans (by rw [(hag c).1, (hag c).2]; exact Cert.GatesInIdeal.Value.ref_eq _ _ ), (h c).2⟩)
      (Cert.GatesInRefIdeal.Value.run (F := Ideal) m' ρ')⟩

/-- The plain HgrnIn leaves its arguments and its semaphores as they were. -/
theorem frame_HgrnInRef : Cert.quiescent_HgrnInRefIdeal := fun m ρ _ =>
  (θ_run _ _ _).mono (fun r h => ⟨fun c => (h c).2, Idealize.ShloMosaic.sem_eq_zero_of_no_sems (by decide) r.2⟩)
    (Cert.HgrnInRefIdeal.Value.run (F := Ideal) m ρ)

/-- HgrnIn and the plain HgrnIn leave the same array. -/
theorem algebraic_HgrnIn : Cert.algebraic_HgrnInIdeal_HgrnInRefIdeal := by
  intro m ρ m' ρ' _ hag
  refine ⟨fun c => Cert.HgrnInIdeal.Value.G (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)),
    (θ_run _ _ _).mono (fun _ h c => ⟨(h c).1.trans (Cert.HgrnInIdeal.Value.final m c), (h c).2⟩) (Cert.HgrnInIdeal.Value.run_blocks m ρ),
    (θ_run _ _ _).mono (fun _ h c => ⟨(h c).1.trans (by rw [(hag c).1, (hag c).2]; exact Cert.HgrnInIdeal.Value.ref_eq _ _ ), (h c).2⟩)
      (Cert.HgrnInRefIdeal.Value.run (F := Ideal) m' ρ')⟩

/-- The plain Mlp leaves its arguments and its semaphores as they were. -/
theorem frame_MlpRef : Cert.quiescent_MlpRefIdeal := fun m ρ _ =>
  (θ_run _ _ _).mono (fun r h => ⟨fun c => (h c).2, Idealize.ShloMosaic.sem_eq_zero_of_no_sems (by decide) r.2⟩)
    (Cert.MlpRefIdeal.Value.run (F := Ideal) m ρ)

/-- Mlp and the plain Mlp leave the same array. -/
theorem algebraic_Mlp : Cert.algebraic_MlpIdeal_MlpRefIdeal := by
  intro m ρ m' ρ' _ hag
  refine ⟨fun c => Cert.MlpIdeal.Value.G (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)),
    (θ_run _ _ _).mono (fun _ h c => ⟨(h c).1.trans (Cert.MlpIdeal.Value.final m ρ c), (h c).2⟩) (Cert.MlpIdeal.Value.run_blocks m ρ),
    (θ_run _ _ _).mono (fun _ h c => ⟨(h c).1.trans (by rw [(hag c).1, (hag c).2.1, (hag c).2.2.1, (hag c).2.2.2]; exact Cert.MlpIdeal.Value.ref_eq _ _ _ _ ), (h c).2⟩)
      (Cert.MlpRefIdeal.Value.run (F := Ideal) m' ρ')⟩

/-- The plain MixOut leaves its arguments and its semaphores as they were. -/
theorem frame_MixOutRef : Cert.quiescent_MixOutRefIdeal := fun m ρ _ =>
  (θ_run _ _ _).mono (fun r h => ⟨fun c => (h c).2, Idealize.ShloMosaic.sem_eq_zero_of_no_sems (by decide) r.2⟩)
    (Cert.MixOutRefIdeal.Value.run (F := Ideal) m ρ)

/-- MixOut and the plain MixOut leave the same array. -/
theorem algebraic_MixOut : Cert.algebraic_MixOutIdeal_MixOutRefIdeal := by
  intro m ρ m' ρ' _ hag
  refine ⟨fun c => Cert.MixOutIdeal.Value.G (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)),
    (θ_run _ _ _).mono (fun _ h c => ⟨(h c).1.trans (Cert.MixOutIdeal.Value.final m c), (h c).2⟩) (Cert.MixOutIdeal.Value.run_blocks m ρ),
    (θ_run _ _ _).mono (fun _ h c => ⟨(h c).1.trans (by rw [(hag c).1, (hag c).2.1, (hag c).2.2]; exact Cert.MixOutIdeal.Value.ref_eq _ _ _ ), (h c).2⟩)
      (Cert.MixOutRefIdeal.Value.run (F := Ideal) m' ρ')⟩

/-- The plain RwkvR leaves its arguments and its semaphores as they were. -/
theorem frame_RwkvRRef : Cert.quiescent_RwkvRRefIdeal := fun m ρ _ =>
  (θ_run _ _ _).mono (fun r h => ⟨fun c => (h c).2, Idealize.ShloMosaic.sem_eq_zero_of_no_sems (by decide) r.2⟩)
    (Cert.RwkvRRefIdeal.Value.run (F := Ideal) m ρ)

/-- RwkvR and the plain RwkvR leave the same array. -/
theorem algebraic_RwkvR : Cert.algebraic_RwkvRIdeal_RwkvRRefIdeal := by
  intro m ρ m' ρ' _ hag
  refine ⟨fun c => Cert.RwkvRIdeal.Value.G (m ((c.tc : Thread Cert.RwkvRIdeal.nD Cert.RwkvRIdeal.τ).loc Cert.RwkvRIdeal.main_arg0)) (m ((c.tc : Thread Cert.RwkvRIdeal.nD Cert.RwkvRIdeal.τ).loc Cert.RwkvRIdeal.main_arg1)),
    (θ_run _ _ _).mono (fun _ h c => ⟨(h c).1.trans (Cert.RwkvRIdeal.Value.final m c), (h c).2⟩) (Cert.RwkvRIdeal.Value.run_blocks m ρ),
    (θ_run _ _ _).mono (fun _ h c => ⟨(h c).1.trans (by rw [(hag c).1, (hag c).2]; exact Cert.RwkvRIdeal.Value.ref_eq _ _ ), (h c).2⟩)
      (Cert.RwkvRRefIdeal.Value.run (F := Ideal) m' ρ')⟩

/-- The plain Norm leaves its arguments and its semaphores as they were. -/
theorem frame_NormRef : Cert.quiescent_NormRefIdeal := fun m ρ _ =>
  (θ_run _ _ _).mono (fun r h => ⟨fun c => (h c).2, Idealize.ShloMosaic.sem_eq_zero_of_no_sems (by decide) r.2⟩)
    (Cert.NormRefIdeal.Value.run (F := Ideal) m ρ)

/-- Norm and the plain Norm leave the same array. -/
theorem algebraic_Norm : Cert.algebraic_NormIdeal_NormRefIdeal := by
  intro m ρ m' ρ' _ hag
  refine ⟨fun c => Cert.NormIdeal.Value.G (m ((c.tc : Thread Cert.NormIdeal.nD Cert.NormIdeal.τ).loc Cert.NormIdeal.main_arg0)) (m ((c.tc : Thread Cert.NormIdeal.nD Cert.NormIdeal.τ).loc Cert.NormIdeal.main_arg1)),
    (θ_run _ _ _).mono (fun _ h c => ⟨(h c).1.trans (Cert.NormIdeal.Value.final m c), (h c).2⟩) (Cert.NormIdeal.Value.run_blocks m ρ),
    (θ_run _ _ _).mono (fun _ h c => ⟨(h c).1.trans (by rw [(hag c).1, (hag c).2]; exact Cert.NormIdeal.Value.ref_eq _ _ ), (h c).2⟩)
      (Cert.NormRefIdeal.Value.run (F := Ideal) m' ρ')⟩

/-- The plain FinalNorm leaves its arguments and its semaphores as they were. -/
theorem frame_FinalNormRef : Cert.quiescent_FinalNormRefIdeal := fun m ρ _ =>
  (θ_run _ _ _).mono (fun r h => ⟨fun c => (h c).2, Idealize.ShloMosaic.sem_eq_zero_of_no_sems (by decide) r.2⟩)
    (Cert.FinalNormRefIdeal.Value.run (F := Ideal) m ρ)

/-- FinalNorm and the plain FinalNorm leave the same array. -/
theorem algebraic_FinalNorm : Cert.algebraic_FinalNormIdeal_FinalNormRefIdeal := by
  intro m ρ m' ρ' _ hag
  refine ⟨fun c => Cert.FinalNormIdeal.Value.G (m ((c.tc : Thread Cert.FinalNormIdeal.nD Cert.FinalNormIdeal.τ).loc Cert.FinalNormIdeal.main_arg0)) (m ((c.tc : Thread Cert.FinalNormIdeal.nD Cert.FinalNormIdeal.τ).loc Cert.FinalNormIdeal.main_arg1)),
    (θ_run _ _ _).mono (fun _ h c => ⟨(h c).1.trans (Cert.FinalNormIdeal.Value.final m c), (h c).2⟩) (Cert.FinalNormIdeal.Value.run_blocks m ρ),
    (θ_run _ _ _).mono (fun _ h c => ⟨(h c).1.trans (by rw [(hag c).1, (hag c).2]; exact Cert.FinalNormIdeal.Value.ref_eq _ _ ), (h c).2⟩)
      (Cert.FinalNormRefIdeal.Value.run (F := Ideal) m' ρ')⟩

/-- The plain MemKv leaves its arguments and its semaphores as they were. -/
theorem frame_MemKvRef : Cert.quiescent_MemKvRefIdeal := fun m ρ _ =>
  (θ_run _ _ _).mono (fun r h => ⟨fun c => (h c).2, Idealize.ShloMosaic.sem_eq_zero_of_no_sems (by decide) r.2⟩)
    (Cert.MemKvRefIdeal.Value.run (F := Ideal) m ρ)

/-- MemKv and the plain MemKv leave the same array. -/
theorem algebraic_MemKv : Cert.algebraic_MemKvIdeal_MemKvRefIdeal := by
  intro m ρ m' ρ' _ hag
  refine ⟨fun c => Cert.MemKvIdeal.Value.G (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)),
    (θ_run _ _ _).mono (fun _ h c => ⟨(h c).1.trans (Cert.MemKvIdeal.Value.final m ρ c), (h c).2⟩) (Cert.MemKvIdeal.Value.run_blocks m ρ),
    (θ_run _ _ _).mono (fun _ h c => ⟨(h c).1.trans (by rw [(hag c).1, (hag c).2.1, (hag c).2.2]; exact Cert.MemKvIdeal.Value.ref_eq _ _ _ ), (h c).2⟩)
      (Cert.MemKvRefIdeal.Value.run (F := Ideal) m' ρ')⟩

/-- The plain LoraW2 leaves its arguments and its semaphores as they were. -/
theorem frame_LoraW2Ref : Cert.quiescent_LoraW2RefIdeal := fun m ρ _ =>
  (θ_run _ _ _).mono (fun r h => ⟨fun c => (h c).2, Idealize.ShloMosaic.sem_eq_zero_of_no_sems (by decide) r.2⟩)
    (Cert.LoraW2RefIdeal.Value.run (F := Ideal) m ρ)

/-- LoraW2 and the plain LoraW2 leave the same array. -/
theorem algebraic_LoraW2 : Cert.algebraic_LoraW2Ideal_LoraW2RefIdeal := by
  intro m ρ m' ρ' _ hag
  refine ⟨fun c => Cert.LoraW2Ideal.Value.G (m ((c.tc : Thread Cert.LoraW2Ideal.nD Cert.LoraW2Ideal.τ).loc Cert.LoraW2Ideal.main_arg0)) (m ((c.tc : Thread Cert.LoraW2Ideal.nD Cert.LoraW2Ideal.τ).loc Cert.LoraW2Ideal.main_arg1)),
    (θ_run _ _ _).mono (fun _ h c => ⟨(h c).1.trans (Cert.LoraW2Ideal.Value.final m c), (h c).2⟩) (Cert.LoraW2Ideal.Value.run_blocks m ρ),
    (θ_run _ _ _).mono (fun _ h c => ⟨(h c).1.trans (by rw [(hag c).1, (hag c).2]; exact Cert.LoraW2Ideal.Value.ref_eq _ _ ), (h c).2⟩)
      (Cert.LoraW2RefIdeal.Value.run (F := Ideal) m' ρ')⟩

/-- The plain LoraG2 leaves its arguments and its semaphores as they were. -/
theorem frame_LoraG2Ref : Cert.quiescent_LoraG2RefIdeal := fun m ρ _ =>
  (θ_run _ _ _).mono (fun r h => ⟨fun c => (h c).2, Idealize.ShloMosaic.sem_eq_zero_of_no_sems (by decide) r.2⟩)
    (Cert.LoraG2RefIdeal.Value.run (F := Ideal) m ρ)

/-- LoraG2 and the plain LoraG2 leave the same array. -/
theorem algebraic_LoraG2 : Cert.algebraic_LoraG2Ideal_LoraG2RefIdeal := by
  intro m ρ m' ρ' _ hag
  refine ⟨fun c => Cert.LoraG2Ideal.Value.G (m ((c.tc : Thread Cert.LoraG2Ideal.nD Cert.LoraG2Ideal.τ).loc Cert.LoraG2Ideal.main_arg0)) (m ((c.tc : Thread Cert.LoraG2Ideal.nD Cert.LoraG2Ideal.τ).loc Cert.LoraG2Ideal.main_arg1)),
    (θ_run _ _ _).mono (fun _ h c => ⟨(h c).1.trans (Cert.LoraG2Ideal.Value.final m c), (h c).2⟩) (Cert.LoraG2Ideal.Value.run_blocks m ρ),
    (θ_run _ _ _).mono (fun _ h c => ⟨(h c).1.trans (by rw [(hag c).1, (hag c).2]; exact Cert.LoraG2Ideal.Value.ref_eq _ _ ), (h c).2⟩)
      (Cert.LoraG2RefIdeal.Value.run (F := Ideal) m' ρ')⟩

/-- The plain attention leaves its arguments and its semaphores as they were. -/
theorem frame_XattnRef : Cert.quiescent_XattnRefIdeal := fun m ρ _ =>
  (θ_run _ _ _).mono (fun r h => ⟨fun c => (h c).2.2, Idealize.ShloMosaic.sem_eq_zero_of_no_sems (by decide) r.2⟩)
    (Cert.XattnRefIdeal.Value.run (F := Ideal) m ρ)

/-- On finite arguments the attention and the plain attention leave the same two arrays. -/
theorem algebraic_Xattn : Cert.algebraic_XattnIdeal_XattnRefIdeal_pre_finite := by
  intro m ρ m' ρ' hpre hag
  have hr := fun c => Cert.XattnIdeal.Value.reals_of_pre m c (hpre c).1 (hpre c).2.1 (hpre c).2.2.1 (hpre c).2.2.2.1 (hpre c).2.2.2.2
  refine ⟨fun c => Cert.XattnIdeal.Value.K0 m c, fun c => Cert.XattnIdeal.Value.K1 m c,
    (θ_run _ _ _).mono (fun _ h c => ⟨(h c).1.trans (Cert.XattnIdeal.Value.final_out m ρ c),
      (h c).2.1.trans (Cert.XattnIdeal.Value.final_outn m ρ c), (h c).2.2⟩) (Cert.XattnIdeal.Value.run_blocks m ρ),
    (θ_run _ _ _).mono (fun _ h c => ⟨(h c).1.trans ?_, (h c).2.1.trans ?_, (h c).2.2⟩) (Cert.XattnRefIdeal.Value.run (F := Ideal) m' ρ')⟩
  · rw [Cert.XattnRefIdeal.Stages.res0, (hag c).1, (hag c).2.1, (hag c).2.2.1, (hag c).2.2.2.1, (hag c).2.2.2.2.1]
    exact (Cert.XattnIdeal.Value.out_real (hr c).1 (hr c).2.1 (hr c).2.2.1 (hr c).2.2.2.1 (hr c).2.2.2.2 _).symm
  · rw [Cert.XattnRefIdeal.Stages.res1, (hag c).1, (hag c).2.1, (hag c).2.2.1, (hag c).2.2.2.1, (hag c).2.2.2.2.1, (hag c).2.2.2.2.2]
    exact (Cert.XattnIdeal.Value.outn_real (hr c).1 (hr c).2.1 (hr c).2.2.1 (hr c).2.2.2.1 (hr c).2.2.2.2 _ _).symm

/-- The plain token shift leaves its arguments and its semaphores as they were. -/
theorem frame_ShiftRef : Cert.quiescent_ShiftRefIdeal := fun m ρ _ =>
  (θ_run _ _ _).mono (fun r h => ⟨fun c => (h c).2.2.2.2.2.2, Idealize.ShloMosaic.sem_eq_zero_of_no_sems (by decide) r.2⟩)
    (Cert.ShiftRefIdeal.Value.run (F := Ideal) m ρ)

/-- The token shift and the plain token shift leave the same six arrays. -/
theorem algebraic_Shift : Cert.algebraic_ShiftIdeal_ShiftRefIdeal := by
  intro m ρ m' ρ' _ hag
  refine ⟨fun c => Cert.ShiftRefIdeal.Stages.Mixed 0 (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)),
    fun c => Cert.ShiftRefIdeal.Stages.Mixed 2 (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)),
    fun c => Cert.ShiftRefIdeal.Stages.Mixed 3 (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)),
    fun c => Cert.ShiftRefIdeal.Stages.Low Ideal.tanh 1 (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)) (m ((c.tc : Thread Cert.ShiftIdeal.nD Cert.ShiftIdeal.τ).loc Cert.ShiftIdeal.main_arg3)),
    fun c => Cert.ShiftRefIdeal.Stages.Low id 4 (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)) (m ((c.tc : Thread Cert.ShiftIdeal.nD Cert.ShiftIdeal.τ).loc Cert.ShiftIdeal.main_arg4)),
    fun c => Cert.ShiftRefIdeal.Stages.Low Cert.ShiftRefIdeal.Stages.sigm 5 (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)) (m ((c.tc : Thread Cert.ShiftIdeal.nD Cert.ShiftIdeal.τ).loc Cert.ShiftIdeal.main_arg5)),
    (θ_run _ _ _).mono (fun _ h c => ⟨(h c).1.trans (Cert.ShiftIdeal.Value.final7 m c), (h c).2.1.trans (Cert.ShiftIdeal.Value.final8 m c), (h c).2.2.1.trans (Cert.ShiftIdeal.Value.final9 m c), (h c).2.2.2.1.trans (Cert.ShiftIdeal.Value.final10 m c), (h c).2.2.2.2.1.trans (Cert.ShiftIdeal.Value.final11 m c), (h c).2.2.2.2.2.1.trans (Cert.ShiftIdeal.Value.final12 m c), (h c).2.2.2.2.2.2⟩) (Cert.ShiftIdeal.Value.run_blocks m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.ShiftRefIdeal.Value.run (F := Ideal) m' ρ')⟩
  · rw [(hag c).1, (hag c).2.1, (hag c).2.2.1]
    exact Cert.ShiftRefIdeal.Stages.mixed_eq 0 _ 0 rfl _ _ _
  · rw [(hag c).1, (hag c).2.1, (hag c).2.2.1]
    exact Cert.ShiftRefIdeal.Stages.mixed_eq 2 _ 2 rfl _ _ _
  · rw [(hag c).1, (hag c).2.1, (hag c).2.2.1]
    exact Cert.ShiftRefIdeal.Stages.mixed_eq 3 _ 3 rfl _ _ _
  · rw [(hag c).1, (hag c).2.1, (hag c).2.2.1, (hag c).2.2.2.1]
    exact Cert.ShiftRefIdeal.Stages.tanh_eq 1 _ 1 rfl _ _ _ _
  · rw [(hag c).1, (hag c).2.1, (hag c).2.2.1, (hag c).2.2.2.2.1]
    exact Cert.ShiftRefIdeal.Stages.low_eq 4 _ 4 rfl _ _ _ _
  · rw [(hag c).1, (hag c).2.1, (hag c).2.2.1, (hag c).2.2.2.2.2]
    exact Cert.ShiftRefIdeal.Stages.sigm_eq 5 _ 5 rfl _ _ _ _

/-- The plain per-head normalization leaves its arguments and its semaphores as they were. -/
theorem frame_RwkvOutRef : Cert.quiescent_RwkvOutRefIdeal := fun m ρ _ =>
  (θ_run _ _ _).mono (fun r h => ⟨fun c => (h c).2, Idealize.ShloMosaic.sem_eq_zero_of_no_sems (by decide) r.2⟩)
    (Cert.RwkvOutRefIdeal.Value.run (F := Ideal) m ρ)

/-- On finite rows the per-head normalization and the plain one leave the same array. -/
theorem algebraic_RwkvOut : Cert.algebraic_RwkvOutIdeal_RwkvOutRefIdeal_pre_finite_y := by
  intro m ρ m' ρ' hpre hag
  have hy := fun c => Cert.RwkvOutIdeal.Value.real_of_pre _ _ _ _ _ (hpre c)
  refine ⟨fun c => Cert.RwkvOutIdeal.Value.G (m ((c.tc : Thread Cert.RwkvOutIdeal.nD Cert.RwkvOutIdeal.τ).loc Cert.RwkvOutIdeal.main_arg0)) (m ((c.tc : Thread Cert.RwkvOutIdeal.nD Cert.RwkvOutIdeal.τ).loc Cert.RwkvOutIdeal.main_arg1)) (m ((c.tc : Thread Cert.RwkvOutIdeal.nD Cert.RwkvOutIdeal.τ).loc Cert.RwkvOutIdeal.main_arg2)) (m ((c.tc : Thread Cert.RwkvOutIdeal.nD Cert.RwkvOutIdeal.τ).loc Cert.RwkvOutIdeal.main_arg3)) (m ((c.tc : Thread Cert.RwkvOutIdeal.nD Cert.RwkvOutIdeal.τ).loc Cert.RwkvOutIdeal.main_arg4)),
    (θ_run _ _ _).mono (fun _ h c => ⟨(h c).1.trans (Cert.RwkvOutIdeal.Value.final m c (hy c)), (h c).2⟩) (Cert.RwkvOutIdeal.Value.run_blocks m ρ),
    (θ_run _ _ _).mono (fun _ h c => ⟨(h c).1.trans ?_, (h c).2⟩) (Cert.RwkvOutRefIdeal.Value.run (F := Ideal) m' ρ')⟩
  rw [(hag c).1, (hag c).2.1, (hag c).2.2.1, (hag c).2.2.2.1, (hag c).2.2.2.2]
  exact Cert.RwkvOutRefIdeal.Stages.res_eq _ _ _ _ _

/-- The plain mLSTM leaves its arguments and its semaphores as they were. -/
theorem frame_MlstmRef : Cert.quiescent_MlstmRefIdeal := fun m ρ _ =>
  (θ_run _ _ _).mono (fun r h => ⟨fun c => (h c).2, Idealize.ShloMosaic.sem_eq_zero_of_no_sems (by decide) r.2⟩)
    (Cert.MlstmRefIdeal.Value.run (F := Ideal) m ρ)

/-- On finite queries, keys and values the chunked mLSTM and the plain one leave the same array. -/
theorem algebraic_Mlstm : Cert.algebraic_MlstmIdeal_MlstmRefIdeal_pre_finite_qkv := by
  intro m ρ m' ρ' hpre hag
  have hP := fun c => Cert.MlstmRefIdeal.Stages.real_of_pre _ _ _ _ _ _ (hpre c)
  refine ⟨fun c => Cert.MlstmIdeal.Value.G (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)),
    (θ_run _ _ _).mono (fun _ h c => ⟨(h c).1.trans (Cert.MlstmIdeal.Value.final m c (hP c)), (h c).2⟩) (Cert.MlstmIdeal.Value.run_blocks m ρ),
    (θ_run _ _ _).mono (fun _ h c => ⟨(h c).1.trans ?_, (h c).2⟩) (Cert.MlstmRefIdeal.Value.run (F := Ideal) m' ρ')⟩
  refine (Cert.MlstmRefIdeal.Stages.res_eq_whole m' c).trans ?_
  rw [(hag c).1, (hag c).2.1, (hag c).2.2.1, (hag c).2.2.2.1, (hag c).2.2.2.2.1, (hag c).2.2.2.2.2]
  exact Cert.MlstmRefIdeal.Stages.whole_eq _ _ _ _ _ _ (hP c)

/-- Everything claimed. -/
theorem claim : Cert.Claim := ⟨Cert.MlstmIn.Gen.facts, Cert.MlstmInIdeal.Gen.facts, Cert.MlstmInRefIdeal.Gen.facts, Cert.GatesIn.Gen.facts, Cert.GatesInIdeal.Gen.facts, Cert.GatesInRefIdeal.Gen.facts, Cert.HgrnIn.Gen.facts, Cert.HgrnInIdeal.Gen.facts, Cert.HgrnInRefIdeal.Gen.facts, Cert.Mlp.Gen.facts, Cert.MlpIdeal.Gen.facts, Cert.MlpRefIdeal.Gen.facts, Cert.MixOut.Gen.facts, Cert.MixOutIdeal.Gen.facts, Cert.MixOutRefIdeal.Gen.facts, Cert.RwkvR.Gen.facts, Cert.RwkvRIdeal.Gen.facts, Cert.RwkvRRefIdeal.Gen.facts, Cert.Norm.Gen.facts, Cert.NormIdeal.Gen.facts, Cert.NormRefIdeal.Gen.facts, Cert.FinalNorm.Gen.facts, Cert.FinalNormIdeal.Gen.facts, Cert.FinalNormRefIdeal.Gen.facts, Cert.MemKv.Gen.facts, Cert.MemKvIdeal.Gen.facts, Cert.MemKvRefIdeal.Gen.facts, Cert.LoraW2.Gen.facts, Cert.LoraW2Ideal.Gen.facts, Cert.LoraW2RefIdeal.Gen.facts, Cert.LoraG2.Gen.facts, Cert.LoraG2Ideal.Gen.facts, Cert.LoraG2RefIdeal.Gen.facts, Cert.Xattn.Gen.facts, Cert.XattnIdeal.Gen.facts, Cert.XattnRefIdeal.Gen.facts, Cert.Shift.Gen.facts, Cert.ShiftIdeal.Gen.facts, Cert.ShiftRefIdeal.Gen.facts, Cert.RwkvOut.Gen.facts, Cert.RwkvOutIdeal.Gen.facts, Cert.RwkvOutRefIdeal.Gen.facts, Cert.Mlstm.Gen.facts, Cert.MlstmIdeal.Gen.facts, Cert.MlstmRefIdeal.Gen.facts, Cert.Pre_finite.Gen.facts, Cert.Pre_finite_y.Gen.facts, Cert.Pre_finite_qkv.Gen.facts,
  fun m ρ _ => Cert.MlstmIn.Gen.frame m ρ, fun m ρ _ => Cert.MlstmInIdeal.Gen.frame m ρ, frame_MlstmInRef,
  fun m ρ _ => Cert.GatesIn.Gen.frame m ρ, fun m ρ _ => Cert.GatesInIdeal.Gen.frame m ρ, frame_GatesInRef,
  fun m ρ _ => Cert.HgrnIn.Gen.frame m ρ, fun m ρ _ => Cert.HgrnInIdeal.Gen.frame m ρ, frame_HgrnInRef,
  fun m ρ _ => Cert.Mlp.Gen.frame m ρ, fun m ρ _ => Cert.MlpIdeal.Gen.frame m ρ, frame_MlpRef,
  fun m ρ _ => Cert.MixOut.Gen.frame m ρ, fun m ρ _ => Cert.MixOutIdeal.Gen.frame m ρ, frame_MixOutRef,
  fun m ρ _ => Cert.RwkvR.Gen.frame m ρ, fun m ρ _ => Cert.RwkvRIdeal.Gen.frame m ρ, frame_RwkvRRef,
  fun m ρ _ => Cert.Norm.Gen.frame m ρ, fun m ρ _ => Cert.NormIdeal.Gen.frame m ρ, frame_NormRef,
  fun m ρ _ => Cert.FinalNorm.Gen.frame m ρ, fun m ρ _ => Cert.FinalNormIdeal.Gen.frame m ρ, frame_FinalNormRef,
  fun m ρ _ => Cert.MemKv.Gen.frame m ρ, fun m ρ _ => Cert.MemKvIdeal.Gen.frame m ρ, frame_MemKvRef,
  fun m ρ _ => Cert.LoraW2.Gen.frame m ρ, fun m ρ _ => Cert.LoraW2Ideal.Gen.frame m ρ, frame_LoraW2Ref,
  fun m ρ _ => Cert.LoraG2.Gen.frame m ρ, fun m ρ _ => Cert.LoraG2Ideal.Gen.frame m ρ, frame_LoraG2Ref,
  fun m ρ _ => Cert.Xattn.Gen.frame m ρ, fun m ρ _ => Cert.XattnIdeal.Gen.frame m ρ, fun m ρ _ => Cert.XattnIdeal.Gen.frame m ρ, frame_XattnRef, fun m ρ _ => frame_XattnRef m ρ trivial,
  fun m ρ _ => Cert.Shift.Gen.frame m ρ, fun m ρ _ => Cert.ShiftIdeal.Gen.frame m ρ, frame_ShiftRef,
  fun m ρ _ => Cert.RwkvOut.Gen.frame m ρ, fun m ρ _ => Cert.RwkvOutIdeal.Gen.frame m ρ, fun m ρ _ => Cert.RwkvOutIdeal.Gen.frame m ρ, frame_RwkvOutRef, fun m ρ _ => frame_RwkvOutRef m ρ trivial,
  fun m ρ _ => Cert.Mlstm.Gen.frame m ρ, fun m ρ _ => Cert.MlstmIdeal.Gen.frame m ρ, fun m ρ _ => Cert.MlstmIdeal.Gen.frame m ρ, frame_MlstmRef, fun m ρ _ => frame_MlstmRef m ρ trivial,
  trivial, algebraic_MlstmIn, trivial, algebraic_GatesIn, trivial, algebraic_HgrnIn, trivial, algebraic_Mlp, trivial, algebraic_MixOut, trivial, algebraic_RwkvR, trivial, algebraic_Norm, trivial, algebraic_FinalNorm, trivial, algebraic_MemKv, trivial, algebraic_LoraW2, trivial, algebraic_LoraG2, trivial, algebraic_Xattn, trivial, algebraic_Shift, trivial, algebraic_RwkvOut, trivial, algebraic_Mlstm⟩

end Cert.Proof

end
